-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256x256 : Shape := ⟨3, ![256, 256, 256]⟩
abbrev S1048576x3 : Shape := ⟨2, ![1048576, 3]⟩
abbrev S1048576 : Shape := ⟨1, ![1048576]⟩
abbrev S16777216 : Shape := ⟨1, ![16777216]⟩
abbrev S3145728 : Shape := ⟨1, ![3145728]⟩
abbrev S16384 : Shape := ⟨1, ![16384]⟩
abbrev S6144 : Shape := ⟨1, ![6144]⟩
abbrev S2048 : Shape := ⟨1, ![2048]⟩
abbrev S8192 : Shape := ⟨1, ![8192]⟩
abbrev S512 : Shape := ⟨1, ![512]⟩
abbrev S16 : Shape := ⟨1, ![16]⟩
abbrev S_ : Shape := ⟨0, ![]⟩
abbrev S8192x128 : Shape := ⟨2, ![8192, 128]⟩
abbrev S1052672 : Shape := ⟨1, ![1052672]⟩
abbrev S544 : Shape := ⟨1, ![544]⟩
abbrev S16x128 : Shape := ⟨2, ![16, 128]⟩
abbrev S1x16 : Shape := ⟨2, ![1, 16]⟩
abbrev S1x128 : Shape := ⟨2, ![1, 128]⟩
abbrev S128 : Shape := ⟨1, ![128]⟩
abbrev S32768 : Shape := ⟨1, ![32768]⟩
abbrev S1024 : Shape := ⟨1, ![1024]⟩

abbrev nBuf : Table → Nat
  | .hbm => 14
  | .local .scVector .vmem => 15
  | _ => 0

abbrev bufTy : (tb : Table) → Fin (nBuf tb) → BufTy
  | .hbm, ⟨0, _⟩ => ⟨S256x256x256, .f32⟩
  | .hbm, ⟨1, _⟩ => ⟨S1048576x3, .f32⟩
  | .hbm, ⟨2, _⟩ => ⟨S1048576, .f32⟩
  | .hbm, ⟨3, _⟩ => ⟨S16777216, .f32⟩
  | .hbm, ⟨4, _⟩ => ⟨S3145728, .f32⟩
  | .hbm, ⟨5, _⟩ => ⟨S1048576, .i32⟩
  | .hbm, ⟨6, _⟩ => ⟨S16384, .i32⟩
  | .hbm, ⟨7, _⟩ => ⟨S8192x128, .i32⟩
  | .hbm, ⟨8, _⟩ => ⟨S8192x128, .f32⟩
  | .hbm, ⟨9, _⟩ => ⟨S1052672, .i32⟩
  | .hbm, ⟨10, _⟩ => ⟨S1052672, .f32⟩
  | .hbm, ⟨11, _⟩ => ⟨S544, .i32⟩
  | .hbm, ⟨12, _⟩ => ⟨S16777216, .f32⟩
  | .hbm, ⟨13, _⟩ => ⟨S256x256x256, .f32⟩
  | .local .scVector .vmem, ⟨0, _⟩ => ⟨S6144, .f32⟩
  | .local .scVector .vmem, ⟨1, _⟩ => ⟨S2048, .i32⟩
  | .local .scVector .vmem, ⟨2, _⟩ => ⟨S8192, .i32⟩
  | .local .scVector .vmem, ⟨3, _⟩ => ⟨S512, .i32⟩
  | .local .scVector .vmem, ⟨4, _⟩ => ⟨S16384, .i32⟩
  | .local .scVector .vmem, ⟨5, _⟩ => ⟨S512, .i32⟩
  | .local .scVector .vmem, ⟨6, _⟩ => ⟨S544, .i32⟩
  | .local .scVector .vmem, ⟨7, _⟩ => ⟨S16x128, .i32⟩
  | .local .scVector .vmem, ⟨8, _⟩ => ⟨S16x128, .f32⟩
  | .local .scVector .vmem, ⟨9, _⟩ => ⟨S16x128, .i32⟩
  | .local .scVector .vmem, ⟨10, _⟩ => ⟨S32768, .f32⟩
  | .local .scVector .vmem, ⟨11, _⟩ => ⟨S32768, .f32⟩
  | .local .scVector .vmem, ⟨12, _⟩ => ⟨S1024, .i32⟩
  | .local .scVector .vmem, ⟨13, _⟩ => ⟨S1024, .f32⟩
  | .local .scVector .vmem, ⟨14, _⟩ => ⟨S544, .i32⟩
  | _, _ => ⟨S256x256x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v1_scv : Ref sig .scVector := ⟨.hbm, 4, rfl⟩
abbrev main_v2_0_scv : Ref sig .scVector := ⟨.hbm, 5, rfl⟩
abbrev main_v2_1_scv : Ref sig .scVector := ⟨.hbm, 6, rfl⟩
abbrev main_v3_scv : Ref sig .scVector := ⟨.hbm, 7, rfl⟩
abbrev main_v4_scv : Ref sig .scVector := ⟨.hbm, 8, rfl⟩
abbrev main_v5_0_scv : Ref sig .scVector := ⟨.hbm, 9, rfl⟩
abbrev main_v5_1_scv : Ref sig .scVector := ⟨.hbm, 10, rfl⟩
abbrev main_v5_2_scv : Ref sig .scVector := ⟨.hbm, 11, rfl⟩
abbrev main_v0_scv : Ref sig .scVector := ⟨.hbm, 3, rfl⟩
abbrev main_v6_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc1_scratch4 : Ref sig .scVector := ⟨.vmem, 8, rfl⟩
abbrev cc1_scratch5 : Ref sig .scVector := ⟨.vmem, 9, rfl⟩
abbrev cc2_scratch0 : Ref sig .scVector := ⟨.vmem, 10, rfl⟩
abbrev cc2_scratch1 : Ref sig .scVector := ⟨.vmem, 11, rfl⟩
abbrev cc2_scratch2 : Ref sig .scVector := ⟨.vmem, 12, rfl⟩
abbrev cc2_scratch3 : Ref sig .scVector := ⟨.vmem, 13, rfl⟩
abbrev cc2_scratch4 : Ref sig .scVector := ⟨.vmem, 14, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c512_i32 : BitVec 32 := 512#32
  let v3 : BitVec 32 := Scalar.addi c0_i32_0 c512_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let c16_i32_12 : BitVec 32 := 16#32
  let v13 : BitVec 32 := Scalar.muli arg9 c16_i32_12
  let v14 : Index := Scalar.indexCast v13
  ![v14.toNat]
@[reducible] def k0_t2_loop : Scf.Loop 32 :=
  let c0_i32_3 : BitVec 32 := 0#32
  let c16_i32 : BitVec 32 := 16#32
  let v6 : BitVec 32 := Scalar.addi c0_i32_3 c16_i32
  let c1_i32_4 : BitVec 32 := 1#32
  ⟨c0_i32_3, v6, c1_i32_4⟩
def k0_mult1 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v5 : BitVec 32 := Scalar.muli v1 c32768_i32
  let c0_i32_3 : BitVec 32 := 0#32
  let c1_i32_4 : BitVec 32 := 1#32
  let arg9 : BitVec 32 := Scf.iv c0_i32_3 c1_i32_4 k0_t2
  let c2048_i32 : BitVec 32 := 2048#32
  let v12 : BitVec 32 := Scalar.muli arg9 c2048_i32
  let v13 : BitVec 32 := Scalar.addi v5 v12
  let c3_i32 : BitVec 32 := 3#32
  let v14 : BitVec 32 := Scalar.muli v13 c3_i32
  v14
def k0_off2 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v5 : BitVec 32 := Scalar.muli v1 c32768_i32
  let c0_i32_3 : BitVec 32 := 0#32
  let c1_i32_4 : BitVec 32 := 1#32
  let arg9 : BitVec 32 := Scf.iv c0_i32_3 c1_i32_4 k0_t2
  let c2048_i32 : BitVec 32 := 2048#32
  let v12 : BitVec 32 := Scalar.muli arg9 c2048_i32
  let v13 : BitVec 32 := Scalar.addi v5 v12
  let c3_i32 : BitVec 32 := 3#32
  let v14 : BitVec 32 := Scalar.muli v13 c3_i32
  let v15 : BitVec 32 := v14
  ![v15.toNat]
@[reducible] def k0_t3_loop : Scf.Loop 32 :=
  let c0_i32_12 : BitVec 32 := 0#32
  let c128_i32 : BitVec 32 := 128#32
  let v16 : BitVec 32 := Scalar.addi c0_i32_12 c128_i32
  let c1_i32_13 : BitVec 32 := 1#32
  ⟨c0_i32_12, v16, c1_i32_13⟩

def k0_chk1 (v23 : IVec S16 32) : Prop :=
  (∀ a x, ((![v23] : Fin 1 → IVec S16 32) a x).toNat < S6144.size a)
theorem k0_idx1_inb : ∀ (v23 : IVec S16 32) (k0_hw1 : k0_chk1 v23), ∀ a x, ((![v23] : Fin 1 → IVec S16 32) a x).toNat < S6144.size a := fun v23 k0_hw1 => k0_hw1

def k0_chk2 (v26 : IVec S16 32) : Prop :=
  (∀ a x, ((![v26] : Fin 1 → IVec S16 32) a x).toNat < S6144.size a)
theorem k0_idx2_inb : ∀ (v26 : IVec S16 32) (k0_hw2 : k0_chk2 v26), ∀ a x, ((![v26] : Fin 1 → IVec S16 32) a x).toNat < S6144.size a := fun v26 k0_hw2 => k0_hw2

def k0_chk3 (v29 : IVec S16 32) : Prop :=
  (∀ a x, ((![v29] : Fin 1 → IVec S16 32) a x).toNat < S6144.size a)
theorem k0_idx3_inb : ∀ (v29 : IVec S16 32) (k0_hw3 : k0_chk3 v29), ∀ a x, ((![v29] : Fin 1 → IVec S16 32) a x).toNat < S6144.size a := fun v29 k0_hw3 => k0_hw3
def k0_off3 (k0_t3 : Fin k0_t3_loop.trips) : Fin 1 → Nat :=
  let c0_i32_12 : BitVec 32 := 0#32
  let c1_i32_13 : BitVec 32 := 1#32
  let arg11 : BitVec 32 := Scf.iv c0_i32_12 c1_i32_13 k0_t3
  let c16_i32_33 : BitVec 32 := 16#32
  let v70 : BitVec 32 := Scalar.muli arg11 c16_i32_33
  let v71 : Index := Scalar.indexCast v70
  ![v71.toNat]

def k0_chk4 (v77 : IVec S16 32) : Prop :=
  (∀ a x, ((![v77] : Fin 1 → IVec S16 32) a x).toNat < S8192.size a)
theorem k0_idx4_inb : ∀ (v77 : IVec S16 32) (k0_hw4 : k0_chk4 v77), ∀ a x, ((![v77] : Fin 1 → IVec S16 32) a x).toNat < S8192.size a := fun v77 k0_hw4 => k0_hw4
def k0_mult2 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v5 : BitVec 32 := Scalar.muli v1 c32768_i32
  let c0_i32_3 : BitVec 32 := 0#32
  let c1_i32_4 : BitVec 32 := 1#32
  let arg9 : BitVec 32 := Scf.iv c0_i32_3 c1_i32_4 k0_t2
  let c2048_i32 : BitVec 32 := 2048#32
  let v12 : BitVec 32 := Scalar.muli arg9 c2048_i32
  let v13 : BitVec 32 := Scalar.addi v5 v12
  v13
def k0_off4 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v5 : BitVec 32 := Scalar.muli v1 c32768_i32
  let c0_i32_3 : BitVec 32 := 0#32
  let c1_i32_4 : BitVec 32 := 1#32
  let arg9 : BitVec 32 := Scf.iv c0_i32_3 c1_i32_4 k0_t2
  let c2048_i32 : BitVec 32 := 2048#32
  let v12 : BitVec 32 := Scalar.muli arg9 c2048_i32
  let v13 : BitVec 32 := Scalar.addi v5 v12
  let v18 : BitVec 32 := v13
  ![v18.toNat]
@[reducible] def k0_t4_loop : Scf.Loop 32 :=
  let c0_i32_7 : BitVec 32 := 0#32
  let c32_i32 : BitVec 32 := 32#32
  let v8 : BitVec 32 := Scalar.addi c0_i32_7 c32_i32
  let c1_i32_8 : BitVec 32 := 1#32
  ⟨c0_i32_7, v8, c1_i32_8⟩
@[reducible] def k0_t5_loop : Scf.Loop 32 :=
  let c0_i32_12 : BitVec 32 := 0#32
  let c16_i32_13 : BitVec 32 := 16#32
  let v13 : BitVec 32 := Scalar.addi c0_i32_12 c16_i32_13
  let c1_i32_14 : BitVec 32 := 1#32
  ⟨c0_i32_12, v13, c1_i32_14⟩
def k0_off5 (k0_t4 : Fin k0_t4_loop.trips) (k0_t5 : Fin k0_t5_loop.trips) : Fin 1 → Nat :=
  let c0_i32_12 : BitVec 32 := 0#32
  let c1_i32_14 : BitVec 32 := 1#32
  let arg11 : BitVec 32 := Scf.iv c0_i32_12 c1_i32_14 k0_t5
  let c512_i32_18 : BitVec 32 := 512#32
  let v18 : BitVec 32 := Scalar.muli arg11 c512_i32_18
  let c0_i32_7 : BitVec 32 := 0#32
  let c1_i32_8 : BitVec 32 := 1#32
  let arg9 : BitVec 32 := Scf.iv c0_i32_7 c1_i32_8 k0_t4
  let c16_i32_19 : BitVec 32 := 16#32
  let v19 : BitVec 32 := Scalar.muli arg9 c16_i32_19
  let v20 : BitVec 32 := Scalar.addi v18 v19
  let v21 : Index := Scalar.indexCast v20
  ![v21.toNat]
def k0_off6 (k0_t4 : Fin k0_t4_loop.trips) : Fin 1 → Nat :=
  let c0_i32_7 : BitVec 32 := 0#32
  let c1_i32_8 : BitVec 32 := 1#32
  let arg9 : BitVec 32 := Scf.iv c0_i32_7 c1_i32_8 k0_t4
  let c16_i32_16 : BitVec 32 := 16#32
  let v15 : BitVec 32 := Scalar.muli arg9 c16_i32_16
  let v16 : Index := Scalar.indexCast v15
  ![v16.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_10 : BitVec 32 := 512#32
  let v10 : BitVec 32 := Scalar.muli v1 c512_i32_10
  v10
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_10 : BitVec 32 := 512#32
  let v10 : BitVec 32 := Scalar.muli v1 c512_i32_10
  let v11 : BitVec 32 := v10
  ![v11.toNat]
abbrev grid1 : Pipeline.Grid := ⟨2, ![2, 16], ![false, false]⟩

@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
@[reducible] def k1_t2_loop : Scf.Loop 32 :=
  let c0_i32_13 : BitVec 32 := 0#32
  let c32_i32_14 : BitVec 32 := 32#32
  let v20 : BitVec 32 := Scalar.addi c0_i32_13 c32_i32_14
  let c1_i32_15 : BitVec 32 := 1#32
  ⟨c0_i32_13, v20, c1_i32_15⟩
def k1_off1 (k1_t1 : Fin k1_t1_loop.trips) (k1_t2 : Fin k1_t2_loop.trips) : Fin 1 → Nat :=
  let c0_i32_13 : BitVec 32 := 0#32
  let c1_i32_15 : BitVec 32 := 1#32
  let arg18 : BitVec 32 := Scf.iv c0_i32_13 c1_i32_15 k1_t2
  let c512_i32 : BitVec 32 := 512#32
  let v38 : BitVec 32 := Scalar.muli arg18 c512_i32
  let c0_i32_0 : BitVec 32 := 0#32
  let c1_i32 : BitVec 32 := 1#32
  let arg16 : BitVec 32 := Scf.iv c0_i32_0 c1_i32 k1_t1
  let c16_i32_20 : BitVec 32 := 16#32
  let v39 : BitVec 32 := Scalar.muli arg16 c16_i32_20
  let v40 : BitVec 32 := Scalar.addi v38 v39
  let v41 : Index := Scalar.indexCast v40
  ![v41.toNat]
def k1_off2 (k1_t1 : Fin k1_t1_loop.trips) : Fin 1 → Nat :=
  let c0_i32_0 : BitVec 32 := 0#32
  let c1_i32 : BitVec 32 := 1#32
  let arg16 : BitVec 32 := Scf.iv c0_i32_0 c1_i32 k1_t1
  let c16_i32_17 : BitVec 32 := 16#32
  let v28 : BitVec 32 := Scalar.muli arg16 c16_i32_17
  let v29 : Index := Scalar.indexCast v28
  ![v29.toNat]
def k1_off3 (k1_t1 : Fin k1_t1_loop.trips) : Fin 1 → Nat :=
  let c0_i32_0 : BitVec 32 := 0#32
  let c1_i32 : BitVec 32 := 1#32
  let arg16 : BitVec 32 := Scf.iv c0_i32_0 c1_i32 k1_t1
  let c16_i32_18 : BitVec 32 := 16#32
  let v31 : BitVec 32 := Scalar.muli arg16 c16_i32_18
  let v32 : Index := Scalar.indexCast v31
  ![v32.toNat]
@[reducible] def k1_t3_loop : Scf.Loop 32 :=
  let c0_i32_8 : BitVec 32 := 0#32
  let c16_i32 : BitVec 32 := 16#32
  let v16 : BitVec 32 := Scalar.addi c0_i32_8 c16_i32
  let c1_i32_9 : BitVec 32 := 1#32
  ⟨c0_i32_8, v16, c1_i32_9⟩
def k1_off4 (i : grid1.Coords) (k1_t3 : Fin k1_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v18 : BitVec 32 := Scalar.muli v1 c256_i32
  let c0_i32_8 : BitVec 32 := 0#32
  let c1_i32_9 : BitVec 32 := 1#32
  let arg16 : BitVec 32 := Scf.iv c0_i32_8 c1_i32_9 k1_t3
  let c16_i32_11 : BitVec 32 := 16#32
  let v19 : BitVec 32 := Scalar.muli arg16 c16_i32_11
  let v20 : BitVec 32 := Scalar.addi v18 v19
  let c0_i32_325_r2 : BitVec 32 := 0#32
  ![v20.toNat, 0]
@[reducible] def k1_t4_loop : Scf.Loop 32 :=
  let c0_i32_13 : BitVec 32 := 0#32
  let c16_i32_14 : BitVec 32 := 16#32
  let v21 : BitVec 32 := Scalar.addi c0_i32_13 c16_i32_14
  let c1_i32_15 : BitVec 32 := 1#32
  ⟨c0_i32_13, v21, c1_i32_15⟩
def k1_off5 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v343 : Index := Scalar.indexCast arg18
  let c0 : Index := 0#32
  ![v343.toNat, 0]

def k1_chk1 (v346 : IVec S16 32) : Prop :=
  (∀ a x, ((![v346] : Fin 1 → IVec S16 32) a x).toNat < S512.size a) ∧
  (∀ a x, ((![v346] : Fin 1 → IVec S16 32) a x).toNat < S512.size a)
theorem k1_idx1_inb : ∀ (v346 : IVec S16 32) (k1_hw1 : k1_chk1 v346), ∀ a x, ((![v346] : Fin 1 → IVec S16 32) a x).toNat < S512.size a := fun v346 k1_hw1 => k1_hw1.1
theorem k1_idx2_inb : ∀ (v346 : IVec S16 32) (k1_hw1 : k1_chk1 v346), ∀ a x, ((![v346] : Fin 1 → IVec S16 32) a x).toNat < S512.size a := fun v346 k1_hw1 => k1_hw1.2
def k1_off6 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v358 : Index := Scalar.indexCast arg18
  let c0_329 : Index := 0#32
  ![v358.toNat, 0]
def k1_off7 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v360 : Index := Scalar.indexCast arg18
  let c16 : Index := 16#32
  ![v360.toNat, 16]

def k1_chk2 (v363 : IVec S16 32) : Prop :=
  (∀ a x, ((![v363] : Fin 1 → IVec S16 32) a x).toNat < S512.size a) ∧
  (∀ a x, ((![v363] : Fin 1 → IVec S16 32) a x).toNat < S512.size a)
theorem k1_idx3_inb : ∀ (v363 : IVec S16 32) (k1_hw2 : k1_chk2 v363), ∀ a x, ((![v363] : Fin 1 → IVec S16 32) a x).toNat < S512.size a := fun v363 k1_hw2 => k1_hw2.1
theorem k1_idx4_inb : ∀ (v363 : IVec S16 32) (k1_hw2 : k1_chk2 v363), ∀ a x, ((![v363] : Fin 1 → IVec S16 32) a x).toNat < S512.size a := fun v363 k1_hw2 => k1_hw2.2
def k1_off8 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v375 : Index := Scalar.indexCast arg18
  let c16_338 : Index := 16#32
  ![v375.toNat, 16]
def k1_off9 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v377 : Index := Scalar.indexCast arg18
  let c32 : Index := 32#32
  ![v377.toNat, 32]

def k1_chk3 (v380 : IVec S16 32) : Prop :=
  (∀ a x, ((![v380] : Fin 1 → IVec S16 32) a x).toNat < S512.size a) ∧
  (∀ a x, ((![v380] : Fin 1 → IVec S16 32) a x).toNat < S512.size a)
theorem k1_idx5_inb : ∀ (v380 : IVec S16 32) (k1_hw3 : k1_chk3 v380), ∀ a x, ((![v380] : Fin 1 → IVec S16 32) a x).toNat < S512.size a := fun v380 k1_hw3 => k1_hw3.1
theorem k1_idx6_inb : ∀ (v380 : IVec S16 32) (k1_hw3 : k1_chk3 v380), ∀ a x, ((![v380] : Fin 1 → IVec S16 32) a x).toNat < S512.size a := fun v380 k1_hw3 => k1_hw3.2
def k1_off10 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v392 : Index := Scalar.indexCast arg18
  let c32_347 : Index := 32#32
  ![v392.toNat, 32]
def k1_off11 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v394 : Index := Scalar.indexCast arg18
  let c48 : Index := 48#32
  ![v394.toNat, 48]

def k1_chk4 (v397 : IVec S16 32) : Prop :=
  (∀ a x, ((![v397] : Fin 1 → IVec S16 32) a x).toNat < S512.size a) ∧
  (∀ a x, ((![v397] : Fin 1 → IVec S16 32) a x).toNat < S512.size a)
theorem k1_idx7_inb : ∀ (v397 : IVec S16 32) (k1_hw4 : k1_chk4 v397), ∀ a x, ((![v397] : Fin 1 → IVec S16 32) a x).toNat < S512.size a := fun v397 k1_hw4 => k1_hw4.1
theorem k1_idx8_inb : ∀ (v397 : IVec S16 32) (k1_hw4 : k1_chk4 v397), ∀ a x, ((![v397] : Fin 1 → IVec S16 32) a x).toNat < S512.size a := fun v397 k1_hw4 => k1_hw4.2
def k1_off12 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v409 : Index := Scalar.indexCast arg18
  let c48_356 : Index := 48#32
  ![v409.toNat, 48]
def k1_off13 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v411 : Index := Scalar.indexCast arg18
  let c64 : Index := 64#32
  ![v411.toNat, 64]

def k1_chk5 (v414 : IVec S16 32) : Prop :=
  (∀ a x, ((![v414] : Fin 1 → IVec S16 32) a x).toNat < S512.size a) ∧
  (∀ a x, ((![v414] : Fin 1 → IVec S16 32) a x).toNat < S512.size a)
theorem k1_idx9_inb : ∀ (v414 : IVec S16 32) (k1_hw5 : k1_chk5 v414), ∀ a x, ((![v414] : Fin 1 → IVec S16 32) a x).toNat < S512.size a := fun v414 k1_hw5 => k1_hw5.1
theorem k1_idx10_inb : ∀ (v414 : IVec S16 32) (k1_hw5 : k1_chk5 v414), ∀ a x, ((![v414] : Fin 1 → IVec S16 32) a x).toNat < S512.size a := fun v414 k1_hw5 => k1_hw5.2
def k1_off14 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v426 : Index := Scalar.indexCast arg18
  let c64_365 : Index := 64#32
  ![v426.toNat, 64]
def k1_off15 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v428 : Index := Scalar.indexCast arg18
  let c80 : Index := 80#32
  ![v428.toNat, 80]

def k1_chk6 (v431 : IVec S16 32) : Prop :=
  (∀ a x, ((![v431] : Fin 1 → IVec S16 32) a x).toNat < S512.size a) ∧
  (∀ a x, ((![v431] : Fin 1 → IVec S16 32) a x).toNat < S512.size a)
theorem k1_idx11_inb : ∀ (v431 : IVec S16 32) (k1_hw6 : k1_chk6 v431), ∀ a x, ((![v431] : Fin 1 → IVec S16 32) a x).toNat < S512.size a := fun v431 k1_hw6 => k1_hw6.1
theorem k1_idx12_inb : ∀ (v431 : IVec S16 32) (k1_hw6 : k1_chk6 v431), ∀ a x, ((![v431] : Fin 1 → IVec S16 32) a x).toNat < S512.size a := fun v431 k1_hw6 => k1_hw6.2
def k1_off16 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v443 : Index := Scalar.indexCast arg18
  let c80_374 : Index := 80#32
  ![v443.toNat, 80]
def k1_off17 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v445 : Index := Scalar.indexCast arg18
  let c96 : Index := 96#32
  ![v445.toNat, 96]

def k1_chk7 (v448 : IVec S16 32) : Prop :=
  (∀ a x, ((![v448] : Fin 1 → IVec S16 32) a x).toNat < S512.size a) ∧
  (∀ a x, ((![v448] : Fin 1 → IVec S16 32) a x).toNat < S512.size a)
theorem k1_idx13_inb : ∀ (v448 : IVec S16 32) (k1_hw7 : k1_chk7 v448), ∀ a x, ((![v448] : Fin 1 → IVec S16 32) a x).toNat < S512.size a := fun v448 k1_hw7 => k1_hw7.1
theorem k1_idx14_inb : ∀ (v448 : IVec S16 32) (k1_hw7 : k1_chk7 v448), ∀ a x, ((![v448] : Fin 1 → IVec S16 32) a x).toNat < S512.size a := fun v448 k1_hw7 => k1_hw7.2
def k1_off18 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v460 : Index := Scalar.indexCast arg18
  let c96_383 : Index := 96#32
  ![v460.toNat, 96]
def k1_off19 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v462 : Index := Scalar.indexCast arg18
  let c112 : Index := 112#32
  ![v462.toNat, 112]

def k1_chk8 (v465 : IVec S16 32) : Prop :=
  (∀ a x, ((![v465] : Fin 1 → IVec S16 32) a x).toNat < S512.size a) ∧
  (∀ a x, ((![v465] : Fin 1 → IVec S16 32) a x).toNat < S512.size a)
theorem k1_idx15_inb : ∀ (v465 : IVec S16 32) (k1_hw8 : k1_chk8 v465), ∀ a x, ((![v465] : Fin 1 → IVec S16 32) a x).toNat < S512.size a := fun v465 k1_hw8 => k1_hw8.1
theorem k1_idx16_inb : ∀ (v465 : IVec S16 32) (k1_hw8 : k1_chk8 v465), ∀ a x, ((![v465] : Fin 1 → IVec S16 32) a x).toNat < S512.size a := fun v465 k1_hw8 => k1_hw8.2
def k1_off20 (k1_t4 : Fin k1_t4_loop.trips) : Fin 2 → Nat :=
  let c0_i32_13 : BitVec 32 := 0#32
  let c1_i32_15 : BitVec 32 := 1#32
  let arg18 : BitVec 32 := Scf.iv c0_i32_13 c1_i32_15 k1_t4
  let v477 : Index := Scalar.indexCast arg18
  let c112_392 : Index := 112#32
  ![v477.toNat, 112]
abbrev grid2 : Pipeline.Grid := ⟨2, ![2, 16], ![false, false]⟩

@[reducible] def k2_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k2_mult1 (i : grid2.Coords) (k2_t1 : Fin k2_t1_loop.trips) : BitVec 32 :=
  let c0_i32_0 : BitVec 32 := 0#32
  let c1_i32 : BitVec 32 := 1#32
  let arg12 : BitVec 32 := Scf.iv c0_i32_0 c1_i32 k2_t1
  let c32_i32 : BitVec 32 := 32#32
  let v5 : BitVec 32 := Scalar.muli arg12 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c32768_i32 : BitVec 32 := 32768#32
  let v7 : BitVec 32 := Scalar.muli v6 c32768_i32
  v7

def k2_chk1 (v12 : IVec S16 32) : Prop :=
  (∀ a x, ((![v12] : Fin 1 → IVec S16 32) a x).toNat < S544.size a)
theorem k2_idx1_inb : ∀ (v12 : IVec S16 32) (k2_hw1 : k2_chk1 v12), ∀ a x, ((![v12] : Fin 1 → IVec S16 32) a x).toNat < S544.size a := fun v12 k2_hw1 => k2_hw1
def k2_off1 (i : grid2.Coords) (k2_t1 : Fin k2_t1_loop.trips) : Fin 1 → Nat :=
  let c0_i32_0 : BitVec 32 := 0#32
  let c1_i32 : BitVec 32 := 1#32
  let arg12 : BitVec 32 := Scf.iv c0_i32_0 c1_i32 k2_t1
  let c32_i32 : BitVec 32 := 32#32
  let v5 : BitVec 32 := Scalar.muli arg12 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c32768_i32 : BitVec 32 := 32768#32
  let v7 : BitVec 32 := Scalar.muli v6 c32768_i32
  let v8 : BitVec 32 := v7
  ![v8.toNat]
def k2_mult2 (v23 : BitVec 32) : BitVec 32 :=
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  v52

def k2_chk2 (v23 : BitVec 32) : Prop :=
  (8 ∣ (k2_mult2 v23).toNat)
theorem k2_mult2_dvd : ∀ (v23 : BitVec 32) (k2_hw2 : k2_chk2 v23), 8 ∣ (k2_mult2 v23).toNat := fun v23 k2_hw2 => k2_hw2

@[reducible] def k2_t2_loop (v23 : BitVec 32) (v33 : BitVec 32) : Scf.Loop 32 :=
  let c0_i32_23 : BitVec 32 := 0#32
  let c1028_i32 : BitVec 32 := 1028#32
  let c0_i32_22 : BitVec 32 := 0#32
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  let v53 : BitVec 32 := v52
  let v54 : BitVec 32 := Scalar.subi v33 v53
  let c1023_i32 : BitVec 32 := 1023#32
  let v55 : BitVec 32 := Scalar.addi v54 c1023_i32
  let c0_i32_16 : BitVec 32 := 0#32
  let v57 : BitVec 1 := Scalar.cmpi .sgt v55 c0_i32_16
  let v58 : BitVec 32 := Scalar.extui v57
  let c0_i32_17 : BitVec 32 := 0#32
  let v59 : BitVec 1 := Scalar.cmpi .slt v55 c0_i32_17
  let v60 : BitVec 32 := Scalar.extui v59
  let v61 : BitVec 32 := Scalar.subi v58 v60
  let c1024_i32 : BitVec 32 := 1024#32
  let c0_i32_18 : BitVec 32 := 0#32
  let v62 : BitVec 1 := Scalar.cmpi .sgt c1024_i32 c0_i32_18
  let v63 : BitVec 32 := Scalar.extui v62
  let c0_i32_19 : BitVec 32 := 0#32
  let v64 : BitVec 1 := Scalar.cmpi .slt c1024_i32 c0_i32_19
  let v65 : BitVec 32 := Scalar.extui v64
  let v66 : BitVec 32 := Scalar.subi v63 v65
  let v67 : BitVec 1 := Scalar.cmpi .ne v61 v66
  let v68 : BitVec 32 := Scalar.remsi v55 c1024_i32
  let c0_i32_20 : BitVec 32 := 0#32
  let v69 : BitVec 1 := Scalar.cmpi .ne v68 c0_i32_20
  let v70 : BitVec 1 := Scalar.andi v67 v69
  let v56 : BitVec 32 := Scalar.divsi v55 c1024_i32
  let c1_i32_21 : BitVec 32 := 1#32
  let v71 : BitVec 32 := Scalar.subi v56 c1_i32_21
  let v72 : BitVec 32 := Scalar.select v70 v71 v56
  let v73 : BitVec 32 := Scalar.maxsi c0_i32_22 v72
  let v74 : BitVec 32 := Scalar.minsi c1028_i32 v73
  let v75 : BitVec 32 := Scalar.subi v74 c0_i32_23
  let c1_i32_25 : BitVec 32 := 1#32
  let v77 : BitVec 32 := Scalar.divsi v75 c1_i32_25
  let v78 : BitVec 32 := Scalar.muli v77 c1_i32_25
  let v79 : BitVec 32 := Scalar.addi c0_i32_23 v78
  let c1_i32_26 : BitVec 32 := 1#32
  ⟨c0_i32_23, v79, c1_i32_26⟩

def k2_mult3 (v23 : BitVec 32) (v33 : BitVec 32) (k2_t2 : Fin (k2_t2_loop v23 v33).trips) : BitVec 32 :=
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  let v53 : BitVec 32 := v52
  let c0_i32_23 : BitVec 32 := 0#32
  let c1_i32_26 : BitVec 32 := 1#32
  let arg14 : BitVec 32 := Scf.iv c0_i32_23 c1_i32_26 k2_t2
  let c1024_i32_34 : BitVec 32 := 1024#32
  let v89 : BitVec 32 := Scalar.muli arg14 c1024_i32_34
  let v90 : BitVec 32 := Scalar.addi v53 v89
  v90
def k2_off2 (v23 : BitVec 32) (v33 : BitVec 32) (k2_t2 : Fin (k2_t2_loop v23 v33).trips) : Fin 1 → Nat :=
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  let v53 : BitVec 32 := v52
  let c0_i32_23 : BitVec 32 := 0#32
  let c1_i32_26 : BitVec 32 := 1#32
  let arg14 : BitVec 32 := Scf.iv c0_i32_23 c1_i32_26 k2_t2
  let c1024_i32_34 : BitVec 32 := 1024#32
  let v89 : BitVec 32 := Scalar.muli arg14 c1024_i32_34
  let v90 : BitVec 32 := Scalar.addi v53 v89
  let v91 : BitVec 32 := v90
  ![v91.toNat]
@[reducible] def k2_t3_loop : Scf.Loop 32 :=
  let c0_i32_36 : BitVec 32 := 0#32
  let c64_i32 : BitVec 32 := 64#32
  let v92 : BitVec 32 := Scalar.addi c0_i32_36 c64_i32
  let c1_i32_37 : BitVec 32 := 1#32
  ⟨c0_i32_36, v92, c1_i32_37⟩
def k2_off3 (k2_t3 : Fin k2_t3_loop.trips) : Fin 1 → Nat :=
  let c0_i32_36 : BitVec 32 := 0#32
  let c1_i32_37 : BitVec 32 := 1#32
  let arg16 : BitVec 32 := Scf.iv c0_i32_36 c1_i32_37 k2_t3
  let c16_i32_40 : BitVec 32 := 16#32
  let v94 : BitVec 32 := Scalar.muli arg16 c16_i32_40
  let v95 : Index := Scalar.indexCast v94
  ![v95.toNat]

def k2_chk4 (v109 : IVec S16 32) : Prop :=
  (∀ a x, ((![v109] : Fin 1 → IVec S16 32) a x).toNat < S32768.size a) ∧
  (∀ a x, ((![v109] : Fin 1 → IVec S16 32) a x).toNat < S32768.size a)
theorem k2_idx2_inb : ∀ (v109 : IVec S16 32) (k2_hw4 : k2_chk4 v109), ∀ a x, ((![v109] : Fin 1 → IVec S16 32) a x).toNat < S32768.size a := fun v109 k2_hw4 => k2_hw4.1
theorem k2_idx3_inb : ∀ (v109 : IVec S16 32) (k2_hw4 : k2_chk4 v109), ∀ a x, ((![v109] : Fin 1 → IVec S16 32) a x).toNat < S32768.size a := fun v109 k2_hw4 => k2_hw4.2
@[reducible] def k2_t4_loop (v23 : BitVec 32) (v33 : BitVec 32) : Scf.Loop 32 :=
  let c0_i32_23 : BitVec 32 := 0#32
  let c1028_i32 : BitVec 32 := 1028#32
  let c0_i32_22 : BitVec 32 := 0#32
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  let v53 : BitVec 32 := v52
  let v54 : BitVec 32 := Scalar.subi v33 v53
  let c1023_i32 : BitVec 32 := 1023#32
  let v55 : BitVec 32 := Scalar.addi v54 c1023_i32
  let c0_i32_16 : BitVec 32 := 0#32
  let v57 : BitVec 1 := Scalar.cmpi .sgt v55 c0_i32_16
  let v58 : BitVec 32 := Scalar.extui v57
  let c0_i32_17 : BitVec 32 := 0#32
  let v59 : BitVec 1 := Scalar.cmpi .slt v55 c0_i32_17
  let v60 : BitVec 32 := Scalar.extui v59
  let v61 : BitVec 32 := Scalar.subi v58 v60
  let c1024_i32 : BitVec 32 := 1024#32
  let c0_i32_18 : BitVec 32 := 0#32
  let v62 : BitVec 1 := Scalar.cmpi .sgt c1024_i32 c0_i32_18
  let v63 : BitVec 32 := Scalar.extui v62
  let c0_i32_19 : BitVec 32 := 0#32
  let v64 : BitVec 1 := Scalar.cmpi .slt c1024_i32 c0_i32_19
  let v65 : BitVec 32 := Scalar.extui v64
  let v66 : BitVec 32 := Scalar.subi v63 v65
  let v67 : BitVec 1 := Scalar.cmpi .ne v61 v66
  let v68 : BitVec 32 := Scalar.remsi v55 c1024_i32
  let c0_i32_20 : BitVec 32 := 0#32
  let v69 : BitVec 1 := Scalar.cmpi .ne v68 c0_i32_20
  let v70 : BitVec 1 := Scalar.andi v67 v69
  let v56 : BitVec 32 := Scalar.divsi v55 c1024_i32
  let c1_i32_21 : BitVec 32 := 1#32
  let v71 : BitVec 32 := Scalar.subi v56 c1_i32_21
  let v72 : BitVec 32 := Scalar.select v70 v71 v56
  let v73 : BitVec 32 := Scalar.maxsi c0_i32_22 v72
  let v74 : BitVec 32 := Scalar.minsi c1028_i32 v73
  let v75 : BitVec 32 := Scalar.subi v74 c0_i32_23
  let c1_i32_25 : BitVec 32 := 1#32
  let v77 : BitVec 32 := Scalar.divsi v75 c1_i32_25
  let v78 : BitVec 32 := Scalar.muli v77 c1_i32_25
  let v79 : BitVec 32 := Scalar.addi c0_i32_23 v78
  let v76 : BitVec 32 := Scalar.addi c0_i32_23 v75
  let c1_i32_27 : BitVec 32 := 1#32
  ⟨v79, v76, c1_i32_27⟩
def k2_mult4 (v23 : BitVec 32) (v33 : BitVec 32) (k2_t4 : Fin (k2_t4_loop v23 v33).trips) : BitVec 32 :=
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  let v53 : BitVec 32 := v52
  let c0_i32_23 : BitVec 32 := 0#32
  let c1028_i32 : BitVec 32 := 1028#32
  let c0_i32_22 : BitVec 32 := 0#32
  let v54 : BitVec 32 := Scalar.subi v33 v53
  let c1023_i32 : BitVec 32 := 1023#32
  let v55 : BitVec 32 := Scalar.addi v54 c1023_i32
  let c0_i32_16 : BitVec 32 := 0#32
  let v57 : BitVec 1 := Scalar.cmpi .sgt v55 c0_i32_16
  let v58 : BitVec 32 := Scalar.extui v57
  let c0_i32_17 : BitVec 32 := 0#32
  let v59 : BitVec 1 := Scalar.cmpi .slt v55 c0_i32_17
  let v60 : BitVec 32 := Scalar.extui v59
  let v61 : BitVec 32 := Scalar.subi v58 v60
  let c1024_i32 : BitVec 32 := 1024#32
  let c0_i32_18 : BitVec 32 := 0#32
  let v62 : BitVec 1 := Scalar.cmpi .sgt c1024_i32 c0_i32_18
  let v63 : BitVec 32 := Scalar.extui v62
  let c0_i32_19 : BitVec 32 := 0#32
  let v64 : BitVec 1 := Scalar.cmpi .slt c1024_i32 c0_i32_19
  let v65 : BitVec 32 := Scalar.extui v64
  let v66 : BitVec 32 := Scalar.subi v63 v65
  let v67 : BitVec 1 := Scalar.cmpi .ne v61 v66
  let v68 : BitVec 32 := Scalar.remsi v55 c1024_i32
  let c0_i32_20 : BitVec 32 := 0#32
  let v69 : BitVec 1 := Scalar.cmpi .ne v68 c0_i32_20
  let v70 : BitVec 1 := Scalar.andi v67 v69
  let v56 : BitVec 32 := Scalar.divsi v55 c1024_i32
  let c1_i32_21 : BitVec 32 := 1#32
  let v71 : BitVec 32 := Scalar.subi v56 c1_i32_21
  let v72 : BitVec 32 := Scalar.select v70 v71 v56
  let v73 : BitVec 32 := Scalar.maxsi c0_i32_22 v72
  let v74 : BitVec 32 := Scalar.minsi c1028_i32 v73
  let v75 : BitVec 32 := Scalar.subi v74 c0_i32_23
  let c1_i32_25 : BitVec 32 := 1#32
  let v77 : BitVec 32 := Scalar.divsi v75 c1_i32_25
  let v78 : BitVec 32 := Scalar.muli v77 c1_i32_25
  let v79 : BitVec 32 := Scalar.addi c0_i32_23 v78
  let c1_i32_27 : BitVec 32 := 1#32
  let arg14 : BitVec 32 := Scf.iv v79 c1_i32_27 k2_t4
  let c1024_i32_34 : BitVec 32 := 1024#32
  let v89 : BitVec 32 := Scalar.muli arg14 c1024_i32_34
  let v90 : BitVec 32 := Scalar.addi v53 v89
  v90
def k2_off4 (v23 : BitVec 32) (v33 : BitVec 32) (k2_t4 : Fin (k2_t4_loop v23 v33).trips) : Fin 1 → Nat :=
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  let v53 : BitVec 32 := v52
  let c0_i32_23 : BitVec 32 := 0#32
  let c1028_i32 : BitVec 32 := 1028#32
  let c0_i32_22 : BitVec 32 := 0#32
  let v54 : BitVec 32 := Scalar.subi v33 v53
  let c1023_i32 : BitVec 32 := 1023#32
  let v55 : BitVec 32 := Scalar.addi v54 c1023_i32
  let c0_i32_16 : BitVec 32 := 0#32
  let v57 : BitVec 1 := Scalar.cmpi .sgt v55 c0_i32_16
  let v58 : BitVec 32 := Scalar.extui v57
  let c0_i32_17 : BitVec 32 := 0#32
  let v59 : BitVec 1 := Scalar.cmpi .slt v55 c0_i32_17
  let v60 : BitVec 32 := Scalar.extui v59
  let v61 : BitVec 32 := Scalar.subi v58 v60
  let c1024_i32 : BitVec 32 := 1024#32
  let c0_i32_18 : BitVec 32 := 0#32
  let v62 : BitVec 1 := Scalar.cmpi .sgt c1024_i32 c0_i32_18
  let v63 : BitVec 32 := Scalar.extui v62
  let c0_i32_19 : BitVec 32 := 0#32
  let v64 : BitVec 1 := Scalar.cmpi .slt c1024_i32 c0_i32_19
  let v65 : BitVec 32 := Scalar.extui v64
  let v66 : BitVec 32 := Scalar.subi v63 v65
  let v67 : BitVec 1 := Scalar.cmpi .ne v61 v66
  let v68 : BitVec 32 := Scalar.remsi v55 c1024_i32
  let c0_i32_20 : BitVec 32 := 0#32
  let v69 : BitVec 1 := Scalar.cmpi .ne v68 c0_i32_20
  let v70 : BitVec 1 := Scalar.andi v67 v69
  let v56 : BitVec 32 := Scalar.divsi v55 c1024_i32
  let c1_i32_21 : BitVec 32 := 1#32
  let v71 : BitVec 32 := Scalar.subi v56 c1_i32_21
  let v72 : BitVec 32 := Scalar.select v70 v71 v56
  let v73 : BitVec 32 := Scalar.maxsi c0_i32_22 v72
  let v74 : BitVec 32 := Scalar.minsi c1028_i32 v73
  let v75 : BitVec 32 := Scalar.subi v74 c0_i32_23
  let c1_i32_25 : BitVec 32 := 1#32
  let v77 : BitVec 32 := Scalar.divsi v75 c1_i32_25
  let v78 : BitVec 32 := Scalar.muli v77 c1_i32_25
  let v79 : BitVec 32 := Scalar.addi c0_i32_23 v78
  let c1_i32_27 : BitVec 32 := 1#32
  let arg14 : BitVec 32 := Scf.iv v79 c1_i32_27 k2_t4
  let c1024_i32_34 : BitVec 32 := 1024#32
  let v89 : BitVec 32 := Scalar.muli arg14 c1024_i32_34
  let v90 : BitVec 32 := Scalar.addi v53 v89
  let v91 : BitVec 32 := v90
  ![v91.toNat]
@[reducible] def k2_t5_loop : Scf.Loop 32 :=
  let c0_i32_36 : BitVec 32 := 0#32
  let c64_i32 : BitVec 32 := 64#32
  let v92 : BitVec 32 := Scalar.addi c0_i32_36 c64_i32
  let c1_i32_37 : BitVec 32 := 1#32
  ⟨c0_i32_36, v92, c1_i32_37⟩
def k2_off5 (k2_t5 : Fin k2_t5_loop.trips) : Fin 1 → Nat :=
  let c0_i32_36 : BitVec 32 := 0#32
  let c1_i32_37 : BitVec 32 := 1#32
  let arg16 : BitVec 32 := Scf.iv c0_i32_36 c1_i32_37 k2_t5
  let c16_i32_40 : BitVec 32 := 16#32
  let v94 : BitVec 32 := Scalar.muli arg16 c16_i32_40
  let v95 : Index := Scalar.indexCast v94
  ![v95.toNat]

def k2_chk5 (v109 : IVec S16 32) : Prop :=
  (∀ a x, ((![v109] : Fin 1 → IVec S16 32) a x).toNat < S32768.size a) ∧
  (∀ a x, ((![v109] : Fin 1 → IVec S16 32) a x).toNat < S32768.size a)
theorem k2_idx4_inb : ∀ (v109 : IVec S16 32) (k2_hw5 : k2_chk5 v109), ∀ a x, ((![v109] : Fin 1 → IVec S16 32) a x).toNat < S32768.size a := fun v109 k2_hw5 => k2_hw5.1
theorem k2_idx5_inb : ∀ (v109 : IVec S16 32) (k2_hw5 : k2_chk5 v109), ∀ a x, ((![v109] : Fin 1 → IVec S16 32) a x).toNat < S32768.size a := fun v109 k2_hw5 => k2_hw5.2
@[reducible] def k2_t6_loop (v23 : BitVec 32) (v33 : BitVec 32) : Scf.Loop 32 :=
  let c0_i32_28 : BitVec 32 := 0#32
  let c1028_i32 : BitVec 32 := 1028#32
  let c0_i32_22 : BitVec 32 := 0#32
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  let v53 : BitVec 32 := v52
  let v54 : BitVec 32 := Scalar.subi v33 v53
  let c1023_i32 : BitVec 32 := 1023#32
  let v55 : BitVec 32 := Scalar.addi v54 c1023_i32
  let c0_i32_16 : BitVec 32 := 0#32
  let v57 : BitVec 1 := Scalar.cmpi .sgt v55 c0_i32_16
  let v58 : BitVec 32 := Scalar.extui v57
  let c0_i32_17 : BitVec 32 := 0#32
  let v59 : BitVec 1 := Scalar.cmpi .slt v55 c0_i32_17
  let v60 : BitVec 32 := Scalar.extui v59
  let v61 : BitVec 32 := Scalar.subi v58 v60
  let c1024_i32 : BitVec 32 := 1024#32
  let c0_i32_18 : BitVec 32 := 0#32
  let v62 : BitVec 1 := Scalar.cmpi .sgt c1024_i32 c0_i32_18
  let v63 : BitVec 32 := Scalar.extui v62
  let c0_i32_19 : BitVec 32 := 0#32
  let v64 : BitVec 1 := Scalar.cmpi .slt c1024_i32 c0_i32_19
  let v65 : BitVec 32 := Scalar.extui v64
  let v66 : BitVec 32 := Scalar.subi v63 v65
  let v67 : BitVec 1 := Scalar.cmpi .ne v61 v66
  let v68 : BitVec 32 := Scalar.remsi v55 c1024_i32
  let c0_i32_20 : BitVec 32 := 0#32
  let v69 : BitVec 1 := Scalar.cmpi .ne v68 c0_i32_20
  let v70 : BitVec 1 := Scalar.andi v67 v69
  let v56 : BitVec 32 := Scalar.divsi v55 c1024_i32
  let c1_i32_21 : BitVec 32 := 1#32
  let v71 : BitVec 32 := Scalar.subi v56 c1_i32_21
  let v72 : BitVec 32 := Scalar.select v70 v71 v56
  let v73 : BitVec 32 := Scalar.maxsi c0_i32_22 v72
  let v74 : BitVec 32 := Scalar.minsi c1028_i32 v73
  let v82 : BitVec 32 := Scalar.subi v74 c0_i32_28
  let c1_i32_30 : BitVec 32 := 1#32
  let v84 : BitVec 32 := Scalar.divsi v82 c1_i32_30
  let v85 : BitVec 32 := Scalar.muli v84 c1_i32_30
  let v86 : BitVec 32 := Scalar.addi c0_i32_28 v85
  let c1_i32_31 : BitVec 32 := 1#32
  ⟨c0_i32_28, v86, c1_i32_31⟩
def k2_mult5 (v23 : BitVec 32) (v33 : BitVec 32) (k2_t6 : Fin (k2_t6_loop v23 v33).trips) : BitVec 32 :=
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  let v53 : BitVec 32 := v52
  let c0_i32_28 : BitVec 32 := 0#32
  let c1_i32_31 : BitVec 32 := 1#32
  let arg14 : BitVec 32 := Scf.iv c0_i32_28 c1_i32_31 k2_t6
  let c1024_i32_34 : BitVec 32 := 1024#32
  let v89 : BitVec 32 := Scalar.muli arg14 c1024_i32_34
  let v90 : BitVec 32 := Scalar.addi v53 v89
  v90
def k2_off6 (v23 : BitVec 32) (v33 : BitVec 32) (k2_t6 : Fin (k2_t6_loop v23 v33).trips) : Fin 1 → Nat :=
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  let v53 : BitVec 32 := v52
  let c0_i32_28 : BitVec 32 := 0#32
  let c1_i32_31 : BitVec 32 := 1#32
  let arg14 : BitVec 32 := Scf.iv c0_i32_28 c1_i32_31 k2_t6
  let c1024_i32_34 : BitVec 32 := 1024#32
  let v89 : BitVec 32 := Scalar.muli arg14 c1024_i32_34
  let v90 : BitVec 32 := Scalar.addi v53 v89
  let v91 : BitVec 32 := v90
  ![v91.toNat]
@[reducible] def k2_t7_loop : Scf.Loop 32 :=
  let c0_i32_36 : BitVec 32 := 0#32
  let c64_i32 : BitVec 32 := 64#32
  let v92 : BitVec 32 := Scalar.addi c0_i32_36 c64_i32
  let c1_i32_37 : BitVec 32 := 1#32
  ⟨c0_i32_36, v92, c1_i32_37⟩
def k2_off7 (k2_t7 : Fin k2_t7_loop.trips) : Fin 1 → Nat :=
  let c0_i32_36 : BitVec 32 := 0#32
  let c1_i32_37 : BitVec 32 := 1#32
  let arg16 : BitVec 32 := Scf.iv c0_i32_36 c1_i32_37 k2_t7
  let c16_i32_40 : BitVec 32 := 16#32
  let v94 : BitVec 32 := Scalar.muli arg16 c16_i32_40
  let v95 : Index := Scalar.indexCast v94
  ![v95.toNat]
@[reducible] def k2_t8_loop (v121 : BitVec 32) : Scf.Loop 32 :=
  let c0_i32_49 : BitVec 32 := 0#32
  let c1_i32_48 : BitVec 32 := 1#32
  let v122 : BitVec 32 := Scalar.addi v121 c1_i32_48
  let v123 : BitVec 32 := Scalar.subi v122 c0_i32_49
  let c1_i32_51 : BitVec 32 := 1#32
  let v125 : BitVec 32 := Scalar.divsi v123 c1_i32_51
  let v126 : BitVec 32 := Scalar.muli v125 c1_i32_51
  let v127 : BitVec 32 := Scalar.addi c0_i32_49 v126
  let c1_i32_52 : BitVec 32 := 1#32
  ⟨c0_i32_49, v127, c1_i32_52⟩

@[reducible] def k2_t9_loop (v121 : BitVec 32) : Scf.Loop 32 :=
  let c0_i32_49 : BitVec 32 := 0#32
  let c1_i32_48 : BitVec 32 := 1#32
  let v122 : BitVec 32 := Scalar.addi v121 c1_i32_48
  let v123 : BitVec 32 := Scalar.subi v122 c0_i32_49
  let c1_i32_51 : BitVec 32 := 1#32
  let v125 : BitVec 32 := Scalar.divsi v123 c1_i32_51
  let v126 : BitVec 32 := Scalar.muli v125 c1_i32_51
  let v127 : BitVec 32 := Scalar.addi c0_i32_49 v126
  let v124 : BitVec 32 := Scalar.addi c0_i32_49 v123
  let c1_i32_53 : BitVec 32 := 1#32
  ⟨v127, v124, c1_i32_53⟩

def k2_chk6 (v112 : IVec S16 32) (v121 : BitVec 32) : Prop :=
  ((k2_t8_loop v121).OK) ∧
  (∀ k2_t8 : Fin (k2_t8_loop v121).trips, ∀ a x, ((![v112] : Fin 1 → IVec S16 32) a x).toNat < S32768.size a) ∧
  (∀ k2_t8 : Fin (k2_t8_loop v121).trips, ∀ a x, ((![v112] : Fin 1 → IVec S16 32) a x).toNat < S32768.size a) ∧
  ((k2_t9_loop v121).OK) ∧
  (∀ k2_t9 : Fin (k2_t9_loop v121).trips, ∀ a x, ((![v112] : Fin 1 → IVec S16 32) a x).toNat < S32768.size a) ∧
  (∀ k2_t9 : Fin (k2_t9_loop v121).trips, ∀ a x, ((![v112] : Fin 1 → IVec S16 32) a x).toNat < S32768.size a)
theorem k2_t8_ok : ∀ (v112 : IVec S16 32) (v121 : BitVec 32) (k2_hw6 : k2_chk6 v112 v121), (k2_t8_loop v121).OK := fun v112 v121 k2_hw6 => k2_hw6.1
theorem k2_idx6_inb : ∀ (v112 : IVec S16 32) (v121 : BitVec 32) (k2_hw6 : k2_chk6 v112 v121) (k2_t8 : Fin (k2_t8_loop v121).trips), ∀ a x, ((![v112] : Fin 1 → IVec S16 32) a x).toNat < S32768.size a := fun v112 v121 k2_hw6 k2_t8 => k2_hw6.2.1 k2_t8
theorem k2_idx7_inb : ∀ (v112 : IVec S16 32) (v121 : BitVec 32) (k2_hw6 : k2_chk6 v112 v121) (k2_t8 : Fin (k2_t8_loop v121).trips), ∀ a x, ((![v112] : Fin 1 → IVec S16 32) a x).toNat < S32768.size a := fun v112 v121 k2_hw6 k2_t8 => k2_hw6.2.2.1 k2_t8
theorem k2_t9_ok : ∀ (v112 : IVec S16 32) (v121 : BitVec 32) (k2_hw6 : k2_chk6 v112 v121), (k2_t9_loop v121).OK := fun v112 v121 k2_hw6 => k2_hw6.2.2.2.1
theorem k2_idx8_inb : ∀ (v112 : IVec S16 32) (v121 : BitVec 32) (k2_hw6 : k2_chk6 v112 v121) (k2_t9 : Fin (k2_t9_loop v121).trips), ∀ a x, ((![v112] : Fin 1 → IVec S16 32) a x).toNat < S32768.size a := fun v112 v121 k2_hw6 k2_t9 => k2_hw6.2.2.2.2.1 k2_t9
theorem k2_idx9_inb : ∀ (v112 : IVec S16 32) (v121 : BitVec 32) (k2_hw6 : k2_chk6 v112 v121) (k2_t9 : Fin (k2_t9_loop v121).trips), ∀ a x, ((![v112] : Fin 1 → IVec S16 32) a x).toNat < S32768.size a := fun v112 v121 k2_hw6 k2_t9 => k2_hw6.2.2.2.2.2 k2_t9
@[reducible] def k2_t10_loop (v23 : BitVec 32) (v33 : BitVec 32) : Scf.Loop 32 :=
  let c0_i32_28 : BitVec 32 := 0#32
  let c1028_i32 : BitVec 32 := 1028#32
  let c0_i32_22 : BitVec 32 := 0#32
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  let v53 : BitVec 32 := v52
  let v54 : BitVec 32 := Scalar.subi v33 v53
  let c1023_i32 : BitVec 32 := 1023#32
  let v55 : BitVec 32 := Scalar.addi v54 c1023_i32
  let c0_i32_16 : BitVec 32 := 0#32
  let v57 : BitVec 1 := Scalar.cmpi .sgt v55 c0_i32_16
  let v58 : BitVec 32 := Scalar.extui v57
  let c0_i32_17 : BitVec 32 := 0#32
  let v59 : BitVec 1 := Scalar.cmpi .slt v55 c0_i32_17
  let v60 : BitVec 32 := Scalar.extui v59
  let v61 : BitVec 32 := Scalar.subi v58 v60
  let c1024_i32 : BitVec 32 := 1024#32
  let c0_i32_18 : BitVec 32 := 0#32
  let v62 : BitVec 1 := Scalar.cmpi .sgt c1024_i32 c0_i32_18
  let v63 : BitVec 32 := Scalar.extui v62
  let c0_i32_19 : BitVec 32 := 0#32
  let v64 : BitVec 1 := Scalar.cmpi .slt c1024_i32 c0_i32_19
  let v65 : BitVec 32 := Scalar.extui v64
  let v66 : BitVec 32 := Scalar.subi v63 v65
  let v67 : BitVec 1 := Scalar.cmpi .ne v61 v66
  let v68 : BitVec 32 := Scalar.remsi v55 c1024_i32
  let c0_i32_20 : BitVec 32 := 0#32
  let v69 : BitVec 1 := Scalar.cmpi .ne v68 c0_i32_20
  let v70 : BitVec 1 := Scalar.andi v67 v69
  let v56 : BitVec 32 := Scalar.divsi v55 c1024_i32
  let c1_i32_21 : BitVec 32 := 1#32
  let v71 : BitVec 32 := Scalar.subi v56 c1_i32_21
  let v72 : BitVec 32 := Scalar.select v70 v71 v56
  let v73 : BitVec 32 := Scalar.maxsi c0_i32_22 v72
  let v74 : BitVec 32 := Scalar.minsi c1028_i32 v73
  let v82 : BitVec 32 := Scalar.subi v74 c0_i32_28
  let c1_i32_30 : BitVec 32 := 1#32
  let v84 : BitVec 32 := Scalar.divsi v82 c1_i32_30
  let v85 : BitVec 32 := Scalar.muli v84 c1_i32_30
  let v86 : BitVec 32 := Scalar.addi c0_i32_28 v85
  let v83 : BitVec 32 := Scalar.addi c0_i32_28 v82
  let c1_i32_32 : BitVec 32 := 1#32
  ⟨v86, v83, c1_i32_32⟩
def k2_mult6 (v23 : BitVec 32) (v33 : BitVec 32) (k2_t10 : Fin (k2_t10_loop v23 v33).trips) : BitVec 32 :=
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  let v53 : BitVec 32 := v52
  let c0_i32_28 : BitVec 32 := 0#32
  let c1028_i32 : BitVec 32 := 1028#32
  let c0_i32_22 : BitVec 32 := 0#32
  let v54 : BitVec 32 := Scalar.subi v33 v53
  let c1023_i32 : BitVec 32 := 1023#32
  let v55 : BitVec 32 := Scalar.addi v54 c1023_i32
  let c0_i32_16 : BitVec 32 := 0#32
  let v57 : BitVec 1 := Scalar.cmpi .sgt v55 c0_i32_16
  let v58 : BitVec 32 := Scalar.extui v57
  let c0_i32_17 : BitVec 32 := 0#32
  let v59 : BitVec 1 := Scalar.cmpi .slt v55 c0_i32_17
  let v60 : BitVec 32 := Scalar.extui v59
  let v61 : BitVec 32 := Scalar.subi v58 v60
  let c1024_i32 : BitVec 32 := 1024#32
  let c0_i32_18 : BitVec 32 := 0#32
  let v62 : BitVec 1 := Scalar.cmpi .sgt c1024_i32 c0_i32_18
  let v63 : BitVec 32 := Scalar.extui v62
  let c0_i32_19 : BitVec 32 := 0#32
  let v64 : BitVec 1 := Scalar.cmpi .slt c1024_i32 c0_i32_19
  let v65 : BitVec 32 := Scalar.extui v64
  let v66 : BitVec 32 := Scalar.subi v63 v65
  let v67 : BitVec 1 := Scalar.cmpi .ne v61 v66
  let v68 : BitVec 32 := Scalar.remsi v55 c1024_i32
  let c0_i32_20 : BitVec 32 := 0#32
  let v69 : BitVec 1 := Scalar.cmpi .ne v68 c0_i32_20
  let v70 : BitVec 1 := Scalar.andi v67 v69
  let v56 : BitVec 32 := Scalar.divsi v55 c1024_i32
  let c1_i32_21 : BitVec 32 := 1#32
  let v71 : BitVec 32 := Scalar.subi v56 c1_i32_21
  let v72 : BitVec 32 := Scalar.select v70 v71 v56
  let v73 : BitVec 32 := Scalar.maxsi c0_i32_22 v72
  let v74 : BitVec 32 := Scalar.minsi c1028_i32 v73
  let v82 : BitVec 32 := Scalar.subi v74 c0_i32_28
  let c1_i32_30 : BitVec 32 := 1#32
  let v84 : BitVec 32 := Scalar.divsi v82 c1_i32_30
  let v85 : BitVec 32 := Scalar.muli v84 c1_i32_30
  let v86 : BitVec 32 := Scalar.addi c0_i32_28 v85
  let c1_i32_32 : BitVec 32 := 1#32
  let arg14 : BitVec 32 := Scf.iv v86 c1_i32_32 k2_t10
  let c1024_i32_34 : BitVec 32 := 1024#32
  let v89 : BitVec 32 := Scalar.muli arg14 c1024_i32_34
  let v90 : BitVec 32 := Scalar.addi v53 v89
  v90
def k2_off8 (v23 : BitVec 32) (v33 : BitVec 32) (k2_t10 : Fin (k2_t10_loop v23 v33).trips) : Fin 1 → Nat :=
  let c0_i32_9 : BitVec 32 := 0#32
  let v36 : BitVec 1 := Scalar.cmpi .sgt v23 c0_i32_9
  let v37 : BitVec 32 := Scalar.extui v36
  let c0_i32_10 : BitVec 32 := 0#32
  let v38 : BitVec 1 := Scalar.cmpi .slt v23 c0_i32_10
  let v39 : BitVec 32 := Scalar.extui v38
  let v40 : BitVec 32 := Scalar.subi v37 v39
  let c8_i32 : BitVec 32 := 8#32
  let c0_i32_11 : BitVec 32 := 0#32
  let v41 : BitVec 1 := Scalar.cmpi .sgt c8_i32 c0_i32_11
  let v42 : BitVec 32 := Scalar.extui v41
  let c0_i32_12 : BitVec 32 := 0#32
  let v43 : BitVec 1 := Scalar.cmpi .slt c8_i32 c0_i32_12
  let v44 : BitVec 32 := Scalar.extui v43
  let v45 : BitVec 32 := Scalar.subi v42 v44
  let v46 : BitVec 1 := Scalar.cmpi .ne v40 v45
  let v47 : BitVec 32 := Scalar.remsi v23 c8_i32
  let c0_i32_13 : BitVec 32 := 0#32
  let v48 : BitVec 1 := Scalar.cmpi .ne v47 c0_i32_13
  let v49 : BitVec 1 := Scalar.andi v46 v48
  let v35 : BitVec 32 := Scalar.divsi v23 c8_i32
  let c1_i32_14 : BitVec 32 := 1#32
  let v50 : BitVec 32 := Scalar.subi v35 c1_i32_14
  let v51 : BitVec 32 := Scalar.select v49 v50 v35
  let c8_i32_15 : BitVec 32 := 8#32
  let v52 : BitVec 32 := Scalar.muli v51 c8_i32_15
  let v53 : BitVec 32 := v52
  let c0_i32_28 : BitVec 32 := 0#32
  let c1028_i32 : BitVec 32 := 1028#32
  let c0_i32_22 : BitVec 32 := 0#32
  let v54 : BitVec 32 := Scalar.subi v33 v53
  let c1023_i32 : BitVec 32 := 1023#32
  let v55 : BitVec 32 := Scalar.addi v54 c1023_i32
  let c0_i32_16 : BitVec 32 := 0#32
  let v57 : BitVec 1 := Scalar.cmpi .sgt v55 c0_i32_16
  let v58 : BitVec 32 := Scalar.extui v57
  let c0_i32_17 : BitVec 32 := 0#32
  let v59 : BitVec 1 := Scalar.cmpi .slt v55 c0_i32_17
  let v60 : BitVec 32 := Scalar.extui v59
  let v61 : BitVec 32 := Scalar.subi v58 v60
  let c1024_i32 : BitVec 32 := 1024#32
  let c0_i32_18 : BitVec 32 := 0#32
  let v62 : BitVec 1 := Scalar.cmpi .sgt c1024_i32 c0_i32_18
  let v63 : BitVec 32 := Scalar.extui v62
  let c0_i32_19 : BitVec 32 := 0#32
  let v64 : BitVec 1 := Scalar.cmpi .slt c1024_i32 c0_i32_19
  let v65 : BitVec 32 := Scalar.extui v64
  let v66 : BitVec 32 := Scalar.subi v63 v65
  let v67 : BitVec 1 := Scalar.cmpi .ne v61 v66
  let v68 : BitVec 32 := Scalar.remsi v55 c1024_i32
  let c0_i32_20 : BitVec 32 := 0#32
  let v69 : BitVec 1 := Scalar.cmpi .ne v68 c0_i32_20
  let v70 : BitVec 1 := Scalar.andi v67 v69
  let v56 : BitVec 32 := Scalar.divsi v55 c1024_i32
  let c1_i32_21 : BitVec 32 := 1#32
  let v71 : BitVec 32 := Scalar.subi v56 c1_i32_21
  let v72 : BitVec 32 := Scalar.select v70 v71 v56
  let v73 : BitVec 32 := Scalar.maxsi c0_i32_22 v72
  let v74 : BitVec 32 := Scalar.minsi c1028_i32 v73
  let v82 : BitVec 32 := Scalar.subi v74 c0_i32_28
  let c1_i32_30 : BitVec 32 := 1#32
  let v84 : BitVec 32 := Scalar.divsi v82 c1_i32_30
  let v85 : BitVec 32 := Scalar.muli v84 c1_i32_30
  let v86 : BitVec 32 := Scalar.addi c0_i32_28 v85
  let c1_i32_32 : BitVec 32 := 1#32
  let arg14 : BitVec 32 := Scf.iv v86 c1_i32_32 k2_t10
  let c1024_i32_34 : BitVec 32 := 1024#32
  let v89 : BitVec 32 := Scalar.muli arg14 c1024_i32_34
  let v90 : BitVec 32 := Scalar.addi v53 v89
  let v91 : BitVec 32 := v90
  ![v91.toNat]

def k2_chk3 (v23 : BitVec 32) (v33 : BitVec 32) : Prop :=
  ((k2_t2_loop v23 v33).OK) ∧
  (∀ k2_t2 : Fin (k2_t2_loop v23 v33).trips, 8 ∣ (k2_mult3 v23 v33 k2_t2).toNat) ∧
  (∀ k2_t2 : Fin (k2_t2_loop v23 v33).trips, ∀ a, (k2_off2 v23 v33 k2_t2) a + S1024.size a ≤ S1052672.size a) ∧
  ((k2_t4_loop v23 v33).OK) ∧
  (∀ k2_t4 : Fin (k2_t4_loop v23 v33).trips, 8 ∣ (k2_mult4 v23 v33 k2_t4).toNat) ∧
  (∀ k2_t4 : Fin (k2_t4_loop v23 v33).trips, ∀ a, (k2_off4 v23 v33 k2_t4) a + S1024.size a ≤ S1052672.size a) ∧
  ((k2_t6_loop v23 v33).OK) ∧
  (∀ k2_t6 : Fin (k2_t6_loop v23 v33).trips, 8 ∣ (k2_mult5 v23 v33 k2_t6).toNat) ∧
  (∀ k2_t6 : Fin (k2_t6_loop v23 v33).trips, ∀ a, (k2_off6 v23 v33 k2_t6) a + S1024.size a ≤ S1052672.size a) ∧
  ((k2_t10_loop v23 v33).OK) ∧
  (∀ k2_t10 : Fin (k2_t10_loop v23 v33).trips, 8 ∣ (k2_mult6 v23 v33 k2_t10).toNat) ∧
  (∀ k2_t10 : Fin (k2_t10_loop v23 v33).trips, ∀ a, (k2_off8 v23 v33 k2_t10) a + S1024.size a ≤ S1052672.size a)
theorem k2_t2_ok : ∀ (v23 : BitVec 32) (v33 : BitVec 32) (k2_hw3 : k2_chk3 v23 v33), (k2_t2_loop v23 v33).OK := fun v23 v33 k2_hw3 => k2_hw3.1
theorem k2_mult3_dvd : ∀ (v23 : BitVec 32) (v33 : BitVec 32) (k2_hw3 : k2_chk3 v23 v33) (k2_t2 : Fin (k2_t2_loop v23 v33).trips), 8 ∣ (k2_mult3 v23 v33 k2_t2).toNat := fun v23 v33 k2_hw3 k2_t2 => k2_hw3.2.1 k2_t2
theorem k2_off2_inb : ∀ (v23 : BitVec 32) (v33 : BitVec 32) (k2_hw3 : k2_chk3 v23 v33) (k2_t2 : Fin (k2_t2_loop v23 v33).trips), ∀ a, (k2_off2 v23 v33 k2_t2) a + S1024.size a ≤ S1052672.size a := fun v23 v33 k2_hw3 k2_t2 => k2_hw3.2.2.1 k2_t2
theorem k2_t4_ok : ∀ (v23 : BitVec 32) (v33 : BitVec 32) (k2_hw3 : k2_chk3 v23 v33), (k2_t4_loop v23 v33).OK := fun v23 v33 k2_hw3 => k2_hw3.2.2.2.1
theorem k2_mult4_dvd : ∀ (v23 : BitVec 32) (v33 : BitVec 32) (k2_hw3 : k2_chk3 v23 v33) (k2_t4 : Fin (k2_t4_loop v23 v33).trips), 8 ∣ (k2_mult4 v23 v33 k2_t4).toNat := fun v23 v33 k2_hw3 k2_t4 => k2_hw3.2.2.2.2.1 k2_t4
theorem k2_off4_inb : ∀ (v23 : BitVec 32) (v33 : BitVec 32) (k2_hw3 : k2_chk3 v23 v33) (k2_t4 : Fin (k2_t4_loop v23 v33).trips), ∀ a, (k2_off4 v23 v33 k2_t4) a + S1024.size a ≤ S1052672.size a := fun v23 v33 k2_hw3 k2_t4 => k2_hw3.2.2.2.2.2.1 k2_t4
theorem k2_t6_ok : ∀ (v23 : BitVec 32) (v33 : BitVec 32) (k2_hw3 : k2_chk3 v23 v33), (k2_t6_loop v23 v33).OK := fun v23 v33 k2_hw3 => k2_hw3.2.2.2.2.2.2.1
theorem k2_mult5_dvd : ∀ (v23 : BitVec 32) (v33 : BitVec 32) (k2_hw3 : k2_chk3 v23 v33) (k2_t6 : Fin (k2_t6_loop v23 v33).trips), 8 ∣ (k2_mult5 v23 v33 k2_t6).toNat := fun v23 v33 k2_hw3 k2_t6 => k2_hw3.2.2.2.2.2.2.2.1 k2_t6
theorem k2_off6_inb : ∀ (v23 : BitVec 32) (v33 : BitVec 32) (k2_hw3 : k2_chk3 v23 v33) (k2_t6 : Fin (k2_t6_loop v23 v33).trips), ∀ a, (k2_off6 v23 v33 k2_t6) a + S1024.size a ≤ S1052672.size a := fun v23 v33 k2_hw3 k2_t6 => k2_hw3.2.2.2.2.2.2.2.2.1 k2_t6
theorem k2_t10_ok : ∀ (v23 : BitVec 32) (v33 : BitVec 32) (k2_hw3 : k2_chk3 v23 v33), (k2_t10_loop v23 v33).OK := fun v23 v33 k2_hw3 => k2_hw3.2.2.2.2.2.2.2.2.2.1
theorem k2_mult6_dvd : ∀ (v23 : BitVec 32) (v33 : BitVec 32) (k2_hw3 : k2_chk3 v23 v33) (k2_t10 : Fin (k2_t10_loop v23 v33).trips), 8 ∣ (k2_mult6 v23 v33 k2_t10).toNat := fun v23 v33 k2_hw3 k2_t10 => k2_hw3.2.2.2.2.2.2.2.2.2.2.1 k2_t10
theorem k2_off8_inb : ∀ (v23 : BitVec 32) (v33 : BitVec 32) (k2_hw3 : k2_chk3 v23 v33) (k2_t10 : Fin (k2_t10_loop v23 v33).trips), ∀ a, (k2_off8 v23 v33 k2_t10) a + S1024.size a ≤ S1052672.size a := fun v23 v33 k2_hw3 k2_t10 => k2_hw3.2.2.2.2.2.2.2.2.2.2.2 k2_t10

@[reducible] def k2_t11_loop : Scf.Loop 32 :=
  let c0_i32_36 : BitVec 32 := 0#32
  let c64_i32 : BitVec 32 := 64#32
  let v92 : BitVec 32 := Scalar.addi c0_i32_36 c64_i32
  let c1_i32_37 : BitVec 32 := 1#32
  ⟨c0_i32_36, v92, c1_i32_37⟩
def k2_off9 (k2_t11 : Fin k2_t11_loop.trips) : Fin 1 → Nat :=
  let c0_i32_36 : BitVec 32 := 0#32
  let c1_i32_37 : BitVec 32 := 1#32
  let arg16 : BitVec 32 := Scf.iv c0_i32_36 c1_i32_37 k2_t11
  let c16_i32_40 : BitVec 32 := 16#32
  let v94 : BitVec 32 := Scalar.muli arg16 c16_i32_40
  let v95 : Index := Scalar.indexCast v94
  ![v95.toNat]
@[reducible] def k2_t12_loop (v121 : BitVec 32) : Scf.Loop 32 :=
  let c0_i32_49 : BitVec 32 := 0#32
  let c1_i32_48 : BitVec 32 := 1#32
  let v122 : BitVec 32 := Scalar.addi v121 c1_i32_48
  let v123 : BitVec 32 := Scalar.subi v122 c0_i32_49
  let c1_i32_51 : BitVec 32 := 1#32
  let v125 : BitVec 32 := Scalar.divsi v123 c1_i32_51
  let v126 : BitVec 32 := Scalar.muli v125 c1_i32_51
  let v127 : BitVec 32 := Scalar.addi c0_i32_49 v126
  let c1_i32_52 : BitVec 32 := 1#32
  ⟨c0_i32_49, v127, c1_i32_52⟩

@[reducible] def k2_t13_loop (v121 : BitVec 32) : Scf.Loop 32 :=
  let c0_i32_49 : BitVec 32 := 0#32
  let c1_i32_48 : BitVec 32 := 1#32
  let v122 : BitVec 32 := Scalar.addi v121 c1_i32_48
  let v123 : BitVec 32 := Scalar.subi v122 c0_i32_49
  let c1_i32_51 : BitVec 32 := 1#32
  let v125 : BitVec 32 := Scalar.divsi v123 c1_i32_51
  let v126 : BitVec 32 := Scalar.muli v125 c1_i32_51
  let v127 : BitVec 32 := Scalar.addi c0_i32_49 v126
  let v124 : BitVec 32 := Scalar.addi c0_i32_49 v123
  let c1_i32_53 : BitVec 32 := 1#32
  ⟨v127, v124, c1_i32_53⟩

def k2_chk7 (v112 : IVec S16 32) (v121 : BitVec 32) : Prop :=
  ((k2_t12_loop v121).OK) ∧
  (∀ k2_t12 : Fin (k2_t12_loop v121).trips, ∀ a x, ((![v112] : Fin 1 → IVec S16 32) a x).toNat < S32768.size a) ∧
  (∀ k2_t12 : Fin (k2_t12_loop v121).trips, ∀ a x, ((![v112] : Fin 1 → IVec S16 32) a x).toNat < S32768.size a) ∧
  ((k2_t13_loop v121).OK) ∧
  (∀ k2_t13 : Fin (k2_t13_loop v121).trips, ∀ a x, ((![v112] : Fin 1 → IVec S16 32) a x).toNat < S32768.size a) ∧
  (∀ k2_t13 : Fin (k2_t13_loop v121).trips, ∀ a x, ((![v112] : Fin 1 → IVec S16 32) a x).toNat < S32768.size a)
theorem k2_t12_ok : ∀ (v112 : IVec S16 32) (v121 : BitVec 32) (k2_hw7 : k2_chk7 v112 v121), (k2_t12_loop v121).OK := fun v112 v121 k2_hw7 => k2_hw7.1
theorem k2_idx10_inb : ∀ (v112 : IVec S16 32) (v121 : BitVec 32) (k2_hw7 : k2_chk7 v112 v121) (k2_t12 : Fin (k2_t12_loop v121).trips), ∀ a x, ((![v112] : Fin 1 → IVec S16 32) a x).toNat < S32768.size a := fun v112 v121 k2_hw7 k2_t12 => k2_hw7.2.1 k2_t12
theorem k2_idx11_inb : ∀ (v112 : IVec S16 32) (v121 : BitVec 32) (k2_hw7 : k2_chk7 v112 v121) (k2_t12 : Fin (k2_t12_loop v121).trips), ∀ a x, ((![v112] : Fin 1 → IVec S16 32) a x).toNat < S32768.size a := fun v112 v121 k2_hw7 k2_t12 => k2_hw7.2.2.1 k2_t12
theorem k2_t13_ok : ∀ (v112 : IVec S16 32) (v121 : BitVec 32) (k2_hw7 : k2_chk7 v112 v121), (k2_t13_loop v121).OK := fun v112 v121 k2_hw7 => k2_hw7.2.2.2.1
theorem k2_idx12_inb : ∀ (v112 : IVec S16 32) (v121 : BitVec 32) (k2_hw7 : k2_chk7 v112 v121) (k2_t13 : Fin (k2_t13_loop v121).trips), ∀ a x, ((![v112] : Fin 1 → IVec S16 32) a x).toNat < S32768.size a := fun v112 v121 k2_hw7 k2_t13 => k2_hw7.2.2.2.2.1 k2_t13
theorem k2_idx13_inb : ∀ (v112 : IVec S16 32) (v121 : BitVec 32) (k2_hw7 : k2_chk7 v112 v121) (k2_t13 : Fin (k2_t13_loop v121).trips), ∀ a x, ((![v112] : Fin 1 → IVec S16 32) a x).toNat < S32768.size a := fun v112 v121 k2_hw7 k2_t13 => k2_hw7.2.2.2.2.2 k2_t13
def k2_off10 (i : grid2.Coords) (k2_t1 : Fin k2_t1_loop.trips) : Fin 1 → Nat :=
  let c0_i32_0 : BitVec 32 := 0#32
  let c1_i32 : BitVec 32 := 1#32
  let arg12 : BitVec 32 := Scf.iv c0_i32_0 c1_i32 k2_t1
  let c32_i32 : BitVec 32 := 32#32
  let v5 : BitVec 32 := Scalar.muli arg12 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c32768_i32 : BitVec 32 := 32768#32
  let v7 : BitVec 32 := Scalar.muli v6 c32768_i32
  let v8 : BitVec 32 := v7
  ![v8.toNat]
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S256x256x256 : Shape := ⟨3, ![256, 256, 256]⟩
abbrev S1048576x3 : Shape := ⟨2, ![1048576, 3]⟩
abbrev S1048576 : Shape := ⟨1, ![1048576]⟩
abbrev S3 : Shape := ⟨1, ![3]⟩
abbrev S_ : Shape := ⟨0, ![]⟩
abbrev S1x3 : Shape := ⟨2, ![1, 3]⟩
abbrev S16777216 : Shape := ⟨1, ![16777216]⟩
abbrev S1 : Shape := ⟨1, ![1]⟩
abbrev S1048576x1 : Shape := ⟨2, ![1048576, 1]⟩

abbrev nBuf : Space → Nat
  | .hbm => 99
  | .vmem => 0
  | .smem => 0
  | _ => 0

abbrev bufTy : (tb : Table) → Fin (tcTables nBuf tb) → BufTy
  | .hbm, ⟨0, _⟩ => ⟨S256x256x256, .f32⟩
  | .hbm, ⟨1, _⟩ => ⟨S1048576x3, .f32⟩
  | .hbm, ⟨2, _⟩ => ⟨S1048576, .f32⟩
  | .hbm, ⟨3, _⟩ => ⟨S3, .f32⟩
  | .hbm, ⟨4, _⟩ => ⟨S3, .i32⟩
  | .hbm, ⟨5, _⟩ => ⟨S3, .i32⟩
  | .hbm, ⟨6, _⟩ => ⟨S_, .f32⟩
  | .hbm, ⟨7, _⟩ => ⟨S1048576x3, .f32⟩
  | .hbm, ⟨8, _⟩ => ⟨S1048576x3, .f32⟩
  | .hbm, ⟨9, _⟩ => ⟨S_, .f32⟩
  | .hbm, ⟨10, _⟩ => ⟨S1048576x3, .f32⟩
  | .hbm, ⟨11, _⟩ => ⟨S1048576x3, .f32⟩
  | .hbm, ⟨12, _⟩ => ⟨S1x3, .f32⟩
  | .hbm, ⟨13, _⟩ => ⟨S1048576x3, .f32⟩
  | .hbm, ⟨14, _⟩ => ⟨S1048576x3, .f32⟩
  | .hbm, ⟨15, _⟩ => ⟨S1048576x3, .i32⟩
  | .hbm, ⟨16, _⟩ => ⟨S_, .i32⟩
  | .hbm, ⟨17, _⟩ => ⟨S3, .i32⟩
  | .hbm, ⟨18, _⟩ => ⟨S3, .i32⟩
  | .hbm, ⟨19, _⟩ => ⟨S_, .i32⟩
  | .hbm, ⟨20, _⟩ => ⟨S_, .i32⟩
  | .hbm, ⟨21, _⟩ => ⟨S1048576x3, .i32⟩
  | .hbm, ⟨22, _⟩ => ⟨S1048576x3, .i32⟩
  | .hbm, ⟨23, _⟩ => ⟨S1x3, .i32⟩
  | .hbm, ⟨24, _⟩ => ⟨S1048576x3, .i32⟩
  | .hbm, ⟨25, _⟩ => ⟨S1048576x3, .i32⟩
  | .hbm, ⟨26, _⟩ => ⟨S1x3, .i32⟩
  | .hbm, ⟨27, _⟩ => ⟨S1048576x3, .i32⟩
  | .hbm, ⟨28, _⟩ => ⟨S1048576x3, .i32⟩
  | .hbm, ⟨29, _⟩ => ⟨S_, .i32⟩
  | .hbm, ⟨30, _⟩ => ⟨S1048576, .i32⟩
  | .hbm, ⟨31, _⟩ => ⟨S_, .f32⟩
  | .hbm, ⟨32, _⟩ => ⟨S256x256x256, .f32⟩
  | .hbm, ⟨33, _⟩ => ⟨S256x256x256, .f32⟩
  | .hbm, ⟨34, _⟩ => ⟨S16777216, .f32⟩
  | .hbm, ⟨35, _⟩ => ⟨S_, .i32⟩
  | .hbm, ⟨36, _⟩ => ⟨S_, .i32⟩
  | .hbm, ⟨37, _⟩ => ⟨S1048576, .i32⟩
  | .hbm, ⟨38, _⟩ => ⟨S1048576, .f32⟩
  | .hbm, ⟨39, _⟩ => ⟨S_, .i32⟩
  | .hbm, ⟨40, _⟩ => ⟨S_, .i32⟩
  | .hbm, ⟨41, _⟩ => ⟨S16777216, .f32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1, .f32⟩
  | .hbm, ⟨60, _⟩ => ⟨S_, .f32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1, .f32⟩
  | .hbm, ⟨68, _⟩ => ⟨S_, .f32⟩
  | .hbm, ⟨69, _⟩ => ⟨S_, .f32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1, .i32⟩
  | .hbm, ⟨76, _⟩ => ⟨S16777216, .f32⟩
  | .hbm, ⟨77, _⟩ => ⟨S_, .i32⟩
  | .hbm, ⟨78, _⟩ => ⟨S_, .i32⟩
  | .hbm, ⟨79, _⟩ => ⟨S16777216, .f32⟩
  | .hbm, ⟨80, _⟩ => ⟨S_, .i32⟩
  | .hbm, ⟨81, _⟩ => ⟨S1048576, .i32⟩
  | .hbm, ⟨82, _⟩ => ⟨S1048576, .i1⟩
  | .hbm, ⟨83, _⟩ => ⟨S_, .i32⟩
  | .hbm, ⟨84, _⟩ => ⟨S1048576, .i32⟩
  | .hbm, ⟨85, _⟩ => ⟨S1048576, .i32⟩
  | .hbm, ⟨86, _⟩ => ⟨S1048576, .i32⟩
  | .hbm, ⟨87, _⟩ => ⟨S1048576x1, .i32⟩
  | .hbm, ⟨88, _⟩ => ⟨S1048576, .f32⟩
  | .hbm, ⟨89, _⟩ => ⟨S_, .i32⟩
  | .hbm, ⟨90, _⟩ => ⟨S1048576, .i32⟩
  | .hbm, ⟨91, _⟩ => ⟨S1048576, .i1⟩
  | .hbm, ⟨92, _⟩ => ⟨S_, .i32⟩
  | .hbm, ⟨93, _⟩ => ⟨S1048576, .i32⟩
  | .hbm, ⟨94, _⟩ => ⟨S1048576, .i32⟩
  | .hbm, ⟨95, _⟩ => ⟨S1048576, .i32⟩
  | .hbm, ⟨96, _⟩ => ⟨S1048576x1, .i32⟩
  | .hbm, ⟨97, _⟩ => ⟨S16777216, .f32⟩
  | .hbm, ⟨98, _⟩ => ⟨S256x256x256, .f32⟩
  | _, _ => ⟨S256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_c_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_cst_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_7 : Ref sig .tc := ⟨.hbm, 35, rfl⟩
abbrev main_c_8 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v18_3 : Ref sig .tc := ⟨.hbm, 40, rfl⟩
abbrev main_v18_4 : Ref sig .tc := ⟨.hbm, 41, rfl⟩
abbrev main_while0c_c_17 : Ref sig .tc := ⟨.hbm, 42, rfl⟩
abbrev main_while0c_v35 : Ref sig .tc := ⟨.hbm, 43, rfl⟩
abbrev main_while0b_c_17 : Ref sig .tc := ⟨.hbm, 44, rfl⟩
abbrev main_while0b_v35 : Ref sig .tc := ⟨.hbm, 45, rfl⟩
abbrev main_while0b_c_18 : Ref sig .tc := ⟨.hbm, 46, rfl⟩
abbrev main_while0b_v36 : Ref sig .tc := ⟨.hbm, 47, rfl⟩
abbrev main_while0b_v37 : Ref sig .tc := ⟨.hbm, 48, rfl⟩
abbrev main_while0b_c_19 : Ref sig .tc := ⟨.hbm, 49, rfl⟩
abbrev main_while0b_v38 : Ref sig .tc := ⟨.hbm, 50, rfl⟩
abbrev main_while0b_v39 : Ref sig .tc := ⟨.hbm, 51, rfl⟩
abbrev main_while0b_v40 : Ref sig .tc := ⟨.hbm, 52, rfl⟩
abbrev main_while0b_v41 : Ref sig .tc := ⟨.hbm, 53, rfl⟩
abbrev main_while0b_c_20 : Ref sig .tc := ⟨.hbm, 54, rfl⟩
abbrev main_while0b_v42 : Ref sig .tc := ⟨.hbm, 55, rfl⟩
abbrev main_while0b_c_21 : Ref sig .tc := ⟨.hbm, 56, rfl⟩
abbrev main_while0b_v43 : Ref sig .tc := ⟨.hbm, 57, rfl⟩
abbrev main_while0b_v44 : Ref sig .tc := ⟨.hbm, 58, rfl⟩
abbrev main_while0b_v45 : Ref sig .tc := ⟨.hbm, 59, rfl⟩
abbrev main_while0b_v46 : Ref sig .tc := ⟨.hbm, 60, rfl⟩
abbrev main_while0b_c_22 : Ref sig .tc := ⟨.hbm, 61, rfl⟩
abbrev main_while0b_v47 : Ref sig .tc := ⟨.hbm, 62, rfl⟩
abbrev main_while0b_v48 : Ref sig .tc := ⟨.hbm, 63, rfl⟩
abbrev main_while0b_c_23 : Ref sig .tc := ⟨.hbm, 64, rfl⟩
abbrev main_while0b_v49 : Ref sig .tc := ⟨.hbm, 65, rfl⟩
abbrev main_while0b_v50 : Ref sig .tc := ⟨.hbm, 66, rfl⟩
abbrev main_while0b_v51 : Ref sig .tc := ⟨.hbm, 67, rfl⟩
abbrev main_while0b_v52 : Ref sig .tc := ⟨.hbm, 68, rfl⟩
abbrev main_while0b_v53 : Ref sig .tc := ⟨.hbm, 69, rfl⟩
abbrev main_while0b_c_24 : Ref sig .tc := ⟨.hbm, 70, rfl⟩
abbrev main_while0b_v54 : Ref sig .tc := ⟨.hbm, 71, rfl⟩
abbrev main_while0b_c_25 : Ref sig .tc := ⟨.hbm, 72, rfl⟩
abbrev main_while0b_v55 : Ref sig .tc := ⟨.hbm, 73, rfl⟩
abbrev main_while0b_v56 : Ref sig .tc := ⟨.hbm, 74, rfl⟩
abbrev main_while0b_v57 : Ref sig .tc := ⟨.hbm, 75, rfl⟩
abbrev main_while0b_v58 : Ref sig .tc := ⟨.hbm, 76, rfl⟩
abbrev main_while0b_c_26 : Ref sig .tc := ⟨.hbm, 77, rfl⟩
abbrev main_while0b_v59 : Ref sig .tc := ⟨.hbm, 78, rfl⟩
abbrev main_v19 : Ref sig .tc := ⟨.hbm, 79, rfl⟩
abbrev main_c_9 : Ref sig .tc := ⟨.hbm, 80, rfl⟩
abbrev main_v20 : Ref sig .tc := ⟨.hbm, 81, rfl⟩
abbrev main_v21 : Ref sig .tc := ⟨.hbm, 82, rfl⟩
abbrev main_c_10 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_c_11 : Ref sig .tc := ⟨.hbm, 89, rfl⟩
abbrev main_v27 : Ref sig .tc := ⟨.hbm, 90, rfl⟩
abbrev main_v28 : Ref sig .tc := ⟨.hbm, 91, rfl⟩
abbrev main_c_12 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩

abbrev nD : Nat := 1
abbrev τ : Topo := Topo.v7x

variable {F : FTy → Type} [FloatOps F]

abbrev main_while0_count : Scf.Loop 32 := ⟨0#32, 1048576#32, 1#32⟩
-- ==== Proof.Lanes.lean ====
/-
  Facts about vectors of sixteen lanes that no program is named in: what an indexed store leaves at one place, as a fold
  over the lanes in order; the fold when one lane alone, or no lane, hits the place; rank-one places named by a number.
-/
module

public import proofs.«01_k».proof.Proof.Gen.KernelIdeal
public import Idealize.ShloMosaic.Lib.Memref
public import Idealize.ShloMosaic.Lib.Tactic

@[expose] public section

noncomputable section

namespace Cert.Proof.Occ

open Idealize.ShloMosaic

/-! ## Rank-one places -/

/-- Place `n` of a rank-one shape of `N` elements, `n` taken modulo `N`. -/
def at1 (N : ℕ) [NeZero N] (n : ℕ) : (⟨1, ![N]⟩ : Shape).Idx :=
  fun a => match a with | ⟨0, _⟩ => (⟨n % N, Nat.mod_lt _ (NeZero.pos N)⟩ : Fin N)

theorem at1_val {N : ℕ} [NeZero N] {n : ℕ} (h : n < N) : ((at1 N n) 0).val = n := Nat.mod_eq_of_lt h

theorem ext1 {N : ℕ} {i j : (⟨1, ![N]⟩ : Shape).Idx} (h : (i 0).val = (j 0).val) : i = j := by
  funext a
  match a with
  | ⟨0, _⟩ => exact Fin.ext h

theorem at1_eq {N : ℕ} [NeZero N] (j : (⟨1, ![N]⟩ : Shape).Idx) : at1 N (j 0).val = j := ext1 (at1_val (j 0).isLt)

theorem at1_of_val {N : ℕ} [NeZero N] {j : (⟨1, ![N]⟩ : Shape).Idx} {n : ℕ} (h : (j 0).val = n) : j = at1 N n := by
  rw [← h, at1_eq]

theorem lt1 {N : ℕ} (j : (⟨1, ![N]⟩ : Shape).Idx) : (j 0).val < N := (j 0).isLt

/-! ## Rectangles of a rank-one shape -/

theorem emb_unit1 {N n : ℕ} [NeZero N] {off : Fin 1 → ℕ} (inb : ∀ a, off a + (![n] : Fin 1 → ℕ) a ≤ (⟨1, ![N]⟩ : Shape).size a)
    (x : (Rect.unit (s := ⟨1, ![N]⟩) off ![n] inb).shape.Idx) :
    (Rect.unit (s := ⟨1, ![N]⟩) off ![n] inb).emb x = at1 N (off 0 + (x 0).val) := by
  refine at1_of_val ?_
  show off 0 + 1 * (x 0).val = _
  omega

theorem overlay_unit1 {N n : ℕ} [NeZero n] {α : Type} {off : Fin 1 → ℕ} (inb : ∀ a, off a + (![n] : Fin 1 → ℕ) a ≤ (⟨1, ![N]⟩ : Shape).size a)
    (X : (⟨1, ![N]⟩ : Shape).Idx → α) (w : (Rect.unit (s := ⟨1, ![N]⟩) off ![n] inb).shape.Idx → α) (j : (⟨1, ![N]⟩ : Shape).Idx) :
    (Rect.unit (s := ⟨1, ![N]⟩) off ![n] inb).overlay X w j
      = if off 0 ≤ (j 0).val ∧ (j 0).val < off 0 + n then w (at1 n ((j 0).val - off 0)) else X j := by
  split
  · rename_i h
    have hj : j = (Rect.unit (s := ⟨1, ![N]⟩) off ![n] inb).emb (at1 n ((j 0).val - off 0)) := by
      refine ext1 ?_
      show (j 0).val = off 0 + 1 * ((at1 n ((j 0).val - off 0)) 0).val
      rw [at1_val (by omega)]; omega
    conv_lhs => rw [hj]
    exact Rect.overlay_emb _ _ _ _
  · rename_i h
    refine Rect.overlay_of_not_mem _ _ _ fun hm => h ?_
    obtain ⟨x, rfl⟩ := (Rect.unit (s := ⟨1, ![N]⟩) off ![n] inb).exists_idx_of_mem hm
    have hx : (x 0).val < n := (x 0).isLt
    have : (((Rect.unit (s := ⟨1, ![N]⟩) off ![n] inb).idx x) 0).val = off 0 + 1 * (x 0).val := rfl
    omega

/-- Lane `l` of a sixteen-lane vector. -/
abbrev lane (l : Fin 16) : (⟨1, ![16]⟩ : Shape).Idx := Shape.ofLane (d := ![16]) l

theorem lane_val (l : Fin 16) : ((lane l) 0).val = l.val := rfl

theorem lane_eq (x : (⟨1, ![16]⟩ : Shape).Idx) : lane (x 0) = x := ext1 rfl

/-! ## Folds with few hits -/

theorem foldl_no_hit {ι α : Type} (L : List ι) (P : ι → Prop) [DecidablePred P] (g : α → ι → α) (a : α) (h : ∀ k ∈ L, ¬ P k) :
    L.foldl (fun acc k => if P k then g acc k else acc) a = a := by
  induction L generalizing a with
  | nil => rfl
  | cons k L ih =>
    rw [List.foldl_cons, if_neg (h k List.mem_cons_self)]
    exact ih a fun k' hk' => h k' (List.mem_cons_of_mem _ hk')

theorem foldl_one_hit {ι α : Type} (L : List ι) (hL : L.Nodup) (P : ι → Prop) [DecidablePred P] (g : α → ι → α) (a : α) (k₀ : ι)
    (hm : k₀ ∈ L) (hk : P k₀) (hu : ∀ k ∈ L, P k → k = k₀) :
    L.foldl (fun acc k => if P k then g acc k else acc) a = g a k₀ := by
  induction L generalizing a with
  | nil => exact absurd hm List.not_mem_nil
  | cons k L ih =>
    rw [List.foldl_cons]
    by_cases h : k = k₀
    · subst h
      rw [if_pos hk]
      refine foldl_no_hit L P g _ fun k' hk' hP => ?_
      have e := hu k' (List.mem_cons_of_mem _ hk') hP
      exact (List.nodup_cons.mp hL).1 (e ▸ hk')
    · rw [if_neg fun hP => h (hu k List.mem_cons_self hP)]
      exact ih (List.nodup_cons.mp hL).2 a ((List.mem_cons.mp hm).resolve_left fun e => h e.symm)
        fun k' hk' => hu k' (List.mem_cons_of_mem _ hk')

/-! ## The indexed store at one place -/

variable {F : FTy → Type} [FloatOps F]

theorem storeIdx_apply {N : ℕ} {e : EltTy} (f : Vec F ⟨1, ![N]⟩ e) (v16 : IVec ⟨1, ![16]⟩ 32) (w : Vec F ⟨1, ![16]⟩ e)
    (mask : IVec ⟨1, ![16]⟩ 1) (add : Bool) (h : ∀ a x, (((![v16] : Fin 1 → IVec ⟨1, ![16]⟩ 32)) a x).toNat < (⟨1, ![N]⟩ : Shape).size a)
    (j : (⟨1, ![N]⟩ : Shape).Idx) :
    storeIdx (s := ⟨1, ![N]⟩) f ![v16] w mask add h j
      = (List.finRange 16).foldl (fun acc l => if mask (lane l) = 1 ∧ (v16 (lane l)).toNat = (j 0).val
          then (if add then Elt.idxAdd e acc (w (lane l)) else w (lane l)) else acc) (f j) := by
  suffices H : ∀ (L : List (Fin 16)) (f : Vec F ⟨1, ![N]⟩ e),
      (L.foldl (fun (g : Vec F ⟨1, ![N]⟩ e) (k : Fin 16) => if mask (lane k) = 1 then
          (fun j => if (∀ a, (j a).val = (idxAt (s := ⟨1, ![N]⟩) ![v16] h (lane k) a).val)
            then (if add then Elt.idxAdd e (g (idxAt (s := ⟨1, ![N]⟩) ![v16] h (lane k))) (w (lane k)) else w (lane k)) else g j) else g) f) j
        = L.foldl (fun acc l => if mask (lane l) = 1 ∧ (v16 (lane l)).toNat = (j 0).val
          then (if add then Elt.idxAdd e acc (w (lane l)) else w (lane l)) else acc) (f j) by
    refine Eq.trans ?_ (H (List.finRange 16) f)
    unfold storeIdx
    refine congrFun (congrArg (fun φ : Vec F ⟨1, ![N]⟩ e → Fin 16 → Vec F ⟨1, ![N]⟩ e => List.foldl φ f (List.finRange 16))
      (funext fun g => funext fun k => ?_)) j
    dsimp only
    split
    · funext j; congr
    · rfl
  intro L
  induction L with
  | nil => intro f; rfl
  | cons l L ih =>
    intro f
    rw [List.foldl_cons, List.foldl_cons, ih]
    congr 1
    by_cases hm : mask (lane l) = 1
    · by_cases hh : (v16 (lane l)).toNat = (j 0).val
      · have hj : idxAt (s := ⟨1, ![N]⟩) ![v16] h (lane l) = j := ext1 hh
        have hc : ∀ a, (j a).val = (idxAt (s := ⟨1, ![N]⟩) ![v16] h (lane l) a).val := fun a => by rw [hj]
        rw [if_pos hm]; dsimp only
        rw [if_pos hc, if_pos (show mask (lane l) = 1 ∧ (v16 (lane l)).toNat = (j 0).val from ⟨hm, hh⟩), hj]
      · have hc : ¬ ∀ a, (j a).val = (idxAt (s := ⟨1, ![N]⟩) ![v16] h (lane l) a).val := fun H => hh (H 0).symm
        rw [if_pos hm]; dsimp only
        rw [if_neg hc, if_neg (show ¬ (mask (lane l) = 1 ∧ (v16 (lane l)).toNat = (j 0).val) from fun H => hh H.2)]
    · rw [if_neg hm, if_neg (show ¬ (mask (lane l) = 1 ∧ (v16 (lane l)).toNat = (j 0).val) from fun H => hm H.1)]

/-- No lane names the place: it keeps its value. -/
theorem storeIdx_miss {N : ℕ} {e : EltTy} (f : Vec F ⟨1, ![N]⟩ e) (v16 : IVec ⟨1, ![16]⟩ 32) (w : Vec F ⟨1, ![16]⟩ e)
    (mask : IVec ⟨1, ![16]⟩ 1) (add : Bool) (h : ∀ a x, (((![v16] : Fin 1 → IVec ⟨1, ![16]⟩ 32)) a x).toNat < (⟨1, ![N]⟩ : Shape).size a)
    (j : (⟨1, ![N]⟩ : Shape).Idx) (hm : ∀ l : Fin 16, mask (lane l) = 1 → (v16 (lane l)).toNat ≠ (j 0).val) :
    storeIdx (s := ⟨1, ![N]⟩) f ![v16] w mask add h j = f j := by
  rw [storeIdx_apply]
  exact foldl_no_hit _ (fun l => mask (lane l) = 1 ∧ (v16 (lane l)).toNat = (j 0).val)
    (fun acc l => if add then Elt.idxAdd e acc (w (lane l)) else w (lane l)) _ fun l _ hl => hm l hl.1 hl.2

/-- One lane alone names the place. -/
theorem storeIdx_hit {N : ℕ} {e : EltTy} (f : Vec F ⟨1, ![N]⟩ e) (v16 : IVec ⟨1, ![16]⟩ 32) (w : Vec F ⟨1, ![16]⟩ e)
    (mask : IVec ⟨1, ![16]⟩ 1) (add : Bool) (h : ∀ a x, (((![v16] : Fin 1 → IVec ⟨1, ![16]⟩ 32)) a x).toNat < (⟨1, ![N]⟩ : Shape).size a)
    (j : (⟨1, ![N]⟩ : Shape).Idx) (l : Fin 16) (hm : mask (lane l) = 1) (hl : (v16 (lane l)).toNat = (j 0).val)
    (hu : ∀ l' : Fin 16, mask (lane l') = 1 → (v16 (lane l')).toNat = (j 0).val → l' = l) :
    storeIdx (s := ⟨1, ![N]⟩) f ![v16] w mask add h j = if add then Elt.idxAdd e (f j) (w (lane l)) else w (lane l) := by
  rw [storeIdx_apply]
  exact foldl_one_hit _ (List.nodup_finRange 16) (fun l => mask (lane l) = 1 ∧ (v16 (lane l)).toNat = (j 0).val)
    (fun acc l => if add then Elt.idxAdd e acc (w (lane l)) else w (lane l)) _ l (List.mem_finRange l) ⟨hm, hl⟩
    fun l' _ hl' => hu l' hl'.1 hl'.2

theorem loadIdx_apply {N : ℕ} [NeZero N] {e : EltTy} (f : Vec F ⟨1, ![N]⟩ e) (v16 : IVec ⟨1, ![16]⟩ 32)
    (h : ∀ a x, (((![v16] : Fin 1 → IVec ⟨1, ![16]⟩ 32)) a x).toNat < (⟨1, ![N]⟩ : Shape).size a) (x : (⟨1, ![16]⟩ : Shape).Idx) :
    loadIdx (s := ⟨1, ![N]⟩) f ![v16] h x = f (at1 N (v16 x).toNat) := by
  unfold loadIdx
  exact congrArg f (at1_of_val rfl)

theorem loadIdx_of_eq {N : ℕ} [NeZero N] {e : EltTy} {f : Vec F ⟨1, ![N]⟩ e} {v16 : IVec ⟨1, ![16]⟩ 32}
    {h : ∀ a x, (((![v16] : Fin 1 → IVec ⟨1, ![16]⟩ 32)) a x).toNat < (⟨1, ![N]⟩ : Shape).size a} {v : Vec F ⟨1, ![16]⟩ e}
    (e : loadIdx (s := ⟨1, ![N]⟩) f ![v16] h = v) (x : (⟨1, ![16]⟩ : Shape).Idx) : v x = f (at1 N (v16 x).toNat) := by
  rw [← e, loadIdx_apply]

/-- The places a vector of indices names are inside a buffer when each lane's is. -/
theorem lanes_inb (v : IVec ⟨1, ![16]⟩ 32) (N : ℕ) (hv : ∀ l : Fin 16, (v (lane l)).toNat < N) (a : Fin 1) (x : (⟨1, ![16]⟩ : Shape).Idx) :
    ((![v] : Fin 1 → IVec ⟨1, ![16]⟩ 32) a x).toNat < (⟨1, ![N]⟩ : Shape).size a := by
  match a with
  | ⟨0, _⟩ => exact (lane_eq x) ▸ hv (x 0)

end Cert.Proof.Occ

end
-- ==== Proof.Base.lean ====
/-
  The set-up every module of this proof shares: the program as the launch theorem sees it, the resource algebra, the
  tiles' names, and the rules for a vector's indexed load and store over a buffer held whole.
-/
module

public import proofs.«01_k».proof.Defs
public import proofs.«01_k».proof.Proof.Lanes
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Occ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's rounds library beside the transfers' counters -/

abbrev UH : Type := URounds (GSem nD τ sig) ℕ
abbrev UU : Type := UH × Counters

/-- The machine's resources at this program. -/
abbrev MM (F : FTy → Type) := MT nD τ sig (HIx 3) (Elt F) ℕ UU ℕ

abbrev EH : Emb UH (MT nD τ sig (HIx 3) (Elt F) ℕ UU ℕ) := embL

/-! ## The tiles -/

/-- The task that runs on subcore `s` of SparseCore `c`: its number, of thirty-two. -/
def wid (c s : ℕ) : ℕ := s * 2 + c

/-! ## The steps of a tile's body over memrefs owned at their contents

Each rule takes what the step touches as `owns c m q X` — the thread holds the memref's elements at share `q`, and they
read `X` — and hands it back at what the step leaves. -/

section Rules

/-- The programs thread `c` runs inside a kernel, -/
abbrev PG (F : FTy → Type) (c : Thread nD τ) (α : Type) : Type 1 := Prog (TpuEff nD τ sig (Elt F) Λ₀ c.2) α

/-- and one's weakest precondition. -/
abbrev wpc [FloatOps F] {α : Type} (c : Thread nD τ) (p : PG F c α) (Q : α → sProp (MM F)) : sProp (MM F) :=
  wp frame (wpE (defs₀ (F := F)) 𝒱₀ c none) Set.univ p Q

/-- What a memref reads after a write through one of its slices: the slice's part replaced. -/
theorem read_slice_write {κ : Kind} {sp : Space} {s : Shape} {e : EltTy} {v : View sig κ sp s e} {r : Rect s} (f : v.ty.Contents (Elt F)) (w : r.shape.Idx → Elt F e)
    {X : s.Idx → Elt F e} (hf : v.read (Elt F) f = X) :
    v.read (Elt F) ((v.slice r).write (Elt F) f w Finset.univ) = r.overlay X w := by
  subst hf
  funext j
  by_cases hj : j ∈ r.set
  · obtain ⟨i, rfl⟩ := r.exists_idx_of_mem hj
    exact (congrFun (View.read_write_univ (v := v.slice r) f w) i).trans (r.overlay_emb (v.read (Elt F) f) w i).symm
  · rw [Rect.overlay_of_not_mem _ _ _ hj, View.read_apply, View.read_apply, View.write_of_not_mem]
    rw [View.setOn_univ, View.set_slice]
    intro hm
    obtain ⟨x, hx, he⟩ := Finset.mem_map.mp hm
    exact hj (v.emb.injective he ▸ hx)

/-- A memref's access through the whole rectangle is the memref. -/
theorem set_access_all {κ : Kind} {cs : Space} {s : Shape} {e : EltTy} (m : Memref sig κ cs s e) : (m.access (.whole s)).set = m.view.set := by
  show (m.view.slice (.whole s)).set = _
  rw [View.set_slice, Rect.set_whole, View.set]

/-- and reads the same. -/
theorem read_access_all {κ : Kind} {cs : Space} {s : Shape} {e : EltTy} (m : Memref sig κ cs s e) (f : m.view.ty.Contents (Elt F)) :
    (m.access (.whole s)).read (Elt F) f = m.view.read (Elt F) f := by
  funext x
  exact congrArg (m.view.read (Elt F) f) (Rect.emb_whole_apply s x)

variable [FloatOps F] {α : Type} {c : Thread nD τ} {Q : α → sProp (MM F)} {s : Shape} {e : EltTy}

include Q

theorem own_load {cs : CoreSpace} {m : Memref sig c.2.kind cs s e} {r : Rect s} {hl : m.view.LoadsAt r.toLoadRect}
    {k : (r.shape.Idx → Elt F e) → PG F c α} {q : PosShare TreeShare} {X : s.Idx → Elt F e} :
    (owns c m q X : sProp (MM F)) ⊢ iprop((owns c m q X -∗ wpc c (k fun x => X (r.emb x)) Q)
      -∗ wpc c (Prog.lift (.load m r.toLoadRect hl) >>= k) Q) := by
  show _ ⊢ iprop((owns c m q X -∗ wpc c (k fun x => X (r.emb x)) Q) -∗ wpc c (.op (.load m r.toLoadRect hl) k) Q)
  unfold owns
  iintro ⟨%f, %hf, H⟩ Hk
  iapply (wp_load 𝒱₀ c none Set.univ (m := m) (S := m.view.set) (Finset.map_subset_map.mpr (Finset.subset_univ _))) $$ H
  iintro H
  have e1 : m.view.readAt (Elt F) r.toLoadRect f = fun x => X (r.emb x) := by subst hf; rfl
  rw [e1]
  iapply Hk
  iexists f
  isplitr; · ipureintro; exact hf
  iexact H

theorem own_store {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → PG F c α} {X : s.Idx → Elt F e} :
    (owns c m fullShare X : sProp (MM F)) ⊢ iprop((owns c m fullShare (r.overlay X w) -∗ wpc c (k ⟨⟩) Q)
      -∗ wpc c (Prog.lift (.store m r w Finset.univ hx hm) >>= k) Q) := by
  show _ ⊢ iprop((owns c m fullShare (r.overlay X w) -∗ wpc c (k ⟨⟩) Q) -∗ wpc c (.op (.store m r w Finset.univ hx hm) k) Q)
  unfold owns
  iintro ⟨%f, %hf, H⟩ Hk
  iapply (wp_store 𝒱₀ c none Set.univ (m := m) (r := r) (Mk := Finset.univ) (S := m.view.set)
    ((m.access r).setOn_univ ▸ m.view.set_slice_subset r)) $$ H
  iintro H
  iapply Hk
  iexists _
  isplitr
  swap; · iexact H
  · ipureintro
    exact read_slice_write f w hf

theorem own_loadIdx {t : Shape} {base : Memref sig c.2.kind .vmem s e} {idxs : Fin s.rank → IVec t 32}
    {h : ∀ a x, (idxs a x).toNat < s.size a} {hl : base.view.Loads} {k : Vec F t e → PG F c α}
    {q : PosShare TreeShare} {X : s.Idx → Elt F e} :
    (owns c base q X : sProp (MM F)) ⊢ iprop((owns c base q X -∗ wpc c (k (loadIdx X idxs h)) Q)
      -∗ wpc c (SparseCore.vectorLoadIdx base idxs h hl >>= k) Q) := by
  unfold owns
  iintro ⟨%f, %hf, H⟩ Hk
  iapply (SparseCore.wp_vectorLoadIdx 𝒱₀ c none Set.univ (base := base) (S := base.view.set) (by rw [set_access_all])) $$ H
  iintro H
  have e1 : (base.access (.whole s)).read (Elt F) f = X := (read_access_all base f).trans hf
  rw [e1]
  iapply Hk
  iexists f
  isplitr; · ipureintro; exact hf
  iexact H

theorem own_storeIdx {n : Fin 1 → Nat} {base : Memref sig c.2.kind .vmem s e} {idxs : Fin s.rank → IVec ⟨1, n⟩ 32} {v : Vec F ⟨1, n⟩ e}
    {mask : IVec ⟨1, n⟩ 1} {add : Bool} {h : ∀ a x, (idxs a x).toNat < s.size a} {hs : (base.access (.whole s)).Stores Finset.univ}
    {k : PUnit → PG F c α} {X : s.Idx → Elt F e} :
    (owns c base fullShare X : sProp (MM F)) ⊢ iprop((owns c base fullShare (storeIdx X idxs v mask add h) -∗ wpc c (k ⟨⟩) Q)
      -∗ wpc c (SparseCore.vectorStoreIdx base idxs v mask add h hs >>= k) Q) := by
  unfold owns
  iintro ⟨%f, %hf, H⟩ Hk
  iapply (SparseCore.wp_vectorStoreIdx 𝒱₀ c none Set.univ (base := base)) $$ [H]
  · rw [set_access_all]; iexact H
  rw [set_access_all]
  iintro H
  iapply Hk
  iexists _
  isplitr
  swap; · iexact H
  · ipureintro
    have e1 : (base.access (.whole s)).read (Elt F) f = X := (read_access_all base f).trans hf
    refine (read_access_all base _).symm.trans ((View.read_write_univ (v := base.access (.whole s)) _ _).trans ?_)
    exact congrArg (fun Z => storeIdx Z idxs v mask add h) e1

theorem own_assume {P : Prop} {dec : Decidable P} {k : PLift P → PG F c α} (h : P) :
    wpc c (k ⟨h⟩) Q ⊢ wpc c (Prog.lift (.assume P dec) >>= k) Q := by
  exact wp_assume 𝒱₀ c none Set.univ h

theorem own_ret {a : α} : Q a ⊢ wpc c (pure a : PG F c α) Q := le_wp_ret _ _ _ _ _

/-- A copy inside the thread's own device and the wait for it, back to back: the destination comes to read what the
    source reads. -/
theorem own_copy {sp sp' : Space} {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {hsrc' : src.view.WordExact} {hdst' : dst.view.WordExact} {k : PUnit → PG F c α} {q : PosShare TreeShare}
    {X Y : s.Idx → Elt F e} {O : CellTallies nD τ sig (HIx 3)} {W : Waits sig (HIx 3)} (hn : 0 < s.numel) :
    iprop(owns c src q X ∗ owns c dst fullShare Y ∗ semVal (c, .dma sem) 0 ∗ owes c O W ∗ Transfers.MayWaits c (default : HIx 3) O)
      ⊢ iprop((iprop(owns c src q X ∗ owns c dst fullShare X ∗ semVal (c, .dma sem) 0 ∗ owes c O (insert (SemLoc.dma sem, default) W))
          -∗ wpc c (k ⟨⟩) Q)
        -∗ wpc c (Prog.lift (.enqueueDma src (.here dst) (.dma sem) hsrc hdst hsem) >>= fun _ =>
            Prog.lift (.waitDma2 sem src dst hsrc' hdst') >>= k) Q) := by
  show _ ⊢ iprop(_ -∗ wpc c (.op (.enqueueDma src (.here dst) (.dma sem) hsrc hdst hsem) fun _ =>
    .op (.waitDma2 sem src dst hsrc' hdst') k) Q)
  have ho (m' : Unit) : True := trivial
  iintro ⟨Hs, Hd, Hv, HO, #HM⟩ Hk
  ihave Hs := (show owns c src q X ⊢ iprop(∃ f, ⌜src.view.read (Elt F) f = X⌝ ∗ (src.view.loc c ↦[src.view.set]{q} f)) from .rfl) $$ Hs
  ihave Hd := (show owns c dst fullShare Y ⊢ iprop(∃ f, ⌜dst.view.read (Elt F) f = Y⌝ ∗ (dst.view.loc c ↦[dst.view.set]{fullShare} f)) from .rfl) $$ Hd
  icases Hs with ⟨%fs, %hfs, Hs⟩
  icases Hd with ⟨%fd, %hfd, Hd⟩
  iapply (Transfers.wp_dmaLocal countersEmb 𝒱₀ c none (default : HIx 3) _ rfl (View.amount_pos _ _ hn) (Finset.Subset.refl _)) $$ [Hs Hd Hv]
  · isplitl [Hs]; · iexact Hs
    isplitl [Hd]; · iexact Hd
    iexact Hv
  iintro Hf
  iapply (Transfers.wp_waitLocalO countersEmb 𝒱₀ c none (default : HIx 3) rfl) $$ [Hf HO]
  · isplitl [Hf]; · iexact Hf
    isplitl [HO]; · iexact HO
    iapply (Transfers.MayWaits.elim (SemLoc.dma sem)); iexact HM
  iintro ⟨⟨Hd, Hs⟩, Hv, HO⟩
  iapply Hk
  isplitl [Hs]
  · unfold owns; iexists fs; isplitr; · ipureintro; exact hfs
    iexact Hs
  isplitl [Hd]
  · unfold owns; iexists _; isplitr
    swap; · iexact Hd
    ipureintro
    rw [View.read_write_univ]; exact hfs
  isplitl [Hv]; · iexact Hv
  iexact HO

theorem own_for {w : Nat} {σ : Type} {l : Scf.Loop w} {hok : l.OK} {init : σ} {body : Fin l.trips → σ → PG F c σ} {k : σ → PG F c α}
    (I : ℕ → σ → sProp (MM F)) (hI : ∀ (t : Fin l.trips) (a : σ), I t.val a ⊢ wpc c (body t a) (I (t.val + 1))) :
    I 0 init ⊢ iprop((∀ a, I l.trips a -∗ wpc c (k a) Q) -∗ wpc c (Scf.Loop.for l hok init body >>= k) Q) :=
  Scf.wp_for_bind _ _ _ l.lb l.ub l.st hok init body I hI

omit [FloatOps F] in
include Q in
theorem own_borrow {sp : Space} {m : Memref sig c.2.kind sp s e} {r : Rect s} {hr : ∀ a, r.stride a = 1} {q : PosShare TreeShare} {X : s.Idx → Elt F e} :
    (owns c m q X : sProp (MM F)) ⊢ iprop(owns c (m.slice r hr) q (fun i => X (r.emb i))
      ∗ (owns c (m.slice r hr) q (fun i => X (r.emb i)) -∗ owns c m q X)) := by
  iintro H
  ihave H := (owns_slice_split c m q r hr X) $$ H
  icases H with ⟨Hs, %f, %hf, Hr⟩
  isplitl [Hs]; · iexact Hs
  iintro Hs
  ihave H := (owns_slice_join c m q r hr (fun i => X (r.emb i)) f) $$ [Hs Hr]
  · isplitl [Hs]; · iexact Hs
    iexact Hr
  have e1 : r.overlay (m.view.read (Elt F) f) (fun i => X (r.emb i)) = X := by
    rw [hf]; funext j
    by_cases hj : j ∈ r.set
    · obtain ⟨i, rfl⟩ := r.exists_idx_of_mem hj
      exact r.overlay_emb X (fun i => X (r.emb i)) i
    · exact r.overlay_of_not_mem _ _ hj
  rw [e1]
  iexact H

/-- Copying a slice of a memref only read from. -/
theorem own_copy_from {sp sp' : Space} {s' : Shape} {m : Memref sig c.2.kind sp s' e} {r : Rect s'} {hr : ∀ a, r.stride a = 1}
    {dst : Memref sig c.2.kind sp' r.shape e} {sem : DmaSem sig}
    {hsrc : (m.slice r hr).view.WordExact} {hdst : dst.view.WordExact} {hsem : DmaTarget.Typed (nD := nD) sp (.dma sem) (.here dst)}
    {hsrc' : (m.slice r hr).view.WordExact} {hdst' : dst.view.WordExact} {k : PUnit → PG F c α} {q : PosShare TreeShare}
    {X : s'.Idx → Elt F e} {Y : r.shape.Idx → Elt F e} {O : CellTallies nD τ sig (HIx 3)} {W : Waits sig (HIx 3)} (hn : 0 < r.shape.numel) :
    iprop(owns c m q X ∗ owns c dst fullShare Y ∗ semVal (c, .dma sem) 0 ∗ owes c O W ∗ Transfers.MayWaits c (default : HIx 3) O)
      ⊢ iprop((iprop(owns c m q X ∗ owns c dst fullShare (fun i => X (r.emb i)) ∗ semVal (c, .dma sem) 0 ∗ owes c O (insert (SemLoc.dma sem, default) W))
          -∗ wpc c (k ⟨⟩) Q)
        -∗ wpc c (Prog.lift (.enqueueDma (m.slice r hr) (.here dst) (.dma sem) hsrc hdst hsem) >>= fun _ =>
            Prog.lift (.waitDma2 sem (m.slice r hr) dst hsrc' hdst') >>= k) Q) := by
  iintro ⟨Hs, Hd, Hv, HO, #HM⟩ Hk
  ihave Hs := (own_borrow (Q := Q) (r := r) (hr := hr)) $$ Hs
  icases Hs with ⟨Hs, Hback⟩
  iapply (own_copy hn) $$ [Hs Hd Hv HO]
  · isplitl [Hs]; · iexact Hs
    isplitl [Hd]; · iexact Hd
    isplitl [Hv]; · iexact Hv
    isplitl [HO]; · iexact HO
    iexact HM
  iintro ⟨Hs, Hd, Hv, HO⟩
  iapply Hk
  isplitl [Hs Hback]; · iapply Hback; iexact Hs
  isplitl [Hd]; · iexact Hd
  isplitl [Hv]; · iexact Hv
  iexact HO

omit Q in
/-- A stretch of program whose triple is known, run first, -/
theorem own_call_bind {β : Type} {p : PG F c β} {k : β → PG F c α} {P : sProp (MM F)} {Q : α → sProp (MM F)} {Q' : β → sProp (MM F)} (h : P ⊢ wpc c p Q') :
    P ⊢ iprop((∀ a, Q' a -∗ wpc c (k a) Q) -∗ wpc c (p >>= k) Q) := by
  iintro H Hk
  unfold wpc
  rw [wp_bind]
  iapply wp_wand_r _ _ _
  isplitl [H]; · iapply h; iexact H
  iexact Hk

omit Q in
/-- or last. -/
theorem own_call {p : PG F c α} {P : sProp (MM F)} {Q Q' : α → sProp (MM F)} (h : P ⊢ wpc c p Q') :
    P ⊢ iprop((∀ a, Q' a -∗ Q a) -∗ wpc c p Q) := by
  iintro H Hk
  iapply wp_wand_r _ _ _
  isplitl [H]; · iapply h; iexact H
  iexact Hk

omit [FloatOps F] in
omit Q in
theorem owns_congr {sp : Space} {m : Memref sig c.2.kind sp s e} {q : PosShare TreeShare} {X Y : s.Idx → Elt F e} (h : ∀ j, X j = Y j) :
    (owns c m q X : sProp (MM F)) ⊢ owns c m q Y := by
  rw [funext h]

/-- What a thread owes, after waits that are all recorded at the kernel's own index. -/
abbrev oweK (c : Thread nD τ) (O : CellTallies nD τ sig (HIx 3)) (W : Waits sig (HIx 3)) : sProp (MM F) :=
  iprop(∃ W' : Waits sig (HIx 3), ⌜∀ p ∈ W', p ∈ W ∨ p.2 = default⌝ ∗ owes c O W')

omit [FloatOps F] in
omit Q in
theorem oweK_intro {O : CellTallies nD τ sig (HIx 3)} {W : Waits sig (HIx 3)} : (owes c O W : sProp (MM F)) ⊢ oweK c O W := by
  iintro H; iexists W; isplitr; · ipureintro; exact fun p hp => .inl hp
  iexact H

theorem own_copyK {sp sp' : Space} {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {hsrc' : src.view.WordExact} {hdst' : dst.view.WordExact} {k : PUnit → PG F c α} {q : PosShare TreeShare}
    {X Y : s.Idx → Elt F e} {O : CellTallies nD τ sig (HIx 3)} {W : Waits sig (HIx 3)} (hn : 0 < s.numel) :
    iprop(owns c src q X ∗ owns c dst fullShare Y ∗ semVal (c, .dma sem) 0 ∗ oweK c O W ∗ Transfers.MayWaits c (default : HIx 3) O)
      ⊢ iprop((iprop(owns c src q X ∗ owns c dst fullShare X ∗ semVal (c, .dma sem) 0 ∗ oweK c O W) -∗ wpc c (k ⟨⟩) Q)
        -∗ wpc c (Prog.lift (.enqueueDma src (.here dst) (.dma sem) hsrc hdst hsem) >>= fun _ =>
            Prog.lift (.waitDma2 sem src dst hsrc' hdst') >>= k) Q) := by
  iintro ⟨Hs, Hd, Hv, ⟨%W', %hW, HO⟩, HM⟩ Hk
  iapply (own_copy hn) $$ [Hs Hd Hv HO HM]
  · isplitl [Hs]; · iexact Hs
    isplitl [Hd]; · iexact Hd
    isplitl [Hv]; · iexact Hv
    isplitl [HO]; · iexact HO
    iexact HM
  iintro ⟨Hs, Hd, Hv, HO⟩
  iapply Hk
  isplitl [Hs]; · iexact Hs
  isplitl [Hd]; · iexact Hd
  isplitl [Hv]; · iexact Hv
  iexists _; isplitr; swap; · iexact HO
  ipureintro
  intro p hp
  rcases Finset.mem_insert.mp hp with h | h
  · exact .inr (h ▸ rfl)
  · exact hW p h

theorem own_copy_fromK {sp sp' : Space} {s' : Shape} {m : Memref sig c.2.kind sp s' e} {r : Rect s'} {hr : ∀ a, r.stride a = 1}
    {dst : Memref sig c.2.kind sp' r.shape e} {sem : DmaSem sig}
    {hsrc : (m.slice r hr).view.WordExact} {hdst : dst.view.WordExact} {hsem : DmaTarget.Typed (nD := nD) sp (.dma sem) (.here dst)}
    {hsrc' : (m.slice r hr).view.WordExact} {hdst' : dst.view.WordExact} {k : PUnit → PG F c α} {q : PosShare TreeShare}
    {X : s'.Idx → Elt F e} {Y : r.shape.Idx → Elt F e} {O : CellTallies nD τ sig (HIx 3)} {W : Waits sig (HIx 3)} (hn : 0 < r.shape.numel) :
    iprop(owns c m q X ∗ owns c dst fullShare Y ∗ semVal (c, .dma sem) 0 ∗ oweK c O W ∗ Transfers.MayWaits c (default : HIx 3) O)
      ⊢ iprop((iprop(owns c m q X ∗ owns c dst fullShare (fun i => X (r.emb i)) ∗ semVal (c, .dma sem) 0 ∗ oweK c O W) -∗ wpc c (k ⟨⟩) Q)
        -∗ wpc c (Prog.lift (.enqueueDma (m.slice r hr) (.here dst) (.dma sem) hsrc hdst hsem) >>= fun _ =>
            Prog.lift (.waitDma2 sem (m.slice r hr) dst hsrc' hdst') >>= k) Q) := by
  iintro ⟨Hs, Hd, Hv, HO, HM⟩ Hk
  ihave Hs := own_borrow (Q := Q) (r := r) (hr := hr) $$ Hs
  icases Hs with ⟨Hs, Hback⟩
  iapply (own_copyK hn) $$ [Hs Hd Hv HO HM]
  · isplitl [Hs]; · iexact Hs
    isplitl [Hd]; · iexact Hd
    isplitl [Hv]; · iexact Hv
    isplitl [HO]; · iexact HO
    iexact HM
  iintro ⟨Hs, Hd, Hv, HO⟩
  iapply Hk
  isplitl [Hs Hback]; · iapply Hback; iexact Hs
  isplitl [Hd]; · iexact Hd
  isplitl [Hv]; · iexact Hv
  iexact HO

end Rules

/-- Slots filled in order: slot `t` taken out, and put back filled. -/
theorem slots_step {n : ℕ} (P Q : Fin n → sProp (MM F)) (t : Fin n) :
    (BI.bigSep Finset.univ fun u : Fin n => if u.val < t.val then Q u else P u)
      ⊢ iprop(P t ∗ (Q t -∗ BI.bigSep Finset.univ fun u : Fin n => if u.val < t.val + 1 then Q u else P u)) := by
  rw [SparseCore.bigSep_erase' (Finset.mem_univ t)]
  iintro ⟨Ht, Hr⟩
  isplitl [Ht]
  · iapply (show (if t.val < t.val then Q t else P t) ⊢ P t by rw [if_neg (lt_irrefl _)]); iexact Ht
  iintro Hq
  rw [SparseCore.bigSep_erase' (Finset.mem_univ t)]
  isplitl [Hq]
  · iapply (show Q t ⊢ (if t.val < t.val + 1 then Q t else P t) by rw [if_pos (Nat.lt_succ_self _)]); iexact Hq
  · have e1 : (BI.bigSep (Finset.univ.erase t) fun u : Fin n => if u.val < t.val then Q u else P u)
        = BI.bigSep (Finset.univ.erase t) fun u : Fin n => if u.val < t.val + 1 then Q u else P u :=
      BI.bigSep_congr fun u hu => by
        have : u.val ≠ t.val := fun e => (Finset.mem_erase.mp hu).1 (Fin.ext e)
        by_cases h : u.val < t.val
        · rw [if_pos h, if_pos (by omega)]
        · rw [if_neg h, if_neg (by omega)]
    rw [← e1]; iexact Hr

theorem slots_start {n : ℕ} (P Q : Fin n → sProp (MM F)) :
    (BI.bigSep Finset.univ P) ⊢ BI.bigSep Finset.univ fun u : Fin n => if u.val < 0 then Q u else P u := by
  rw [BI.bigSep_congr (Ψ := fun u : Fin n => if u.val < 0 then Q u else P u) fun u _ => (if_neg (Nat.not_lt_zero _)).symm]

theorem slots_done {n : ℕ} (P Q : Fin n → sProp (MM F)) :
    (BI.bigSep Finset.univ fun u : Fin n => if u.val < n then Q u else P u) ⊢ BI.bigSep Finset.univ Q := by
  rw [BI.bigSep_congr (Ψ := Q) fun u _ => if_pos u.isLt]

end Cert.Proof.Occ

end
-- ==== Proof.Spec.lean ====
/-
  What the three kernels compute, as plain functions of numbers: the key of an input, its bin, how many inputs of a range
  fall in a bin, where a stable sort by bin puts an input.
-/
module

public import proofs.«01_k».proof.Proof.Lanes
public import Mathlib.Data.Nat.Count
public import Mathlib.Algebra.BigOperators.Group.Finset.Basic

@[expose] public section

noncomputable section

namespace Cert.Proof.Occ

open Idealize.ShloMosaic

variable {F : FTy → Type} [FloatOps F]

/-! ## Keys -/

/-- A coordinate's cell along one axis, of 256. -/
def axis (x : F .f32) : BitVec 32 :=
  IntOp.minsi 255#32 (IntOp.maxsi 0#32 (FloatOps.fptosi 32
    (FloatOps.mulf (FloatOps.addf (FloatOps.mulf x (Scalar.ofBits .f32 0x3F000000#32)) (Scalar.ofBits .f32 0x3F000000#32))
      (Scalar.ofBits .f32 0x43800000#32))))

omit [FloatOps F] in
theorem clip_le (v : BitVec 32) : (IntOp.minsi 255#32 (IntOp.maxsi 0#32 v)).toNat ≤ 255 := by
  unfold IntOp.minsi IntOp.maxsi
  have : ∀ w : BitVec 32, (if (255#32).slt (if w.slt 0#32 then 0#32 else w) then 255#32 else (if w.slt 0#32 then 0#32 else w)) ≤ 255#32 := by
    intro w; split <;> split <;> simp_all [BitVec.slt, BitVec.le_def, BitVec.toInt_eq_toNat_cond] <;> omega
  exact this v

theorem axis_le (x : F .f32) : (axis x).toNat ≤ 255 := clip_le _

/-- The key of a point: its three cells' row-major place. -/
def key3 (a b c : F .f32) : BitVec 32 :=
  IntOp.addi (IntOp.addi (IntOp.muli (axis a) 65536#32) (IntOp.muli (axis b) 256#32)) (axis c)

theorem key3_toNat (a b c : F .f32) : (key3 a b c).toNat = (axis a).toNat * 65536 + (axis b).toNat * 256 + (axis c).toNat := by
  have ha := axis_le a; have hb := axis_le b; have hc := axis_le c
  unfold key3 IntOp.addi IntOp.muli
  simp only [BitVec.toNat_add, BitVec.toNat_mul, BitVec.toNat_ofNat]
  omega

theorem key3_lt (a b c : F .f32) : (key3 a b c).toNat < 16777216 := by
  have ha := axis_le a; have hb := axis_le b; have hc := axis_le c
  rw [key3_toNat]; omega

/-- The key of input `n`, out of the flat coordinates. -/
def keyN (x : (⟨1, ![3145728]⟩ : Shape).Idx → F .f32) (n : ℕ) : BitVec 32 :=
  key3 (x (at1 3145728 (3 * n))) (x (at1 3145728 (3 * n + 1))) (x (at1 3145728 (3 * n + 2)))

theorem keyN_lt (x : (⟨1, ![3145728]⟩ : Shape).Idx → F .f32) (n : ℕ) : (keyN x n).toNat < 16777216 := key3_lt _ _ _

theorem shr15 (a : BitVec 32) (h : a.toNat < 16777216) : (IntOp.shrsi .vector a 15#32).toNat = a.toNat / 32768 := by
  unfold IntOp.shrsi
  rw [if_pos (by decide)]
  have hm : a.msb = false := by rw [BitVec.msb_eq_decide]; simp; omega
  show (a.sshiftRight 15).toNat = _
  rw [BitVec.sshiftRight_eq_of_msb_false hm, BitVec.toNat_ushiftRight, Nat.shiftRight_eq_div_pow]

/-! ## Bins and counts -/

/-- The bin of a key: which 32768 cells of the grid it falls in. -/
def bin (key : ℕ → BitVec 32) (n : ℕ) : ℕ := (key n).toNat / 32768

theorem bin_lt {key : ℕ → BitVec 32} (hk : ∀ n, (key n).toNat < 16777216) (n : ℕ) : bin key n < 512 := by
  have := hk n; unfold bin; omega

/-- How many of the `T` inputs from `B` on fall in bin `b`. -/
def cnt (key : ℕ → BitVec 32) (B b T : ℕ) : ℕ := Nat.count (fun t => bin key (B + t) = b) T

/-- How many of the first `T` of every sixteenth input from `B + l` on fall in bin `b`. -/
def rowCnt (key : ℕ → BitVec 32) (B l b T : ℕ) : ℕ := Nat.count (fun r => bin key (B + (16 * r + l)) = b) T

theorem count_sum (q : ℕ → Prop) [DecidablePred q] (n : ℕ) :
    Nat.count q n = (Finset.range n).sum fun l => if q l then 1 else 0 := by
  induction n with
  | zero => rfl
  | succ n ih => rw [Nat.count_succ, Finset.sum_range_succ, ih]

theorem sum_rows (p : ℕ → Prop) [DecidablePred p] (T : ℕ) :
    (Finset.range 16).sum (fun l => Nat.count (fun r => p (16 * r + l)) T) = Nat.count p (16 * T) := by
  induction T with
  | zero => simp
  | succ T ih =>
    rw [show 16 * (T + 1) = 16 * T + 16 by omega, Nat.count_add, ← ih, count_sum (fun k => p (16 * T + k)) 16]
    simp only [Nat.count_succ]
    rw [Finset.sum_add_distrib]

theorem sum_rowCnt (key : ℕ → BitVec 32) (B b T : ℕ) :
    (Finset.range 16).sum (fun l => rowCnt key B l b T) = cnt key B b (16 * T) :=
  sum_rows (fun t => bin key (B + t) = b) T

theorem cnt_le (key : ℕ → BitVec 32) (B b T : ℕ) : cnt key B b T ≤ T := Nat.count_le _

end Cert.Proof.Occ

end
-- ==== Proof.K1.lean ====
/-
  The first kernel on one tile: the keys of its 32768 inputs, and how many of them fall in each of the 512 bins, counted
  in sixteen rows (one per lane) that are then added up.
-/
module

public import proofs.«01_k».proof.Proof.Base
public import proofs.«01_k».proof.Proof.Spec

@[expose] public section

noncomputable section

namespace Cert.Proof.Occ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Body

variable (d : Fin nD) (i : grid0.Coords)
  (arg2 : Memref sig .scVector .hbm S3145728 .f32) (harg2 : arg2.IsWhole) (arg3 : Memref sig .scVector .hbm S1048576 .i32) (harg3 : arg3.IsWhole)
  (arg4 : Memref sig .scVector .hbm S16384 .i32) (harg4 : arg4.IsWhole) (arg5 : Memref sig .scVector .vmem S6144 .f32) (harg5 : arg5.IsWhole)
  (arg6 : Memref sig .scVector .vmem S2048 .i32) (harg6 : arg6.IsWhole) (arg7 : Memref sig .scVector .vmem S8192 .i32) (harg7 : arg7.IsWhole)
  (arg8 : Memref sig .scVector .vmem S512 .i32) (harg8 : arg8.IsWhole) (v19_r0 v19_r1 v12_r2 : DmaSems sig S_)
  (X : S3145728.Idx → F .f32)

/-- The tile that runs the body. -/
abbrev th0 : Thread nD τ := (d, .scVector ((i 0).castLE hcore0) ((i 1).castLE hsub0))

/-- The first of the tile's inputs. -/
abbrev base0 (i : grid0.Coords) : ℕ := wid (i 0).val (i 1).val * 32768

/-- The row counts after `T` vectors. -/
def hist (key : ℕ → BitVec 32) (B T : ℕ) : S8192.Idx → BitVec 32 :=
  fun y => BitVec.ofNat 32 (rowCnt key B ((y 0).val / 512) ((y 0).val % 512) T)

theorem k0_zero (t : Fin k0_t1_loop.trips) (a : BitVec 32) :
    iprop(∃ Y : S8192.Idx → BitVec 32, ⌜∀ y, (y 0).val < 16 * t.val → Y y = 0#32⌝ ∗ owns (th0 d i) arg7 fullShare Y)
      ⊢ wpc (F := F) (th0 d i) (k0_t1_body i arg2 harg2 arg3 harg3 arg4 harg4 arg5 harg5 arg6 harg6 arg7 harg7 arg8 harg8 v19_r0 v19_r1 v12_r2 t a)
          fun _ => iprop(∃ Y : S8192.Idx → BitVec 32, ⌜∀ y, (y 0).val < 16 * (t.val + 1) → Y y = 0#32⌝ ∗ owns (th0 d i) arg7 fullShare Y) := by
  unfold k0_t1_body
  iintro ⟨%Y, %hY, H⟩
  iapply own_load $$ H; iintro H
  iapply own_store $$ H; iintro H
  iapply own_ret
  iexists _
  isplitr
  swap; · iexact H
  ipureintro
  intro y hy
  rw [overlay_unit1 (N := 8192) (n := 16)]
  split
  · rfl
  · rename_i h
    rw [k0_off1_eq] at h
    exact hY y (by simp at h; omega)

theorem iota_lane (l : Fin 16) : (iota .scVector S16 32 [0] iota_S16_d0_w32_scVector : IVec S16 32) (lane l) = BitVec.ofNat 32 l.val := by
  show BitVec.ofNat 32 (0 * 16 + l.val) = _
  rw [Nat.zero_mul, Nat.zero_add]

/-- The places one vector's coordinates are read from. -/
theorem pay7_lane (t : Fin k0_t3_loop.trips) (l : Fin 16) :
    (k0_pay7 (iota .scVector S16 32 [0] iota_S16_d0_w32_scVector) 0#32 1#32 t (lane l)).toNat = 3 * (16 * t.val + l.val) := by
  have ht : t.val < 128 := t.isLt
  have hl := l.isLt
  show (IntOp.muli (IntOp.addi (Scalar.muli (Scf.iv 0#32 1#32 t) 16#32)
    ((iota .scVector S16 32 [0] iota_S16_d0_w32_scVector : IVec S16 32) (lane l))) 3#32).toNat = _
  rw [iota_lane]
  have : (Scf.iv 0#32 1#32 t.val : BitVec 32) = BitVec.ofNat 32 t.val := by
    rw [Scf.iv_eq_ofInt]; simp
  rw [this]
  simp only [IntOp.muli, IntOp.addi, Scalar.muli, BitVec.toNat_add, BitVec.toNat_mul, BitVec.toNat_ofNat]
  omega

theorem pay8_eq (v : IVec S16 32) (x : S16.Idx) (h : (v x).toNat + 1 < 4294967296) : (k0_pay8 v x).toNat = (v x).toNat + 1 := by
  show (IntOp.addi (v x) 1#32).toNat = _
  simp only [IntOp.addi, BitVec.toNat_add, BitVec.toNat_ofNat]; omega

theorem pay9_eq (v : IVec S16 32) (x : S16.Idx) (h : (v x).toNat + 2 < 4294967296) : (k0_pay9 v x).toNat = (v x).toNat + 2 := by
  show (IntOp.addi (v x) 2#32).toNat = _
  simp only [IntOp.addi, BitVec.toNat_add, BitVec.toNat_ofNat]; omega

/-- Where one vector's keys are counted. -/
theorem pay3_lane (v30 : Vec F S16 .f32) (v57 : IVec S16 32) (cst : F .f32) (l : Fin 16) (h : (k0_pay2 v30 v57 cst (lane l)).toNat < 16777216) :
    (k0_pay3 v30 v57 cst (lane l)).toNat = 512 * l.val + (k0_pay2 v30 v57 cst (lane l)).toNat / 32768 := by
  have hl := l.isLt
  show (IntOp.addi (IntOp.muli ((iota .scVector S16 32 [0] iota_S16_d0_w32_scVector : IVec S16 32) (lane l)) 512#32)
    (IntOp.shrsi .vector (k0_pay2 v30 v57 cst (lane l)) 15#32)).toNat = _
  rw [iota_lane]
  have := shr15 _ h
  simp only [IntOp.addi, IntOp.muli, BitVec.toNat_add, BitVec.toNat_mul, BitVec.toNat_ofNat, this]
  omega

theorem hist_step (key : ℕ → BitVec 32) (B T : ℕ) (hk : ∀ n, (key n).toNat < 16777216) (v : IVec S16 32)
    (hv : ∀ l : Fin 16, (v (lane l)).toNat = 512 * l.val + bin key (B + (16 * T + l.val)))
    (h : ∀ a x, (((![v] : Fin 1 → IVec S16 32)) a x).toNat < S8192.size a) :
    storeIdx (F := F) (e := .i32) (s := S8192) (hist key B T) ![v] k0_pay4 (fun _ => 1#1) true h = hist key B (T + 1) := by
  funext j
  have hj : (j 0).val < 8192 := lt1 (N := 8192) j
  have hb : ∀ n, bin key n < 512 := bin_lt hk
  by_cases hc : bin key (B + (16 * T + (j 0).val / 512)) = (j 0).val % 512
  · refine (storeIdx_hit (N := 8192) _ v _ _ true h j ⟨(j 0).val / 512, by omega⟩ rfl ?_ ?_).trans ?_
    · rw [hv]; simp only; omega
    · intro l' _ hl'
      rw [hv] at hl'
      have := hb (B + (16 * T + l'.val))
      exact Fin.ext (by simp only; omega)
    · rw [if_pos rfl]
      show BitVec.ofNat 32 _ + 1#32 = BitVec.ofNat 32 _
      unfold rowCnt
      rw [Nat.count_succ, if_pos hc]
      simp [BitVec.ofNat_add]
  · refine (storeIdx_miss (N := 8192) _ v _ _ true h j ?_).trans ?_
    · intro l _ hl
      rw [hv] at hl
      have := hb (B + (16 * T + l.val))
      have hl : l.val = (j 0).val / 512 := by omega
      rw [hl] at this ‹_ = (j 0).val›
      omega
    · show BitVec.ofNat 32 _ = BitVec.ofNat 32 _
      unfold rowCnt
      rw [Nat.count_succ, if_neg hc, Nat.add_zero]

theorem pay2_key3 (v24 v27 v30 : Vec F S16 .f32) (x : S16.Idx) :
    k0_pay2 v30 (k0_pay10 v24 v27) (FloatOps.ofBits .f32 0x3F000000#32) x = key3 (v24 x) (v27 x) (v30 x) := rfl

/-- The keys of one vector, from the three coordinates read for it. -/
theorem pay2_eq (t : Fin k0_t3_loop.trips) (B : ℕ) (v23 : IVec S16 32) (h1 : k0_chk1 v23) (h2 : k0_chk2 (k0_pay8 v23)) (h3 : k0_chk3 (k0_pay9 v23))
    (hv : v23 = k0_pay7 (iota .scVector S16 32 [0] iota_S16_d0_w32_scVector) 0#32 1#32 t) (v24 v27 v30 : Vec F S16 .f32)
    (e1 : loadIdx (F := F) (e := .f32) (s := S6144) (fun y : S6144.Idx => X (at1 3145728 (3 * B + (y 0).val))) ![v23] h1 = v24)
    (e2 : loadIdx (F := F) (e := .f32) (s := S6144) (fun y : S6144.Idx => X (at1 3145728 (3 * B + (y 0).val))) ![k0_pay8 v23] h2 = v27)
    (e3 : loadIdx (F := F) (e := .f32) (s := S6144) (fun y : S6144.Idx => X (at1 3145728 (3 * B + (y 0).val))) ![k0_pay9 v23] h3 = v30) (l : Fin 16) :
    k0_pay2 v30 (k0_pay10 v24 v27) (FloatOps.ofBits .f32 0x3F000000#32) (lane l) = keyN X (B + (16 * t.val + l.val)) := by
  have ht : t.val < 128 := t.isLt
  have hl := l.isLt
  have h7 := pay7_lane t l
  rw [← hv] at h7
  have h8 := pay8_eq v23 (lane l) (by omega)
  have h9 := pay9_eq v23 (lane l) (by omega)
  rw [pay2_key3, loadIdx_of_eq (N := 6144) e1, loadIdx_of_eq (N := 6144) e2, loadIdx_of_eq (N := 6144) e3, h8, h9, h7,
    at1_val (by omega), at1_val (by omega), at1_val (by omega)]
  unfold keyN
  rw [show 3 * B + 3 * (16 * t.val + l.val) = 3 * (B + (16 * t.val + l.val)) by omega,
    show 3 * B + (3 * (16 * t.val + l.val) + 1) = 3 * (B + (16 * t.val + l.val)) + 1 by omega,
    show 3 * B + (3 * (16 * t.val + l.val) + 2) = 3 * (B + (16 * t.val + l.val)) + 2 by omega]

theorem k0_vector (ch : Fin k0_t2_loop.trips) (t : Fin k0_t3_loop.trips) (a : BitVec 32) :
    iprop(owns (th0 d i) arg5 fullShare (fun y : S6144.Idx => X (at1 3145728 (3 * (base0 i + 2048 * ch.val) + (y 0).val)))
        ∗ (∃ Y : S2048.Idx → BitVec 32, ⌜∀ y, (y 0).val < 16 * t.val → Y y = keyN X (base0 i + 2048 * ch.val + (y 0).val)⌝ ∗ owns (th0 d i) arg6 fullShare Y)
        ∗ owns (th0 d i) arg7 fullShare (hist (keyN X) (base0 i) (128 * ch.val + t.val)))
      ⊢ wpc (F := F) (th0 d i) (k0_t3_body i arg2 harg2 arg3 harg3 arg4 harg4 arg5 harg5 arg6 harg6 arg7 harg7 arg8 harg8 v19_r0 v19_r1 v12_r2
          (iota .scVector S16 32 [0] iota_S16_d0_w32_scVector) t a)
        fun _ => iprop(owns (th0 d i) arg5 fullShare (fun y : S6144.Idx => X (at1 3145728 (3 * (base0 i + 2048 * ch.val) + (y 0).val)))
        ∗ (∃ Y : S2048.Idx → BitVec 32, ⌜∀ y, (y 0).val < 16 * (t.val + 1) → Y y = keyN X (base0 i + 2048 * ch.val + (y 0).val)⌝ ∗ owns (th0 d i) arg6 fullShare Y)
        ∗ owns (th0 d i) arg7 fullShare (hist (keyN X) (base0 i) (128 * ch.val + (t.val + 1)))) := by
  unfold k0_t3_body
  rw [k0_part1_eq_skeleton]
  unfold k0_part1_skel
  iintro ⟨H5, ⟨%Y, %hY, H6⟩, H7⟩
  have ht : t.val < 128 := t.isLt
  have c1 : ∀ l : Fin 16, (k0_pay7 (iota .scVector S16 32 [0] iota_S16_d0_w32_scVector) 0#32 1#32 t (lane l)).toNat + 2 < 6144 := by
    intro l; rw [pay7_lane]; have := l.isLt; omega
  have k1 : k0_chk1 (k0_pay7 (iota .scVector S16 32 [0] iota_S16_d0_w32_scVector) 0#32 1#32 t) :=
    lanes_inb (k0_pay7 (iota .scVector S16 32 [0] iota_S16_d0_w32_scVector) 0#32 1#32 t) 6144 fun l => by have := c1 l; omega
  have k2 : k0_chk2 (k0_pay8 (k0_pay7 (iota .scVector S16 32 [0] iota_S16_d0_w32_scVector) 0#32 1#32 t)) :=
    lanes_inb (k0_pay8 (k0_pay7 (iota .scVector S16 32 [0] iota_S16_d0_w32_scVector) 0#32 1#32 t)) 6144 fun l => by have := c1 l; have := pay8_eq (k0_pay7 (iota .scVector S16 32 [0] iota_S16_d0_w32_scVector) 0#32 1#32 t) (lane l) (by omega); omega
  have k3 : k0_chk3 (k0_pay9 (k0_pay7 (iota .scVector S16 32 [0] iota_S16_d0_w32_scVector) 0#32 1#32 t)) :=
    lanes_inb (k0_pay9 (k0_pay7 (iota .scVector S16 32 [0] iota_S16_d0_w32_scVector) 0#32 1#32 t)) 6144 fun l => by have := c1 l; have := pay9_eq (k0_pay7 (iota .scVector S16 32 [0] iota_S16_d0_w32_scVector) 0#32 1#32 t) (lane l) (by omega); omega
  simp only [bind_assoc]
  iapply own_assume k1
  iapply own_loadIdx $$ H5; iintro H5
  generalize e1 : loadIdx (F := F) (e := .f32) (s := S6144) _ _ _ = v24
  iapply own_assume k2
  iapply own_loadIdx $$ H5; iintro H5
  generalize e2 : loadIdx (F := F) (e := .f32) (s := S6144) _ _ _ = v27
  iapply own_assume k3
  iapply own_loadIdx $$ H5; iintro H5
  generalize e3 : loadIdx (F := F) (e := .f32) (s := S6144) _ _ _ = v30
  simp only [pure_bind]
  have hkey := pay2_eq (F := F) X t (base0 i + 2048 * ch.val) _ k1 k2 k3 rfl v24 v27 v30 e1 e2 e3
  generalize k0_pay10 v24 v27 = v57 at hkey ⊢
  have hb : ∀ l : Fin 16, (k0_pay3 v30 v57 (FloatOps.ofBits .f32 0x3F000000#32) (lane l)).toNat
      = 512 * l.val + bin (keyN X) (base0 i + (16 * (128 * ch.val + t.val) + l.val)) := by
    intro l
    rw [pay3_lane v30 v57 _ l (by rw [hkey]; exact keyN_lt _ _), hkey]
    unfold bin
    rw [show base0 i + 2048 * ch.val + (16 * t.val + l.val) = base0 i + (16 * (128 * ch.val + t.val) + l.val) by omega]
  have k4 : k0_chk4 (k0_pay3 v30 v57 (FloatOps.ofBits .f32 0x3F000000#32)) :=
    lanes_inb (k0_pay3 v30 v57 (FloatOps.ofBits .f32 0x3F000000#32)) 8192 fun l => by
      have := bin_lt (keyN_lt X) (base0 i + (16 * (128 * ch.val + t.val) + l.val))
      have hl := l.isLt
      rw [hb]; omega
  clear c1
  iapply own_load $$ H6; iintro H6
  iapply own_store $$ H6; iintro H6
  iapply own_assume k4
  iapply own_storeIdx $$ H7; iintro H7
  iapply own_ret
  rw [hist_step (F := F) (keyN X) (base0 i) (128 * ch.val + t.val) (keyN_lt X) _ hb]
  isplitl [H5]; · iexact H5
  isplitl [H6]
  · iexists _; isplitr; swap; · iexact H6
    ipureintro
    intro y hy
    rw [overlay_unit1 (N := 2048) (n := 16), k0_off3_eq]
    split
    · rename_i h
      simp at h
      have hl : (y 0).val - 16 * t.val < 16 := by omega
      have e : at1 16 ((y 0).val - 16 * t.val) = lane ⟨(y 0).val - 16 * t.val, hl⟩ := ext1 (at1_val hl)
      refine ((congrArg (k0_pay2 v30 v57 (FloatOps.ofBits .f32 0x3F000000#32)) e).trans (hkey _)).trans ?_
      rw [show base0 i + 2048 * ch.val + (16 * t.val + ((y 0).val - 16 * t.val)) = base0 i + 2048 * ch.val + (y 0).val by omega]
    · rename_i h
      simp at h
      exact hY y (by omega)
  · iexact H7

/-- The slice of the keys that chunk `t` fills. -/
abbrev keySlice (t : Fin k0_t2_loop.trips) : Memref sig .scVector .hbm S2048 .i32 :=
  arg3.slice (Rect.unit (s := S1048576) (k0_off4 i t) S2048.size (k0_off4_inb i t)) (fun _ => rfl)

/-- The slice of the counts that the tile fills. -/
abbrev cntSlice : Memref sig .scVector .hbm S512 .i32 :=
  arg4.slice (Rect.unit (s := S16384) (k0_off7 i) S512.size (k0_off7_inb i)) (fun _ => rfl)

theorem k0_chunk (O : CellTallies nD τ sig (HIx 3)) (W : Waits sig (HIx 3)) (q : PosShare TreeShare) (ch : Fin k0_t2_loop.trips) (a : BitVec 32) :
    iprop(Transfers.MayWaits (th0 d i) (default : HIx 3) O ∗ owns (th0 d i) arg2 q X
        ∗ (∃ Y : S6144.Idx → F .f32, owns (th0 d i) arg5 fullShare Y) ∗ (∃ Y : S2048.Idx → BitVec 32, owns (th0 d i) arg6 fullShare Y)
        ∗ owns (th0 d i) arg7 fullShare (hist (keyN X) (base0 i) (128 * ch.val))
        ∗ semVal (th0 d i, .dma v19_r0.sem) 0 ∗ semVal (th0 d i, .dma v19_r1.sem) 0 ∗ oweK (th0 d i) O W
        ∗ (∃ Y : S2048.Idx → BitVec 32, owns (th0 d i) (keySlice i arg3 ch) fullShare Y))
      ⊢ wpc (F := F) (th0 d i) (k0_t2_body i arg2 harg2 arg3 harg3 arg4 harg4 arg5 harg5 arg6 harg6 arg7 harg7 arg8 harg8 v19_r0 v19_r1 v12_r2
          (iota .scVector S16 32 [0] iota_S16_d0_w32_scVector) ch a)
        fun _ => iprop(owns (th0 d i) arg2 q X
        ∗ (∃ Y : S6144.Idx → F .f32, owns (th0 d i) arg5 fullShare Y) ∗ (∃ Y : S2048.Idx → BitVec 32, owns (th0 d i) arg6 fullShare Y)
        ∗ owns (th0 d i) arg7 fullShare (hist (keyN X) (base0 i) (128 * (ch.val + 1)))
        ∗ semVal (th0 d i, .dma v19_r0.sem) 0 ∗ semVal (th0 d i, .dma v19_r1.sem) 0 ∗ oweK (th0 d i) O W
        ∗ owns (th0 d i) (keySlice i arg3 ch) fullShare (fun y : S2048.Idx => keyN X (base0 i + 2048 * ch.val + (y 0).val))) := by
  unfold k0_t2_body
  iintro ⟨#HM, H2, ⟨%Y5, H5⟩, ⟨%Y6, H6⟩, H7, Hs0, Hs1, HO, ⟨%Z, H3⟩⟩
  dsimp only
  iapply (own_copy_fromK (show 0 < S6144.numel by decide)) $$ [H2 H5 Hs0 HO]
  · isplitl [H2]; · iexact H2
    isplitl [H5]; · iexact H5
    isplitl [Hs0]; · iexact Hs0
    isplitl [HO]; · iexact HO
    iexact HM
  iintro ⟨H2, H5, Hs0, HO⟩
  have e5 : ∀ y : S6144.Idx, X ((Rect.unit (s := S3145728) (k0_off2 i ch) S6144.size (k0_off2_inb i ch)).emb y)
      = X (at1 3145728 (3 * (base0 i + 2048 * ch.val) + (y 0).val)) := by
    intro y
    refine congrArg X ((emb_unit1 (N := 3145728) (n := 6144) (k0_off2_inb i ch) y).trans (congrArg (at1 3145728) ?_))
    have := congrFun (k0_off2_eq i ch) 0
    simp only [Matrix.cons_val_zero] at this
    simp only [base0, wid]
    omega
  ihave H5 := owns_congr e5 $$ H5
  iapply (own_for (fun t _ => iprop(owns (th0 d i) arg5 fullShare (fun y : S6144.Idx => X (at1 3145728 (3 * (base0 i + 2048 * ch.val) + (y 0).val)))
        ∗ (∃ Y : S2048.Idx → BitVec 32, ⌜∀ y, (y 0).val < 16 * t → Y y = keyN X (base0 i + 2048 * ch.val + (y 0).val)⌝ ∗ owns (th0 d i) arg6 fullShare Y)
        ∗ owns (th0 d i) arg7 fullShare (hist (keyN X) (base0 i) (128 * ch.val + t))))
      (fun t a => k0_vector d i arg2 harg2 arg3 harg3 arg4 harg4 arg5 harg5 arg6 harg6 arg7 harg7 arg8 harg8 v19_r0 v19_r1 v12_r2 X ch t a)) $$ [H5 H6 H7]
  · isplitl [H5]; · iexact H5
    isplitl [H6]
    · iexists _; isplitr; swap; · iexact H6
      ipureintro; intro y hy; omega
    · iexact H7
  iintro %a1 ⟨H5, ⟨%Y, %hY, H6⟩, H7⟩
  obtain rfl : Y = fun y : S2048.Idx => keyN X (base0 i + 2048 * ch.val + (y 0).val) := funext fun y => hY y (lt1 (N := 2048) y)
  iapply (own_copyK (by decide)) $$ [H6 H3 Hs1 HO]
  · isplitl [H6]; · iexact H6
    isplitl [H3]; · iexact H3
    isplitl [Hs1]; · iexact Hs1
    isplitl [HO]; · iexact HO
    iexact HM
  iintro ⟨H6, H3, Hs1, HO⟩
  iapply own_ret
  isplitl [H2]; · iexact H2
  isplitl [H5]; · iexists _; iexact H5
  isplitl [H6]; · iexists _; iexact H6
  isplitl [H7]; · iexact H7
  isplitl [Hs0]; · iexact Hs0
  isplitl [Hs1]; · iexact Hs1
  isplitl [HO]; · iexact HO
  iexact H3

/-- One vector of totals: the sixteen rows' counts added up. -/
theorem k0_total (t4 : Fin k0_t4_loop.trips) (a : BitVec 32) :
    iprop((∃ Y : S512.Idx → BitVec 32, ⌜∀ y, (y 0).val < 16 * t4.val → Y y = BitVec.ofNat 32 (cnt (keyN X) (base0 i) (y 0).val 32768)⌝
          ∗ owns (th0 d i) arg8 fullShare Y)
        ∗ owns (th0 d i) arg7 fullShare (hist (keyN X) (base0 i) 2048))
      ⊢ wpc (F := F) (th0 d i) (k0_t4_body i arg2 harg2 arg3 harg3 arg4 harg4 arg5 harg5 arg6 harg6 arg7 harg7 arg8 harg8 v19_r0 v19_r1 v12_r2 t4 a)
        fun _ => iprop((∃ Y : S512.Idx → BitVec 32, ⌜∀ y, (y 0).val < 16 * (t4.val + 1) → Y y = BitVec.ofNat 32 (cnt (keyN X) (base0 i) (y 0).val 32768)⌝
          ∗ owns (th0 d i) arg8 fullShare Y)
        ∗ owns (th0 d i) arg7 fullShare (hist (keyN X) (base0 i) 2048)) := by
  have ht4 : t4.val < 32 := t4.isLt
  unfold k0_t4_body
  iintro ⟨⟨%Y, %hY, H8⟩, H7⟩
  iapply (own_for (fun t (acc : IVec S16 32) => iprop(⌜∀ x : S16.Idx, acc x
        = BitVec.ofNat 32 ((Finset.range t).sum fun l => rowCnt (keyN X) (base0 i) l (16 * t4.val + (x 0).val) 2048)⌝
        ∗ owns (th0 d i) arg7 fullShare (hist (keyN X) (base0 i) 2048))) ?_) $$ [H7]
  · intro t5 acc
    have ht5 : t5.val < 16 := t5.isLt
    unfold k0_t5_body
    iintro ⟨%hacc, H7⟩
    iapply own_load $$ H7; iintro H7
    iapply own_ret
    isplitr; swap; · iexact H7
    ipureintro
    intro x
    have hx : (x 0).val < 16 := lt1 (N := 16) x
    have hv : ((at1 8192 (k0_off5 t4 t5 0 + (x 0).val)) 0).val = 512 * t5.val + (16 * t4.val + (x 0).val) := by
      rw [k0_off5_eq, at1_val] <;> simp only [Matrix.cons_val_zero] <;> omega
    have hh : hist (keyN X) (base0 i) 2048 ((Rect.unit (s := S8192) (k0_off5 t4 t5) S16.size (k0_off5_inb t4 t5)).emb x)
        = BitVec.ofNat 32 (rowCnt (keyN X) (base0 i) t5.val (16 * t4.val + (x 0).val) 2048) := by
      refine (congrArg (hist (keyN X) (base0 i) 2048) (emb_unit1 (N := 8192) (n := 16) (k0_off5_inb t4 t5) x)).trans ?_
      unfold hist
      rw [hv, show (512 * t5.val + (16 * t4.val + (x 0).val)) / 512 = t5.val by omega,
        show (512 * t5.val + (16 * t4.val + (x 0).val)) % 512 = 16 * t4.val + (x 0).val by omega]
    rw [Finset.sum_range_succ, BitVec.ofNat_add, ← hacc x, ← hh]
    rfl
  · isplitr; swap; · iexact H7
    ipureintro; intro x
    rw [Finset.range_zero, Finset.sum_empty]; rfl
  iintro %acc ⟨%hacc, H7⟩
  iapply own_load $$ H8; iintro H8
  iapply own_store $$ H8; iintro H8
  iapply own_ret
  isplitl [H8]; swap; · iexact H7
  iexists _; isplitr; swap; · iexact H8
  ipureintro
  intro y hy
  have hy5 : (y 0).val < 512 := lt1 (N := 512) y
  rw [overlay_unit1 (N := 512) (n := 16), k0_off6_eq]
  split
  · rename_i h
    simp at h
    have e : ((at1 16 ((y 0).val - 16 * t4.val)) 0).val = (y 0).val - 16 * t4.val := at1_val (by omega)
    refine (hacc (at1 16 ((y 0).val - 16 * t4.val))).trans (congrArg (BitVec.ofNat 32) ?_)
    rw [e, show 16 * t4.val + ((y 0).val - 16 * t4.val) = (y 0).val by omega]
    exact sum_rowCnt (keyN X) (base0 i) (y 0).val 2048
  · rename_i h
    simp at h
    exact hY y (by omega)

/-- The first kernel's body on one tile. -/
theorem k0_body (O : CellTallies nD τ sig (HIx 3)) (W : Waits sig (HIx 3)) (q : PosShare TreeShare) :
    iprop(Transfers.MayWaits (th0 d i) (default : HIx 3) O ∗ owns (th0 d i) arg2 q X
        ∗ (BI.bigSep Finset.univ fun t : Fin k0_t2_loop.trips => iprop(∃ Y : S2048.Idx → BitVec 32, owns (th0 d i) (keySlice i arg3 t) fullShare Y))
        ∗ (∃ Y : S512.Idx → BitVec 32, owns (th0 d i) (cntSlice i arg4) fullShare Y)
        ∗ (∃ Y : S6144.Idx → F .f32, owns (th0 d i) arg5 fullShare Y) ∗ (∃ Y : S2048.Idx → BitVec 32, owns (th0 d i) arg6 fullShare Y)
        ∗ (∃ Y : S8192.Idx → BitVec 32, owns (th0 d i) arg7 fullShare Y) ∗ (∃ Y : S512.Idx → BitVec 32, owns (th0 d i) arg8 fullShare Y)
        ∗ semVal (th0 d i, .dma v19_r0.sem) 0 ∗ semVal (th0 d i, .dma v19_r1.sem) 0 ∗ semVal (th0 d i, .dma v12_r2.sem) 0 ∗ oweK (th0 d i) O W)
      ⊢ wpc (F := F) (th0 d i) (cc0_occ_k1_keys_hist i arg2 harg2 arg3 harg3 arg4 harg4 arg5 harg5 arg6 harg6 arg7 harg7 arg8 harg8 v19_r0 v19_r1 v12_r2)
        fun _ => iprop(owns (th0 d i) arg2 q X
        ∗ (BI.bigSep Finset.univ fun t : Fin k0_t2_loop.trips =>
            owns (th0 d i) (keySlice i arg3 t) fullShare (fun y : S2048.Idx => keyN X (base0 i + 2048 * t.val + (y 0).val)))
        ∗ owns (th0 d i) (cntSlice i arg4) fullShare (fun y : S512.Idx => BitVec.ofNat 32 (cnt (keyN X) (base0 i) (y 0).val 32768))
        ∗ (∃ Y : S6144.Idx → F .f32, owns (th0 d i) arg5 fullShare Y) ∗ (∃ Y : S2048.Idx → BitVec 32, owns (th0 d i) arg6 fullShare Y)
        ∗ (∃ Y : S8192.Idx → BitVec 32, owns (th0 d i) arg7 fullShare Y) ∗ (∃ Y : S512.Idx → BitVec 32, owns (th0 d i) arg8 fullShare Y)
        ∗ semVal (th0 d i, .dma v19_r0.sem) 0 ∗ semVal (th0 d i, .dma v19_r1.sem) 0 ∗ semVal (th0 d i, .dma v12_r2.sem) 0 ∗ oweK (th0 d i) O W) := by
  rw [cc0_occ_k1_keys_hist_eq_skeleton]
  unfold cc0_occ_k1_keys_hist_skel
  iintro ⟨#HM, H2, H3, ⟨%Z4, H4⟩, H5, H6, ⟨%Y7, H7⟩, ⟨%Y8, H8⟩, Hs0, Hs1, Hs2, HO⟩
  dsimp only
  iapply (own_for (fun t _ => iprop(∃ Y : S8192.Idx → BitVec 32, ⌜∀ y, (y 0).val < 16 * t → Y y = 0#32⌝ ∗ owns (th0 d i) arg7 fullShare Y))
      (fun t a => k0_zero d i arg2 harg2 arg3 harg3 arg4 harg4 arg5 harg5 arg6 harg6 arg7 harg7 arg8 harg8 v19_r0 v19_r1 v12_r2 t a)) $$ [H7]
  · iexists _; isplitr; swap; · iexact H7
    ipureintro; intro y hy; omega
  iintro %a1 ⟨%Y, %hY, H7⟩
  obtain rfl : Y = hist (keyN X) (base0 i) (128 * 0) := by
    funext y
    refine (hY y (lt1 (N := 8192) y)).trans ?_
    simp [hist, rowCnt]
  iapply (own_for (fun ch _ => iprop(Transfers.MayWaits (th0 d i) (default : HIx 3) O ∗ owns (th0 d i) arg2 q X
        ∗ (∃ Y : S6144.Idx → F .f32, owns (th0 d i) arg5 fullShare Y) ∗ (∃ Y : S2048.Idx → BitVec 32, owns (th0 d i) arg6 fullShare Y)
        ∗ owns (th0 d i) arg7 fullShare (hist (keyN X) (base0 i) (128 * ch))
        ∗ semVal (th0 d i, .dma v19_r0.sem) 0 ∗ semVal (th0 d i, .dma v19_r1.sem) 0 ∗ oweK (th0 d i) O W
        ∗ (BI.bigSep Finset.univ fun u : Fin k0_t2_loop.trips => if u.val < ch
            then owns (th0 d i) (keySlice i arg3 u) fullShare (fun y : S2048.Idx => keyN X (base0 i + 2048 * u.val + (y 0).val))
            else iprop(∃ Y : S2048.Idx → BitVec 32, owns (th0 d i) (keySlice i arg3 u) fullShare Y)))) ?_) $$ [H2 H3 H5 H6 H7 Hs0 Hs1 HO]
  · intro ch a
    iintro ⟨#HM, H2, H5, H6, H7, Hs0, Hs1, HO, H3⟩
    ihave H3 := slots_step (fun u => iprop(∃ Y : S2048.Idx → BitVec 32, owns (th0 d i) (keySlice i arg3 u) fullShare Y))
      (fun u => owns (th0 d i) (keySlice i arg3 u) fullShare (fun y : S2048.Idx => keyN X (base0 i + 2048 * u.val + (y 0).val))) ch $$ H3
    icases H3 with ⟨H3, Hback⟩
    iapply (own_call (k0_chunk d i arg2 harg2 arg3 harg3 arg4 harg4 arg5 harg5 arg6 harg6 arg7 harg7 arg8 harg8 v19_r0 v19_r1 v12_r2 X O W q ch a))
      $$ [H2 H3 H5 H6 H7 Hs0 Hs1 HO]
    · isplitr; · iexact HM
      isplitl [H2]; · iexact H2
      isplitl [H5]; · iexact H5
      isplitl [H6]; · iexact H6
      isplitl [H7]; · iexact H7
      isplitl [Hs0]; · iexact Hs0
      isplitl [Hs1]; · iexact Hs1
      isplitl [HO]; · iexact HO
      iexact H3
    iintro %b ⟨H2, H5, H6, H7, Hs0, Hs1, HO, H3⟩
    isplitr; · iexact HM
    isplitl [H2]; · iexact H2
    isplitl [H5]; · iexact H5
    isplitl [H6]; · iexact H6
    isplitl [H7]; · iexact H7
    isplitl [Hs0]; · iexact Hs0
    isplitl [Hs1]; · iexact Hs1
    isplitl [HO]; · iexact HO
    iapply Hback; iexact H3
  · isplitr; · iexact HM
    isplitl [H2]; · iexact H2
    isplitl [H5]; · iexact H5
    isplitl [H6]; · iexact H6
    isplitl [H7]; · iexact H7
    isplitl [Hs0]; · iexact Hs0
    isplitl [Hs1]; · iexact Hs1
    isplitl [HO]; · iexact HO
    iapply slots_start; iexact H3
  iintro %a2 ⟨-, H2, H5, H6, H7, Hs0, Hs1, HO, H3⟩
  iapply (own_for (fun t _ => iprop((∃ Y : S512.Idx → BitVec 32, ⌜∀ y, (y 0).val < 16 * t → Y y = BitVec.ofNat 32 (cnt (keyN X) (base0 i) (y 0).val 32768)⌝
          ∗ owns (th0 d i) arg8 fullShare Y)
        ∗ owns (th0 d i) arg7 fullShare (hist (keyN X) (base0 i) 2048)))
      (fun t a => k0_total d i arg2 harg2 arg3 harg3 arg4 harg4 arg5 harg5 arg6 harg6 arg7 harg7 arg8 harg8 v19_r0 v19_r1 v12_r2 X t a)) $$ [H7 H8]
  · isplitl [H8]
    · iexists _; isplitr; swap; · iexact H8
      ipureintro; intro y hy; omega
    · iexact H7
  iintro %a3 ⟨⟨%Y, %hY, H8⟩, H7⟩
  obtain rfl : Y = fun y : S512.Idx => BitVec.ofNat 32 (cnt (keyN X) (base0 i) (y 0).val 32768) := funext fun y => hY y (lt1 (N := 512) y)
  iapply (own_copyK (by decide)) $$ [H8 H4 Hs2 HO]
  · isplitl [H8]; · iexact H8
    isplitl [H4]; · iexact H4
    isplitl [Hs2]; · iexact Hs2
    isplitl [HO]; · iexact HO
    iexact HM
  iintro ⟨H8, H4, Hs2, HO⟩
  iapply own_ret
  isplitl [H2]; · iexact H2
  isplitl [H3]; · iapply slots_done; iexact H3
  isplitl [H4]; · iexact H4
  isplitl [H5]; · iexact H5
  isplitl [H6]; · iexact H6
  isplitl [H7]; · iexists _; iexact H7
  isplitl [H8]; · iexists _; iexact H8
  isplitl [Hs0]; · iexact Hs0
  isplitl [Hs1]; · iexact Hs1
  isplitl [Hs2]; · iexact Hs2
  iexact HO

end Body

end Cert.Proof.Occ

end
-- ==== Proof.Scatter.lean ====
/-
  A batch of indirect scatters on one semaphore: each list's row transfers are transfers of one counted batch, so that
  several scatters may be in flight before the first of their waits.
-/
module

public import proofs.«01_k».proof.Proof.Base
public import Idealize.ShloMosaic.Lib.SparseCore.Scatter
public import Idealize.ShloMosaic.Lib.Batch

@[expose] public section

noncomputable section

namespace Cert.Proof.Occ

open Cert.KernelIdeal Cert.KernelIdeal.Gen

open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Taking the next `o` issue rights of a batch. -/
theorem pending_take {n : ℕ} (Φ : Fin n → sProp (MM F)) (j o : ℕ) (h : j + o ≤ n) :
    bigSep (Transfers.pending j) Φ
      ⊢ iprop((bigSep Finset.univ fun k : Fin o => Φ ⟨j + k.val, by omega⟩) ∗ bigSep (Transfers.pending (j + o)) Φ) := by
  classical
  have hinj : Function.Injective fun k : Fin o => (⟨j + k.val, by omega⟩ : Fin n) := fun a b hab => by
    have h1 : j + a.val = j + b.val := congrArg Fin.val hab
    exact Fin.ext (by omega)
  have e1 : Transfers.pending (n := n) j = (Finset.univ.map ⟨_, hinj⟩) ∪ Transfers.pending (j + o) := by
    ext t
    simp only [Transfers.pending, Finset.mem_filter, Finset.mem_univ, true_and, Finset.mem_union, Finset.mem_map, Function.Embedding.coeFn_mk]
    constructor
    · intro ht
      by_cases h' : j + o ≤ t.val
      · exact .inr h'
      · exact .inl ⟨⟨t.val - j, by omega⟩, Fin.ext (show j + (t.val - j) = t.val by omega)⟩
    · rintro (⟨k, hk⟩ | h')
      · have h1 : j + k.val = t.val := congrArg Fin.val hk
        omega
      · omega
  have e2 : Disjoint (Finset.univ.map ⟨_, hinj⟩) (Transfers.pending (n := n) (j + o)) := by
    rw [Finset.disjoint_left]
    intro t ht ht'
    obtain ⟨k, -, hk⟩ := Finset.mem_map.mp ht
    have h1 : j + k.val = t.val := congrArg Fin.val hk
    have := (Finset.mem_filter.mp ht').2
    omega
  rw [e1, bigSep_union e2, BI.bigSep_map]
  exact (fun _ h => h)

section Rule

variable {c : Thread nD τ} {α : Type} {Q : α → sProp (MM F)} {sp : Space} {s s₀ si : Shape} {e : EltTy} {a : Nat}

/-- An indirect scatter's row transfers, issued as the next transfers of a batch. -/
theorem own_scatter
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → PG F c α}
    {q qo : PosShare TreeShare} {fs : Buf (Elt F) (src.view.loc c)} {fo : Buf (Elt F) (offs.view.loc c)}
    {n : ℕ} {Dv : Fin n → sProp (MM F)} {j u : ℕ}
    (N : ℕ) (hs : 0 < s.numel) (r : Fin (s.size hg.axis') → Fin (s₀.size hg.axis))
    (hrow : ∀ t, (offs.view.read (Elt F) fo (si.rowMajor.symm (finCongr hn.symm t))).toNat = (r t).val)
    (hN : ∀ t, (dst.slice (s₀.rowRect hg.axis (r t)) (s₀.stride_rowRect hg.axis _)).view.dmaCredit = N)
    (hj : j + s.size hg.axis' ≤ n) (hu : u ≤ j * N)
    (hD : ∀ t : Fin (s.size hg.axis'),
      iprop((owns c (dst.slice (s₀.rowRect hg.axis (r t)) (s₀.stride_rowRect hg.axis _)) fullShare (scatterRowPayload c src hg fs t)
          ∗ (offs.view.loc c ↦[{offs.view.emb (si.rowMajor.symm (finCongr hn.symm t))}]{qo} fo))
          ∗ (src.view.loc c ↦[(src.view.slice (s.rowRect hg.axis' t)).set]{q} fs)) ⊢ Dv ⟨j + t.val, by omega⟩) :
    iprop((src.view.loc c ↦[src.view.set]{q} fs)
        ∗ (bigSep Finset.univ fun t => iprop(∃ Y, owns c (dst.slice (s₀.rowRect hg.axis (r t)) (s₀.stride_rowRect hg.axis _)) fullShare Y))
        ∗ (offs.view.loc c ↦[offs.view.set]{qo} fo) ∗ Transfers.Batch countersEmb c (.dma sem) (default : HIx 3) N Dv j u)
      ⊢ iprop((Transfers.Batch countersEmb c (.dma sem) (default : HIx 3) N Dv (j + s.size hg.axis') u -∗ wpc c (k ⟨⟩) Q)
          -∗ wpc c (enqueueIndirectScatter hp src dst hg offs hn sem he hsp hr >>= k) Q) := by
  classical
  unfold wpc
  rw [enqueueIndirectScatter_bind]
  have ho : 0 < s.size hg.axis' := Shape.size_pos_of_numel_pos hs _
  let S : Stream nD τ sig (Elt F) :=
    Stream.issued c offs.view hn sem (fun j w => (rowOf (s₀.size hg.axis) w).map (scatterRow c src dst hg sem he hsp hr j)) 0
  let rd : Fin (s.size hg.axis') → RowDma τ sig (Elt F) c.2 sem := fun j => scatterRow c src dst hg sem he hsp hr j (r j)
  let w : (j : Fin (s.size hg.axis')) → (s₀.rowShape hg.axis).Idx → Elt F e := scatterRowPayload c src hg fs
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ t, S.row t (S.word fo t) = some (rd t) := fun t => by
    change (rowOf (s₀.size hg.axis) (offs.view.read (Elt F) fo (S.entry t))).map _ = _
    have e1 : (offs.view.read (Elt F) fo (S.entry t)).toNat = (r t).val := hrow t
    rw [rowOf_of_lt (e1 ▸ (r t).isLt)]
    have e2 : (⟨(offs.view.read (Elt F) fo (S.entry t)).toNat, e1 ▸ (r t).isLt⟩ : Fin (s₀.size hg.axis)) = r t := Fin.ext e1
    rw [e2]; rfl
  have hen : Function.Bijective S.entry :=
    (si.rowMajor.symm.bijective.comp (finCongr hn.symm).bijective)
  have hsrcset : ∀ j, (src.view.slice (s.rowRect hg.axis' j)).set = (rd j).src.view.set := fun j =>
    (View.set_cast (v := src.view.slice (s.rowRect hg.axis' j)) _ _).symm
  have hsum : ∑ t : Fin (s.size hg.axis'), (dst.slice (s₀.rowRect hg.axis (r t)) (s₀.stride_rowRect hg.axis _)).view.dmaCredit = s.size hg.axis' * N := by
    rw [Finset.sum_congr rfl fun t _ => hN t]; simp
  unfold Transfers.Batch
  iintro ⟨Hs, Hd, Ho, ⟨%γ, %γ₀, %κ, #Hinv, HI, H0, Hcred⟩⟩ Hk
  ihave HI := pending_take (fun t => count countersEmb (γ t) 0) j (s.size hg.axis') hj $$ HI
  icases HI with ⟨Hγ, HI⟩
  ihave Ho' := (Entails.of_eq (pointsTo_entries c offs.view S.entry hen qo fo)) $$ Ho
  ihave Hs' := (Entails.of_eq (pointsTo_rows c src.view hg.axis' q fs)) $$ Hs
  iapply (wp_enqueueIndirectDma 𝒱₀ c none Set.univ (qo := qo) (fo := fo) (rd := rd) (default : HIx 3) (s.size hg.axis' * N) hA hrd hsum) $$ [Hd Ho' Hs' Hγ]
  · have hrow : ∀ t : Fin (s.size hg.axis'), iprop(inv κ (Transfers.batchBody countersEmb (c, SemLoc.dma sem) N Dv γ γ₀)
          ∗ ((((∃ Y, owns c (dst.slice (s₀.rowRect hg.axis (r t)) (s₀.stride_rowRect hg.axis _)) fullShare Y) ∗ S.heldEntry qo fo t)
          ∗ (src.view.loc c ↦[(src.view.slice (s.rowRect hg.axis' t)).set]{q} fs)) ∗ count countersEmb (γ ⟨j + t.val, by omega⟩) 0))
        ⊢ iprop(S.heldEntry qo fo t ∗ (S.heldEntry qo fo t -∗ rowRes c (rd t))) := fun t => by
      iintro ⟨#Hinv, ⟨⟨⟨%Y, Hr⟩, He⟩, Hsq⟩, Hγj⟩
      ihave Hr := (show owns c (dst.slice (s₀.rowRect hg.axis (r t)) (s₀.stride_rowRect hg.axis _)) fullShare Y
        ⊢ iprop(∃ f, ⌜(dst.slice (s₀.rowRect hg.axis (r t)) (s₀.stride_rowRect hg.axis _)).view.read (Elt F) f = Y⌝
          ∗ (dst.view.loc c ↦[(dst.view.slice (s₀.rowRect hg.axis (r t))).set]{fullShare} f)) from .rfl) $$ Hr
      icases Hr with ⟨%fd, -, Hr⟩
      isplitl [He]; · iexact He
      iintro He
      unfold rowRes
      iexists q, fs, iprop((dst.view.loc c ↦[(dst.view.slice (s₀.rowRect hg.axis (r t))).set]{fullShare}
              ((dst.view.slice (s₀.rowRect hg.axis (r t))).write (Elt F) fd (w t) Finset.univ)) ∗ S.heldEntry qo fo t)
      isplitl [Hsq]; · iapply (Entails.of_eq (congrArg (fun I => (src.view.loc c ↦[I]{q} fs : sProp (MM F))) (hsrcset t))) $$ Hsq
      isplitl [Hr He]
      · iapply writeUpdate_frame
        isplitl [Hr]
        · iapply (pointsTo_writeUpdate c (v := dst.view.slice (s₀.rowRect hg.axis (r t))) subset_rfl) $$ Hr
        · iexact He
      · iapply (Entails.of_eq (show (creditUpdate (c, SemLoc.dma sem) ((rd t).dst.view.amount (.dma sem)) 0
            iprop(((dst.view.loc c ↦[(dst.view.slice (s₀.rowRect hg.axis (r t))).set]{fullShare}
              ((dst.view.slice (s₀.rowRect hg.axis (r t))).write (Elt F) fd (w t) Finset.univ)) ∗ S.heldEntry qo fo t)
              ∗ (src.view.loc c ↦[(src.view.slice (s.rowRect hg.axis' t)).set]{q} fs)) : sProp (MM F))
            = creditUpdate (c, SemLoc.dma sem) ((rd t).dst.view.amount (.dma sem)) 0
            iprop(((dst.view.loc c ↦[(dst.view.slice (s₀.rowRect hg.axis (r t))).set]{fullShare}
              ((dst.view.slice (s₀.rowRect hg.axis (r t))).write (Elt F) fd (w t) Finset.univ)) ∗ S.heldEntry qo fo t)
              ∗ ((rd t).src.view.loc c ↦[(rd t).src.view.set]{q} fs)) from by rw [hsrcset t]))
        rw [show (rd t).dst.view.amount (.dma sem) = N from hN t]
        iapply (Transfers.batch_creditUpdate countersEmb (D := Dv) (γ := γ) (γ₀ := γ₀) ⟨j + t.val, by omega⟩)
        · refine BIBase.Entails.trans ?_ (hD t)
          show iprop(((dst.view.loc c ↦[(dst.view.slice (s₀.rowRect hg.axis (r t))).set]{fullShare}
              ((dst.view.slice (s₀.rowRect hg.axis (r t))).write (Elt F) fd (w t) Finset.univ)) ∗ S.heldEntry qo fo t)
              ∗ (src.view.loc c ↦[(src.view.slice (s.rowRect hg.axis' t)).set]{q} fs))
            ⊢ iprop((owns c (dst.slice (s₀.rowRect hg.axis (r t)) (s₀.stride_rowRect hg.axis _)) fullShare (scatterRowPayload c src hg fs t)
              ∗ (offs.view.loc c ↦[{offs.view.emb (si.rowMajor.symm (finCongr hn.symm t))}]{qo} fo))
              ∗ (src.view.loc c ↦[(src.view.slice (s.rowRect hg.axis' t)).set]{q} fs))
          iintro ⟨⟨Hr, He⟩, Hsq⟩
          isplitl [Hr He]
          · isplitl [Hr]
            · unfold owns
              iexists _; isplitr; swap; · iexact Hr
              ipureintro; exact View.read_write_univ _ _
            · iexact He
          · iexact Hsq
        isplitr; · iexact Hinv
        iexact Hγj
    unfold Stream.res
    ihave H1 := Transfers.bigSep_sep_in _ _ _ $$ [Hd Ho']; · isplitl [Hd] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Rule

end Cert.Proof.Occ

end
-- ==== Proof.Rows.lean ====
/-
  The second kernel's scatters: a staging buffer of sixteen rows of 128, each row scattered word by word to the places
  the matching row of another buffer lists, all on one semaphore and then waited for one row at a time.
-/
module

public import proofs.«01_k».proof.Proof.Scatter

@[expose] public section

noncomputable section

namespace Cert.Proof.Occ

open Cert.KernelIdeal Cert.KernelIdeal.Gen

open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## Pieces in blocks -/

theorem bigSep_block {n : ℕ} (a b : ℕ) (h : n = a * b) (Φ : Fin n → sProp (MM F)) :
    bigSep Finset.univ Φ = bigSep Finset.univ fun r : Fin a => bigSep Finset.univ fun t : Fin b =>
      Φ ⟨b * r.val + t.val, by subst h; have := r.isLt; have := t.isLt; calc b * r.val + t.val < b * r.val + b := by omega
                                                            _ = b * (r.val + 1) := by rw [Nat.mul_succ]
                                                            _ ≤ b * a := Nat.mul_le_mul_left _ (by omega)
                                                            _ = a * b := Nat.mul_comm _ _⟩ := by
  classical
  subst h
  have hlt (r : Fin a) (t : Fin b) : b * r.val + t.val < a * b := by
    have := r.isLt; have := t.isLt
    calc b * r.val + t.val < b * r.val + b := by omega
      _ = b * (r.val + 1) := by rw [Nat.mul_succ]
      _ ≤ b * a := Nat.mul_le_mul_left _ (by omega)
      _ = a * b := Nat.mul_comm _ _
  have hinj (r : Fin a) : Function.Injective fun t : Fin b => (⟨b * r.val + t.val, hlt r t⟩ : Fin (a * b)) := fun x y hxy => by
    have h1 : b * r.val + x.val = b * r.val + y.val := congrArg Fin.val hxy
    exact Fin.ext (by omega)
  have hcov : (Finset.univ : Finset (Fin (a * b))) = Finset.univ.biUnion fun r : Fin a => Finset.univ.map ⟨_, hinj r⟩ := by
    ext m
    simp only [Finset.mem_univ, Finset.mem_biUnion, Finset.mem_map, Function.Embedding.coeFn_mk, true_and, true_iff]
    have hb : 0 < b := by
      rcases Nat.eq_zero_or_pos b with h | h
      · exact absurd m.isLt (by subst h; simp)
      · exact h
    refine ⟨⟨m.val / b, ?_⟩, ⟨m.val % b, Nat.mod_lt _ hb⟩, Fin.ext (Nat.div_add_mod _ _)⟩
    exact (Nat.div_lt_iff_lt_mul hb).mpr m.isLt
  rw [hcov, BI.bigSep_biUnion_eq]
  · refine BI.bigSep_congr fun r _ => ?_
    rw [BI.bigSep_map]; rfl
  · intro r _ r' _ hne
    rw [Finset.disjoint_left]
    intro m hm hm'
    obtain ⟨t, -, ht⟩ := Finset.mem_map.mp hm
    obtain ⟨t', -, ht'⟩ := Finset.mem_map.mp hm'
    have h1 : b * r.val + t.val = b * r'.val + t'.val := (congrArg Fin.val ht).trans (congrArg Fin.val ht').symm
    apply hne
    apply Fin.ext
    have hb : 0 < b := lt_of_le_of_lt (Nat.zero_le _) t.isLt
    have e1 : (b * r.val + t.val) / b = r.val := by rw [Nat.mul_add_div hb, Nat.div_eq_of_lt t.isLt, Nat.add_zero]
    have e2 : (b * r'.val + t'.val) / b = r'.val := by rw [Nat.mul_add_div hb, Nat.div_eq_of_lt t'.isLt, Nat.add_zero]
    rw [← e1, ← e2, h1]

/-! ## The rows of a staging buffer -/

/-- Place `(r, t)` of a rank-two shape. -/
def at2 (M N : ℕ) [NeZero M] [NeZero N] (r t : ℕ) : (⟨2, ![M, N]⟩ : Shape).Idx :=
  fun a => match a with | ⟨0, _⟩ => (⟨r % M, Nat.mod_lt _ (NeZero.pos M)⟩ : Fin M) | ⟨1, _⟩ => (⟨t % N, Nat.mod_lt _ (NeZero.pos N)⟩ : Fin N)

theorem ext2 {M N : ℕ} {i j : (⟨2, ![M, N]⟩ : Shape).Idx} (h0 : (i 0).val = (j 0).val) (h1 : (i 1).val = (j 1).val) : i = j := by
  funext a
  match a with
  | ⟨0, _⟩ => exact Fin.ext h0
  | ⟨1, _⟩ => exact Fin.ext h1

theorem row_inb {r : ℕ} (hr : r < 16) : ∀ a, (![r, 0] : Fin 2 → ℕ) a + S1x128.size a ≤ S16x128.size a := fun a => by
  match a with
  | ⟨0, _⟩ => show r + 1 ≤ 16; omega
  | ⟨1, _⟩ => show 0 + 128 ≤ 128; omega

/-- Row `r` of a staging buffer, as a list of 128. -/
abbrev stRow {e : EltTy} (m : Memref sig .scVector .vmem S16x128 e) (r : ℕ) (hr : r < 16) : Memref sig .scVector .vmem S128 e :=
  (m.slice (Rect.unit (s := S16x128) ![r, 0] S1x128.size (row_inb hr)) (fun _ => rfl)).squeeze S128 squeezes_S1x128_S128

theorem stRow_emb {e : EltTy} (m : Memref sig .scVector .vmem S16x128 e) (r : ℕ) (hr : r < 16) (x : S128.Idx) :
    (stRow m r hr).view.emb x = m.view.emb (at2 16 128 r (x 0).val) := by
  show m.view.emb ((Rect.unit (s := S16x128) ![r, 0] S1x128.size (row_inb hr)).emb (Shape.reshapeEquiv squeezes_S1x128_S128.numel_eq x)) = _
  congr 1
  have h1 : (S1x128.rowMajor (Shape.reshapeEquiv squeezes_S1x128_S128.numel_eq x)).val = (x 0).val := by
    rw [Shape.rowMajor_reshapeEquiv, Shape.rowMajor_val_one]
  rw [Shape.rowMajor_val_two] at h1
  have h2 : ((Shape.reshapeEquiv squeezes_S1x128_S128.numel_eq x) 0).val < 1 := (Shape.reshapeEquiv squeezes_S1x128_S128.numel_eq x 0).isLt
  have h3 : ((Shape.reshapeEquiv squeezes_S1x128_S128.numel_eq x) 0).val * 128 + ((Shape.reshapeEquiv squeezes_S1x128_S128.numel_eq x) 1).val = (x 0).val := h1
  have hx : (x 0).val < 128 := (x 0).isLt
  refine ext2 ?_ ?_
  · show r + 1 * ((Shape.reshapeEquiv squeezes_S1x128_S128.numel_eq x) 0).val = r % 16
    omega
  · show 0 + 1 * ((Shape.reshapeEquiv squeezes_S1x128_S128.numel_eq x) 1).val = (x 0).val % 128
    omega

theorem stRow_read {e : EltTy} (m : Memref sig .scVector .vmem S16x128 e) (r : ℕ) (hr : r < 16) (f : m.view.ty.Contents (Elt F)) (x : S128.Idx) :
    (stRow m r hr).view.read (Elt F) f x = m.view.read (Elt F) f (at2 16 128 r (x 0).val) := by
  show m.view.read (Elt F) f ((Rect.unit (s := S16x128) ![r, 0] S1x128.size (row_inb hr)).emb (Shape.reshapeEquiv squeezes_S1x128_S128.numel_eq x)) = _
  congr 1
  exact m.view.emb.injective (stRow_emb m r hr x)

theorem slice_unit_set {s : Shape} {e : EltTy} (m : Memref sig .scVector .vmem s e) {off off' size size' : Fin s.rank → Nat}
    (h : off = off') (h' : size = size') (p : ∀ a, off a + size a ≤ s.size a) (p' : ∀ a, off' a + size' a ≤ s.size a) :
    (m.view.slice (Rect.unit (s := s) off size p)).set = (m.view.slice (Rect.unit (s := s) off' size' p')).set := by
  subst h h'
  rfl

theorem stRow_set {e : EltTy} (m : Memref sig .scVector .vmem S16x128 e) (k : Fin 16) :
    (stRow m k.val k.isLt).view.set = (m.view.slice (S16x128.rowRect 0 k)).set := by
  show ((m.view.slice (Rect.unit (s := S16x128) ![k.val, 0] S1x128.size (row_inb k.isLt))).reshape S128 _).set = _
  rw [View.set_reshape]
  have e1 : (![k.val, 0] : Fin 2 → ℕ) = fun b : Fin 2 => if b = 0 then k.val else 0 := by
    funext b; match b with
    | ⟨0, _⟩ => rfl
    | ⟨1, _⟩ => rfl
  have e2 : (S1x128.size : Fin 2 → ℕ) = (S16x128.rowShape 0).size := by
    funext b; match b with
    | ⟨0, _⟩ => rfl
    | ⟨1, _⟩ => rfl
  exact slice_unit_set m e1 e2 _ _

variable (d : Fin nD) (i : grid1.Coords)

/-- The tile's thread. -/
abbrev th1 : Thread nD τ := (d, .scVector ((i 0).castLE hcore1) ((i 1).castLE hsub1))

omit [FloatOps F] in
theorem stRows {e : EltTy} (m : Memref sig .scVector .vmem S16x128 e) (q : PosShare TreeShare) (f : m.view.ty.Contents (Elt F)) :
    (m.view.loc (th1 d i) ↦[m.view.set]{q} f : sProp (MM F))
      = bigSep Finset.univ fun r : Fin 16 => (stRow m r.val r.isLt).view.loc (th1 d i) ↦[(stRow m r.val r.isLt).view.set]{q} f := by
  rw [pointsTo_rows (th1 d i) m.view 0 q f]
  refine BI.bigSep_congr fun r _ => ?_
  exact congrArg (fun X => (m.view.loc (th1 d i) ↦[X]{q} f : sProp (MM F))) (stRow_set m r).symm

/-! ## The places scattered to -/

/-- The whole list in the device's memory, as the scatters name it, -/
abbrev tgt {e : EltTy} (m : Memref sig .scVector .hbm S1052672 e) : Memref sig .scVector .hbm S1052672 e :=
  m.slice (Rect.unit (s := S1052672) ![0] S1052672.size inb_S1052672_S1052672_0) (fun _ => rfl)

/-- and one place of it. -/
abbrev cell {e : EltTy} (m : Memref sig .scVector .hbm S1052672 e) (p : Fin 1052672) : Memref sig .scVector .hbm (S1052672.rowShape 0) e :=
  (tgt m).slice (S1052672.rowRect 0 p) (S1052672.stride_rowRect 0 p)

/-- What the scatter of the `m`-th word of a staging buffer hands back: the place it goes to, holding it; the list's
    entry; the word's own place. -/
def landed {e : EltTy} (src : Memref sig .scVector .vmem S16x128 e) (lst : Memref sig .scVector .vmem S16x128 .i32)
    (dst : Memref sig .scVector .hbm S1052672 e) (q : PosShare TreeShare) (fs : src.view.ty.Contents (Elt F)) (fo : lst.view.ty.Contents (Elt F))
    (pl : ℕ → Fin 1052672) (x : ℕ → Elt F e) (r : Fin 16) (t : Fin 128) : sProp (MM F) :=
  iprop((owns (th1 d i) (cell dst (pl (128 * r.val + t.val))) fullShare (fun _ => x (128 * r.val + t.val))
      ∗ ((stRow lst r.val r.isLt).view.loc (th1 d i) ↦[{(stRow lst r.val r.isLt).view.emb (at1 128 t.val)}]{q} fo))
    ∗ ((stRow src r.val r.isLt).view.loc (th1 d i) ↦[((stRow src r.val r.isLt).view.slice (S128.rowRect 0 t)).set]{fullShare} fs))

abbrev landedN {e : EltTy} (src : Memref sig .scVector .vmem S16x128 e) (lst : Memref sig .scVector .vmem S16x128 .i32)
    (dst : Memref sig .scVector .hbm S1052672 e) (q : PosShare TreeShare) (fs : src.view.ty.Contents (Elt F)) (fo : lst.view.ty.Contents (Elt F))
    (pl : ℕ → Fin 1052672) (x : ℕ → Elt F e) (m : Fin 2048) : sProp (MM F) :=
  landed d i src lst dst q fs fo pl x ⟨m.val / 128, by have := m.isLt; omega⟩ ⟨m.val % 128, Nat.mod_lt _ (by decide)⟩

instance {e : EltTy} (src : Memref sig .scVector .vmem S16x128 e) (lst : Memref sig .scVector .vmem S16x128 .i32)
    (dst : Memref sig .scVector .hbm S1052672 e) (q : PosShare TreeShare) (fs : src.view.ty.Contents (Elt F)) (fo : lst.view.ty.Contents (Elt F))
    (pl : ℕ → Fin 1052672) (x : ℕ → Elt F e) (m : Fin 2048) : Storable (upEmb : UEmb _ (MM F)) (landedN d i src lst dst q fs fo pl x m) := by
  unfold landedN landed owns
  infer_instance

theorem landed_all {e : EltTy} (src : Memref sig .scVector .vmem S16x128 e) (lst : Memref sig .scVector .vmem S16x128 .i32)
    (dst : Memref sig .scVector .hbm S1052672 e) (q : PosShare TreeShare) (fs : src.view.ty.Contents (Elt F)) (fo : lst.view.ty.Contents (Elt F))
    (pl : ℕ → Fin 1052672) (x : ℕ → Elt F e) :
    bigSep Finset.univ (landedN d i src lst dst q fs fo pl x)
      ⊢ iprop((bigSep Finset.univ fun m : Fin 2048 => owns (th1 d i) (cell dst (pl m.val)) fullShare (fun _ => x m.val))
        ∗ (lst.view.loc (th1 d i) ↦[lst.view.set]{q} fo) ∗ (src.view.loc (th1 d i) ↦[src.view.set]{fullShare} fs)) := by
  rw [bigSep_block 16 128 rfl, bigSep_block 16 128 rfl, stRows d i lst, stRows d i src]
  have h1 : ∀ r ∈ (Finset.univ : Finset (Fin 16)), (bigSep Finset.univ fun t : Fin 128 => landedN d i src lst dst q fs fo pl x ⟨128 * r.val + t.val, by have := r.isLt; have := t.isLt; omega⟩)
      ⊢ iprop((bigSep Finset.univ fun t : Fin 128 => owns (th1 d i) (cell dst (pl (128 * r.val + t.val))) fullShare (fun _ => x (128 * r.val + t.val)))
        ∗ ((stRow lst r.val r.isLt).view.loc (th1 d i) ↦[(stRow lst r.val r.isLt).view.set]{q} fo)
        ∗ ((stRow src r.val r.isLt).view.loc (th1 d i) ↦[(stRow src r.val r.isLt).view.set]{fullShare} fs)) := fun r _ => by
    have e1 : (fun t : Fin 128 => landedN d i src lst dst q fs fo pl x ⟨128 * r.val + t.val, by have := r.isLt; have := t.isLt; omega⟩)
        = fun t => landed d i src lst dst q fs fo pl x r t := by
      funext t
      have := t.isLt
      have e2 : (⟨(128 * r.val + t.val) / 128, by have := r.isLt; omega⟩ : Fin 16) = r := Fin.ext (by show (128 * r.val + t.val) / 128 = r.val; omega)
      have e3 : (⟨(128 * r.val + t.val) % 128, Nat.mod_lt _ (by decide)⟩ : Fin 128) = t := Fin.ext (by show (128 * r.val + t.val) % 128 = t.val; omega)
      show landed d i src lst dst q fs fo pl x ⟨(128 * r.val + t.val) / 128, _⟩ ⟨(128 * r.val + t.val) % 128, _⟩ = _
      rw [e2, e3]
    rw [e1]
    unfold landed
    have hen : Function.Bijective fun t : Fin 128 => (at1 128 t.val : S128.Idx) := by
      refine ⟨fun a b hab => Fin.ext ?_, fun y => ⟨⟨(y 0).val, lt1 y⟩, at1_eq y⟩⟩
      have := congrArg (fun z : S128.Idx => (z 0).val) hab
      dsimp only at this
      rwa [at1_val a.isLt, at1_val b.isLt] at this
    rw [pointsTo_entries (th1 d i) (stRow lst r.val r.isLt).view (fun t : Fin 128 => (at1 128 t.val : S128.Idx)) hen q fo,
      pointsTo_rows (th1 d i) (stRow src r.val r.isLt).view 0 fullShare fs]
    iintro H
    ihave H := Transfers.bigSep_sep_out _ _ _ $$ H
    icases H with ⟨H, Hs⟩
    ihave H := Transfers.bigSep_sep_out _ _ _ $$ H
    icases H with ⟨Hd, Ho⟩
    isplitl [Hd]; · iexact Hd
    isplitl [Ho]; · iexact Ho
    iexact Hs
  iintro H
  ihave H := (show _ ⊢ _ from BI.bigSep_mono h1) $$ H
  ihave H := Transfers.bigSep_sep_out _ _ _ $$ H
  icases H with ⟨Hd, H⟩
  ihave H := Transfers.bigSep_sep_out _ _ _ $$ H
  icases H with ⟨Ho, Hs⟩
  isplitl [Hd]; · iexact Hd
  isplitl [Ho]; · iexact Ho
  iexact Hs

/-! ## One row's scatter, one row's wait -/

variable {α : Type} {Q : α → sProp (MM F)}

/-- The rows from `r` on, still to be scattered: each with its list and the places it goes to. -/
def unsent {e : EltTy} (src : Memref sig .scVector .vmem S16x128 e) (lst : Memref sig .scVector .vmem S16x128 .i32)
    (dst : Memref sig .scVector .hbm S1052672 e) (q : PosShare TreeShare) (fs : src.view.ty.Contents (Elt F)) (fo : lst.view.ty.Contents (Elt F))
    (pl : ℕ → Fin 1052672) (r : Fin 16) : sProp (MM F) :=
  iprop(((stRow src r.val r.isLt).view.loc (th1 d i) ↦[(stRow src r.val r.isLt).view.set]{fullShare} fs)
    ∗ ((stRow lst r.val r.isLt).view.loc (th1 d i) ↦[(stRow lst r.val r.isLt).view.set]{q} fo)
    ∗ (bigSep Finset.univ fun t : Fin 128 => iprop(∃ Y, owns (th1 d i) (cell dst (pl (128 * r.val + t.val))) fullShare Y)))

/-- The scatters of the first `r` rows are on their way. -/
def sending {e : EltTy} (src : Memref sig .scVector .vmem S16x128 e) (lst : Memref sig .scVector .vmem S16x128 .i32)
    (dst : Memref sig .scVector .hbm S1052672 e) (q : PosShare TreeShare) (fs : src.view.ty.Contents (Elt F)) (fo : lst.view.ty.Contents (Elt F))
    (pl : ℕ → Fin 1052672) (x : ℕ → Elt F e) (sem : DmaSem sig) (r : ℕ) : sProp (MM F) :=
  iprop(bigSep (Transfers.pending r) (unsent d i src lst dst q fs fo pl)
    ∗ Transfers.Batch countersEmb (th1 d i) (.dma sem) (default : HIx 3) 32 (landedN d i src lst dst q fs fo pl x) (128 * r) 0)

theorem row_emb (t : Fin 128) (z : (S128.rowShape 0).Idx) : ((S128.rowRect 0 t).emb z 0).val = t.val := by
  have hz : (z (0 : Fin 1)).val < 1 := (z (0 : Fin 1)).isLt
  show t.val + 1 * (z (0 : Fin 1)).val = t.val
  omega

theorem own_send {e : EltTy} {src : Memref sig .scVector .vmem S16x128 e} {lst : Memref sig .scVector .vmem S16x128 .i32}
    {dst : Memref sig .scVector .hbm S1052672 e} {q : PosShare TreeShare} {fs : src.view.ty.Contents (Elt F)} {fo : lst.view.ty.Contents (Elt F)}
    {pl : ℕ → Fin 1052672} {x : ℕ → Elt F e} {sem : DmaSem sig} (r : ℕ) (hr : r < 16) {he : e.bits = 32} {hw : S1052672.StreamRows 0}
    {k : PUnit → PG F (th1 d i) α}
    (hc : ∀ p, (cell dst p).view.dmaCredit = 32)
    (hpl : ∀ t, t < 128 → (lst.view.read (Elt F) fo (at2 16 128 r t)).toNat = (pl (128 * r + t)).val)
    (hx : ∀ t, t < 128 → src.view.read (Elt F) fs (at2 16 128 r t) = x (128 * r + t)) :
    sending d i src lst dst q fs fo pl x sem r
      ⊢ iprop((sending d i src lst dst q fs fo pl x sem (r + 1) -∗ wpc (th1 d i) (k ⟨⟩) Q)
          -∗ wpc (th1 d i) (SparseCore.enqueueIndirectScatter rfl (stRow src r hr) (tgt dst) gathers_S1052672_S128 (stRow lst r hr) rfl sem he (Or.inl rfl) hw >>= k) Q) := by
  have hat (t : Fin 128) : (S128.rowMajor.symm t : S128.Idx) = at1 128 t.val := by
    refine (Equiv.symm_apply_eq (S128.rowMajor)).mpr (Fin.ext ?_)
    exact ((Shape.rowMajor_val_one (at1 128 t.val)).trans (at1_val t.isLt)).symm
  have hrow : ∀ t : Fin 128, ((stRow lst r hr).view.read (Elt F) fo (S128.rowMajor.symm (finCongr rfl t))).toNat = (pl (128 * r + t.val)).val := fun t => by
    rw [show (finCongr rfl t : Fin S128.numel) = t from rfl, hat, stRow_read, at1_val t.isLt]
    exact hpl t.val t.isLt
  have hN : ∀ t : Fin 128, (cell dst (pl (128 * r + t.val))).view.dmaCredit = 32 := fun t => by
    exact hc _
  have hD : ∀ t : Fin 128, iprop((owns (th1 d i) (cell dst (pl (128 * r + t.val))) fullShare (scatterRowPayload (th1 d i) (stRow src r hr) gathers_S1052672_S128 fs t)
          ∗ ((stRow lst r hr).view.loc (th1 d i) ↦[{(stRow lst r hr).view.emb (S128.rowMajor.symm (finCongr rfl t))}]{q} fo))
          ∗ ((stRow src r hr).view.loc (th1 d i) ↦[((stRow src r hr).view.slice (S128.rowRect 0 t)).set]{fullShare} fs))
        ⊢ landedN d i src lst dst q fs fo pl x ⟨128 * r + t.val, by have := t.isLt; omega⟩ := fun t => by
    have ht := t.isLt
    have e2 : (⟨(128 * r + t.val) / 128, by omega⟩ : Fin 16) = ⟨r, hr⟩ := Fin.ext (by show (128 * r + t.val) / 128 = r; omega)
    have e3 : (⟨(128 * r + t.val) % 128, Nat.mod_lt _ (by decide)⟩ : Fin 128) = t := Fin.ext (by show (128 * r + t.val) % 128 = t.val; omega)
    show _ ⊢ landed d i src lst dst q fs fo pl x ⟨(128 * r + t.val) / 128, _⟩ ⟨(128 * r + t.val) % 128, _⟩
    rw [e2, e3]
    unfold landed
    have e4 : scatterRowPayload (th1 d i) (stRow src r hr) gathers_S1052672_S128 fs t = fun _ => x (128 * r + t.val) := by
      funext y
      show (stRow src r hr).view.read (Elt F) fs ((S128.rowRect 0 t).emb _) = _
      rw [stRow_read, ← hx t.val t.isLt]
      exact congrArg (fun n => src.view.read (Elt F) fs (at2 16 128 r n)) (row_emb t _)
    rw [e4, show (finCongr rfl t : Fin S128.numel) = t from rfl, hat]
    exact (fun _ h => h)
  unfold sending
  rw [Transfers.bigSep_pending_step _ r hr]
  unfold unsent
  iintro ⟨⟨⟨Hs, Ho, Hd⟩, Hrest⟩, HB⟩ Hk
  iapply (own_scatter (c := th1 d i) (src := stRow src r hr) (dst := tgt dst) (hg := gathers_S1052672_S128) (offs := stRow lst r hr)
    (hn := rfl) (hp := rfl) (he := he) (hsp := Or.inl rfl) (hr := hw) (qo := q) (q := fullShare) (fs := fs) (fo := fo)
    (Dv := landedN d i src lst dst q fs fo pl x) (j := 128 * r) (u := 0) 32 (show 0 < S128.numel by decide)
    (fun t : Fin 128 => pl (128 * r + t.val)) hrow hN (show 128 * r + 128 ≤ 2048 by omega) (Nat.zero_le _) hD) $$ [Hs Ho Hd HB]
  · isplitl [Hs]; · iexact Hs
    isplitl [Hd]; · iexact Hd
    isplitl [Ho]; · iexact Ho
    iexact HB
  iintro HB
  iapply Hk
  isplitl [Hrest]; · iexact Hrest
  iexact HB

/-- All is scattered; of the waits `r` are behind. -/
def draining {e : EltTy} (src : Memref sig .scVector .vmem S16x128 e) (lst : Memref sig .scVector .vmem S16x128 .i32)
    (dst : Memref sig .scVector .hbm S1052672 e) (q : PosShare TreeShare) (fs : src.view.ty.Contents (Elt F)) (fo : lst.view.ty.Contents (Elt F))
    (pl : ℕ → Fin 1052672) (x : ℕ → Elt F e) (sem : DmaSem sig) (r : ℕ) : sProp (MM F) :=
  Transfers.Batch countersEmb (th1 d i) (.dma sem) (default : HIx 3) 32 (landedN d i src lst dst q fs fo pl x) 2048 (4096 * r)

theorem own_drain {e : EltTy} {src : Memref sig .scVector .vmem S16x128 e} {lst : Memref sig .scVector .vmem S16x128 .i32}
    {dst : Memref sig .scVector .hbm S1052672 e} {q : PosShare TreeShare} {fs : src.view.ty.Contents (Elt F)} {fo : lst.view.ty.Contents (Elt F)}
    {pl : ℕ → Fin 1052672} {x : ℕ → Elt F e} {sem : DmaSem sig} (r : ℕ) (hr : r < 16)
    {hsrc : (stRow src r hr).view.WordExact} {hdst : (tgt dst).view.WordExact} {O : CellTallies nD τ sig (HIx 3)} {W : Waits sig (HIx 3)}
    {k : PUnit → PG F (th1 d i) α} (hc : (stRow src r hr).view.dmaCredit = 4096) :
    iprop(draining d i src lst dst q fs fo pl x sem r ∗ oweK (th1 d i) O W ∗ Transfers.MayWaits (th1 d i) (default : HIx 3) O)
      ⊢ iprop((iprop(draining d i src lst dst q fs fo pl x sem (r + 1) ∗ oweK (th1 d i) O W) -∗ wpc (th1 d i) (k ⟨⟩) Q)
          -∗ wpc (th1 d i) (SparseCore.waitIndirectScatter sem (stRow src r hr) (tgt dst) hsrc hdst >>= k) Q) := by
  have hc' : (stRow src r hr).view.dmaCredit = 128 * 32 := hc
  have hv : 4096 * (r + 1) = 4096 * r + 128 * 32 := by omega
  have hu : 4096 * r + 128 * 32 ≤ 32 * 2048 := by omega
  unfold draining
  rw [hv]
  generalize 4096 * r = v at hu
  change _ ⊢ iprop(_ -∗ wpc (th1 d i) (.op (.waitDma2 sem (tgt dst) (stRow src r hr) hdst hsrc) k) Q)
  iintro ⟨HB, ⟨%W', %hW, HO⟩, #HM⟩ Hk
  iapply (Transfers.wp_waitBatchMulO countersEmb 𝒱₀ (th1 d i) none (default : HIx 3) (N := 32) 128 hc' hu) $$ [HB HO]
  · isplitl [HB]; · iexact HB
    isplitl [HO]; · iexact HO
    iapply (Transfers.MayWaits.elim (SemLoc.dma sem)); iexact HM
  iintro ⟨HB, HO⟩
  iapply Hk
  isplitl [HB]; · iexact HB
  iexists _; isplitr; swap; · iexact HO
  ipureintro
  intro p hp
  rcases Finset.mem_insert.mp hp with h | h
  · exact .inr (h ▸ rfl)
  · exact hW p h

/-- The start, -/
theorem sending_start {e : EltTy} (src : Memref sig .scVector .vmem S16x128 e) (lst : Memref sig .scVector .vmem S16x128 .i32)
    (dst : Memref sig .scVector .hbm S1052672 e) (q : PosShare TreeShare) (fs : src.view.ty.Contents (Elt F)) (fo : lst.view.ty.Contents (Elt F))
    (pl : ℕ → Fin 1052672) (x : ℕ → Elt F e) (sem : DmaSem sig) :
    iprop((src.view.loc (th1 d i) ↦[src.view.set]{fullShare} fs) ∗ (lst.view.loc (th1 d i) ↦[lst.view.set]{q} fo)
        ∗ (bigSep Finset.univ fun m : Fin 2048 => iprop(∃ Y, owns (th1 d i) (cell dst (pl m.val)) fullShare Y))
        ∗ semVal (th1 d i, .dma sem) 0)
      ⊢ iprop(|={Set.univ}=> sending d i src lst dst q fs fo pl x sem 0) := by
  iintro ⟨Hs, Ho, Hd, Hv⟩
  imod (show _ ⊢ _ from Transfers.batch_alloc' countersEmb (D := landedN d i src lst dst q fs fo pl x) (c := th1 d i) (sm := SemLoc.dma sem) (ι := (default : HIx 3)) (N := 32)) $$ Hv with HB
  imodintro
  unfold sending
  isplitl [Hs Ho Hd]; swap; · iexact HB
  rw [Transfers.pending_zero]
  ihave Hs := (Entails.of_eq (stRows d i src fullShare fs)) $$ Hs
  ihave Ho := (Entails.of_eq (stRows d i lst q fo)) $$ Ho
  ihave Hd := (Entails.of_eq (bigSep_block 16 128 rfl _)) $$ Hd
  unfold unsent
  iapply Transfers.bigSep_sep_in
  isplitl [Hs]; · iexact Hs
  iapply Transfers.bigSep_sep_in
  isplitl [Ho]; · iexact Ho
  iexact Hd

/-- the turn, -/
theorem sending_all {e : EltTy} {src : Memref sig .scVector .vmem S16x128 e} {lst : Memref sig .scVector .vmem S16x128 .i32}
    {dst : Memref sig .scVector .hbm S1052672 e} {q : PosShare TreeShare} {fs : src.view.ty.Contents (Elt F)} {fo : lst.view.ty.Contents (Elt F)}
    {pl : ℕ → Fin 1052672} {x : ℕ → Elt F e} {sem : DmaSem sig} :
    sending d i src lst dst q fs fo pl x sem 16 ⊢ draining d i src lst dst q fs fo pl x sem 0 := by
  unfold sending draining
  iintro ⟨-, H⟩
  iexact H

/-- and the end: every place written, the lists and the buffers back. -/
theorem draining_all {e : EltTy} {src : Memref sig .scVector .vmem S16x128 e} {lst : Memref sig .scVector .vmem S16x128 .i32}
    {dst : Memref sig .scVector .hbm S1052672 e} {q : PosShare TreeShare} {fs : src.view.ty.Contents (Elt F)} {fo : lst.view.ty.Contents (Elt F)}
    {pl : ℕ → Fin 1052672} {x : ℕ → Elt F e} {sem : DmaSem sig} :
    draining d i src lst dst q fs fo pl x sem 16
      ⊢ iprop(|={Set.univ}=> ((bigSep Finset.univ fun m : Fin 2048 => owns (th1 d i) (cell dst (pl m.val)) fullShare (fun _ => x m.val))
        ∗ (lst.view.loc (th1 d i) ↦[lst.view.set]{q} fo) ∗ (src.view.loc (th1 d i) ↦[src.view.set]{fullShare} fs)
        ∗ semVal (th1 d i, .dma sem) 0)) := by
  unfold draining
  iintro H
  imod (show _ ⊢ _ from Transfers.batch_collect' countersEmb (D := landedN d i src lst dst q fs fo pl x) (c := th1 d i) (sm := SemLoc.dma sem) (ι := (default : HIx 3)) (N := 32) (by decide)) $$ H with ⟨HD, Hv⟩
  imodintro
  ihave HD := (landed_all d i src lst dst q fs fo pl x) $$ HD
  icases HD with ⟨Hd, Ho, Hs⟩
  isplitl [Hd]; · iexact Hd
  isplitl [Ho]; · iexact Ho
  isplitl [Hs]; · iexact Hs
  iexact Hv

end Cert.Proof.Occ

end
-- ==== Proof.Send.lean ====
/-
  The second kernel's parts that only scatter and wait: thirty-two scatters, the keys' and the values' by turns, and as
  many waits.
-/
module

public import proofs.«01_k».proof.Proof.Rows

@[expose] public section

noncomputable section

namespace Cert.Proof.Occ

open Cert.KernelIdeal Cert.KernelIdeal.Gen

open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Body

variable (d : Fin nD) (i : grid1.Coords)
  (arg2 : Memref sig .scVector .hbm S8192x128 .i32) (harg2 : arg2.IsWhole) (arg3 : Memref sig .scVector .hbm S8192x128 .f32) (harg3 : arg3.IsWhole)
  (arg4 : Memref sig .scVector .hbm S16384 .i32) (harg4 : arg4.IsWhole) (arg5 : Memref sig .scVector .hbm S1052672 .i32) (harg5 : arg5.IsWhole)
  (arg6 : Memref sig .scVector .hbm S1052672 .f32) (harg6 : arg6.IsWhole) (arg7 : Memref sig .scVector .hbm S544 .i32) (harg7 : arg7.IsWhole)
  (arg8 : Memref sig .scVector .vmem S16384 .i32) (harg8 : arg8.IsWhole) (arg9 : Memref sig .scVector .vmem S512 .i32) (harg9 : arg9.IsWhole)
  (arg10 : Memref sig .scVector .vmem S544 .i32) (harg10 : arg10.IsWhole) (arg11 : Memref sig .scVector .vmem S16x128 .i32) (harg11 : arg11.IsWhole)
  (arg12 : Memref sig .scVector .vmem S16x128 .f32) (harg12 : arg12.IsWhole) (arg13 : Memref sig .scVector .vmem S16x128 .i32) (harg13 : arg13.IsWhole)
  (arg14 arg15 v18_r0 v18_r1 v343_r2 v343_r3 : DmaSems sig S_)

section Send

variable (fk : arg11.view.ty.Contents (Elt F)) (fv : arg12.view.ty.Contents (Elt F)) (fo : arg13.view.ty.Contents (Elt F))
  (pl : ℕ → Fin 1052672) (xk : ℕ → BitVec 32) (xv : ℕ → F .f32)
  (hck : ∀ p, (cell arg5 p).view.dmaCredit = 32) (hcv : ∀ p, (cell arg6 p).view.dmaCredit = 32)
  (hrk : ∀ r hr, (stRow arg11 r hr).view.dmaCredit = 4096) (hrv : ∀ r hr, (stRow arg12 r hr).view.dmaCredit = 4096)
  (hpl : ∀ r, r < 16 → ∀ t, t < 128 → (arg13.view.read (Elt F) fo (at2 16 128 r t)).toNat = (pl (128 * r + t)).val)
  (hxk : ∀ r, r < 16 → ∀ t, t < 128 → arg11.view.read (Elt F) fk (at2 16 128 r t) = xk (128 * r + t))
  (hxv : ∀ r, r < 16 → ∀ t, t < 128 → arg12.view.read (Elt F) fv (at2 16 128 r t) = xv (128 * r + t))

include hck hcv hpl hxk hxv in
theorem k1_part6_run :
    iprop(sending d i arg11 arg13 arg5 fullShare.left fk fo pl xk arg14.sem 1 ∗ sending d i arg12 arg13 arg6 fullShare.right fv fo pl xv arg15.sem 1)
      ⊢ wpc (F := F) (th1 d i) (k1_part6 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3)
        fun _ => iprop(sending d i arg11 arg13 arg5 fullShare.left fk fo pl xk arg14.sem 4 ∗ sending d i arg12 arg13 arg6 fullShare.right fv fo pl xv arg15.sem 3) := by
  rw [k1_part6_eq_skeleton]
  unfold k1_part6_skel
  iintro ⟨Hk, Hv⟩
  dsimp only
  iapply (own_send d i 1 (by decide) hck (hpl 1 (by decide)) (hxk 1 (by decide))) $$ Hk; iintro Hk
  iapply (own_send d i 1 (by decide) hcv (hpl 1 (by decide)) (hxv 1 (by decide))) $$ Hv; iintro Hv
  iapply (own_send d i 2 (by decide) hck (hpl 2 (by decide)) (hxk 2 (by decide))) $$ Hk; iintro Hk
  iapply (own_send d i 2 (by decide) hcv (hpl 2 (by decide)) (hxv 2 (by decide))) $$ Hv; iintro Hv
  iapply (own_send d i 3 (by decide) hck (hpl 3 (by decide)) (hxk 3 (by decide))) $$ Hk; iintro Hk
  iapply own_ret
  isplitl [Hk]; · iexact Hk
  iexact Hv

include hck hcv hpl hxk hxv in
theorem k1_part7_run :
    iprop(sending d i arg11 arg13 arg5 fullShare.left fk fo pl xk arg14.sem 4 ∗ sending d i arg12 arg13 arg6 fullShare.right fv fo pl xv arg15.sem 3)
      ⊢ wpc (F := F) (th1 d i) (k1_part7 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3)
        fun _ => iprop(sending d i arg11 arg13 arg5 fullShare.left fk fo pl xk arg14.sem 7 ∗ sending d i arg12 arg13 arg6 fullShare.right fv fo pl xv arg15.sem 6) := by
  rw [k1_part7_eq_skeleton]
  unfold k1_part7_skel
  iintro ⟨Hk, Hv⟩
  dsimp only
  iapply (own_send d i 3 (by decide) hcv (hpl 3 (by decide)) (hxv 3 (by decide))) $$ Hv; iintro Hv
  iapply (own_send d i 4 (by decide) hck (hpl 4 (by decide)) (hxk 4 (by decide))) $$ Hk; iintro Hk
  iapply (own_send d i 4 (by decide) hcv (hpl 4 (by decide)) (hxv 4 (by decide))) $$ Hv; iintro Hv
  iapply (own_send d i 5 (by decide) hck (hpl 5 (by decide)) (hxk 5 (by decide))) $$ Hk; iintro Hk
  iapply (own_send d i 5 (by decide) hcv (hpl 5 (by decide)) (hxv 5 (by decide))) $$ Hv; iintro Hv
  iapply (own_send d i 6 (by decide) hck (hpl 6 (by decide)) (hxk 6 (by decide))) $$ Hk; iintro Hk
  iapply own_ret
  isplitl [Hk]; · iexact Hk
  iexact Hv

include hck hcv hpl hxk hxv in
theorem k1_part8_run :
    iprop(sending d i arg11 arg13 arg5 fullShare.left fk fo pl xk arg14.sem 7 ∗ sending d i arg12 arg13 arg6 fullShare.right fv fo pl xv arg15.sem 6)
      ⊢ wpc (F := F) (th1 d i) (k1_part8 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3)
        fun _ => iprop(sending d i arg11 arg13 arg5 fullShare.left fk fo pl xk arg14.sem 9 ∗ sending d i arg12 arg13 arg6 fullShare.right fv fo pl xv arg15.sem 9) := by
  rw [k1_part8_eq_skeleton]
  unfold k1_part8_skel
  iintro ⟨Hk, Hv⟩
  dsimp only
  iapply (own_send d i 6 (by decide) hcv (hpl 6 (by decide)) (hxv 6 (by decide))) $$ Hv; iintro Hv
  iapply (own_send d i 7 (by decide) hck (hpl 7 (by decide)) (hxk 7 (by decide))) $$ Hk; iintro Hk
  iapply (own_send d i 7 (by decide) hcv (hpl 7 (by decide)) (hxv 7 (by decide))) $$ Hv; iintro Hv
  iapply (own_send d i 8 (by decide) hck (hpl 8 (by decide)) (hxk 8 (by decide))) $$ Hk; iintro Hk
  iapply (own_send d i 8 (by decide) hcv (hpl 8 (by decide)) (hxv 8 (by decide))) $$ Hv; iintro Hv
  iapply own_ret
  isplitl [Hk]; · iexact Hk
  iexact Hv

include hck hcv hpl hxk hxv in
theorem k1_part9_run :
    iprop(sending d i arg11 arg13 arg5 fullShare.left fk fo pl xk arg14.sem 9 ∗ sending d i arg12 arg13 arg6 fullShare.right fv fo pl xv arg15.sem 9)
      ⊢ wpc (F := F) (th1 d i) (k1_part9 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3)
        fun _ => iprop(sending d i arg11 arg13 arg5 fullShare.left fk fo pl xk arg14.sem 12 ∗ sending d i arg12 arg13 arg6 fullShare.right fv fo pl xv arg15.sem 12) := by
  rw [k1_part9_eq_skeleton]
  unfold k1_part9_skel
  iintro ⟨Hk, Hv⟩
  dsimp only
  iapply (own_send d i 9 (by decide) hck (hpl 9 (by decide)) (hxk 9 (by decide))) $$ Hk; iintro Hk
  iapply (own_send d i 9 (by decide) hcv (hpl 9 (by decide)) (hxv 9 (by decide))) $$ Hv; iintro Hv
  iapply (own_send d i 10 (by decide) hck (hpl 10 (by decide)) (hxk 10 (by decide))) $$ Hk; iintro Hk
  iapply (own_send d i 10 (by decide) hcv (hpl 10 (by decide)) (hxv 10 (by decide))) $$ Hv; iintro Hv
  iapply (own_send d i 11 (by decide) hck (hpl 11 (by decide)) (hxk 11 (by decide))) $$ Hk; iintro Hk
  iapply (own_send d i 11 (by decide) hcv (hpl 11 (by decide)) (hxv 11 (by decide))) $$ Hv; iintro Hv
  iapply own_ret
  isplitl [Hk]; · iexact Hk
  iexact Hv

include hck hcv hpl hxk hxv in
theorem k1_part10_run :
    iprop(sending d i arg11 arg13 arg5 fullShare.left fk fo pl xk arg14.sem 12 ∗ sending d i arg12 arg13 arg6 fullShare.right fv fo pl xv arg15.sem 12)
      ⊢ wpc (F := F) (th1 d i) (k1_part10 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3)
        fun _ => iprop(sending d i arg11 arg13 arg5 fullShare.left fk fo pl xk arg14.sem 15 ∗ sending d i arg12 arg13 arg6 fullShare.right fv fo pl xv arg15.sem 14) := by
  rw [k1_part10_eq_skeleton]
  unfold k1_part10_skel
  iintro ⟨Hk, Hv⟩
  dsimp only
  iapply (own_send d i 12 (by decide) hck (hpl 12 (by decide)) (hxk 12 (by decide))) $$ Hk; iintro Hk
  iapply (own_send d i 12 (by decide) hcv (hpl 12 (by decide)) (hxv 12 (by decide))) $$ Hv; iintro Hv
  iapply (own_send d i 13 (by decide) hck (hpl 13 (by decide)) (hxk 13 (by decide))) $$ Hk; iintro Hk
  iapply (own_send d i 13 (by decide) hcv (hpl 13 (by decide)) (hxv 13 (by decide))) $$ Hv; iintro Hv
  iapply (own_send d i 14 (by decide) hck (hpl 14 (by decide)) (hxk 14 (by decide))) $$ Hk; iintro Hk
  iapply own_ret
  isplitl [Hk]; · iexact Hk
  iexact Hv

include hck hcv hpl hxk hxv hrk hrv in
theorem k1_part11_run (O : CellTallies nD τ sig (HIx 3)) (W : Waits sig (HIx 3)) :
    iprop(Transfers.MayWaits (th1 d i) (default : HIx 3) O ∗ sending d i arg11 arg13 arg5 fullShare.left fk fo pl xk arg14.sem 15 ∗ sending d i arg12 arg13 arg6 fullShare.right fv fo pl xv arg15.sem 14 ∗ oweK (th1 d i) O W)
      ⊢ wpc (F := F) (th1 d i) (k1_part11 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3)
        fun _ => iprop(draining d i arg11 arg13 arg5 fullShare.left fk fo pl xk arg14.sem 2 ∗ draining d i arg12 arg13 arg6 fullShare.right fv fo pl xv arg15.sem 1 ∗ oweK (th1 d i) O W) := by
  rw [k1_part11_eq_skeleton]
  unfold k1_part11_skel
  iintro ⟨#HM, Hk, Hv, HO⟩
  dsimp only
  iapply (own_send d i 14 (by decide) hcv (hpl 14 (by decide)) (hxv 14 (by decide))) $$ Hv; iintro Hv
  iapply (own_send d i 15 (by decide) hck (hpl 15 (by decide)) (hxk 15 (by decide))) $$ Hk; iintro Hk
  iapply (own_send d i 15 (by decide) hcv (hpl 15 (by decide)) (hxv 15 (by decide))) $$ Hv; iintro Hv
  ihave Hk := (sending_all d i) $$ Hk
  iapply (own_drain d i 0 (by decide) (hrk 0 (by decide))) $$ [Hk HO]
  · isplitl [Hk]; · iexact Hk
    isplitl [HO]; · iexact HO
    iexact HM
  iintro ⟨Hk, HO⟩
  ihave Hv := (sending_all d i) $$ Hv
  iapply (own_drain d i 0 (by decide) (hrv 0 (by decide))) $$ [Hv HO]
  · isplitl [Hv]; · iexact Hv
    isplitl [HO]; · iexact HO
    iexact HM
  iintro ⟨Hv, HO⟩
  iapply (own_drain d i 1 (by decide) (hrk 1 (by decide))) $$ [Hk HO]
  · isplitl [Hk]; · iexact Hk
    isplitl [HO]; · iexact HO
    iexact HM
  iintro ⟨Hk, HO⟩
  iapply own_ret
  isplitl [Hk]; · iexact Hk
  isplitl [Hv]; · iexact Hv
  iexact HO

include hrk hrv in
theorem k1_part12_run (O : CellTallies nD τ sig (HIx 3)) (W : Waits sig (HIx 3)) :
    iprop(Transfers.MayWaits (th1 d i) (default : HIx 3) O ∗ draining d i arg11 arg13 arg5 fullShare.left fk fo pl xk arg14.sem 2 ∗ draining d i arg12 arg13 arg6 fullShare.right fv fo pl xv arg15.sem 1 ∗ oweK (th1 d i) O W)
      ⊢ wpc (F := F) (th1 d i) (k1_part12 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3)
        fun _ => iprop(draining d i arg11 arg13 arg5 fullShare.left fk fo pl xk arg14.sem 4 ∗ draining d i arg12 arg13 arg6 fullShare.right fv fo pl xv arg15.sem 4 ∗ oweK (th1 d i) O W) := by
  rw [k1_part12_eq_skeleton]
  unfold k1_part12_skel
  iintro ⟨#HM, Hk, Hv, HO⟩
  dsimp only
  iapply (own_drain d i 1 (by decide) (hrv 1 (by decide))) $$ [Hv HO]
  · isplitl [Hv]; · iexact Hv
    isplitl [HO]; · iexact HO
    iexact HM
  iintro ⟨Hv, HO⟩
  iapply (own_drain d i 2 (by decide) (hrk 2 (by decide))) $$ [Hk HO]
  · isplitl [Hk]; · iexact Hk
    isplitl [HO]; · iexact HO
    iexact HM
  iintro ⟨Hk, HO⟩
  iapply (own_drain d i 2 (by decide) (hrv 2 (by decide))) $$ [Hv HO]
  · isplitl [Hv]; · iexact Hv
    isplitl [HO]; · iexact HO
    iexact HM
  iintro ⟨Hv, HO⟩
  iapply (own_drain d i 3 (by decide) (hrk 3 (by decide))) $$ [Hk HO]
  · isplitl [Hk]; · iexact Hk
    isplitl [HO]; · iexact HO
    iexact HM
  iintro ⟨Hk, HO⟩
  iapply (own_drain d i 3 (by decide) (hrv 3 (by decide))) $$ [Hv HO]
  · isplitl [Hv]; · iexact Hv
    isplitl [HO]; · iexact HO
    iexact HM
  iintro ⟨Hv, HO⟩
  iapply own_ret
  isplitl [Hk]; · iexact Hk
  isplitl [Hv]; · iexact Hv
  iexact HO

include hrk hrv in
theorem k1_part13_run (O : CellTallies nD τ sig (HIx 3)) (W : Waits sig (HIx 3)) :
    iprop(Transfers.MayWaits (th1 d i) (default : HIx 3) O ∗ draining d i arg11 arg13 arg5 fullShare.left fk fo pl xk arg14.sem 4 ∗ draining d i arg12 arg13 arg6 fullShare.right fv fo pl xv arg15.sem 4 ∗ oweK (th1 d i) O W)
      ⊢ wpc (F := F) (th1 d i) (k1_part13 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3)
        fun _ => iprop(draining d i arg11 arg13 arg5 fullShare.left fk fo pl xk arg14.sem 7 ∗ draining d i arg12 arg13 arg6 fullShare.right fv fo pl xv arg15.sem 7 ∗ oweK (th1 d i) O W) := by
  rw [k1_part13_eq_skeleton]
  unfold k1_part13_skel
  iintro ⟨#HM, Hk, Hv, HO⟩
  dsimp only
  iapply (own_drain d i 4 (by decide) (hrk 4 (by decide))) $$ [Hk HO]
  · isplitl [Hk]; · iexact Hk
    isplitl [HO]; · iexact HO
    iexact HM
  iintro ⟨Hk, HO⟩
  iapply (own_drain d i 4 (by decide) (hrv 4 (by decide))) $$ [Hv HO]
  · isplitl [Hv]; · iexact Hv
    isplitl [HO]; · iexact HO
    iexact HM
  iintro ⟨Hv, HO⟩
  iapply (own_drain d i 5 (by decide) (hrk 5 (by decide))) $$ [Hk HO]
  · isplitl [Hk]; · iexact Hk
    isplitl [HO]; · iexact HO
    iexact HM
  iintro ⟨Hk, HO⟩
  iapply (own_drain d i 5 (by decide) (hrv 5 (by decide))) $$ [Hv HO]
  · isplitl [Hv]; · iexact Hv
    isplitl [HO]; · iexact HO
    iexact HM
  iintro ⟨Hv, HO⟩
  iapply (own_drain d i 6 (by decide) (hrk 6 (by decide))) $$ [Hk HO]
  · isplitl [Hk]; · iexact Hk
    isplitl [HO]; · iexact HO
    iexact HM
  iintro ⟨Hk, HO⟩
  iapply (own_drain d i 6 (by decide) (hrv 6 (by decide))) $$ [Hv HO]
  · isplitl [Hv]; · iexact Hv
    isplitl [HO]; · iexact HO
    iexact HM
  iintro ⟨Hv, HO⟩
  iapply own_ret
  isplitl [Hk]; · iexact Hk
  isplitl [Hv]; · iexact Hv
  iexact HO

include hrk hrv in
theorem k1_part14_run (O : CellTallies nD τ sig (HIx 3)) (W : Waits sig (HIx 3)) :
    iprop(Transfers.MayWaits (th1 d i) (default : HIx 3) O ∗ draining d i arg11 arg13 arg5 fullShare.left fk fo pl xk arg14.sem 7 ∗ draining d i arg12 arg13 arg6 fullShare.right fv fo pl xv arg15.sem 7 ∗ oweK (th1 d i) O W)
      ⊢ wpc (F := F) (th1 d i) (k1_part14 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3)
        fun _ => iprop(draining d i arg11 arg13 arg5 fullShare.left fk fo pl xk arg14.sem 10 ∗ draining d i arg12 arg13 arg6 fullShare.right fv fo pl xv arg15.sem 9 ∗ oweK (th1 d i) O W) := by
  rw [k1_part14_eq_skeleton]
  unfold k1_part14_skel
  iintro ⟨#HM, Hk, Hv, HO⟩
  dsimp only
  iapply (own_drain d i 7 (by decide) (hrk 7 (by decide))) $$ [Hk HO]
  · isplitl [Hk]; · iexact Hk
    isplitl [HO]; · iexact HO
    iexact HM
  iintro ⟨Hk, HO⟩
  iapply (own_drain d i 7 (by decide) (hrv 7 (by decide))) $$ [Hv HO]
  · isplitl [Hv]; · iexact Hv
    isplitl [HO]; · iexact HO
    iexact HM
  iintro ⟨Hv, HO⟩
  iapply (own_drain d i 8 (by decide) (hrk 8 (by decide))) $$ [Hk HO]
  · isplitl [Hk]; · iexact Hk
    isplitl [HO]; · iexact HO
    iexact HM
  iintro ⟨Hk, HO⟩
  iapply (own_drain d i 8 (by decide) (hrv 8 (by decide))) $$ [Hv HO]
  · isplitl [Hv]; · iexact Hv
    isplitl [HO]; · iexact HO
    iexact HM
  iintro ⟨Hv, HO⟩
  iapply (own_drain d i 9 (by decide) (hrk 9 (by decide))) $$ [Hk HO]
  · isplitl [Hk]; · iexact Hk
    isplitl [HO]; · iexact HO
    iexact HM
  iintro ⟨Hk, HO⟩
  iapply own_ret
  isplitl [Hk]; · iexact Hk
  isplitl [Hv]; · iexact Hv
  iexact HO

include hrk hrv in
theorem k1_part15_run (O : CellTallies nD τ sig (HIx 3)) (W : Waits sig (HIx 3)) :
    iprop(Transfers.MayWaits (th1 d i) (default : HIx 3) O ∗ draining d i arg11 arg13 arg5 fullShare.left fk fo pl xk arg14.sem 10 ∗ draining d i arg12 arg13 arg6 fullShare.right fv fo pl xv arg15.sem 9 ∗ oweK (th1 d i) O W)
      ⊢ wpc (F := F) (th1 d i) (k1_part15 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3)
        fun _ => iprop(draining d i arg11 arg13 arg5 fullShare.left fk fo pl xk arg14.sem 13 ∗ draining d i arg12 arg13 arg6 fullShare.right fv fo pl xv arg15.sem 12 ∗ oweK (th1 d i) O W) := by
  rw [k1_part15_eq_skeleton]
  unfold k1_part15_skel
  iintro ⟨#HM, Hk, Hv, HO⟩
  dsimp only
  iapply (own_drain d i 9 (by decide) (hrv 9 (by decide))) $$ [Hv HO]
  · isplitl [Hv]; · iexact Hv
    isplitl [HO]; · iexact HO
    iexact HM
  iintro ⟨Hv, HO⟩
  iapply (own_drain d i 10 (by decide) (hrk 10 (by decide))) $$ [Hk HO]
  · isplitl [Hk]; · iexact Hk
    isplitl [HO]; · iexact HO
    iexact HM
  iintro ⟨Hk, HO⟩
  iapply (own_drain d i 10 (by decide) (hrv 10 (by decide))) $$ [Hv HO]
  · isplitl [Hv]; · iexact Hv
    isplitl [HO]; · iexact HO
    iexact HM
  iintro ⟨Hv, HO⟩
  iapply (own_drain d i 11 (by decide) (hrk 11 (by decide))) $$ [Hk HO]
  · isplitl [Hk]; · iexact Hk
    isplitl [HO]; · iexact HO
    iexact HM
  iintro ⟨Hk, HO⟩
  iapply (own_drain d i 11 (by decide) (hrv 11 (by decide))) $$ [Hv HO]
  · isplitl [Hv]; · iexact Hv
    isplitl [HO]; · iexact HO
    iexact HM
  iintro ⟨Hv, HO⟩
  iapply (own_drain d i 12 (by decide) (hrk 12 (by decide))) $$ [Hk HO]
  · isplitl [Hk]; · iexact Hk
    isplitl [HO]; · iexact HO
    iexact HM
  iintro ⟨Hk, HO⟩
  iapply own_ret
  isplitl [Hk]; · iexact Hk
  isplitl [Hv]; · iexact Hv
  iexact HO

include hrk hrv in
theorem k1_part16_run (O : CellTallies nD τ sig (HIx 3)) (W : Waits sig (HIx 3)) :
    iprop(Transfers.MayWaits (th1 d i) (default : HIx 3) O ∗ draining d i arg11 arg13 arg5 fullShare.left fk fo pl xk arg14.sem 13 ∗ draining d i arg12 arg13 arg6 fullShare.right fv fo pl xv arg15.sem 12 ∗ oweK (th1 d i) O W)
      ⊢ wpc (F := F) (th1 d i) (k1_part16 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3)
        fun _ => iprop(draining d i arg11 arg13 arg5 fullShare.left fk fo pl xk arg14.sem 15 ∗ draining d i arg12 arg13 arg6 fullShare.right fv fo pl xv arg15.sem 15 ∗ oweK (th1 d i) O W) := by
  rw [k1_part16_eq_skeleton]
  unfold k1_part16_skel
  iintro ⟨#HM, Hk, Hv, HO⟩
  dsimp only
  iapply (own_drain d i 12 (by decide) (hrv 12 (by decide))) $$ [Hv HO]
  · isplitl [Hv]; · iexact Hv
    isplitl [HO]; · iexact HO
    iexact HM
  iintro ⟨Hv, HO⟩
  iapply (own_drain d i 13 (by decide) (hrk 13 (by decide))) $$ [Hk HO]
  · isplitl [Hk]; · iexact Hk
    isplitl [HO]; · iexact HO
    iexact HM
  iintro ⟨Hk, HO⟩
  iapply (own_drain d i 13 (by decide) (hrv 13 (by decide))) $$ [Hv HO]
  · isplitl [Hv]; · iexact Hv
    isplitl [HO]; · iexact HO
    iexact HM
  iintro ⟨Hv, HO⟩
  iapply (own_drain d i 14 (by decide) (hrk 14 (by decide))) $$ [Hk HO]
  · isplitl [Hk]; · iexact Hk
    isplitl [HO]; · iexact HO
    iexact HM
  iintro ⟨Hk, HO⟩
  iapply (own_drain d i 14 (by decide) (hrv 14 (by decide))) $$ [Hv HO]
  · isplitl [Hv]; · iexact Hv
    isplitl [HO]; · iexact HO
    iexact HM
  iintro ⟨Hv, HO⟩
  iapply own_ret
  isplitl [Hk]; · iexact Hk
  isplitl [Hv]; · iexact Hv
  iexact HO

end Send

end Body

end Cert.Proof.Occ

end
-- ==== Proof.Slab.lean ====
/-
  The arithmetic and the vector facts of the slab update: the chunks a bin's stretch of the list is read in, the largest
  of sixteen lanes as a running maximum gives it, the running count of equal lanes, and the value of a slab as a fold
  over the positions of the list.
-/
module

public import proofs.«01_k».proof.Proof.Spec
public import Mathlib.Data.List.FinRange

@[expose] public section

noncomputable section

namespace Cert.Proof.Occ

open Idealize.ShloMosaic Cert.KernelIdeal Cert.KernelIdeal.Gen

/-! ## Folds over positions -/

/-- The positions below `P` in order, each that hits updating the value. -/
def foldHit {α : Type} (hit : ℕ → Prop) [DecidablePred hit] (upd : ℕ → α → α) (a : α) : ℕ → α
  | 0 => a
  | P + 1 => if hit P then upd P (foldHit hit upd a P) else foldHit hit upd a P

theorem foldHit_congr {α : Type} {hit hit' : ℕ → Prop} [DecidablePred hit] [DecidablePred hit'] {upd upd' : ℕ → α → α} {a : α} {P : ℕ}
    (h : ∀ p < P, hit p ↔ hit' p) (hu : ∀ p < P, hit p → ∀ x, upd p x = upd' p x) : foldHit hit upd a P = foldHit hit' upd' a P := by
  induction P with
  | zero => rfl
  | succ P ih =>
    have e := ih (fun p hp => h p (by omega)) (fun p hp => hu p (by omega))
    unfold foldHit
    by_cases hp : hit P
    · rw [if_pos hp, if_pos ((h P (by omega)).mp hp), e, hu P (by omega) hp]
    · rw [if_neg hp, if_neg (fun h' => hp ((h P (by omega)).mpr h')), e]

theorem foldHit_none {α : Type} {hit : ℕ → Prop} [DecidablePred hit] {upd : ℕ → α → α} {a : α} (P : ℕ) (n : ℕ) (h : ∀ p, P ≤ p → p < P + n → ¬ hit p) :
    foldHit hit upd a (P + n) = foldHit hit upd a P := by
  induction n with
  | zero => rfl
  | succ n ih =>
    show foldHit hit upd a (P + n + 1) = _
    rw [← ih fun p h1 h2 => h p h1 (by omega)]
    exact if_neg (h _ (by omega) (by omega))

theorem foldHit_add {α : Type} (hit : ℕ → Prop) [DecidablePred hit] (upd : ℕ → α → α) (a : α) (P n : ℕ) :
    foldHit hit upd a (P + n)
      = (List.finRange n).foldl (fun acc l => if hit (P + l.val) then upd (P + l.val) acc else acc) (foldHit hit upd a P) := by
  induction n with
  | zero => rfl
  | succ n ih =>
    rw [List.finRange_succ_last, List.foldl_append, List.foldl_map]
    show (if hit (P + n) then upd (P + n) (foldHit hit upd a (P + n)) else foldHit hit upd a (P + n)) = _
    rw [ih]
    rfl

/-- One more element among those a fold takes, standing after all of them. -/
theorem foldl_last {n : ℕ} {α : Type} (p p' : Fin n → Prop) [DecidablePred p] [DecidablePred p'] (g : α → Fin n → α) (a : α) (k : Fin n)
    (hk : ¬ p k) (hl : ∀ l, p l → l < k) (h' : ∀ l, p' l ↔ (p l ∨ l = k)) :
    (List.finRange n).foldl (fun acc l => if p' l then g acc l else acc) a
      = g ((List.finRange n).foldl (fun acc l => if p l then g acc l else acc) a) k := by
  obtain ⟨L₁, L₂, e⟩ := List.append_of_mem (List.mem_finRange k)
  have hs := List.pairwise_lt_finRange n
  rw [e] at hs
  have h12 := List.pairwise_append.mp hs
  have h1 : ∀ l ∈ L₁, l < k := fun l hm => h12.2.2 l hm k List.mem_cons_self
  have h2 : ∀ l ∈ L₂, k < l := fun l hm => (List.pairwise_cons.mp h12.2.1).1 l hm
  rw [e, List.foldl_append, List.foldl_append, List.foldl_cons, List.foldl_cons, if_pos ((h' k).mpr (.inr rfl)), if_neg hk,
    foldl_no_hit L₂ p' _ _ fun l hm hp => by
      rcases (h' l).mp hp with h | h
      · exact absurd (hl l h) (by have := h2 l hm; omega)
      · have := h2 l hm; omega,
    foldl_no_hit L₂ p _ _ fun l hm hp => absurd (hl l hp) (by have := h2 l hm; omega)]
  refine congrArg (fun x => g x k) ?_
  have : ∀ (L : List (Fin n)) (a : α), (∀ l ∈ L, l < k) → L.foldl (fun acc l => if p' l then g acc l else acc) a
      = L.foldl (fun acc l => if p l then g acc l else acc) a := by
    intro L
    induction L with
    | nil => intro a _; rfl
    | cons l L ih =>
      intro a h
      rw [List.foldl_cons, List.foldl_cons, ih _ fun l' hl' => h l' (List.mem_cons_of_mem _ hl')]
      refine congrArg (fun x => List.foldl _ x L) (if_congr ⟨fun hp => ?_, fun hp => (h' l).mpr (.inl hp)⟩ rfl rfl)
      rcases (h' l).mp hp with h0 | h0
      · exact h0
      · exact absurd (h l List.mem_cons_self) (by omega)
  exact this L₁ a h1

/-! ## The largest lane -/

theorem xor_top (x : BitVec 32) (h : x.toNat < 2147483648) : (IntOp.xori x 2147483648#32).toNat = x.toNat + 2147483648 := by
  have e := Nat.two_pow_add_eq_or_of_lt (i := 31) h 1
  show (x ^^^ 2147483648#32).toNat = _
  rw [BitVec.toNat_xor, show x.toNat + 2147483648 = 2 ^ 31 * 1 + x.toNat by omega, e]
  apply Nat.eq_of_testBit_eq
  intro j
  rw [Nat.testBit_xor, Nat.testBit_or, show ((2147483648#32).toNat = 2 ^ 31) by rfl, Nat.mul_one, Nat.testBit_two_pow]
  by_cases hj : 31 = j
  · subst hj; rw [Nat.testBit_lt_two_pow h]; simp
  · simp [hj]

theorem xor_top_twice (x : BitVec 32) : IntOp.xori (IntOp.xori x 2147483648#32) 2147483648#32 = x := by
  show (x ^^^ 2147483648#32) ^^^ _ = x
  rw [BitVec.xor_assoc, BitVec.xor_self, BitVec.xor_zero]

theorem maxui_cases (x y : BitVec 32) : (IntOp.maxui x y = x ∨ IntOp.maxui x y = y) ∧ x.toNat ≤ (IntOp.maxui x y).toNat ∧ y.toNat ≤ (IntOp.maxui x y).toNat := by
  unfold IntOp.maxui
  by_cases h : y.ult x = true
  · rw [if_pos h]; exact ⟨.inl rfl, le_refl _, by have := BitVec.ult_iff_lt.mp h; exact le_of_lt this⟩
  · rw [if_neg h]
    refine ⟨.inr rfl, ?_, le_refl _⟩
    have h' : ¬ y.toNat < x.toNat := fun hh => h (BitVec.ult_iff_lt.mpr hh)
    omega

theorem foldl_maxui {ι : Type} (L : List ι) (f : ι → BitVec 32) (a : BitVec 32) :
    (L.foldl (fun r k => IntOp.maxui r (f k)) a = a ∨ ∃ k ∈ L, L.foldl (fun r k => IntOp.maxui r (f k)) a = f k)
      ∧ a.toNat ≤ (L.foldl (fun r k => IntOp.maxui r (f k)) a).toNat
      ∧ ∀ k ∈ L, (f k).toNat ≤ (L.foldl (fun r k => IntOp.maxui r (f k)) a).toNat := by
  induction L generalizing a with
  | nil => exact ⟨.inl rfl, le_refl _, fun k hk => absurd hk List.not_mem_nil⟩
  | cons k L ih =>
    rw [List.foldl_cons]
    obtain ⟨h1, h2, h3⟩ := ih (IntOp.maxui a (f k))
    obtain ⟨c1, c2, c3⟩ := maxui_cases a (f k)
    refine ⟨?_, c2.trans h2, fun k' hk' => ?_⟩
    · rcases h1 with h1 | ⟨k', hk', h1⟩
      · rcases c1 with c | c
        · exact .inl (h1.trans c)
        · exact .inr ⟨k, List.mem_cons_self, h1.trans c⟩
      · exact .inr ⟨k', List.mem_cons_of_mem _ hk', h1⟩
    · rcases List.mem_cons.mp hk' with rfl | hm
      · exact c3.trans h2
      · exact h3 k' hm

theorem scan_max (v : IVec S16 32) :
    (∃ l, scan .max v (lane 15) = v (lane l)) ∧ ∀ l, (v (lane l)).toNat ≤ (scan .max v (lane 15)).toNat := by
  obtain ⟨h1, h2, h3⟩ := foldl_maxui ((List.finRange 16).filter fun k : Fin 16 => decide (0 < k.val ∧ k.val ≤ 15)) (fun k => v (lane k)) (v (lane 0))
  have e : scan .max v (lane 15) = ((List.finRange 16).filter fun k : Fin 16 => decide (0 < k.val ∧ k.val ≤ 15)).foldl (fun r k => IntOp.maxui r (v (lane k))) (v (lane 0)) := rfl
  rw [e]
  refine ⟨?_, fun l => ?_⟩
  · rcases h1 with h | ⟨k, _, h⟩
    · exact ⟨0, h⟩
    · exact ⟨k, h⟩
  · by_cases hl : l = 0
    · subst hl; exact h2
    · refine h3 l (List.mem_filter.mpr ⟨List.mem_finRange l, decide_eq_true ⟨Nat.pos_of_ne_zero fun h => hl (Fin.ext h), ?_⟩⟩)
      have := l.isLt; omega

/-- The running signed maximum, read at the last lane: the largest of the lanes, none of them negative. -/
theorem max_last (u : IVec S16 32) (hu : ∀ l, (u (lane l)).toNat < 2147483648) :
    (∃ l, extractAt ![15] (xori (scan .max (xori u (broadcast S16 2147483648#32))) (broadcast S16 2147483648#32)) inpos_S16_p15 = u (lane l))
      ∧ ∀ l, (u (lane l)).toNat ≤ (extractAt ![15] (xori (scan .max (xori u (broadcast S16 2147483648#32))) (broadcast S16 2147483648#32)) inpos_S16_p15).toNat := by
  obtain ⟨⟨l₀, h1⟩, h2⟩ := scan_max (xori u (broadcast S16 2147483648#32))
  have e0 : extractAt ![15] (xori (scan .max (xori u (broadcast S16 2147483648#32))) (broadcast S16 2147483648#32)) inpos_S16_p15
      = IntOp.xori (scan .max (xori u (broadcast S16 2147483648#32)) (lane 15)) 2147483648#32 := by
    have : (fun a => ⟨(![15] : Fin 1 → ℕ) a, inpos_S16_p15 a⟩ : S16.Idx) = lane 15 := ext1 rfl
    unfold extractAt
    rw [this]
    rfl
  have e : extractAt ![15] (xori (scan .max (xori u (broadcast S16 2147483648#32))) (broadcast S16 2147483648#32)) inpos_S16_p15 = u (lane l₀) := by
    rw [e0, h1]
    exact xor_top_twice _
  refine ⟨⟨l₀, e⟩, fun l => ?_⟩
  rw [e]
  have h := h2 l
  rw [h1] at h
  have a1 : ((xori u (broadcast S16 2147483648#32)) (lane l)).toNat = (u (lane l)).toNat + 2147483648 := xor_top _ (hu l)
  have a2 : ((xori u (broadcast S16 2147483648#32)) (lane l₀)).toNat = (u (lane l₀)).toNat + 2147483648 := xor_top _ (hu l₀)
  omega

/-! ## The running count of equal lanes -/

/-- How many lanes up to `l` hold what lane `l` holds. -/
def laneCnt (v : IVec S16 32) (l : Fin 16) : ℕ := (Finset.univ.filter fun k : Fin 16 => k.val ≤ l.val ∧ v (lane k) = v (lane l)).card

theorem laneCnt_le (v : IVec S16 32) (l : Fin 16) : laneCnt v l ≤ 16 :=
  (Finset.card_le_univ _).trans (le_of_eq (Fintype.card_fin 16))

theorem laneCnt_lt (v : IVec S16 32) {l l' : Fin 16} (h : l < l') (e : v (lane l) = v (lane l')) : laneCnt v l < laneCnt v l' := by
  refine Finset.card_lt_card (Finset.ssubset_iff_of_subset (fun k hk => ?_) |>.mpr ⟨l', ?_, ?_⟩)
  · have := (Finset.mem_filter.mp hk).2
    exact Finset.mem_filter.mpr ⟨Finset.mem_univ _, by have := this.1; omega, this.2.trans e⟩
  · exact Finset.mem_filter.mpr ⟨Finset.mem_univ _, le_refl _, rfl⟩
  · intro hm
    have := (Finset.mem_filter.mp hm).2.1
    omega

theorem pos_lane (x : S16.Idx) : (S16.rowMajor x).val = (x 0).val := by
  rw [Shape.rowMajor_val_one x]

theorem scanCount_lane (v : IVec S16 32) (l : Fin 16) : ((scanCount (broadcast S16 1#1) v).2 (lane l)).toNat = laneCnt v l := by
  have e : (scanCount (broadcast S16 1#1) v).2 (lane l)
      = BitVec.ofNat 32 (Finset.univ.filter fun j : S16.Idx => (S16.rowMajor j).val ≤ (S16.rowMajor (lane l)).val ∧ (broadcast S16 1#1) j = 1 ∧ v j = v (lane l)).card := by
    unfold scanCount
    dsimp only
    exact if_pos rfl
  have c : (Finset.univ.filter fun j : S16.Idx => (S16.rowMajor j).val ≤ (S16.rowMajor (lane l)).val ∧ (broadcast S16 1#1) j = 1 ∧ v j = v (lane l)).card = laneCnt v l := by
    refine Finset.card_bij' (fun j _ => j 0) (fun k _ => lane k) ?_ ?_ (fun j _ => lane_eq j) (fun k _ => rfl)
    · intro j hj
      have := (Finset.mem_filter.mp hj).2
      rw [pos_lane, pos_lane] at this
      exact Finset.mem_filter.mpr ⟨Finset.mem_univ _, this.1, (congrArg v (lane_eq j)).trans this.2.2⟩
    · intro k hk
      have := (Finset.mem_filter.mp hk).2
      refine Finset.mem_filter.mpr ⟨Finset.mem_univ _, ?_, rfl, this.2⟩
      rw [pos_lane, pos_lane]
      exact this.1
  rw [e, c, BitVec.toNat_ofNat, Nat.mod_eq_of_lt (by have := laneCnt_le v l; omega)]

/-! ## A stretch's chunks -/

theorem divsi_toNat (x y : BitVec 32) (hx : x.toNat < 2147483648) (hy : y.toNat < 2147483648) (h0 : 0 < y.toNat) (u : ArithUnit) :
    (IntOp.divsi u x y).toNat = x.toNat / y.toNat := by
  have hc : ¬ IntOp.SDivCorner x y := by
    rintro (h | ⟨-, h⟩)
    · subst h; simp at h0
    · subst h; simp at hy
  rw [IntOp.divsi, if_neg hc, BitVec.sdiv_eq, BitVec.msb_eq_false_iff_two_mul_lt.mpr (by omega), BitVec.msb_eq_false_iff_two_mul_lt.mpr (by omega)]
  exact BitVec.toNat_udiv

theorem remsi_zero (y : BitVec 32) (hy : y.toNat < 2147483648) (h0 : 0 < y.toNat) (u : ArithUnit) : IntOp.remsi u 0#32 y = 0#32 := by
  have hc : ¬ IntOp.SDivCorner 0#32 y := by
    rintro (h | ⟨-, h⟩)
    · subst h; simp at h0
    · subst h; simp at hy
  rw [IntOp.remsi, if_neg hc]; simp

/-- The sign of a word, as the kernel computes it. -/
def sgn (x : BitVec 32) : BitVec 32 := Scalar.subi (Scalar.extui (Scalar.cmpi .sgt x 0#32)) (Scalar.extui (Scalar.cmpi .slt x 0#32))

/-- The quotient rounded down, as the kernel computes it. -/
def fdiv (x y : BitVec 32) : BitVec 32 :=
  Scalar.select (Scalar.andi (Scalar.cmpi .ne (sgn x) (sgn y)) (Scalar.cmpi .ne (Scalar.remsi x y) 0#32)) (Scalar.subi (Scalar.divsi x y) 1#32) (Scalar.divsi x y)

theorem sgn_pos (x : BitVec 32) (hx : x.toNat < 2147483648) (h0 : 0 < x.toNat) : sgn x = 1#32 := by
  have e : x.toInt = x.toNat := BitVec.toInt_eq_toNat_of_lt (by omega)
  have h1 : BitVec.slt 0#32 x = true := by rw [BitVec.slt_iff_toInt_lt, e]; simpa using h0
  have h2 : BitVec.slt x 0#32 = false := by
    rw [Bool.eq_false_iff]; intro h; rw [BitVec.slt_iff_toInt_lt, e] at h; simp at h; omega
  show IntOp.subi ((BitVec.ofBool (BitVec.slt 0#32 x)).setWidth 32) ((BitVec.ofBool (BitVec.slt x 0#32)).setWidth 32) = _
  rw [h1, h2]; rfl

theorem fdiv_toNat (x y : BitVec 32) (hx : x.toNat < 2147483648) (hy : y.toNat < 2147483648) (h0 : 0 < y.toNat) :
    (fdiv x y).toNat = x.toNat / y.toNat := by
  have hd : Scalar.andi (Scalar.cmpi .ne (sgn x) (sgn y)) (Scalar.cmpi .ne (Scalar.remsi x y) 0#32) = 0#1 := by
    by_cases hx0 : x = 0#32
    · subst hx0
      have : Scalar.remsi 0#32 y = 0#32 := remsi_zero y hy h0 _
      rw [this]
      show (_ &&& 0#1) = 0#1
      exact BitVec.and_zero
    · have : 0 < x.toNat := Nat.pos_of_ne_zero fun h => hx0 (BitVec.eq_of_toNat_eq h)
      rw [sgn_pos x hx this, sgn_pos y hy h0]
      show (0#1 &&& _) = 0#1
      exact BitVec.zero_and
  show (Scalar.select _ _ _ : BitVec 32).toNat = _
  rw [hd]
  exact divsi_toNat x y hx hy h0 _

/-- The start of the first chunk of a stretch from `s`, -/
def base (s : BitVec 32) : BitVec 32 := Scalar.muli (fdiv s 8#32) 8#32

/-- and the number of chunks that reach `e`. -/
def chunks (s e : BitVec 32) : BitVec 32 :=
  Scalar.minsi 1028#32 (Scalar.maxsi 0#32 (fdiv (Scalar.addi (Scalar.subi e (base s)) 1023#32) 1024#32))

variable {s e : BitVec 32}

theorem base_toNat (hs : s.toNat ≤ 1048576) : (base s).toNat = 8 * (s.toNat / 8) := by
  show (IntOp.muli (fdiv s 8#32) 8#32).toNat = _
  rw [IntOp.muli, BitVec.toNat_mul, fdiv_toNat s 8#32 (by omega) (by decide) (by decide)]
  show (s.toNat / 8 * 8) % 4294967296 = _
  omega

theorem toInt_nonneg {x : BitVec 32} (h : x.toNat < 2147483648) : x.toInt = x.toNat := BitVec.toInt_eq_toNat_of_lt (by omega)

theorem slt_small {x y : BitVec 32} (hx : x.toNat < 2147483648) (hy : y.toNat < 2147483648) : x.slt y = decide (x.toNat < y.toNat) := by
  rw [Bool.eq_iff_iff, BitVec.slt_iff_toInt_lt, toInt_nonneg hx, toInt_nonneg hy, decide_eq_true_iff]
  omega

theorem chunks_toNat (hs : s.toNat ≤ e.toNat) (he : e.toNat ≤ 1048576) : (chunks s e).toNat = (e.toNat - 8 * (s.toNat / 8) + 1023) / 1024 := by
  have hb := base_toNat (s := s) (by omega)
  have h1 : (Scalar.addi (Scalar.subi e (base s)) 1023#32).toNat = e.toNat - 8 * (s.toNat / 8) + 1023 := by
    show ((e - base s) + 1023#32).toNat = _
    rw [BitVec.toNat_add, BitVec.toNat_sub, hb]
    show ((4294967296 - 8 * (s.toNat / 8) + e.toNat) % 4294967296 + 1023) % 4294967296 = _
    omega
  have h2 := fdiv_toNat (Scalar.addi (Scalar.subi e (base s)) 1023#32) 1024#32 (by omega) (by decide) (by decide)
  rw [h1] at h2
  generalize hq : fdiv (Scalar.addi (Scalar.subi e (base s)) 1023#32) 1024#32 = q at h2
  have h2' : q.toNat = (e.toNat - 8 * (s.toNat / 8) + 1023) / 1024 := h2
  show (IntOp.minsi 1028#32 (IntOp.maxsi 0#32 (fdiv (Scalar.addi (Scalar.subi e (base s)) 1023#32) 1024#32))).toNat = _
  rw [hq]
  have hm : IntOp.maxsi 0#32 q = q := by
    unfold IntOp.maxsi
    by_cases h : q.slt 0#32 = true
    · rw [slt_small (by omega) (by decide)] at h; exact absurd (of_decide_eq_true h) (Nat.not_lt_zero _)
    · rw [if_neg h]
  rw [hm]
  unfold IntOp.minsi
  rw [if_neg]
  · exact h2'
  · rw [slt_small (by decide) (by omega)]
    intro h; have := of_decide_eq_true h
    have : 1028 < q.toNat := this
    omega

/-! ## Loops from zero -/

theorem by_one (v : BitVec 32) (h : v.toNat < 2147483648) : Scalar.addi 0#32 (Scalar.muli (Scalar.divsi (Scalar.subi v 0#32) 1#32) 1#32) = v := by
  apply BitVec.eq_of_toNat_eq
  have e0 : Scalar.subi v 0#32 = v := BitVec.sub_zero v
  rw [e0]
  show (0#32 + IntOp.divsi _ v 1#32 * 1#32).toNat = _
  rw [BitVec.mul_one, BitVec.zero_add, divsi_toNat v 1#32 h (by decide) (by decide)]
  exact Nat.div_one _

theorem trips_zero (v : BitVec 32) (h : v.toNat < 2147483648) : Scf.trips 0#32 v 1#32 = v.toNat := by
  show ((v.toInt - (0#32).toInt + (1#32).toInt - 1) / (1#32).toInt).toNat = _
  rw [toInt_nonneg h]
  show (((v.toNat : ℤ) - 0 + 1 - 1) / 1).toNat = _
  omega

theorem ok_zero (v : BitVec 32) (h : v.toNat < 2147483648) : Scf.OK 0#32 v 1#32 := by
  refine ⟨by decide, ?_⟩
  rw [trips_zero v h]
  show (0 : ℤ) + (v.toNat : ℤ) * 1 < 2147483648
  omega

theorem trips_none (v : BitVec 32) : Scf.trips v v 1#32 = 0 := by
  show ((v.toInt - v.toInt + (1#32).toInt - 1) / (1#32).toInt).toNat = _
  show ((v.toInt - v.toInt + 1 - 1) / 1).toNat = _
  omega

theorem ok_none (v : BitVec 32) : Scf.OK v v 1#32 := by
  refine ⟨by decide, ?_⟩
  rw [trips_none]
  have := BitVec.toInt_lt (x := v)
  show v.toInt + ((0 : ℕ) : ℤ) * 1 < _
  simpa using this

theorem toNat_iv (t : ℕ) : Scf.iv 0#32 1#32 t = BitVec.ofNat 32 t := by
  show 0#32 + BitVec.ofNat 32 t * 1#32 = _
  rw [BitVec.mul_one, BitVec.zero_add]

theorem t2_loop_eq (hs : s.toNat ≤ e.toNat) (he : e.toNat ≤ 1048576) : k2_t2_loop s e = ⟨0#32, chunks s e, 1#32⟩ := by
  have hc := chunks_toNat hs he
  exact congrArg (fun v => (⟨0#32, v, 1#32⟩ : Scf.Loop 32)) (by_one (chunks s e) (by omega))

theorem t6_loop_eq (hs : s.toNat ≤ e.toNat) (he : e.toNat ≤ 1048576) : k2_t6_loop s e = ⟨0#32, chunks s e, 1#32⟩ := by
  have hc := chunks_toNat hs he
  exact congrArg (fun v => (⟨0#32, v, 1#32⟩ : Scf.Loop 32)) (by_one (chunks s e) (by omega))

theorem t4_loop_eq (hs : s.toNat ≤ e.toNat) (he : e.toNat ≤ 1048576) : k2_t4_loop s e = ⟨chunks s e, chunks s e, 1#32⟩ := by
  have hc := chunks_toNat hs he
  have e1 : Scalar.addi 0#32 (Scalar.subi (chunks s e) 0#32) = chunks s e := by
    show 0#32 + (chunks s e - 0#32) = _
    rw [BitVec.sub_zero, BitVec.zero_add]
  exact congrArg₂ (fun v w => (⟨v, w, 1#32⟩ : Scf.Loop 32)) (by_one (chunks s e) (by omega)) e1

theorem t10_loop_eq (hs : s.toNat ≤ e.toNat) (he : e.toNat ≤ 1048576) : k2_t10_loop s e = ⟨chunks s e, chunks s e, 1#32⟩ :=
  t4_loop_eq hs he

theorem t2_trips (hs : s.toNat ≤ e.toNat) (he : e.toNat ≤ 1048576) : (k2_t2_loop s e).trips = (chunks s e).toNat := by
  have hc := chunks_toNat hs he
  rw [t2_loop_eq hs he]; exact trips_zero (chunks s e) (by omega)

theorem t4_trips (hs : s.toNat ≤ e.toNat) (he : e.toNat ≤ 1048576) : (k2_t4_loop s e).trips = 0 := by
  rw [t4_loop_eq hs he]; exact trips_none _

theorem t6_trips (hs : s.toNat ≤ e.toNat) (he : e.toNat ≤ 1048576) : (k2_t6_loop s e).trips = (chunks s e).toNat := by
  have hc := chunks_toNat hs he
  rw [t6_loop_eq hs he]; exact trips_zero (chunks s e) (by omega)

theorem t10_trips (hs : s.toNat ≤ e.toNat) (he : e.toNat ≤ 1048576) : (k2_t10_loop s e).trips = 0 := by
  rw [t10_loop_eq hs he]; exact trips_none _

theorem chunk_start (hs : s.toNat ≤ 1048576) (t : ℕ) (ht : t ≤ 1028) :
    (Scalar.addi (base s) (Scalar.muli (Scf.iv 0#32 1#32 t) 1024#32)).toNat = 8 * (s.toNat / 8) + 1024 * t := by
  have hb := base_toNat hs
  rw [toNat_iv]
  show (base s + BitVec.ofNat 32 t * 1024#32).toNat = _
  rw [BitVec.toNat_add, BitVec.toNat_mul, BitVec.toNat_ofNat, hb]
  show (8 * (s.toNat / 8) + t % 4294967296 * 1024 % 4294967296) % 4294967296 = _
  omega

theorem off2_eq (hs : s.toNat ≤ e.toNat) (he : e.toNat ≤ 1048576) (t : Fin (k2_t2_loop s e).trips) : k2_off2 s e t = ![8 * (s.toNat / 8) + 1024 * t.val] := by
  have hc := chunks_toNat hs he
  have ht := lt_of_lt_of_eq t.isLt (t2_trips hs he)
  exact congrArg (fun n => ![n]) (chunk_start (s := s) (by omega) t.val (by omega))

theorem off6_eq (hs : s.toNat ≤ e.toNat) (he : e.toNat ≤ 1048576) (t : Fin (k2_t6_loop s e).trips) : k2_off6 s e t = ![8 * (s.toNat / 8) + 1024 * t.val] := by
  have hc := chunks_toNat hs he
  have ht := lt_of_lt_of_eq t.isLt (t6_trips hs he)
  exact congrArg (fun n => ![n]) (chunk_start (s := s) (by omega) t.val (by omega))

theorem chk2 (hs : s.toNat ≤ 1048576) : k2_chk2 s := by
  show 8 ∣ (base s).toNat
  rw [base_toNat hs]
  exact ⟨_, rfl⟩

theorem chk3 (hs : s.toNat ≤ e.toNat) (he : e.toNat ≤ 1048576) : k2_chk3 s e := by
  have hc := chunks_toNat hs he
  have h0 : ∀ (t : Fin (k2_t4_loop s e).trips), False := fun t => absurd (lt_of_lt_of_eq t.isLt (t4_trips hs he)) (Nat.not_lt_zero _)
  have h1 : ∀ (t : Fin (k2_t10_loop s e).trips), False := fun t => absurd (lt_of_lt_of_eq t.isLt (t10_trips hs he)) (Nat.not_lt_zero _)
  refine ⟨?_, fun t => ?_, fun t a => ?_, ?_, fun t => (h0 t).elim, fun t => (h0 t).elim, ?_, fun t => ?_, fun t a => ?_, ?_, fun t => (h1 t).elim, fun t => (h1 t).elim⟩
  · rw [t2_loop_eq hs he]; exact ok_zero (chunks s e) (by omega)
  · have ht := lt_of_lt_of_eq t.isLt (t2_trips hs he)
    show 8 ∣ (Scalar.addi (base s) (Scalar.muli (Scf.iv 0#32 1#32 t) 1024#32)).toNat
    rw [chunk_start (s := s) (by omega) t.val (by omega)]
    omega
  · have ht := lt_of_lt_of_eq t.isLt (t2_trips hs he)
    match a with
    | ⟨0, _⟩ =>
      rw [off2_eq hs he t]
      show 8 * (s.toNat / 8) + 1024 * t.val + 1024 ≤ 1052672; omega
  · rw [t4_loop_eq hs he]; exact ok_none _
  · rw [t6_loop_eq hs he]; exact ok_zero (chunks s e) (by omega)
  · have ht := lt_of_lt_of_eq t.isLt (t6_trips hs he)
    show 8 ∣ (Scalar.addi (base s) (Scalar.muli (Scf.iv 0#32 1#32 t) 1024#32)).toNat
    rw [chunk_start (s := s) (by omega) t.val (by omega)]
    omega
  · have ht := lt_of_lt_of_eq t.isLt (t6_trips hs he)
    match a with
    | ⟨0, _⟩ =>
      rw [off6_eq hs he t]
      show 8 * (s.toNat / 8) + 1024 * t.val + 1024 ≤ 1052672; omega
  · rw [t10_loop_eq hs he]; exact ok_none _

/-! ## The rounds' loops -/

theorem t8_loop_eq {m : BitVec 32} (hm : m.toNat ≤ 16) : k2_t8_loop m = ⟨0#32, Scalar.addi m 1#32, 1#32⟩ := by
  have : (Scalar.addi m 1#32).toNat < 2147483648 := by
    show (m + 1#32).toNat < _
    rw [BitVec.toNat_add]; show (m.toNat + 1) % 4294967296 < _; omega
  exact congrArg (fun v => (⟨0#32, v, 1#32⟩ : Scf.Loop 32)) (by_one _ this)

theorem t9_loop_eq {m : BitVec 32} (hm : m.toNat ≤ 16) : k2_t9_loop m = ⟨Scalar.addi m 1#32, Scalar.addi m 1#32, 1#32⟩ := by
  have h : (Scalar.addi m 1#32).toNat < 2147483648 := by
    show (m + 1#32).toNat < _
    rw [BitVec.toNat_add]; show (m.toNat + 1) % 4294967296 < _; omega
  have e1 : Scalar.addi 0#32 (Scalar.subi (Scalar.addi m 1#32) 0#32) = Scalar.addi m 1#32 := by
    show 0#32 + (Scalar.addi m 1#32 - 0#32) = _
    rw [BitVec.sub_zero, BitVec.zero_add]
  exact congrArg₂ (fun v w => (⟨v, w, 1#32⟩ : Scf.Loop 32)) (by_one _ h) e1

theorem t8_trips {m : BitVec 32} (hm : m.toNat ≤ 16) : (k2_t8_loop m).trips = m.toNat + 1 := by
  have e : (Scalar.addi m 1#32).toNat = m.toNat + 1 := by
    show (m + 1#32).toNat = _
    rw [BitVec.toNat_add]; show (m.toNat + 1) % 4294967296 = _; omega
  rw [t8_loop_eq hm]
  exact (trips_zero (Scalar.addi m 1#32) (by omega)).trans e

theorem t9_trips {m : BitVec 32} (hm : m.toNat ≤ 16) : (k2_t9_loop m).trips = 0 := by
  rw [t9_loop_eq hm]; exact trips_none _

theorem chk6 {v : IVec S16 32} {m : BitVec 32} (hv : ∀ l : Fin 16, (v (lane l)).toNat < 32768) (hm : m.toNat ≤ 16) : k2_chk6 v m := by
  have e : (Scalar.addi m 1#32).toNat = m.toNat + 1 := by
    show (m + 1#32).toNat = _
    rw [BitVec.toNat_add]; show (m.toNat + 1) % 4294967296 = _; omega
  refine ⟨?_, fun _ => lanes_inb v 32768 hv, fun _ => lanes_inb v 32768 hv, ?_, fun _ => lanes_inb v 32768 hv, fun _ => lanes_inb v 32768 hv⟩
  · rw [t8_loop_eq hm]; exact ok_zero (Scalar.addi m 1#32) (by omega)
  · rw [t9_loop_eq hm]; exact ok_none _

end Cert.Proof.Occ

end
-- ==== Proof.Route.lean ====
/-
  The counting sort's arithmetic: where each bin starts in the sorted list, where each input goes, and what one vector of
  sixteen inputs makes of the table of next places.
-/
module

public import proofs.«01_k».proof.Proof.Spec
public import proofs.«01_k».proof.Proof.Slab
public import Mathlib.Algebra.BigOperators.Fin

@[expose] public section

noncomputable section

namespace Cert.Proof.Occ

open Cert.KernelIdeal Cert.KernelIdeal.Gen
open Idealize.ShloMosaic

variable (key : ℕ → BitVec 32)

/-- How many of the million inputs fall in bin `b`. -/
def tot (b : ℕ) : ℕ := cnt key 0 b 1048576

/-- How many fall in a bin below `b`: where bin `b` starts in the sorted list. -/
def first (b : ℕ) : ℕ := Nat.count (fun n => bin key n < b) 1048576

/-- The next place of bin `b` once the first `N` inputs are placed. -/
def offAt (b N : ℕ) : ℕ := first key b + cnt key 0 b N

/-- Where input `n` goes. -/
def place (n : ℕ) : ℕ := offAt key (bin key n) n

variable {key}

theorem count_split (p q r : ℕ → Prop) [DecidablePred p] [DecidablePred q] [DecidablePred r] (h : ∀ n, r n ↔ p n ∨ q n)
    (hd : ∀ n, ¬ (p n ∧ q n)) (N : ℕ) : Nat.count r N = Nat.count p N + Nat.count q N := by
  induction N with
  | zero => rfl
  | succ N ih =>
    rw [Nat.count_succ, Nat.count_succ, Nat.count_succ, ih]
    have h1 := h N; have h2 := hd N
    by_cases hp : p N <;> by_cases hq : q N <;> simp_all <;> omega

theorem cnt_zero_base (b N : ℕ) : cnt key 0 b N = Nat.count (fun n => bin key n = b) N := by
  unfold cnt; simp only [Nat.zero_add]

theorem first_succ (b : ℕ) : first key (b + 1) = first key b + tot key b := by
  unfold first tot
  rw [cnt_zero_base]
  exact count_split (fun n => bin key n < b) (fun n => bin key n = b) _ (fun n => by omega) (fun n => by omega) _

theorem first_zero : first key 0 = 0 := by
  unfold first
  rw [Nat.count_eq_card_filter_range, Finset.card_eq_zero, Finset.filter_eq_empty_iff]
  intro n _ h; exact absurd h (Nat.not_lt_zero _)

theorem first_le (b : ℕ) : first key b ≤ 1048576 := Nat.count_le _

theorem cnt_add (b B T : ℕ) : cnt key 0 b (B + T) = cnt key 0 b B + cnt key B b T := by
  rw [cnt_zero_base, cnt_zero_base, Nat.count_add]
  rfl

theorem cnt_succ (B b T : ℕ) : cnt key B b (T + 1) = cnt key B b T + if bin key (B + T) = b then 1 else 0 := by
  unfold cnt; rw [Nat.count_succ]

theorem cnt_mono (b : ℕ) {N M : ℕ} (h : N ≤ M) : cnt key 0 b N ≤ cnt key 0 b M := Nat.count_monotone _ h

theorem tiles_cnt (b w : ℕ) : (Finset.range w).sum (fun r => cnt key (32768 * r) b 32768) = cnt key 0 b (32768 * w) := by
  induction w with
  | zero => rfl
  | succ w ih => rw [Finset.sum_range_succ, ih, show 32768 * (w + 1) = 32768 * w + 32768 by omega, cnt_add]

theorem offAt_le (b N : ℕ) (h : N ≤ 1048576) : offAt key b N ≤ first key (b + 1) := by
  rw [first_succ]; unfold offAt tot
  have := cnt_mono (key := key) b h; omega

theorem offAt_succ (n : ℕ) : offAt key (bin key n) (n + 1) = place key n + 1 := by
  unfold place offAt
  rw [cnt_succ, Nat.zero_add, if_pos rfl]; omega

theorem place_lt_first {n : ℕ} (h : n < 1048576) : place key n < first key (bin key n + 1) := by
  have h1 := offAt_le (key := key) (bin key n) (n + 1) h
  rw [offAt_succ] at h1; omega

theorem first_le_place (n : ℕ) : first key (bin key n) ≤ place key n := Nat.le_add_right _ _

theorem place_lt {n : ℕ} (h : n < 1048576) : place key n < 1048576 :=
  lt_of_lt_of_le (place_lt_first h) (first_le _)

theorem first_mono {a b : ℕ} (h : a ≤ b) : first key a ≤ first key b := by
  induction h with
  | refl => exact le_refl _
  | step _ ih => exact ih.trans (by rw [Nat.succ_eq_add_one, first_succ]; omega)

theorem place_lt_place {n m : ℕ} (hb : bin key n = bin key m) (h : n < m) : place key n < place key m := by
  have h1 : offAt key (bin key n) (n + 1) ≤ offAt key (bin key n) m := Nat.add_le_add_left (cnt_mono _ h) _
  rw [offAt_succ] at h1
  have h2 : place key m = offAt key (bin key n) m := by rw [hb]; rfl
  omega

theorem place_inj {n m : ℕ} (hn : n < 1048576) (hm : m < 1048576) (h : place key n = place key m) : n = m := by
  have hb : bin key n = bin key m := by
    by_contra hne
    have a1 := first_le_place (key := key) n; have a2 := first_le_place (key := key) m
    have b1 := place_lt_first (key := key) hn; have b2 := place_lt_first (key := key) hm
    rcases Nat.lt_or_gt_of_ne hne with hl | hl
    · have := first_mono (key := key) (show bin key n + 1 ≤ bin key m from hl); omega
    · have := first_mono (key := key) (show bin key m + 1 ≤ bin key n from hl); omega
  rcases Nat.lt_trichotomy n m with hl | he | hl
  · have := place_lt_place hb hl; omega
  · exact he
  · have := place_lt_place hb.symm hl; omega

/-! ## Sixteen lanes summed -/

theorem foldl_addi (c : Fin 16 → ℕ) (v : IVec S16 32) (hv : ∀ k, v (lane k) = BitVec.ofNat 32 (c k)) (L : List (Fin 16)) (a : ℕ) :
    L.foldl (fun r k => IntOp.addi r (v (lane k))) (BitVec.ofNat 32 a) = BitVec.ofNat 32 (a + (L.map c).sum) := by
  induction L generalizing a with
  | nil => simp
  | cons k L ih =>
    rw [List.foldl_cons, hv k, show IntOp.addi (BitVec.ofNat 32 a) (BitVec.ofNat 32 (c k)) = BitVec.ofNat 32 (a + c k) from
      (BitVec.ofNat_add _ _).symm, ih, List.map_cons, List.sum_cons, Nat.add_assoc]

theorem scan_list (c : Fin 16 → ℕ) (g : ℕ → ℕ) (hg : ∀ k, c k = g k.val) (l : Fin 16) :
    c 0 + (((List.finRange 16).filter fun k : Fin 16 => decide (0 < k.val ∧ k.val ≤ l.val)).map c).sum = (Finset.range (l.val + 1)).sum g := by
  have e : (((List.finRange 16).filter fun k : Fin 16 => decide (0 < k.val ∧ k.val ≤ l.val))).map Fin.val = (List.range l.val).map (· + 1) := by
    revert l; decide
  have e2 : (((List.finRange 16).filter fun k : Fin 16 => decide (0 < k.val ∧ k.val ≤ l.val)).map c)
      = (((List.finRange 16).filter fun k : Fin 16 => decide (0 < k.val ∧ k.val ≤ l.val)).map Fin.val).map g := by
    rw [List.map_map]; exact List.map_congr_left fun k _ => hg k
  rw [e2, e, List.map_map, Finset.sum_range_succ', hg 0, Nat.add_comm]
  congr 1

/-- The running sum's lane `l`: the sum of the lanes up to it. -/
theorem scan_sum (g : ℕ → ℕ) (v : IVec S16 32) (hv : ∀ k : Fin 16, v (lane k) = BitVec.ofNat 32 (g k.val)) (l : Fin 16) :
    scan .sum v (lane l) = BitVec.ofNat 32 ((Finset.range (l.val + 1)).sum g) := by
  have e : scan .sum v (lane l) = ((List.finRange 16).filter fun k : Fin 16 => decide (0 < k.val ∧ k.val ≤ l.val)).foldl
      (fun r k => IntOp.addi r (v (lane k))) (v (lane 0)) := rfl
  rw [e, hv 0, foldl_addi (fun k => g k.val) v hv, scan_list (fun k => g k.val) g (fun _ => rfl)]

theorem first_chunk (a n : ℕ) : first key a + (Finset.range n).sum (fun k => tot key (a + k)) = first key (a + n) := by
  induction n with
  | zero => simp
  | succ n ih => rw [Finset.sum_range_succ, ← Nat.add_assoc, ih, ← Nat.add_assoc, first_succ]

/-! ## One vector -/

section Vector
variable {F : FTy → Type} [FloatOps F]
variable {v : IVec S16 32} {N : ℕ} (hv : ∀ l : Fin 16, (v (lane l)).toNat = bin key (N + l.val))
include hv

theorem lane_same (k l : Fin 16) : v (lane k) = v (lane l) ↔ bin key (N + k.val) = bin key (N + l.val) := by
  rw [← hv k, ← hv l]
  exact ⟨fun h => congrArg _ h, fun h => BitVec.eq_of_toNat_eq h⟩

theorem laneCnt_cnt (l : Fin 16) : laneCnt v l = cnt key N (bin key (N + l.val)) (l.val + 1) := by
  unfold laneCnt cnt
  rw [Nat.count_eq_card_filter_range]
  refine Finset.card_bij (fun k _ => k.val) ?_ (fun a _ b _ h => Fin.ext h) ?_
  · intro k hk
    have := (Finset.mem_filter.mp hk).2
    exact Finset.mem_filter.mpr ⟨Finset.mem_range.mpr (by omega), (lane_same hv k l).mp this.2⟩
  · intro n hn
    have := Finset.mem_filter.mp hn
    have h1 := Finset.mem_range.mp this.1
    have h2 := l.isLt
    exact ⟨⟨n, by omega⟩, Finset.mem_filter.mpr ⟨Finset.mem_univ _, by show n ≤ _; omega, (lane_same hv ⟨n, by omega⟩ l).mpr this.2⟩, rfl⟩

theorem place_lane (l : Fin 16) : offAt key (bin key (N + l.val)) N + laneCnt v l = place key (N + l.val) + 1 := by
  rw [laneCnt_cnt hv, ← offAt_succ]
  unfold offAt
  rw [show N + l.val + 1 = N + (l.val + 1) by omega, cnt_add, Nat.add_assoc]

omit hv in
theorem scanLast (v : IVec S16 32) (l : Fin 16) :
    (scanCount (broadcast S16 1#1) v).1 (lane l) = 1 ↔ ∀ k : Fin 16, l.val < k.val → v (lane k) ≠ v (lane l) := by
  have e : (scanCount (broadcast S16 1#1) v).1 (lane l)
      = if (broadcast S16 1#1) (lane l) = 1 ∧ ∀ j : S16.Idx, (S16.rowMajor (lane l)).val < (S16.rowMajor j).val → ¬ ((broadcast S16 1#1) j = 1 ∧ v j = v (lane l)) then 1 else 0 := by
    unfold scanCount; dsimp only; congr
  rw [e]
  constructor
  · intro h k hk he
    by_cases hc : (broadcast S16 1#1) (lane l) = 1 ∧ ∀ j : S16.Idx, (S16.rowMajor (lane l)).val < (S16.rowMajor j).val → ¬ ((broadcast S16 1#1) j = 1 ∧ v j = v (lane l))
    · exact hc.2 (lane k) (by rw [pos_lane, pos_lane]; exact hk) ⟨rfl, he⟩
    · rw [if_neg hc] at h; exact absurd h (by decide)
  · intro h
    refine if_pos ⟨rfl, fun j hj hm => ?_⟩
    rw [pos_lane, pos_lane] at hj
    exact h (j 0) hj ((congrArg v (lane_eq j)).trans hm.2)

/-- Each lane's place, out of the table of next places. -/
theorem route_dest (X : IVec S512 32) (hX : ∀ j, X j = BitVec.ofNat 32 (offAt key (j 0).val N)) (hk : ∀ n, (key n).toNat < 16777216)
    (h : ∀ a x, ((![v] : Fin 1 → IVec S16 32) a x).toNat < S512.size a) (x : S16.Idx) :
    subi (addi (loadIdx (F := F) (e := .i32) (s := S512) X ![v] h) (scanCount (broadcast S16 1#1) v).2) (broadcast S16 1#32) x
      = BitVec.ofNat 32 (place key (N + (x 0).val)) := by
  have hl : ∀ l : Fin 16, subi (addi (loadIdx (F := F) (e := .i32) (s := S512) X ![v] h) (scanCount (broadcast S16 1#1) v).2) (broadcast S16 1#32) (lane l)
      = BitVec.ofNat 32 (place key (N + l.val)) := by
    intro l
    have e1 : loadIdx (F := F) (e := .i32) (s := S512) X ![v] h (lane l) = BitVec.ofNat 32 (offAt key (bin key (N + l.val)) N) := by
      refine (loadIdx_apply (F := F) (N := 512) (e := .i32) X v h (lane l)).trans ?_
      rw [hX, at1_val (by rw [hv]; exact bin_lt hk _), hv]
    have e2 : (scanCount (broadcast S16 1#1) v).2 (lane l) = BitVec.ofNat 32 (laneCnt v l) := by
      refine BitVec.eq_of_toNat_eq ?_
      rw [scanCount_lane, BitVec.toNat_ofNat, Nat.mod_eq_of_lt (by have := laneCnt_le v l; omega)]
    show IntOp.subi (IntOp.addi (loadIdx (F := F) (e := .i32) (s := S512) X ![v] h (lane l)) ((scanCount (broadcast S16 1#1) v).2 (lane l))) 1#32 = _
    rw [e1, e2, show IntOp.addi (BitVec.ofNat 32 (offAt key (bin key (N + l.val)) N)) (BitVec.ofNat 32 (laneCnt v l)) = BitVec.ofNat 32 (offAt key (bin key (N + l.val)) N + laneCnt v l) from
      (BitVec.ofNat_add _ _).symm, place_lane hv, BitVec.ofNat_add]
    exact BitVec.add_sub_cancel _ _
  exact (congrArg _ (lane_eq x).symm).trans (hl (x 0))

/-- The table once the vector's inputs are placed. -/
theorem route_table (X : IVec S512 32) (hX : ∀ j, X j = BitVec.ofNat 32 (offAt key (j 0).val N)) (hk : ∀ n, (key n).toNat < 16777216)
    (w : IVec S16 32) (hw : ∀ x, w x = BitVec.ofNat 32 (place key (N + (x 0).val) + 1))
    (h : ∀ a x, ((![v] : Fin 1 → IVec S16 32) a x).toNat < S512.size a) (j : S512.Idx) :
    storeIdx (F := F) (e := .i32) (s := S512) X ![v] w (scanCount (broadcast S16 1#1) v).1 false h j = BitVec.ofNat 32 (offAt key (j 0).val (N + 16)) := by
  by_cases hex : ∃ l : Fin 16, bin key (N + l.val) = (j 0).val
  · obtain ⟨l0, h0⟩ := hex
    obtain ⟨l, hl, hmax⟩ : ∃ l : Fin 16, bin key (N + l.val) = (j 0).val ∧ ∀ k : Fin 16, bin key (N + k.val) = (j 0).val → k ≤ l := by
      have hne : (Finset.univ.filter fun k : Fin 16 => bin key (N + k.val) = (j 0).val).Nonempty := ⟨l0, Finset.mem_filter.mpr ⟨Finset.mem_univ _, h0⟩⟩
      refine ⟨Finset.max' _ hne, (Finset.mem_filter.mp (Finset.max'_mem _ hne)).2, fun k hk' => ?_⟩
      exact Finset.le_max' (Finset.univ.filter fun k : Fin 16 => bin key (N + k.val) = (j 0).val) k (Finset.mem_filter.mpr ⟨Finset.mem_univ k, hk'⟩)
    have hlast : (scanCount (broadcast S16 1#1) v).1 (lane l) = 1 := by
      refine (scanLast v l).mpr fun k hlk he => ?_
      have := hmax k (((lane_same hv k l).mp he).trans hl)
      exact absurd (Fin.le_def.mp this) (by omega)
    refine (storeIdx_hit (F := F) (N := 512) (e := .i32) X v w _ false h j l hlast ((hv l).trans hl) ?_).trans ?_
    · intro l' hm' hl'
      have hb : bin key (N + l'.val) = (j 0).val := (hv l').symm.trans hl'
      have hle := hmax l' hb
      by_contra hne
      have hlt : l'.val < l.val := lt_of_le_of_ne (Fin.le_def.mp hle) (fun e => hne (Fin.ext e))
      exact (scanLast v l').mp hm' l hlt ((lane_same hv l l').mpr (hl.trans hb.symm))
    · show w (lane l) = _
      rw [hw]
      refine congrArg (BitVec.ofNat 32) ?_
      show place key (N + l.val) + 1 = _
      rw [← offAt_succ, hl]
      unfold offAt
      rw [show N + 16 = (N + l.val + 1) + (15 - l.val) by have := l.isLt; omega, cnt_add _ (N + l.val + 1)]
      have hz : cnt key (N + l.val + 1) (j 0).val (15 - l.val) = 0 := by
        unfold cnt
        rw [Nat.count_eq_card_filter_range, Finset.card_eq_zero, Finset.filter_eq_empty_iff]
        intro t ht hb
        have h1 := Finset.mem_range.mp ht
        have := hmax ⟨l.val + 1 + t, by omega⟩ (by rw [← hb]; exact congrArg (bin key) (by show N + (l.val + 1 + t) = _; omega))
        exact absurd (Fin.le_def.mp this) (by show ¬ (l.val + 1 + t ≤ l.val); omega)
      omega
  · rw [storeIdx_miss (F := F) (N := 512) (e := .i32) X v w _ false h j (fun l _ hl => hex ⟨l, (hv l).symm.trans hl⟩), hX]
    refine congrArg (BitVec.ofNat 32) ?_
    unfold offAt
    rw [cnt_add]
    have hz : cnt key N (j 0).val 16 = 0 := by
      unfold cnt
      rw [Nat.count_eq_card_filter_range, Finset.card_eq_zero, Finset.filter_eq_empty_iff]
      intro t ht hb
      exact hex ⟨⟨t, Finset.mem_range.mp ht⟩, hb⟩
    omega

end Vector

/-- The clip to the list's length leaves a place as it is. -/
theorem clip_place {p : ℕ} (h : p < 1048576) : IntOp.minsi 1052671#32 (IntOp.maxsi 0#32 (BitVec.ofNat 32 p)) = BitVec.ofNat 32 p := by
  have hp : (BitVec.ofNat 32 p).toNat = p := by rw [BitVec.toNat_ofNat, Nat.mod_eq_of_lt (by omega)]
  have hi : (BitVec.ofNat 32 p).toInt = p := by rw [BitVec.toInt_eq_toNat_of_lt (by rw [hp]; omega), hp]
  have h1 : IntOp.maxsi 0#32 (BitVec.ofNat 32 p) = BitVec.ofNat 32 p := by
    unfold IntOp.maxsi
    by_cases hc : (BitVec.ofNat 32 p).slt 0#32 = true
    · rw [BitVec.slt_iff_toInt_lt, hi] at hc
      exact absurd hc (by simp)
    · rw [if_neg hc]
  rw [h1]
  unfold IntOp.minsi
  by_cases hc : (1052671#32).slt (BitVec.ofNat 32 p) = true
  · rw [BitVec.slt_iff_toInt_lt, hi, show (1052671#32).toInt = 1052671 by decide] at hc
    omega
  · rw [if_neg hc]

end Cert.Proof.Occ

end
-- ==== Proof.K3.lean ====
/-
  The third kernel on one tile: each of its sixteen slabs of 32768 places is read, the places some key of the slab's
  stretch of the list names are scaled once, then raised to the largest of the values listed for them, and written.
-/
module

public import proofs.«01_k».proof.Proof.Base
public import proofs.«01_k».proof.Proof.K1
public import proofs.«01_k».proof.Proof.Slab

@[expose] public section

noncomputable section

namespace Cert.Proof.Occ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The value of a slab -/

/-- Position `p` of the list is in the stretch from `s` to `e` and its key names place `v` of its slab. -/
def HitAt (s e : ℕ) (bk : ℕ → BitVec 32) (v p : ℕ) : Prop := s ≤ p ∧ p < e ∧ (bk p).toNat % 32768 = v

instance (s e : ℕ) (bk : ℕ → BitVec 32) (v : ℕ) : DecidablePred (HitAt s e bk v) := fun p => inferInstanceAs (Decidable (_ ∧ _ ∧ _))

/-- A place's value scaled. -/
def decay (x : F .f32) : F .f32 := FloatOps.mulf x (Scalar.ofBits .f32 0x3F733333#32)

/-- Place `v` once the positions below `P` have scaled it, -/
def slabA (g : ℕ → F .f32) (s e : ℕ) (bk : ℕ → BitVec 32) (P v : ℕ) : F .f32 := foldHit (HitAt s e bk v) (fun _ _ => decay (g v)) (g v) P

/-- and once, all the stretch having scaled it, the positions below `P` have raised it. -/
def slabB (g : ℕ → F .f32) (s e : ℕ) (bk : ℕ → BitVec 32) (bv : ℕ → F .f32) (P v : ℕ) : F .f32 :=
  foldHit (HitAt s e bk v) (fun p a => FloatOps.maximumf a (bv p)) (slabA g s e bk e v) P

theorem slabA_before (g : ℕ → F .f32) {s e : ℕ} (bk : ℕ → BitVec 32) {P v : ℕ} (h : P ≤ s) : slabA g s e bk P v = g v := by
  have := foldHit_none (hit := HitAt s e bk v) (upd := fun _ _ => decay (g v)) (a := g v) 0 P fun p _ hp hh => by have := hh.1; omega
  rw [Nat.zero_add] at this
  exact this

theorem slabA_after (g : ℕ → F .f32) {s e : ℕ} (bk : ℕ → BitVec 32) {P v : ℕ} (h : e ≤ P) : slabA g s e bk P v = slabA g s e bk e v := by
  have := foldHit_none (hit := HitAt s e bk v) (upd := fun _ _ => decay (g v)) (a := g v) e (P - e) fun p hp _ hh => by have := hh.2.1; omega
  rw [show e + (P - e) = P by omega] at this
  exact this

theorem slabB_before (g : ℕ → F .f32) {s e : ℕ} (bk : ℕ → BitVec 32) (bv : ℕ → F .f32) {P v : ℕ} (h : P ≤ s) : slabB g s e bk bv P v = slabA g s e bk e v := by
  have := foldHit_none (hit := HitAt s e bk v) (upd := fun p a => FloatOps.maximumf a (bv p)) (a := slabA g s e bk e v) 0 P
    fun p _ hp hh => by have := hh.1; omega
  rw [Nat.zero_add] at this
  exact this

theorem slabB_after (g : ℕ → F .f32) {s e : ℕ} (bk : ℕ → BitVec 32) (bv : ℕ → F .f32) {P v : ℕ} (h : e ≤ P) : slabB g s e bk bv P v = slabB g s e bk bv e v := by
  have := foldHit_none (hit := HitAt s e bk v) (upd := fun p a => FloatOps.maximumf a (bv p)) (a := slabA g s e bk e v) e (P - e)
    fun p hp _ hh => by have := hh.2.1; omega
  rw [show e + (P - e) = P by omega] at this
  exact this

/-! ## One vector -/

theorem cmp_one {p : Bool} : BitVec.ofBool p = 1#1 ↔ p = true := by cases p <;> decide

theorem select_one {α : Type} (c : BitVec 1) (a b : α) : Scalar.select c a b = if c = 1#1 then a else b := rfl

theorem andi_one {a b : BitVec 1} : IntOp.andi a b = 1#1 ↔ a = 1#1 ∧ b = 1#1 := by
  revert a b; decide

theorem sle_small {x y : BitVec 32} (hx : x.toNat < 2147483648) (hy : y.toNat < 2147483648) : x.sle y = decide (x.toNat ≤ y.toNat) := by
  rw [Bool.eq_iff_iff, BitVec.sle_iff_toInt_le, toInt_nonneg hx, toInt_nonneg hy, decide_eq_true_iff]
  omega

/-- The lanes of vector `m` of chunk `n` that are in the stretch, as the kernel computes them. -/
def inStretch (s e : BitVec 32) (n m : ℕ) : IVec S16 1 :=
  andi (cmpi .sge (addi (broadcast S16 (Scalar.addi (Scalar.addi (base s) (Scalar.muli (Scf.iv 0#32 1#32 n) 1024#32)) (Scalar.muli (Scf.iv 0#32 1#32 m) 16#32)))
      (iota .scVector S16 32 [0] iota_S16_d0_w32_scVector)) (broadcast S16 s))
    (cmpi .slt (addi (broadcast S16 (Scalar.addi (Scalar.addi (base s) (Scalar.muli (Scf.iv 0#32 1#32 n) 1024#32)) (Scalar.muli (Scf.iv 0#32 1#32 m) 16#32)))
      (iota .scVector S16 32 [0] iota_S16_d0_w32_scVector)) (broadcast S16 e))

theorem inStretch_lane {s e : BitVec 32} (hs : s.toNat ≤ e.toNat) (he : e.toNat ≤ 1048576) {n m : ℕ} (hn : n < 1028) (hm : m < 64) (l : Fin 16) :
    inStretch s e n m (lane l) = 1#1 ↔ s.toNat ≤ 8 * (s.toNat / 8) + 1024 * n + 16 * m + l.val ∧ 8 * (s.toNat / 8) + 1024 * n + 16 * m + l.val < e.toNat := by
  have hl := l.isLt
  have hp : (IntOp.addi (Scalar.addi (Scalar.addi (base s) (Scalar.muli (Scf.iv 0#32 1#32 n) 1024#32)) (Scalar.muli (Scf.iv 0#32 1#32 m) 16#32))
      ((iota .scVector S16 32 [0] iota_S16_d0_w32_scVector : IVec S16 32) (lane l))).toNat = 8 * (s.toNat / 8) + 1024 * n + 16 * m + l.val := by
    have h1 := chunk_start (s := s) (by omega) n (by omega)
    generalize Scalar.addi (base s) (Scalar.muli (Scf.iv 0#32 1#32 n) 1024#32) = q at h1 ⊢
    rw [iota_lane, toNat_iv]
    show ((q + BitVec.ofNat 32 m * 16#32) + BitVec.ofNat 32 l.val).toNat = _
    rw [BitVec.toNat_add, BitVec.toNat_add, BitVec.toNat_mul, BitVec.toNat_ofNat, BitVec.toNat_ofNat, h1]
    show ((8 * (s.toNat / 8) + 1024 * n + m % 4294967296 * 16 % 4294967296) % 4294967296 + l.val % 4294967296) % 4294967296 = _
    omega
  unfold inStretch
  generalize hq : IntOp.addi _ _ = q at hp
  show IntOp.andi (IntOp.cmpi .sge (IntOp.addi _ _) s) (IntOp.cmpi .slt (IntOp.addi _ _) e) = 1#1 ↔ _
  rw [andi_one]
  show IntOp.cmpi .sge (IntOp.addi (Scalar.addi (Scalar.addi (base s) (Scalar.muli (Scf.iv 0#32 1#32 n) 1024#32)) (Scalar.muli (Scf.iv 0#32 1#32 m) 16#32))
      ((iota .scVector S16 32 [0] iota_S16_d0_w32_scVector : IVec S16 32) (lane l))) s = 1#1 ∧ IntOp.cmpi .slt
      (IntOp.addi (Scalar.addi (Scalar.addi (base s) (Scalar.muli (Scf.iv 0#32 1#32 n) 1024#32)) (Scalar.muli (Scf.iv 0#32 1#32 m) 16#32))
      ((iota .scVector S16 32 [0] iota_S16_d0_w32_scVector : IVec S16 32) (lane l))) e = 1#1 ↔ _
  rw [hq]
  show BitVec.ofBool (s.sle q) = 1#1 ∧ BitVec.ofBool (q.slt e) = 1#1 ↔ _
  rw [cmp_one, cmp_one, sle_small (by omega) (by omega), slt_small (by omega) (by omega), hp, decide_eq_true_iff, decide_eq_true_iff]

/-- The places the lanes name: a key's place in its slab, place 0 outside the stretch. -/
def placeOf (mask : IVec S16 1) (kv : IVec S16 32) : IVec S16 32 := select mask (andi kv (broadcast S16 32767#32)) (broadcast S16 0#32)

theorem place_and (x : BitVec 32) : (IntOp.andi x 32767#32).toNat = x.toNat % 32768 := by
  show (x &&& 32767#32).toNat = _
  rw [BitVec.toNat_and]
  exact Nat.and_two_pow_sub_one_eq_mod x.toNat 15

theorem placeOf_lt (mask : IVec S16 1) (kv : IVec S16 32) (l : Fin 16) : (placeOf mask kv (lane l)).toNat < 32768 := by
  show (Scalar.select (mask (lane l)) (IntOp.andi (kv (lane l)) 32767#32) 0#32).toNat < _
  unfold Scalar.select
  split
  · rw [place_and]; omega
  · decide

theorem placeOf_hit (mask : IVec S16 1) (kv : IVec S16 32) (l : Fin 16) (h : mask (lane l) = 1#1) : (placeOf mask kv (lane l)).toNat = (kv (lane l)).toNat % 32768 := by
  show (Scalar.select (mask (lane l)) (IntOp.andi (kv (lane l)) 32767#32) 0#32).toNat = _
  rw [select_one, if_pos h, place_and]

/-- A vector's part of the scaling. -/
theorem scale_vector (g : ℕ → F .f32) (bk : ℕ → BitVec 32) {s e : ℕ} {P : ℕ} {mask : IVec S16 1} {kv : IVec S16 32}
    (hm : ∀ l : Fin 16, mask (lane l) = 1#1 ↔ s ≤ P + l.val ∧ P + l.val < e) (hk : ∀ l : Fin 16, kv (lane l) = bk (P + l.val))
    {w : Vec F S16 .f32} (hw : ∀ l : Fin 16, w (lane l) = g (placeOf mask kv (lane l)).toNat)
    (h : ∀ a x, (((![placeOf mask kv] : Fin 1 → IVec S16 32)) a x).toNat < S32768.size a) (j : S32768.Idx) :
    storeIdx (F := F) (e := .f32) (s := S32768) (fun j => slabA g s e bk P (j 0).val) ![placeOf mask kv] (k2_pay3 w) mask false h j
      = slabA g s e bk (P + 16) (j 0).val := by
  refine (storeIdx_apply (N := 32768) _ _ _ _ _ _ _).trans ?_
  unfold slabA
  rw [foldHit_add]
  refine congrArg (fun f => List.foldl f _ (List.finRange 16)) (funext fun acc => funext fun l => ?_)
  by_cases hml : mask (lane l) = 1#1
  · have hp := placeOf_hit mask kv l hml
    rw [hk] at hp
    refine ite_congr (propext ⟨fun hh => ⟨((hm l).mp hml).1, ((hm l).mp hml).2, hp ▸ hh.2⟩, fun hh => ⟨hml, hp.trans hh.2.2⟩⟩) (fun hh => ?_) (fun _ => rfl)
    show decay (w (lane l)) = decay (g (j 0).val)
    rw [hw, hp, hh.2.2]
  · rw [if_neg fun hh => hml hh.1, if_neg fun hh => hml ((hm l).mpr ⟨hh.1, hh.2.1⟩)]

/-- The slab once rounds below `R` of a vector have raised it: the lanes in the stretch whose running count is below `R`. -/
def roundsTo (X : S32768.Idx → F .f32) (mask : IVec S16 1) (v : IVec S16 32) (vv : Vec F S16 .f32) (R : ℕ) : S32768.Idx → F .f32 :=
  fun j => (List.finRange 16).foldl (fun acc l => if (mask (lane l) = 1#1 ∧ (v (lane l)).toNat = (j 0).val) ∧ laneCnt v l < R
    then FloatOps.maximumf acc (vv (lane l)) else acc) (X j)

theorem round_step (X : S32768.Idx → F .f32) (mask : IVec S16 1) (v : IVec S16 32) (vv w : Vec F S16 .f32) (R : ℕ) {mask' : IVec S16 1}
    (hm : ∀ l : Fin 16, mask' (lane l) = 1#1 ↔ mask (lane l) = 1#1 ∧ laneCnt v l = R)
    (h : ∀ a x, (((![v] : Fin 1 → IVec S16 32)) a x).toNat < S32768.size a)
    (hw : ∀ l : Fin 16, w (lane l) = roundsTo X mask v vv R (at1 32768 (v (lane l)).toNat)) (j : S32768.Idx) :
    storeIdx (F := F) (e := .f32) (s := S32768) (roundsTo X mask v vv R) ![v] (k2_pay13 vv w) mask' false h j = roundsTo X mask v vv (R + 1) j := by
  by_cases hex : ∃ k : Fin 16, (mask (lane k) = 1#1 ∧ (v (lane k)).toNat = (j 0).val) ∧ laneCnt v k = R
  · obtain ⟨k, ⟨hk1, hk2⟩, hk3⟩ := hex
    have huniq : ∀ l : Fin 16, (v (lane l)).toNat = (j 0).val → laneCnt v l = R → l = k := by
      intro l hl2 hl3
      have ev : v (lane l) = v (lane k) := BitVec.eq_of_toNat_eq (hl2.trans hk2.symm)
      rcases lt_trichotomy l k with hlt | heq | hgt
      · have := laneCnt_lt v hlt ev; omega
      · exact heq
      · have := laneCnt_lt v hgt ev.symm; omega
    refine (storeIdx_hit (N := 32768) _ _ _ _ _ _ _ k ((hm k).mpr ⟨hk1, hk3⟩) hk2 fun l hl hl2 => huniq l hl2 ((hm l).mp hl).2).trans ?_
    show FloatOps.maximumf (w (lane k)) (vv (lane k)) = _
    rw [hw, ← at1_of_val (N := 32768) hk2.symm]
    unfold roundsTo
    refine (foldl_last (fun l : Fin 16 => (mask (lane l) = 1#1 ∧ (v (lane l)).toNat = (j 0).val) ∧ laneCnt v l < R)
      (fun l => (mask (lane l) = 1#1 ∧ (v (lane l)).toNat = (j 0).val) ∧ laneCnt v l < R + 1)
      (fun acc l => FloatOps.maximumf acc (vv (lane l))) (X j) k (fun hh => by have := hh.2; omega) (fun l hh => ?_) (fun l => ?_)).symm
    · have ev : v (lane l) = v (lane k) := BitVec.eq_of_toNat_eq (hh.1.2.trans hk2.symm)
      rcases lt_trichotomy l k with hlt | heq | hgt
      · exact hlt
      · subst heq; have := hh.2; omega
      · have := laneCnt_lt v hgt ev.symm; have := hh.2; omega
    · refine ⟨fun hh => ?_, fun hh => ?_⟩
      · by_cases hlt : laneCnt v l < R
        · exact .inl ⟨hh.1, hlt⟩
        · exact .inr (huniq l hh.1.2 (by have := hh.2; omega))
      · rcases hh with hh | hh
        · exact ⟨hh.1, by have := hh.2; omega⟩
        · subst hh; exact ⟨⟨hk1, hk2⟩, by omega⟩
  · refine (storeIdx_miss (N := 32768) _ _ _ _ _ _ _ fun l hl hl2 => hex ⟨l, ⟨((hm l).mp hl).1, hl2⟩, ((hm l).mp hl).2⟩).trans ?_
    unfold roundsTo
    refine congrArg (fun f => List.foldl f (X j) (List.finRange 16)) (funext fun acc => funext fun l => ?_)
    refine if_congr ⟨fun hh => ⟨hh.1, by have := hh.2; omega⟩, fun hh => ⟨hh.1, ?_⟩⟩ rfl rfl
    rcases Nat.lt_succ_iff_lt_or_eq.mp hh.2 with h1 | h1
    · exact h1
    · exact absurd ⟨l, hh.1, h1⟩ hex

theorem rounds_done (g : ℕ → F .f32) (bk : ℕ → BitVec 32) (bv : ℕ → F .f32) {s e : ℕ} {P R : ℕ} {mask : IVec S16 1} {kv : IVec S16 32} {vv : Vec F S16 .f32}
    (hm : ∀ l : Fin 16, mask (lane l) = 1#1 ↔ s ≤ P + l.val ∧ P + l.val < e) (hk : ∀ l : Fin 16, kv (lane l) = bk (P + l.val))
    (hv : ∀ l : Fin 16, vv (lane l) = bv (P + l.val)) (hR : ∀ l : Fin 16, mask (lane l) = 1#1 → laneCnt (placeOf mask kv) l < R) (j : S32768.Idx) :
    roundsTo (fun j => slabB g s e bk bv P (j 0).val) mask (placeOf mask kv) vv R j = slabB g s e bk bv (P + 16) (j 0).val := by
  unfold roundsTo slabB
  rw [foldHit_add]
  refine congrArg (fun f => List.foldl f _ (List.finRange 16)) (funext fun acc => funext fun l => ?_)
  by_cases hml : mask (lane l) = 1#1
  · have hp := placeOf_hit mask kv l hml
    rw [hk] at hp
    refine ite_congr (propext ⟨fun hh => ⟨((hm l).mp hml).1, ((hm l).mp hml).2, hp ▸ hh.1.2⟩, fun hh => ⟨⟨hml, hp.trans hh.2.2⟩, hR l hml⟩⟩) (fun hh => ?_) (fun _ => rfl)
    rw [hv]
  · rw [if_neg fun hh => hml hh.1.1, if_neg fun hh => hml ((hm l).mpr ⟨hh.1, hh.2.1⟩)]

theorem rounds_zero (X : S32768.Idx → F .f32) (mask : IVec S16 1) (v : IVec S16 32) (vv : Vec F S16 .f32) (j : S32768.Idx) : roundsTo X mask v vv 0 j = X j :=
  foldl_no_hit _ (fun l => (mask (lane l) = 1#1 ∧ (v (lane l)).toNat = (j 0).val) ∧ laneCnt v l < 0) (fun acc l => FloatOps.maximumf acc (vv (lane l))) _
    fun l _ hh => Nat.not_lt_zero _ hh.2

/-- The number of rounds: no lane counted is above it, and it is itself one of the counts, or none. -/
theorem rounds_count (mask : IVec S16 1) (v : IVec S16 32) :
    let M := extractAt ![15] (xori (scan .max (xori (select mask (scanCount k2_pay9 v).2 (broadcast S16 0#32)) (broadcast S16 2147483648#32))) (broadcast S16 2147483648#32)) inpos_S16_p15
    M.toNat ≤ 16 ∧ ∀ l : Fin 16, mask (lane l) = 1#1 → laneCnt v l ≤ M.toNat := by
  have hsel : ∀ l : Fin 16, ((select mask (scanCount k2_pay9 v).2 (broadcast S16 0#32) : IVec S16 32) (lane l)).toNat = if mask (lane l) = 1#1 then laneCnt v l else 0 := by
    intro l
    show (Scalar.select (mask (lane l)) ((scanCount k2_pay9 v).2 (lane l)) 0#32).toNat = _
    rw [select_one]
    by_cases h : mask (lane l) = 1#1
    · rw [if_pos h, if_pos h]; exact scanCount_lane v l
    · rw [if_neg h, if_neg h]; rfl
  have hle : ∀ l : Fin 16, ((select mask (scanCount k2_pay9 v).2 (broadcast S16 0#32) : IVec S16 32) (lane l)).toNat ≤ 16 := by
    intro l; rw [hsel]; have := laneCnt_le v l; split <;> omega
  obtain ⟨⟨l₀, h1⟩, h2⟩ := max_last (select mask (scanCount k2_pay9 v).2 (broadcast S16 0#32)) fun l => by have := hle l; omega
  intro M
  refine ⟨?_, fun l hl => ?_⟩
  · show (extractAt _ _ _ : BitVec 32).toNat ≤ 16
    rw [h1]; exact hle l₀
  · have := h2 l
    rw [hsel, if_pos hl] at this
    exact this

/-! ## Sixteen places at once -/

/-- A loop, carrying what it keeps. -/
theorem own_loop {w : Nat} {σ : Type} {c : Thread nD τ} {l : Scf.Loop w} {hok : l.OK} {init : σ} {body : Fin l.trips → σ → PG F c σ}
    (I : ℕ → sProp (MM F)) {n : ℕ} (hn : l.trips = n) (hI : ∀ (t : Fin l.trips) (a : σ), I t.val ⊢ wpc c (body t a) (fun _ => I (t.val + 1))) :
    I 0 ⊢ wpc c (Scf.Loop.for l hok init body) (fun _ => I n) := by
  subst hn
  iintro H
  iapply (Scf.wp_for _ _ _ l.lb l.ub l.st hok init body (fun n _ => I n) hI)
  isplitl [H]; · iexact H
  iintro %a H
  iexact H

/-- A step that only computes. -/
theorem own_value {α β : Type} {c : Thread nD τ} {Q : α → sProp (MM F)} {p : PG F c β} {b : β} {k : β → PG F c α} (h : p = pure b) :
    wpc c (k b) Q ⊢ wpc c (p >>= k) Q := by
  subst h
  exact (fun _ h => h)

/-- Sixteen places of a rank-one memref are loaded: what follows is run at whatever the lanes then are. -/
theorem own_load16 {α : Type} {c : Thread nD τ} {Q : α → sProp (MM F)} {cs : CoreSpace} {e : EltTy} {N : ℕ} [NeZero N] {m : Memref sig c.2.kind cs ⟨1, ![N]⟩ e}
    {off : Fin 1 → ℕ} {inb : ∀ a, off a + (![16] : Fin 1 → ℕ) a ≤ (⟨1, ![N]⟩ : Shape).size a}
    {hl : m.view.LoadsAt (Rect.unit (s := ⟨1, ![N]⟩) off ![16] inb).toLoadRect} {k : (S16.Idx → Elt F e) → PG F c α} {q : PosShare TreeShare}
    {X : (⟨1, ![N]⟩ : Shape).Idx → Elt F e} :
    (owns c m q X : sProp (MM F)) ⊢ iprop((∀ v : S16.Idx → Elt F e, ⌜∀ l : Fin 16, v (lane l) = X (at1 N (off 0 + l.val))⌝ -∗ owns c m q X -∗ wpc c (k v) Q)
      -∗ wpc c (Prog.lift (.load m (Rect.unit (s := ⟨1, ![N]⟩) off ![16] inb).toLoadRect hl) >>= k) Q) := by
  iintro H Hk
  iapply own_load $$ H; iintro H
  ispecialize Hk $$ %(fun x => X ((Rect.unit (s := ⟨1, ![N]⟩) off ![16] inb).emb x))
  iapply Hk
  · ipureintro
    intro l
    exact congrArg X (emb_unit1 (N := N) (n := 16) inb (lane l))
  iexact H

/-- Sixteen places of a chunk, loaded. -/
theorem chunk_lane {α : Type} (f : ℕ → α) (P n : ℕ) (hn : n < 64) {off : Fin 1 → ℕ} (h0 : off 0 = 16 * n) {v : S16.Idx → α}
    (h : ∀ l : Fin 16, v (lane l) = (fun y : S1024.Idx => f (P + (y 0).val)) (at1 1024 (off 0 + l.val))) (l : Fin 16) : v (lane l) = f (P + 16 * n + l.val) := by
  refine (h l).trans (congrArg f ?_)
  have h1 : ((at1 1024 (off 0 + l.val)) 0).val = 16 * n + l.val := by
    have := l.isLt
    rw [h0, at1_val]
    omega
  show P + ((at1 1024 (off 0 + l.val)) 0).val = _
  rw [h1]; omega

/-- A chunk read out of the list. -/
theorem chunk_read {α : Type} (f : ℕ → α) {off : Fin 1 → ℕ} (inb : ∀ a, off a + (![1024] : Fin 1 → ℕ) a ≤ S1052672.size a) {P : ℕ} (h0 : off 0 = P) (y : S1024.Idx) :
    (fun y : S1052672.Idx => f (y 0).val) ((Rect.unit (s := S1052672) off ![1024] inb).emb y) = f (P + (y 0).val) := by
  have hi : off 0 + 1024 ≤ 1052672 := inb 0
  have hy : (y 0).val < 1024 := lt1 (N := 1024) y
  refine (congrArg (fun y : S1052672.Idx => f (y 0).val) (emb_unit1 (N := 1052672) (n := 1024) inb y)).trans (congrArg f ?_)
  rw [at1_val (by omega), h0]

/-- The lanes a round raises. -/
theorem round_mask (s e : BitVec 32) (b : BitVec 32) (ch : Fin (k2_t6_loop s e).trips) (t : Fin k2_t7_loop.trips) (v : IVec S16 32) (M : BitVec 32)
    (r : Fin (k2_t8_loop M).trips) (hr : r.val < 17) (l : Fin 16) :
    k2_pay12 s e b ch t v M r (lane l) = 1#1 ↔ k2_pay7 s e b ch t (lane l) = 1#1 ∧ laneCnt v l = r.val := by
  show IntOp.andi (k2_pay7 s e b ch t (lane l)) (IntOp.cmpi .eq (k2_pay10 v (lane l)) (Scf.iv 0#32 1#32 r.val)) = 1#1 ↔ _
  rw [andi_one, toNat_iv]
  refine and_congr_right fun _ => ?_
  show BitVec.ofBool (k2_pay10 v (lane l) == BitVec.ofNat 32 r.val) = 1#1 ↔ _
  rw [cmp_one, beq_iff_eq, ← scanCount_lane v l]
  constructor
  · intro hh
    refine (congrArg BitVec.toNat hh).trans ?_
    rw [BitVec.toNat_ofNat]; omega
  · intro hh
    refine BitVec.eq_of_toNat_eq (hh.trans ?_)
    rw [BitVec.toNat_ofNat]; omega

/-- The number of a tile's slab. -/
def slabOf (i : grid2.Coords) (t : ℕ) : ℕ := 32 * t + wid (i 0).val (i 1).val

theorem slabOf_lt (i : grid2.Coords) (t : Fin k2_t1_loop.trips) : slabOf i t.val < 512 := by
  have h0 : (i 0).val < 2 := (i 0).isLt
  have h1 : (i 1).val < 16 := (i 1).isLt
  have ht : t.val < 16 := t.isLt
  unfold slabOf wid
  omega

theorem min_lane : ∀ l : Fin 16, IntOp.minsi (BitVec.ofNat 32 l.val) 1#32 = BitVec.ofNat 32 (min l.val 1) := by decide

/-- The starts a slab reads: its own and the next. -/
theorem pay25_lane (i : grid2.Coords) (t : Fin k2_t1_loop.trips) (l : Fin 16) :
    (k2_pay25 (Scalar.addi (Scalar.muli (BitVec.ofNat 32 (i 1).val) 2#32) (BitVec.ofNat 32 (i 0).val)) (iota .scVector S16 32 [0] iota_S16_d0_w32_scVector) 0#32 1#32 t (lane l)).toNat
      = slabOf i t.val + min l.val 1 := by
  have h0 : (i 0).val < 2 := (i 0).isLt
  have h1 : (i 1).val < 16 := (i 1).isLt
  have ht : t.val < 16 := t.isLt
  have hm : min l.val 1 ≤ 1 := Nat.min_le_right _ _
  show ((Scf.iv 0#32 1#32 t.val * 32#32 + (BitVec.ofNat 32 (i 1).val * 2#32 + BitVec.ofNat 32 (i 0).val))
    + IntOp.minsi ((iota .scVector S16 32 [0] iota_S16_d0_w32_scVector : IVec S16 32) (lane l)) 1#32).toNat = _
  rw [iota_lane, min_lane, toNat_iv]
  simp only [BitVec.toNat_add, BitVec.toNat_mul, BitVec.toNat_ofNat]
  unfold slabOf wid
  generalize min l.val 1 = m at hm ⊢
  omega

/-- Lane `k` taken out of a vector by a running maximum. -/
theorem pick (v : IVec S16 32) (k : Fin 16) (hv : (v (lane k)).toNat < 2147483648) :
    extractAt ![15] (xori (scan .max (xori (select (cmpi .eq (iota .scVector S16 32 [0] iota_S16_d0_w32_scVector) (broadcast S16 (BitVec.ofNat 32 k.val))) v (broadcast S16 0#32))
      (broadcast S16 2147483648#32))) (broadcast S16 2147483648#32)) inpos_S16_p15 = v (lane k) := by
  have hu : ∀ l : Fin 16, (select (cmpi .eq (iota .scVector S16 32 [0] iota_S16_d0_w32_scVector) (broadcast S16 (BitVec.ofNat 32 k.val))) v (broadcast S16 0#32) : IVec S16 32) (lane l)
      = if l = k then v (lane k) else 0#32 := by
    intro l
    show Scalar.select (IntOp.cmpi .eq ((iota .scVector S16 32 [0] iota_S16_d0_w32_scVector : IVec S16 32) (lane l)) (BitVec.ofNat 32 k.val)) (v (lane l)) 0#32 = _
    rw [iota_lane, select_one]
    show (if BitVec.ofBool (BitVec.ofNat 32 l.val == BitVec.ofNat 32 k.val) = 1#1 then _ else _) = _
    have hiff : BitVec.ofBool (BitVec.ofNat 32 l.val == BitVec.ofNat 32 k.val) = 1#1 ↔ l = k := by
      rw [cmp_one, beq_iff_eq]
      constructor
      · intro h
        have := congrArg BitVec.toNat h
        rw [BitVec.toNat_ofNat, BitVec.toNat_ofNat] at this
        have h1 := l.isLt
        have h2 := k.isLt
        exact Fin.ext (by omega)
      · rintro rfl; rfl
    by_cases h : l = k
    · rw [if_pos (hiff.mpr h), if_pos h, h]
    · rw [if_neg fun hh => h (hiff.mp hh), if_neg h]
  obtain ⟨⟨l, h1⟩, h2⟩ := max_last (select (cmpi .eq (iota .scVector S16 32 [0] iota_S16_d0_w32_scVector) (broadcast S16 (BitVec.ofNat 32 k.val))) v (broadcast S16 0#32))
    fun l => by rw [hu]; split
                · exact hv
                · decide
  by_cases h : l = k
  · rw [h1, hu, if_pos h]
  · have h3 := h2 k
    rw [h1, hu, hu, if_neg h, if_pos rfl] at h3
    rw [h1, hu, if_neg h]
    exact (BitVec.eq_of_toNat_eq (Nat.le_zero.mp h3)).symm

/-- A slab of the grid once updated: scaled and raised along its stretch of the list. -/
def slabOut (G : ℕ → F .f32) (st : ℕ → BitVec 32) (bk : ℕ → BitVec 32) (bv : ℕ → F .f32) (b v : ℕ) : F .f32 :=
  slabB (fun v => G (32768 * b + v)) (st b).toNat (st (b + 1)).toNat bk bv (st (b + 1)).toNat v

/-! ## The loops -/

section Body

variable (d : Fin nD) (i : grid2.Coords)
  (arg2 : Memref sig .scVector .hbm S16777216 .f32) (harg2 : arg2.IsWhole) (arg3 : Memref sig .scVector .hbm S1052672 .i32) (harg3 : arg3.IsWhole)
  (arg4 : Memref sig .scVector .hbm S1052672 .f32) (harg4 : arg4.IsWhole) (arg5 : Memref sig .scVector .hbm S544 .i32) (harg5 : arg5.IsWhole)
  (arg6 : Memref sig .scVector .hbm S16777216 .f32) (harg6 : arg6.IsWhole) (arg7 : Memref sig .scVector .vmem S32768 .f32) (harg7 : arg7.IsWhole)
  (arg8 : Memref sig .scVector .vmem S32768 .f32) (harg8 : arg8.IsWhole) (arg9 : Memref sig .scVector .vmem S1024 .i32) (harg9 : arg9.IsWhole)
  (arg10 : Memref sig .scVector .vmem S1024 .f32) (harg10 : arg10.IsWhole) (arg11 : Memref sig .scVector .vmem S544 .i32) (harg11 : arg11.IsWhole)
  (v5_r0 v89_r1 v89_r2 v94_r3 v94_r4 v94_r5 v94_r6 v94_r7 v94_r8 v89_r9 : DmaSems sig S_)
  (g : ℕ → F .f32) (bk : ℕ → BitVec 32) (bv : ℕ → F .f32) (s e : BitVec 32) (hs : s.toNat ≤ e.toNat) (he : e.toNat ≤ 1048576)

/-- The tile that runs the body. -/
abbrev th2 : Thread nD τ := (d, .scVector ((i 0).castLE hcore2) ((i 1).castLE hsub2))

include hs he in
theorem k2_vecA (ch : Fin (k2_t2_loop s e).trips) (t : Fin k2_t3_loop.trips) (a : BitVec 32) :
    iprop(owns (th2 d i) arg9 fullShare (fun y : S1024.Idx => bk (8 * (s.toNat / 8) + 1024 * ch.val + (y 0).val))
        ∗ owns (th2 d i) arg7 fullShare (fun y : S32768.Idx => g (y 0).val)
        ∗ owns (th2 d i) arg8 fullShare (fun y : S32768.Idx => slabA g s.toNat e.toNat bk (8 * (s.toNat / 8) + 1024 * ch.val + 16 * t.val) (y 0).val))
      ⊢ wpc (F := F) (th2 d i) (k2_t3_body i arg2 harg2 arg3 harg3 arg4 harg4 arg5 harg5 arg6 harg6 arg7 harg7 arg8 harg8 arg9 harg9 arg10 harg10 arg11 harg11
          v5_r0 v89_r1 v89_r2 v94_r3 v94_r4 v94_r5 v94_r6 v94_r7 v94_r8 v89_r9 s e (base s) 0#32 ch t a)
        fun _ => iprop(owns (th2 d i) arg9 fullShare (fun y : S1024.Idx => bk (8 * (s.toNat / 8) + 1024 * ch.val + (y 0).val))
        ∗ owns (th2 d i) arg7 fullShare (fun y : S32768.Idx => g (y 0).val)
        ∗ owns (th2 d i) arg8 fullShare (fun y : S32768.Idx => slabA g s.toNat e.toNat bk (8 * (s.toNat / 8) + 1024 * ch.val + 16 * (t.val + 1)) (y 0).val)) := by
  have ht : t.val < 64 := t.isLt
  have hch : ch.val < 1028 := by
    have h1 := lt_of_lt_of_eq ch.isLt (t2_trips hs he)
    have h2 := chunks_toNat hs he
    omega
  unfold k2_t3_body
  iintro ⟨H9, H7, H8⟩
  iapply own_load16 $$ H9; iintro %kv %hkv H9
  have hk := chunk_lane bk (8 * (s.toNat / 8) + 1024 * ch.val) t.val ht (congrFun (k2_off3_eq t) 0) hkv
  have k4 : k2_chk4 (k2_pay2 (F := F) s e (base s) 0#32 ch t kv) :=
    ⟨lanes_inb (placeOf (inStretch s e ch.val t.val) kv) 32768 (placeOf_lt _ kv), lanes_inb (placeOf (inStretch s e ch.val t.val) kv) 32768 (placeOf_lt _ kv)⟩
  iapply own_assume k4
  iapply own_loadIdx $$ H7; iintro H7
  generalize e1 : loadIdx (F := F) (e := .f32) (s := S32768) _ _ _ = w
  iapply own_storeIdx $$ H8; iintro H8
  iapply own_ret
  isplitl [H9]; · iexact H9
  isplitl [H7]; · iexact H7
  have hst : ∀ j, storeIdx (F := F) (e := .f32) (s := S32768) (fun y => slabA g s.toNat e.toNat bk (8 * (s.toNat / 8) + 1024 * ch.val + 16 * t.val) (y 0).val)
      ![k2_pay2 (F := F) s e (base s) 0#32 ch t kv] (k2_pay3 w) (k2_pay1 s e (base s) 0#32 ch t) false k4.2 j
      = slabA g s.toNat e.toNat bk (8 * (s.toNat / 8) + 1024 * ch.val + 16 * (t.val + 1)) (j 0).val := fun j =>
    (scale_vector g bk (mask := inStretch s e ch.val t.val) (kv := kv) (P := 8 * (s.toNat / 8) + 1024 * ch.val + 16 * t.val)
      (fun l => inStretch_lane hs he hch ht l) hk (w := w)
      (fun l => (loadIdx_of_eq (N := 32768) e1 (lane l)).trans (congrArg g (at1_val (placeOf_lt _ kv l)))) _ j).trans (by rw [Nat.mul_add, Nat.add_assoc])
  ihave H8 := owns_congr hst $$ H8
  iexact H8

/-- One round of a vector's raising. -/
theorem k2_round (ch : Fin (k2_t6_loop s e).trips) (t : Fin k2_t7_loop.trips) (X : S32768.Idx → F .f32) (vv : Vec F S16 .f32) (v : IVec S16 32) (M : BitVec 32)
    (hM : M.toNat ≤ 16) (hv : ∀ l : Fin 16, (v (lane l)).toNat < 32768) (hw6 : k2_chk6 v M) (r : Fin (k2_t8_loop M).trips) (a : BitVec 32) :
    owns (th2 d i) arg8 fullShare (roundsTo X (k2_pay7 s e (base s) ch t) v vv r.val)
      ⊢ wpc (F := F) (th2 d i) (k2_t8_body i arg2 harg2 arg3 harg3 arg4 harg4 arg5 harg5 arg6 harg6 arg7 harg7 arg8 harg8 arg9 harg9 arg10 harg10 arg11 harg11
          v5_r0 v89_r1 v89_r2 v94_r3 v94_r4 v94_r5 v94_r6 v94_r7 v94_r8 v89_r9 s e (base s) ch t vv v M hw6 r a)
        fun _ => owns (th2 d i) arg8 fullShare (roundsTo X (k2_pay7 s e (base s) ch t) v vv (r.val + 1)) := by
  have hr : r.val < 17 := by have := lt_of_lt_of_eq r.isLt (t8_trips hM); omega
  unfold k2_t8_body
  iintro H8
  iapply own_loadIdx $$ H8; iintro H8
  generalize e1 : loadIdx (F := F) (e := .f32) (s := S32768) _ _ _ = w
  iapply own_storeIdx $$ H8; iintro H8
  iapply own_ret
  have hst := round_step X (k2_pay7 s e (base s) ch t) v vv w r.val (fun l => round_mask s e (base s) ch t v M r hr l) (k2_idx7_inb v M hw6 r)
    (fun l => loadIdx_of_eq (N := 32768) e1 (lane l))
  ihave H8 := owns_congr hst $$ H8
  iexact H8

/-- All the rounds of a vector. -/
theorem k2_rounds (ch : Fin (k2_t6_loop s e).trips) (t : Fin k2_t7_loop.trips) (X : S32768.Idx → F .f32) (vv : Vec F S16 .f32) (v : IVec S16 32) (M : BitVec 32)
    (hM : M.toNat ≤ 16) (hv : ∀ l : Fin 16, (v (lane l)).toNat < 32768) (hw6 : k2_chk6 v M) :
    owns (th2 d i) arg8 fullShare X
      ⊢ wpc (F := F) (th2 d i) (Scf.Loop.for (k2_t8_loop M) (k2_t8_ok v M hw6) 0#32 (k2_t8_body i arg2 harg2 arg3 harg3 arg4 harg4 arg5 harg5 arg6 harg6 arg7 harg7 arg8 harg8 arg9 harg9 arg10 harg10 arg11 harg11
          v5_r0 v89_r1 v89_r2 v94_r3 v94_r4 v94_r5 v94_r6 v94_r7 v94_r8 v89_r9 s e (base s) ch t vv v M hw6) >>= fun v128 : BitVec 32 =>
        Scf.Loop.for (k2_t9_loop M) (k2_t9_ok v M hw6) v128 (k2_t9_body i arg2 harg2 arg3 harg3 arg4 harg4 arg5 harg5 arg6 harg6 arg7 harg7 arg8 harg8 arg9 harg9 arg10 harg10 arg11 harg11
          v5_r0 v89_r1 v89_r2 v94_r3 v94_r4 v94_r5 v94_r6 v94_r7 v94_r8 v89_r9 s e (base s) ch t vv v M hw6) >>= fun _ : BitVec 32 => pure 0#32)
        fun _ => owns (th2 d i) arg8 fullShare (roundsTo X (k2_pay7 s e (base s) ch t) v vv (M.toNat + 1)) := by
  iintro H8
  iapply (own_for (fun r _ => owns (th2 d i) arg8 fullShare (roundsTo X (k2_pay7 s e (base s) ch t) v vv r))
    (fun r a => k2_round d i arg2 harg2 arg3 harg3 arg4 harg4 arg5 harg5 arg6 harg6 arg7 harg7 arg8 harg8 arg9 harg9 arg10 harg10 arg11 harg11 v5_r0 v89_r1 v89_r2 v94_r3 v94_r4 v94_r5 v94_r6 v94_r7 v94_r8 v89_r9 s e ch t X vv v M hM hv hw6 r a)) $$ [H8]
  · ihave H8 := owns_congr (fun j => (rounds_zero X (k2_pay7 s e (base s) ch t) v vv j).symm) $$ H8
    iexact H8
  iintro %a1 H8
  iapply (own_for (fun _ _ => iprop(emp)) fun r _ => absurd (lt_of_lt_of_eq r.isLt (t9_trips hM)) (Nat.not_lt_zero _)) $$ []
  · iempintro
  iintro %a2 -
  iapply own_ret
  rw [t8_trips hM]
  iexact H8

include hs he in
/-- What a vector's places and number of rounds are. -/
theorem vector_facts (ch : Fin (k2_t6_loop s e).trips) (t : Fin k2_t7_loop.trips) {kv : IVec S16 32} {vv : Vec F S16 .f32}
    (hk : ∀ l : Fin 16, kv (lane l) = bk (8 * (s.toNat / 8) + 1024 * ch.val + 16 * t.val + l.val))
    (hv : ∀ l : Fin 16, vv (lane l) = bv (8 * (s.toNat / 8) + 1024 * ch.val + 16 * t.val + l.val)) (v : IVec S16 32) (M : BitVec 32)
    (h1 : k2_pay8 (F := F) s e (base s) ch t kv = v) (h2 : extractAt ![15] (k2_pay11 s e (base s) ch t v) inpos_S16_p15 = M) :
    (∀ l : Fin 16, (v (lane l)).toNat < 32768) ∧ M.toNat ≤ 16 ∧ ∀ R, M.toNat < R → ∀ j : S32768.Idx,
      roundsTo (fun y : S32768.Idx => slabB g s.toNat e.toNat bk bv (8 * (s.toNat / 8) + 1024 * ch.val + 16 * t.val) (y 0).val) (k2_pay7 s e (base s) ch t) v vv R j
        = slabB g s.toNat e.toNat bk bv (8 * (s.toNat / 8) + 1024 * ch.val + 16 * (t.val + 1)) (j 0).val := by
  have ht : t.val < 64 := t.isLt
  have hch : ch.val < 1028 := by
    have h1 := lt_of_lt_of_eq ch.isLt (t6_trips hs he)
    have h2 := chunks_toNat hs he
    omega
  have hmask : k2_pay7 s e (base s) ch t = inStretch s e ch.val t.val := rfl
  have hpl : k2_pay8 (F := F) s e (base s) ch t kv = placeOf (k2_pay7 s e (base s) ch t) kv := rfl
  have hm := fun l => inStretch_lane hs he hch ht l
  rw [← hmask] at hm
  rw [hpl] at h1
  have hcnt := rounds_count (k2_pay7 s e (base s) ch t) v
  have hM : M.toNat ≤ 16 ∧ ∀ l : Fin 16, k2_pay7 s e (base s) ch t (lane l) = 1#1 → laneCnt v l ≤ M.toNat := by
    rw [← h2]; exact hcnt
  clear hcnt h2
  generalize k2_pay7 s e (base s) ch t = mask at hm h1 hM ⊢
  subst h1
  refine ⟨placeOf_lt mask kv, hM.1, fun R hR j => ?_⟩
  refine (rounds_done g bk bv hm hk hv (fun l hl => lt_of_le_of_lt (hM.2 l hl) hR) j).trans ?_
  rw [Nat.mul_add, Nat.add_assoc]

include hs he in
/-- One vector of a chunk raises the places it names. -/
theorem k2_vecB (ch : Fin (k2_t6_loop s e).trips) (t : Fin k2_t7_loop.trips) (a : BitVec 32) :
    iprop(owns (th2 d i) arg9 fullShare (fun y : S1024.Idx => bk (8 * (s.toNat / 8) + 1024 * ch.val + (y 0).val))
        ∗ owns (th2 d i) arg10 fullShare (fun y : S1024.Idx => bv (8 * (s.toNat / 8) + 1024 * ch.val + (y 0).val))
        ∗ owns (th2 d i) arg8 fullShare (fun y : S32768.Idx => slabB g s.toNat e.toNat bk bv (8 * (s.toNat / 8) + 1024 * ch.val + 16 * t.val) (y 0).val))
      ⊢ wpc (F := F) (th2 d i) (k2_t7_body i arg2 harg2 arg3 harg3 arg4 harg4 arg5 harg5 arg6 harg6 arg7 harg7 arg8 harg8 arg9 harg9 arg10 harg10 arg11 harg11
          v5_r0 v89_r1 v89_r2 v94_r3 v94_r4 v94_r5 v94_r6 v94_r7 v94_r8 v89_r9 s e (base s) ch t a)
        fun _ => iprop(owns (th2 d i) arg9 fullShare (fun y : S1024.Idx => bk (8 * (s.toNat / 8) + 1024 * ch.val + (y 0).val))
        ∗ owns (th2 d i) arg10 fullShare (fun y : S1024.Idx => bv (8 * (s.toNat / 8) + 1024 * ch.val + (y 0).val))
        ∗ owns (th2 d i) arg8 fullShare (fun y : S32768.Idx => slabB g s.toNat e.toNat bk bv (8 * (s.toNat / 8) + 1024 * ch.val + 16 * (t.val + 1)) (y 0).val)) := by
  have ht : t.val < 64 := t.isLt
  unfold k2_t7_body
  iintro ⟨H9, H10, H8⟩
  dsimp only
  iapply own_load16 $$ H9; iintro %kv %hkv H9
  iapply own_load16 $$ H10; iintro %vv %hvv H10
  have hk := chunk_lane bk (8 * (s.toNat / 8) + 1024 * ch.val) t.val ht (congrFun (k2_off7_eq t) 0) hkv
  have hv := chunk_lane bv (8 * (s.toNat / 8) + 1024 * ch.val) t.val ht (congrFun (k2_off7_eq t) 0) hvv
  obtain ⟨hpl, hM, hdone⟩ := vector_facts g bk bv s e hs he ch t hk hv _ _ rfl rfl
  iapply own_assume (chk6 hpl hM)
  iapply own_call (k2_rounds d i arg2 harg2 arg3 harg3 arg4 harg4 arg5 harg5 arg6 harg6 arg7 harg7 arg8 harg8 arg9 harg9 arg10 harg10 arg11 harg11 v5_r0 v89_r1 v89_r2 v94_r3 v94_r4 v94_r5 v94_r6 v94_r7 v94_r8 v89_r9 s e ch t _ vv _ _ hM hpl (chk6 hpl hM)) $$ H8
  iintro %a1 H8
  isplitl [H9]; · iexact H9
  isplitl [H10]; · iexact H10
  ihave H8 := owns_congr (hdone _ (Nat.lt_succ_self _)) $$ H8
  iexact H8

include hs he in
/-- One chunk of the stretch scales the places it names. -/
theorem k2_chunkA (O : CellTallies nD τ sig (HIx 3)) (W : Waits sig (HIx 3)) (q3 : PosShare TreeShare) (hw3 : k2_chk3 s e)
    (ch : Fin (k2_t2_loop s e).trips) (a : BitVec 32) :
    iprop(Transfers.MayWaits (th2 d i) (default : HIx 3) O ∗ owns (th2 d i) arg3 q3 (fun y : S1052672.Idx => bk (y 0).val)
        ∗ (∃ Y : S1024.Idx → BitVec 32, owns (th2 d i) arg9 fullShare Y)
        ∗ owns (th2 d i) arg7 fullShare (fun y : S32768.Idx => g (y 0).val)
        ∗ owns (th2 d i) arg8 fullShare (fun y : S32768.Idx => slabA g s.toNat e.toNat bk (8 * (s.toNat / 8) + 1024 * ch.val) (y 0).val)
        ∗ semVal (th2 d i, .dma v94_r3.sem) 0 ∗ oweK (th2 d i) O W)
      ⊢ wpc (F := F) (th2 d i) (k2_t2_body i arg2 harg2 arg3 harg3 arg4 harg4 arg5 harg5 arg6 harg6 arg7 harg7 arg8 harg8 arg9 harg9 arg10 harg10 arg11 harg11
          v5_r0 v89_r1 v89_r2 v94_r3 v94_r4 v94_r5 v94_r6 v94_r7 v94_r8 v89_r9 s e hw3 (base s) 0#32 ch a)
        fun _ => iprop(Transfers.MayWaits (th2 d i) (default : HIx 3) O ∗ owns (th2 d i) arg3 q3 (fun y : S1052672.Idx => bk (y 0).val)
        ∗ (∃ Y : S1024.Idx → BitVec 32, owns (th2 d i) arg9 fullShare Y)
        ∗ owns (th2 d i) arg7 fullShare (fun y : S32768.Idx => g (y 0).val)
        ∗ owns (th2 d i) arg8 fullShare (fun y : S32768.Idx => slabA g s.toNat e.toNat bk (8 * (s.toNat / 8) + 1024 * (ch.val + 1)) (y 0).val)
        ∗ semVal (th2 d i, .dma v94_r3.sem) 0 ∗ oweK (th2 d i) O W) := by
  unfold k2_t2_body
  iintro ⟨#HM, H3, ⟨%Y9, H9⟩, H7, H8, Hs3, HO⟩
  dsimp only
  iapply (own_copy_fromK (show 0 < S1024.numel by decide)) $$ [H3 H9 Hs3 HO]
  · isplitl [H3]; · iexact H3
    isplitl [H9]; · iexact H9
    isplitl [Hs3]; · iexact Hs3
    isplitl [HO]; · iexact HO
    iexact HM
  iintro ⟨H3, H9, Hs3, HO⟩
  have hoff := congrFun (off2_eq hs he ch) 0
  simp only [Matrix.cons_val_zero] at hoff
  ihave H9 := owns_congr (chunk_read bk (k2_off2_inb s e hw3 ch) hoff) $$ H9
  iapply (own_for (fun t _ => iprop(owns (th2 d i) arg9 fullShare (fun y : S1024.Idx => bk (8 * (s.toNat / 8) + 1024 * ch.val + (y 0).val))
        ∗ owns (th2 d i) arg7 fullShare (fun y : S32768.Idx => g (y 0).val)
        ∗ owns (th2 d i) arg8 fullShare (fun y : S32768.Idx => slabA g s.toNat e.toNat bk (8 * (s.toNat / 8) + 1024 * ch.val + 16 * t) (y 0).val)))
      (fun t a => k2_vecA d i arg2 harg2 arg3 harg3 arg4 harg4 arg5 harg5 arg6 harg6 arg7 harg7 arg8 harg8 arg9 harg9 arg10 harg10 arg11 harg11
        v5_r0 v89_r1 v89_r2 v94_r3 v94_r4 v94_r5 v94_r6 v94_r7 v94_r8 v89_r9 g bk s e hs he ch t a)) $$ [H7 H8 H9]
  · isplitl [H9]; · iexact H9
    isplitl [H7]; · iexact H7
    iexact H8
  iintro %a1 ⟨H9, H7, H8⟩
  iapply own_ret
  isplitr; · iexact HM
  isplitl [H3]; · iexact H3
  isplitl [H9]; · iexists _; iexact H9
  isplitl [H7]; · iexact H7
  isplitl [H8]
  · rw [show 8 * (s.toNat / 8) + 1024 * (ch.val + 1) = 8 * (s.toNat / 8) + 1024 * ch.val + 16 * k2_t3_loop.trips from (by rw [Nat.mul_add, ← Nat.add_assoc] : 8 * (s.toNat / 8) + 1024 * (ch.val + 1) = 8 * (s.toNat / 8) + 1024 * ch.val + 1024 * 1)]
    iexact H8
  isplitl [Hs3]; · iexact Hs3
  iexact HO

include hs he in
/-- One chunk of the stretch raises the places it names. -/
theorem k2_chunkB (O : CellTallies nD τ sig (HIx 3)) (W : Waits sig (HIx 3)) (q3 q4 : PosShare TreeShare) (hw3 : k2_chk3 s e)
    (ch : Fin (k2_t6_loop s e).trips) (a : BitVec 32) :
    iprop(Transfers.MayWaits (th2 d i) (default : HIx 3) O ∗ owns (th2 d i) arg3 q3 (fun y : S1052672.Idx => bk (y 0).val)
        ∗ owns (th2 d i) arg4 q4 (fun y : S1052672.Idx => bv (y 0).val)
        ∗ (∃ Y : S1024.Idx → BitVec 32, owns (th2 d i) arg9 fullShare Y)
        ∗ (∃ Y : S1024.Idx → F .f32, owns (th2 d i) arg10 fullShare Y)
        ∗ owns (th2 d i) arg8 fullShare (fun y : S32768.Idx => slabB g s.toNat e.toNat bk bv (8 * (s.toNat / 8) + 1024 * ch.val) (y 0).val)
        ∗ semVal (th2 d i, .dma v94_r5.sem) 0 ∗ semVal (th2 d i, .dma v94_r6.sem) 0 ∗ oweK (th2 d i) O W)
      ⊢ wpc (F := F) (th2 d i) (k2_t6_body i arg2 harg2 arg3 harg3 arg4 harg4 arg5 harg5 arg6 harg6 arg7 harg7 arg8 harg8 arg9 harg9 arg10 harg10 arg11 harg11
          v5_r0 v89_r1 v89_r2 v94_r3 v94_r4 v94_r5 v94_r6 v94_r7 v94_r8 v89_r9 s e hw3 (base s) ch a)
        fun _ => iprop(Transfers.MayWaits (th2 d i) (default : HIx 3) O ∗ owns (th2 d i) arg3 q3 (fun y : S1052672.Idx => bk (y 0).val)
        ∗ owns (th2 d i) arg4 q4 (fun y : S1052672.Idx => bv (y 0).val)
        ∗ (∃ Y : S1024.Idx → BitVec 32, owns (th2 d i) arg9 fullShare Y)
        ∗ (∃ Y : S1024.Idx → F .f32, owns (th2 d i) arg10 fullShare Y)
        ∗ owns (th2 d i) arg8 fullShare (fun y : S32768.Idx => slabB g s.toNat e.toNat bk bv (8 * (s.toNat / 8) + 1024 * (ch.val + 1)) (y 0).val)
        ∗ semVal (th2 d i, .dma v94_r5.sem) 0 ∗ semVal (th2 d i, .dma v94_r6.sem) 0 ∗ oweK (th2 d i) O W) := by
  unfold k2_t6_body
  iintro ⟨#HM, H3, H4, ⟨%Y9, H9⟩, ⟨%Y10, H10⟩, H8, Hs5, Hs6, HO⟩
  dsimp only
  iapply (own_copy_fromK (show 0 < S1024.numel by decide)) $$ [H3 H9 Hs5 HO]
  · isplitl [H3]; · iexact H3
    isplitl [H9]; · iexact H9
    isplitl [Hs5]; · iexact Hs5
    isplitl [HO]; · iexact HO
    iexact HM
  iintro ⟨H3, H9, Hs5, HO⟩
  iapply (own_copy_fromK (show 0 < S1024.numel by decide)) $$ [H4 H10 Hs6 HO]
  · isplitl [H4]; · iexact H4
    isplitl [H10]; · iexact H10
    isplitl [Hs6]; · iexact Hs6
    isplitl [HO]; · iexact HO
    iexact HM
  iintro ⟨H4, H10, Hs6, HO⟩
  have hoff := congrFun (off6_eq hs he ch) 0
  simp only [Matrix.cons_val_zero] at hoff
  ihave H9 := owns_congr (chunk_read bk (k2_off6_inb s e hw3 ch) hoff) $$ H9
  ihave H10 := owns_congr (chunk_read bv (k2_off6_inb s e hw3 ch) hoff) $$ H10
  iapply (own_for (fun t _ => iprop(owns (th2 d i) arg9 fullShare (fun y : S1024.Idx => bk (8 * (s.toNat / 8) + 1024 * ch.val + (y 0).val))
        ∗ owns (th2 d i) arg10 fullShare (fun y : S1024.Idx => bv (8 * (s.toNat / 8) + 1024 * ch.val + (y 0).val))
        ∗ owns (th2 d i) arg8 fullShare (fun y : S32768.Idx => slabB g s.toNat e.toNat bk bv (8 * (s.toNat / 8) + 1024 * ch.val + 16 * t) (y 0).val)))
      (fun t a => k2_vecB d i arg2 harg2 arg3 harg3 arg4 harg4 arg5 harg5 arg6 harg6 arg7 harg7 arg8 harg8 arg9 harg9 arg10 harg10 arg11 harg11
        v5_r0 v89_r1 v89_r2 v94_r3 v94_r4 v94_r5 v94_r6 v94_r7 v94_r8 v89_r9 g bk bv s e hs he ch t a)) $$ [H8 H9 H10]
  · isplitl [H9]; · iexact H9
    isplitl [H10]; · iexact H10
    iexact H8
  iintro %a1 ⟨H9, H10, H8⟩
  iapply own_ret
  isplitr; · iexact HM
  isplitl [H3]; · iexact H3
  isplitl [H4]; · iexact H4
  isplitl [H9]; · iexists _; iexact H9
  isplitl [H10]; · iexists _; iexact H10
  isplitl [H8]
  · rw [show 8 * (s.toNat / 8) + 1024 * (ch.val + 1) = 8 * (s.toNat / 8) + 1024 * ch.val + 16 * k2_t7_loop.trips from (by rw [Nat.mul_add, ← Nat.add_assoc] : 8 * (s.toNat / 8) + 1024 * (ch.val + 1) = 8 * (s.toNat / 8) + 1024 * ch.val + 1024 * 1)]
    iexact H8
  isplitl [Hs5]; · iexact Hs5
  isplitl [Hs6]; · iexact Hs6
  iexact HO

include hs he in
/-- All the chunks of the stretch scale, -/
theorem k2_chunksA (O : CellTallies nD τ sig (HIx 3)) (W : Waits sig (HIx 3)) (q3 : PosShare TreeShare) (hw3 : k2_chk3 s e) (a : BitVec 32) :
    iprop(Transfers.MayWaits (th2 d i) (default : HIx 3) O ∗ owns (th2 d i) arg3 q3 (fun y : S1052672.Idx => bk (y 0).val)
        ∗ (∃ Y : S1024.Idx → BitVec 32, owns (th2 d i) arg9 fullShare Y)
        ∗ owns (th2 d i) arg7 fullShare (fun y : S32768.Idx => g (y 0).val)
        ∗ owns (th2 d i) arg8 fullShare (fun y : S32768.Idx => slabA g s.toNat e.toNat bk (8 * (s.toNat / 8) + 1024 * 0) (y 0).val)
        ∗ semVal (th2 d i, .dma v94_r3.sem) 0 ∗ oweK (th2 d i) O W)
      ⊢ wpc (F := F) (th2 d i) (Scf.Loop.for (k2_t2_loop s e) (k2_t2_ok s e hw3) a (k2_t2_body i arg2 harg2 arg3 harg3 arg4 harg4 arg5 harg5 arg6 harg6 arg7 harg7 arg8 harg8 arg9 harg9 arg10 harg10 arg11 harg11
          v5_r0 v89_r1 v89_r2 v94_r3 v94_r4 v94_r5 v94_r6 v94_r7 v94_r8 v89_r9 s e hw3 (base s) 0#32))
        fun _ => iprop(Transfers.MayWaits (th2 d i) (default : HIx 3) O ∗ owns (th2 d i) arg3 q3 (fun y : S1052672.Idx => bk (y 0).val)
        ∗ (∃ Y : S1024.Idx → BitVec 32, owns (th2 d i) arg9 fullShare Y)
        ∗ owns (th2 d i) arg7 fullShare (fun y : S32768.Idx => g (y 0).val)
        ∗ owns (th2 d i) arg8 fullShare (fun y : S32768.Idx => slabA g s.toNat e.toNat bk (8 * (s.toNat / 8) + 1024 * (chunks s e).toNat) (y 0).val)
        ∗ semVal (th2 d i, .dma v94_r3.sem) 0 ∗ oweK (th2 d i) O W) :=
  own_loop (fun ch => iprop(Transfers.MayWaits (th2 d i) (default : HIx 3) O ∗ owns (th2 d i) arg3 q3 (fun y : S1052672.Idx => bk (y 0).val)
        ∗ (∃ Y : S1024.Idx → BitVec 32, owns (th2 d i) arg9 fullShare Y)
        ∗ owns (th2 d i) arg7 fullShare (fun y : S32768.Idx => g (y 0).val)
        ∗ owns (th2 d i) arg8 fullShare (fun y : S32768.Idx => slabA g s.toNat e.toNat bk (8 * (s.toNat / 8) + 1024 * ch) (y 0).val)
        ∗ semVal (th2 d i, .dma v94_r3.sem) 0 ∗ oweK (th2 d i) O W)) (t2_trips hs he)
    (fun ch a => k2_chunkA d i arg2 harg2 arg3 harg3 arg4 harg4 arg5 harg5 arg6 harg6 arg7 harg7 arg8 harg8 arg9 harg9 arg10 harg10 arg11 harg11
        v5_r0 v89_r1 v89_r2 v94_r3 v94_r4 v94_r5 v94_r6 v94_r7 v94_r8 v89_r9 g bk s e hs he O W q3 hw3 ch a)

include hs he in
/-- and then all of them raise. -/
theorem k2_chunksB (O : CellTallies nD τ sig (HIx 3)) (W : Waits sig (HIx 3)) (q3 q4 : PosShare TreeShare) (hw3 : k2_chk3 s e) (a : BitVec 32) :
    iprop(Transfers.MayWaits (th2 d i) (default : HIx 3) O ∗ owns (th2 d i) arg3 q3 (fun y : S1052672.Idx => bk (y 0).val)
        ∗ owns (th2 d i) arg4 q4 (fun y : S1052672.Idx => bv (y 0).val)
        ∗ (∃ Y : S1024.Idx → BitVec 32, owns (th2 d i) arg9 fullShare Y)
        ∗ (∃ Y : S1024.Idx → F .f32, owns (th2 d i) arg10 fullShare Y)
        ∗ owns (th2 d i) arg8 fullShare (fun y : S32768.Idx => slabB g s.toNat e.toNat bk bv (8 * (s.toNat / 8) + 1024 * 0) (y 0).val)
        ∗ semVal (th2 d i, .dma v94_r5.sem) 0 ∗ semVal (th2 d i, .dma v94_r6.sem) 0 ∗ oweK (th2 d i) O W)
      ⊢ wpc (F := F) (th2 d i) (Scf.Loop.for (k2_t6_loop s e) (k2_t6_ok s e hw3) a (k2_t6_body i arg2 harg2 arg3 harg3 arg4 harg4 arg5 harg5 arg6 harg6 arg7 harg7 arg8 harg8 arg9 harg9 arg10 harg10 arg11 harg11
          v5_r0 v89_r1 v89_r2 v94_r3 v94_r4 v94_r5 v94_r6 v94_r7 v94_r8 v89_r9 s e hw3 (base s)))
        fun _ => iprop(Transfers.MayWaits (th2 d i) (default : HIx 3) O ∗ owns (th2 d i) arg3 q3 (fun y : S1052672.Idx => bk (y 0).val)
        ∗ owns (th2 d i) arg4 q4 (fun y : S1052672.Idx => bv (y 0).val)
        ∗ (∃ Y : S1024.Idx → BitVec 32, owns (th2 d i) arg9 fullShare Y)
        ∗ (∃ Y : S1024.Idx → F .f32, owns (th2 d i) arg10 fullShare Y)
        ∗ owns (th2 d i) arg8 fullShare (fun y : S32768.Idx => slabB g s.toNat e.toNat bk bv (8 * (s.toNat / 8) + 1024 * (chunks s e).toNat) (y 0).val)
        ∗ semVal (th2 d i, .dma v94_r5.sem) 0 ∗ semVal (th2 d i, .dma v94_r6.sem) 0 ∗ oweK (th2 d i) O W) :=
  own_loop (fun ch => iprop(Transfers.MayWaits (th2 d i) (default : HIx 3) O ∗ owns (th2 d i) arg3 q3 (fun y : S1052672.Idx => bk (y 0).val)
        ∗ owns (th2 d i) arg4 q4 (fun y : S1052672.Idx => bv (y 0).val)
        ∗ (∃ Y : S1024.Idx → BitVec 32, owns (th2 d i) arg9 fullShare Y)
        ∗ (∃ Y : S1024.Idx → F .f32, owns (th2 d i) arg10 fullShare Y)
        ∗ owns (th2 d i) arg8 fullShare (fun y : S32768.Idx => slabB g s.toNat e.toNat bk bv (8 * (s.toNat / 8) + 1024 * ch) (y 0).val)
        ∗ semVal (th2 d i, .dma v94_r5.sem) 0 ∗ semVal (th2 d i, .dma v94_r6.sem) 0 ∗ oweK (th2 d i) O W)) (t6_trips hs he)
    (fun ch a => k2_chunkB d i arg2 harg2 arg3 harg3 arg4 harg4 arg5 harg5 arg6 harg6 arg7 harg7 arg8 harg8 arg9 harg9 arg10 harg10 arg11 harg11
        v5_r0 v89_r1 v89_r2 v94_r3 v94_r4 v94_r5 v94_r6 v94_r7 v94_r8 v89_r9 g bk bv s e hs he O W q3 q4 hw3 ch a)

/-- The chunks of a stretch. -/
theorem part2_eq : k2_part2 (F := F) i arg2 harg2 arg3 harg3 arg4 harg4 arg5 harg5 arg6 harg6 arg7 harg7 arg8 harg8 arg9 harg9 arg10 harg10 arg11 harg11
      v5_r0 v89_r1 v89_r2 v94_r3 v94_r4 v94_r5 v94_r6 v94_r7 v94_r8 v89_r9 s e 8#32 (Scalar.divsi s 8#32) 0#32
    = pure ⟨base s, chunks s e, 0#32, 0#32, Scalar.subi (chunks s e) 0#32, 1#32⟩ := by
  rw [k2_part2_eq_skeleton]; rfl

/-- Where a slab is read from, -/
abbrev inSlice (t : Fin k2_t1_loop.trips) : Memref sig .scVector .hbm S32768 .f32 :=
  arg2.slice (Rect.unit (s := S16777216) (k2_off1 i t) S32768.size (k2_off1_inb i t)) (fun _ => rfl)

/-- and where it is written. -/
abbrev outSlice (t : Fin k2_t1_loop.trips) : Memref sig .scVector .hbm S32768 .f32 :=
  arg6.slice (Rect.unit (s := S16777216) (k2_off10 i t) S32768.size (k2_off10_inb i t)) (fun _ => rfl)

variable (G : ℕ → F .f32) (st : ℕ → BitVec 32) (hst : ∀ b, b < 512 → (st b).toNat ≤ (st (b + 1)).toNat ∧ (st (b + 1)).toNat ≤ 1048576)

include hst in
theorem k2_open (O : CellTallies nD τ sig (HIx 3)) (W : Waits sig (HIx 3)) (q2 : PosShare TreeShare) (t : Fin k2_t1_loop.trips) :
    iprop(Transfers.MayWaits (th2 d i) (default : HIx 3) O ∗ owns (th2 d i) arg2 q2 (fun y : S16777216.Idx => G (y 0).val)
        ∗ owns (th2 d i) arg11 fullShare (fun y : S544.Idx => st (y 0).val)
        ∗ (∃ Y : S32768.Idx → F .f32, owns (th2 d i) arg7 fullShare Y)
        ∗ (∃ Y : S32768.Idx → F .f32, owns (th2 d i) arg8 fullShare Y)
        ∗ semVal (th2 d i, .dma v89_r1.sem) 0 ∗ semVal (th2 d i, .dma v89_r2.sem) 0 ∗ oweK (th2 d i) O W)
      ⊢ wpc (F := F) (th2 d i) (k2_part1 i arg2 harg2 arg3 harg3 arg4 harg4 arg5 harg5 arg6 harg6 arg7 harg7 arg8 harg8 arg9 harg9 arg10 harg10 arg11 harg11
          v5_r0 v89_r1 v89_r2 v94_r3 v94_r4 v94_r5 v94_r6 v94_r7 v94_r8 v89_r9 (Scalar.addi (Scalar.muli (BitVec.ofNat 32 (i 1).val) 2#32) (BitVec.ofNat 32 (i 0).val))
          (iota .scVector S16 32 [0] iota_S16_d0_w32_scVector) 0#32 1#32 t)
        fun r => iprop(⌜r.1 = st (slabOf i t.val) ∧ r.2.1 = st (slabOf i t.val + 1) ∧ r.2.2.2.1 = 8#32 ∧ r.2.2.2.2.1 = Scalar.divsi r.1 8#32 ∧ r.2.2.2.2.2 = 0#32⌝
        ∗ owns (th2 d i) arg2 q2 (fun y : S16777216.Idx => G (y 0).val)
        ∗ owns (th2 d i) arg11 fullShare (fun y : S544.Idx => st (y 0).val)
        ∗ owns (th2 d i) arg7 fullShare (fun y : S32768.Idx => G (32768 * slabOf i t.val + (y 0).val))
        ∗ owns (th2 d i) arg8 fullShare (fun y : S32768.Idx => G (32768 * slabOf i t.val + (y 0).val))
        ∗ semVal (th2 d i, .dma v89_r1.sem) 0 ∗ semVal (th2 d i, .dma v89_r2.sem) 0 ∗ oweK (th2 d i) O W) := by
  have hsl := slabOf_lt i t
  have hl := pay25_lane i t
  rw [k2_part1_eq_skeleton]
  unfold k2_part1_skel
  iintro ⟨#HM, H2, H11, ⟨%Y7, H7⟩, ⟨%Y8, H8⟩, Hs1, Hs2, HO⟩
  dsimp only
  generalize k2_pay25 _ _ _ _ t = v12 at hl ⊢
  have k1 : k2_chk1 v12 := lanes_inb v12 544 fun l => by have := hl l; have := Nat.min_le_right l.val 1; omega
  iapply own_assume k1
  iapply own_loadIdx $$ H11; iintro H11
  generalize e1 : loadIdx (F := F) (e := .i32) (s := S544) _ _ _ = w
  have hw : ∀ l : Fin 16, w (lane l) = st (slabOf i t.val + min l.val 1) := fun l =>
    (loadIdx_of_eq (N := 544) e1 (lane l)).trans (congrArg st ((at1_val (by have := hl l; have := Nat.min_le_right l.val 1; omega)).trans (hl l)))
  have hw0 : w (lane 0) = st (slabOf i t.val) := hw 0
  have hw1 : w (lane 1) = st (slabOf i t.val + 1) := hw 1
  obtain ⟨hs, he⟩ := hst _ hsl
  have hv0 : extractAt ![15] (k2_pay26 (F := F) (iota .scVector S16 32 [0] iota_S16_d0_w32_scVector) w) inpos_S16_p15 = st (slabOf i t.val) :=
    (pick w 0 (by rw [hw0]; omega)).trans hw0
  have hv1 : extractAt ![15] (k2_pay27 (F := F) (iota .scVector S16 32 [0] iota_S16_d0_w32_scVector) w) inpos_S16_p15 = st (slabOf i t.val + 1) :=
    (pick w 1 (by rw [hw1]; omega)).trans hw1
  iapply own_assume (chk2 (s := extractAt ![15] (k2_pay26 (F := F) (iota .scVector S16 32 [0] iota_S16_d0_w32_scVector) w) inpos_S16_p15) (by rw [hv0]; omega))
  iapply own_assume (chk3 (s := extractAt ![15] (k2_pay26 (F := F) (iota .scVector S16 32 [0] iota_S16_d0_w32_scVector) w) inpos_S16_p15)
    (e := extractAt ![15] (k2_pay27 (F := F) (iota .scVector S16 32 [0] iota_S16_d0_w32_scVector) w) inpos_S16_p15)
    (by rw [hv0, hv1]; exact hs) (by rw [hv1]; exact he))
  iapply (own_copy_fromK (show 0 < S32768.numel by decide)) $$ [H2 H7 Hs1 HO]
  · isplitl [H2]; · iexact H2
    isplitl [H7]; · iexact H7
    isplitl [Hs1]; · iexact Hs1
    isplitl [HO]; · iexact HO
    iexact HM
  iintro ⟨H2, H7, Hs1, HO⟩
  iapply (own_copy_fromK (show 0 < S32768.numel by decide)) $$ [H2 H8 Hs2 HO]
  · isplitl [H2]; · iexact H2
    isplitl [H8]; · iexact H8
    isplitl [Hs2]; · iexact Hs2
    isplitl [HO]; · iexact HO
    iexact HM
  iintro ⟨H2, H8, Hs2, HO⟩
  have hrd : ∀ y : S32768.Idx, (fun y : S16777216.Idx => G (y 0).val) ((Rect.unit (s := S16777216) (k2_off1 i t) S32768.size (k2_off1_inb i t)).emb y)
      = G (32768 * slabOf i t.val + (y 0).val) := by
    intro y
    have hi : k2_off1 i t 0 + 32768 ≤ 16777216 := k2_off1_inb i t 0
    have hy : (y 0).val < 32768 := lt1 (N := 32768) y
    have hoff := congrFun (k2_off1_eq i t) 0
    simp only [Matrix.cons_val_zero] at hoff
    refine (congrArg (fun y : S16777216.Idx => G (y 0).val) (emb_unit1 (N := 16777216) (n := 32768) (k2_off1_inb i t) y)).trans (congrArg G ?_)
    rw [at1_val (by omega), hoff]
    unfold slabOf wid
    omega
  ihave H7 := owns_congr hrd $$ H7
  ihave H8 := owns_congr hrd $$ H8
  iapply own_ret
  isplitr; · ipureintro; exact ⟨hv0, hv1, rfl, rfl, rfl⟩
  isplitl [H2]; · iexact H2
  isplitl [H11]; · iexact H11
  isplitl [H7]; · iexact H7
  isplitl [H8]; · iexact H8
  isplitl [Hs1]; · iexact Hs1
  isplitl [Hs2]; · iexact Hs2
  iexact HO

include hst in
/-- One slab. -/
theorem k2_slab (O : CellTallies nD τ sig (HIx 3)) (W : Waits sig (HIx 3)) (q2 q3 q4 : PosShare TreeShare) (t : Fin k2_t1_loop.trips) (a : BitVec 32) :
    iprop(Transfers.MayWaits (th2 d i) (default : HIx 3) O ∗ owns (th2 d i) arg2 q2 (fun y : S16777216.Idx => G (y 0).val)
        ∗ owns (th2 d i) arg3 q3 (fun y : S1052672.Idx => bk (y 0).val) ∗ owns (th2 d i) arg4 q4 (fun y : S1052672.Idx => bv (y 0).val)
        ∗ owns (th2 d i) arg11 fullShare (fun y : S544.Idx => st (y 0).val)
        ∗ (∃ Y : S32768.Idx → F .f32, owns (th2 d i) arg7 fullShare Y) ∗ (∃ Y : S32768.Idx → F .f32, owns (th2 d i) arg8 fullShare Y)
        ∗ (∃ Y : S1024.Idx → BitVec 32, owns (th2 d i) arg9 fullShare Y) ∗ (∃ Y : S1024.Idx → F .f32, owns (th2 d i) arg10 fullShare Y)
        ∗ semVal (th2 d i, .dma v89_r1.sem) 0 ∗ semVal (th2 d i, .dma v89_r2.sem) 0 ∗ semVal (th2 d i, .dma v94_r3.sem) 0
        ∗ semVal (th2 d i, .dma v94_r5.sem) 0 ∗ semVal (th2 d i, .dma v94_r6.sem) 0 ∗ semVal (th2 d i, .dma v89_r9.sem) 0 ∗ oweK (th2 d i) O W
        ∗ (∃ Y : S32768.Idx → F .f32, owns (th2 d i) (outSlice i arg6 t) fullShare Y))
      ⊢ wpc (F := F) (th2 d i) (k2_t1_body i arg2 harg2 arg3 harg3 arg4 harg4 arg5 harg5 arg6 harg6 arg7 harg7 arg8 harg8 arg9 harg9 arg10 harg10 arg11 harg11
          v5_r0 v89_r1 v89_r2 v94_r3 v94_r4 v94_r5 v94_r6 v94_r7 v94_r8 v89_r9 (Scalar.addi (Scalar.muli (BitVec.ofNat 32 (i 1).val) 2#32) (BitVec.ofNat 32 (i 0).val))
          (iota .scVector S16 32 [0] iota_S16_d0_w32_scVector) t a)
        fun _ => iprop(Transfers.MayWaits (th2 d i) (default : HIx 3) O ∗ owns (th2 d i) arg2 q2 (fun y : S16777216.Idx => G (y 0).val)
        ∗ owns (th2 d i) arg3 q3 (fun y : S1052672.Idx => bk (y 0).val) ∗ owns (th2 d i) arg4 q4 (fun y : S1052672.Idx => bv (y 0).val)
        ∗ owns (th2 d i) arg11 fullShare (fun y : S544.Idx => st (y 0).val)
        ∗ (∃ Y : S32768.Idx → F .f32, owns (th2 d i) arg7 fullShare Y) ∗ (∃ Y : S32768.Idx → F .f32, owns (th2 d i) arg8 fullShare Y)
        ∗ (∃ Y : S1024.Idx → BitVec 32, owns (th2 d i) arg9 fullShare Y) ∗ (∃ Y : S1024.Idx → F .f32, owns (th2 d i) arg10 fullShare Y)
        ∗ semVal (th2 d i, .dma v89_r1.sem) 0 ∗ semVal (th2 d i, .dma v89_r2.sem) 0 ∗ semVal (th2 d i, .dma v94_r3.sem) 0
        ∗ semVal (th2 d i, .dma v94_r5.sem) 0 ∗ semVal (th2 d i, .dma v94_r6.sem) 0 ∗ semVal (th2 d i, .dma v89_r9.sem) 0 ∗ oweK (th2 d i) O W
        ∗ owns (th2 d i) (outSlice i arg6 t) fullShare (fun y : S32768.Idx => slabOut G st bk bv (slabOf i t.val) (y 0).val)) := by
  have hsl := slabOf_lt i t
  unfold k2_t1_body
  iintro ⟨#HM, H2, H3, H4, H11, H7, H8, ⟨%Y9, H9⟩, ⟨%Y10, H10⟩, Hs1, Hs2, Hs3, Hs5, Hs6, Hs9, HO, ⟨%Z, H6⟩⟩
  dsimp only
  iapply (own_call_bind (k2_open d i arg2 harg2 arg3 harg3 arg4 harg4 arg5 harg5 arg6 harg6 arg7 harg7 arg8 harg8 arg9 harg9 arg10 harg10 arg11 harg11 v5_r0 v89_r1 v89_r2 v94_r3 v94_r4 v94_r5 v94_r6 v94_r7 v94_r8 v89_r9 G st hst O W q2 t))
    $$ [H2 H11 H7 H8 Hs1 Hs2 HO]
  · isplitr; · iexact HM
    isplitl [H2]; · iexact H2
    isplitl [H11]; · iexact H11
    isplitl [H7]; · iexact H7
    isplitl [H8]; · iexact H8
    isplitl [Hs1]; · iexact Hs1
    isplitl [Hs2]; · iexact Hs2
    iexact HO
  iintro %r ⟨%hr, H2, H11, H7, H8, Hs1, Hs2, HO⟩
  obtain ⟨s, e, hw3, c8, v35, c0⟩ := r
  obtain ⟨hs0, he0, hc1, hc2, hc3⟩ := hr
  dsimp only at hs0 he0 hc1 hc2 hc3 ⊢
  subst hc1 hc2 hc3
  obtain ⟨hs, he⟩ := hst _ hsl
  rw [← hs0, ← he0] at hs
  rw [← he0] at he
  iapply (own_value (part2_eq i arg2 harg2 arg3 harg3 arg4 harg4 arg5 harg5 arg6 harg6 arg7 harg7 arg8 harg8 arg9 harg9 arg10 harg10 arg11 harg11
    v5_r0 v89_r1 v89_r2 v94_r3 v94_r4 v94_r5 v94_r6 v94_r7 v94_r8 v89_r9 s e))
  have hct := chunks_toNat hs he
  have hbefore : ∀ y : S32768.Idx, G (32768 * slabOf i t.val + (y 0).val)
      = slabA (fun v => G (32768 * slabOf i t.val + v)) s.toNat e.toNat bk (8 * (s.toNat / 8) + 1024 * 0) (y 0).val := fun y =>
    (slabA_before (fun v => G (32768 * slabOf i t.val + v)) bk (by omega)).symm
  ihave H8 := owns_congr hbefore $$ H8
  iapply (own_call_bind (k2_chunksA d i arg2 harg2 arg3 harg3 arg4 harg4 arg5 harg5 arg6 harg6 arg7 harg7 arg8 harg8 arg9 harg9 arg10 harg10 arg11 harg11
    v5_r0 v89_r1 v89_r2 v94_r3 v94_r4 v94_r5 v94_r6 v94_r7 v94_r8 v89_r9 (fun v => G (32768 * slabOf i t.val + v)) bk s e hs he O W q3 hw3 _)) $$ [H3 H9 H7 H8 Hs3 HO]
  · isplitr; · iexact HM
    isplitl [H3]; · iexact H3
    isplitl [H9]; · iexists _; iexact H9
    isplitl [H7]; · iexact H7
    isplitl [H8]; · iexact H8
    isplitl [Hs3]; · iexact Hs3
    iexact HO
  iintro %a1 ⟨-, H3, H9, H7, H8, Hs3, HO⟩
  iapply (own_for (fun _ _ => iprop(emp)) fun r _ => absurd (lt_of_lt_of_eq r.isLt (t4_trips hs he)) (Nat.not_lt_zero _)) $$ []
  · iempintro
  iintro %a2 -
  have hmid : ∀ y : S32768.Idx, slabA (fun v => G (32768 * slabOf i t.val + v)) s.toNat e.toNat bk (8 * (s.toNat / 8) + 1024 * (chunks s e).toNat) (y 0).val
      = slabB (fun v => G (32768 * slabOf i t.val + v)) s.toNat e.toNat bk bv (8 * (s.toNat / 8) + 1024 * 0) (y 0).val := fun y =>
    (slabA_after _ bk (by omega)).trans (slabB_before (fun v => G (32768 * slabOf i t.val + v)) bk bv (by omega)).symm
  ihave H8 := owns_congr hmid $$ H8
  iapply (own_call_bind (k2_chunksB d i arg2 harg2 arg3 harg3 arg4 harg4 arg5 harg5 arg6 harg6 arg7 harg7 arg8 harg8 arg9 harg9 arg10 harg10 arg11 harg11
    v5_r0 v89_r1 v89_r2 v94_r3 v94_r4 v94_r5 v94_r6 v94_r7 v94_r8 v89_r9 (fun v => G (32768 * slabOf i t.val + v)) bk bv s e hs he O W q3 q4 hw3 _)) $$ [H3 H4 H9 H10 H8 Hs5 Hs6 HO]
  · isplitr; · iexact HM
    isplitl [H3]; · iexact H3
    isplitl [H4]; · iexact H4
    isplitl [H9]; · iexact H9
    isplitl [H10]; · iexists _; iexact H10
    isplitl [H8]; · iexact H8
    isplitl [Hs5]; · iexact Hs5
    isplitl [Hs6]; · iexact Hs6
    iexact HO
  iintro %a3 ⟨-, H3, H4, H9, H10, H8, Hs5, Hs6, HO⟩
  iapply (own_for (fun _ _ => iprop(emp)) fun r _ => absurd (lt_of_lt_of_eq r.isLt (t10_trips hs he)) (Nat.not_lt_zero _)) $$ []
  · iempintro
  iintro %a4 -
  have hlast : ∀ y : S32768.Idx, slabB (fun v => G (32768 * slabOf i t.val + v)) s.toNat e.toNat bk bv (8 * (s.toNat / 8) + 1024 * (chunks s e).toNat) (y 0).val
      = slabOut G st bk bv (slabOf i t.val) (y 0).val := by
    intro y
    unfold slabOut
    rw [← hs0, ← he0]
    exact slabB_after (fun v => G (32768 * slabOf i t.val + v)) bk bv (by omega)
  ihave H8 := owns_congr hlast $$ H8
  iapply (own_copyK (by decide)) $$ [H8 H6 Hs9 HO]
  · isplitl [H8]; · iexact H8
    isplitl [H6]; · iexact H6
    isplitl [Hs9]; · iexact Hs9
    isplitl [HO]; · iexact HO
    iexact HM
  iintro ⟨H8, H6, Hs9, HO⟩
  iapply own_ret
  isplitr; · iexact HM
  isplitl [H2]; · iexact H2
  isplitl [H3]; · iexact H3
  isplitl [H4]; · iexact H4
  isplitl [H11]; · iexact H11
  isplitl [H7]; · iexists _; iexact H7
  isplitl [H8]; · iexists _; iexact H8
  isplitl [H9]; · iexact H9
  isplitl [H10]; · iexact H10
  isplitl [Hs1]; · iexact Hs1
  isplitl [Hs2]; · iexact Hs2
  isplitl [Hs3]; · iexact Hs3
  isplitl [Hs5]; · iexact Hs5
  isplitl [Hs6]; · iexact Hs6
  isplitl [Hs9]; · iexact Hs9
  isplitl [HO]; · iexact HO
  iexact H6

include hst in
/-- The third kernel's body on one tile. -/
theorem k2_body (O : CellTallies nD τ sig (HIx 3)) (W : Waits sig (HIx 3)) (q2 q3 q4 q5 : PosShare TreeShare) :
    iprop(Transfers.MayWaits (th2 d i) (default : HIx 3) O ∗ owns (th2 d i) arg2 q2 (fun y : S16777216.Idx => G (y 0).val)
        ∗ owns (th2 d i) arg3 q3 (fun y : S1052672.Idx => bk (y 0).val) ∗ owns (th2 d i) arg4 q4 (fun y : S1052672.Idx => bv (y 0).val)
        ∗ owns (th2 d i) arg5 q5 (fun y : S544.Idx => st (y 0).val)
        ∗ (BI.bigSep Finset.univ fun t : Fin k2_t1_loop.trips => iprop(∃ Y : S32768.Idx → F .f32, owns (th2 d i) (outSlice i arg6 t) fullShare Y))
        ∗ (∃ Y : S32768.Idx → F .f32, owns (th2 d i) arg7 fullShare Y) ∗ (∃ Y : S32768.Idx → F .f32, owns (th2 d i) arg8 fullShare Y)
        ∗ (∃ Y : S1024.Idx → BitVec 32, owns (th2 d i) arg9 fullShare Y) ∗ (∃ Y : S1024.Idx → F .f32, owns (th2 d i) arg10 fullShare Y)
        ∗ (∃ Y : S544.Idx → BitVec 32, owns (th2 d i) arg11 fullShare Y)
        ∗ semVal (th2 d i, .dma v5_r0.sem) 0 ∗ semVal (th2 d i, .dma v89_r1.sem) 0 ∗ semVal (th2 d i, .dma v89_r2.sem) 0 ∗ semVal (th2 d i, .dma v94_r3.sem) 0
        ∗ semVal (th2 d i, .dma v94_r5.sem) 0 ∗ semVal (th2 d i, .dma v94_r6.sem) 0 ∗ semVal (th2 d i, .dma v89_r9.sem) 0 ∗ oweK (th2 d i) O W)
      ⊢ wpc (F := F) (th2 d i) (cc2_occ_k3_slab_update i arg2 harg2 arg3 harg3 arg4 harg4 arg5 harg5 arg6 harg6 arg7 harg7 arg8 harg8 arg9 harg9 arg10 harg10 arg11 harg11
          v5_r0 v89_r1 v89_r2 v94_r3 v94_r4 v94_r5 v94_r6 v94_r7 v94_r8 v89_r9)
        fun _ => iprop(owns (th2 d i) arg2 q2 (fun y : S16777216.Idx => G (y 0).val)
        ∗ owns (th2 d i) arg3 q3 (fun y : S1052672.Idx => bk (y 0).val) ∗ owns (th2 d i) arg4 q4 (fun y : S1052672.Idx => bv (y 0).val)
        ∗ owns (th2 d i) arg5 q5 (fun y : S544.Idx => st (y 0).val)
        ∗ (BI.bigSep Finset.univ fun t : Fin k2_t1_loop.trips => owns (th2 d i) (outSlice i arg6 t) fullShare (fun y : S32768.Idx => slabOut G st bk bv (slabOf i t.val) (y 0).val))
        ∗ (∃ Y : S32768.Idx → F .f32, owns (th2 d i) arg7 fullShare Y) ∗ (∃ Y : S32768.Idx → F .f32, owns (th2 d i) arg8 fullShare Y)
        ∗ (∃ Y : S1024.Idx → BitVec 32, owns (th2 d i) arg9 fullShare Y) ∗ (∃ Y : S1024.Idx → F .f32, owns (th2 d i) arg10 fullShare Y)
        ∗ (∃ Y : S544.Idx → BitVec 32, owns (th2 d i) arg11 fullShare Y)
        ∗ semVal (th2 d i, .dma v5_r0.sem) 0 ∗ semVal (th2 d i, .dma v89_r1.sem) 0 ∗ semVal (th2 d i, .dma v89_r2.sem) 0 ∗ semVal (th2 d i, .dma v94_r3.sem) 0
        ∗ semVal (th2 d i, .dma v94_r5.sem) 0 ∗ semVal (th2 d i, .dma v94_r6.sem) 0 ∗ semVal (th2 d i, .dma v89_r9.sem) 0 ∗ oweK (th2 d i) O W) := by
  rw [cc2_occ_k3_slab_update_eq_skeleton]
  unfold cc2_occ_k3_slab_update_skel
  iintro ⟨#HM, H2, H3, H4, H5, H6, H7, H8, H9, H10, ⟨%Y11, H11⟩, Hs0, Hs1, Hs2, Hs3, Hs5, Hs6, Hs9, HO⟩
  dsimp only
  iapply (own_copyK (by decide)) $$ [H5 H11 Hs0 HO]
  · isplitl [H5]; · iexact H5
    isplitl [H11]; · iexact H11
    isplitl [Hs0]; · iexact Hs0
    isplitl [HO]; · iexact HO
    iexact HM
  iintro ⟨H5, H11, Hs0, HO⟩
  iapply (own_for (fun t _ => iprop(Transfers.MayWaits (th2 d i) (default : HIx 3) O ∗ owns (th2 d i) arg2 q2 (fun y : S16777216.Idx => G (y 0).val)
        ∗ owns (th2 d i) arg3 q3 (fun y : S1052672.Idx => bk (y 0).val) ∗ owns (th2 d i) arg4 q4 (fun y : S1052672.Idx => bv (y 0).val)
        ∗ owns (th2 d i) arg11 fullShare (fun y : S544.Idx => st (y 0).val)
        ∗ (∃ Y : S32768.Idx → F .f32, owns (th2 d i) arg7 fullShare Y) ∗ (∃ Y : S32768.Idx → F .f32, owns (th2 d i) arg8 fullShare Y)
        ∗ (∃ Y : S1024.Idx → BitVec 32, owns (th2 d i) arg9 fullShare Y) ∗ (∃ Y : S1024.Idx → F .f32, owns (th2 d i) arg10 fullShare Y)
        ∗ semVal (th2 d i, .dma v89_r1.sem) 0 ∗ semVal (th2 d i, .dma v89_r2.sem) 0 ∗ semVal (th2 d i, .dma v94_r3.sem) 0
        ∗ semVal (th2 d i, .dma v94_r5.sem) 0 ∗ semVal (th2 d i, .dma v94_r6.sem) 0 ∗ semVal (th2 d i, .dma v89_r9.sem) 0 ∗ oweK (th2 d i) O W
        ∗ (BI.bigSep Finset.univ fun u : Fin k2_t1_loop.trips => if u.val < t
            then owns (th2 d i) (outSlice i arg6 u) fullShare (fun y : S32768.Idx => slabOut G st bk bv (slabOf i u.val) (y 0).val)
            else iprop(∃ Y : S32768.Idx → F .f32, owns (th2 d i) (outSlice i arg6 u) fullShare Y)))) ?_)
    $$ [H2 H3 H4 H11 H7 H8 H9 H10 Hs1 Hs2 Hs3 Hs5 Hs6 Hs9 HO H6]
  · intro t a
    iintro ⟨#HM, H2, H3, H4, H11, H7, H8, H9, H10, Hs1, Hs2, Hs3, Hs5, Hs6, Hs9, HO, H6⟩
    ihave H6 := slots_step (fun u => iprop(∃ Y : S32768.Idx → F .f32, owns (th2 d i) (outSlice i arg6 u) fullShare Y))
      (fun u => owns (th2 d i) (outSlice i arg6 u) fullShare (fun y : S32768.Idx => slabOut G st bk bv (slabOf i u.val) (y 0).val)) t $$ H6
    icases H6 with ⟨H6, Hback⟩
    iapply (own_call (k2_slab d i arg2 harg2 arg3 harg3 arg4 harg4 arg5 harg5 arg6 harg6 arg7 harg7 arg8 harg8 arg9 harg9 arg10 harg10 arg11 harg11 v5_r0 v89_r1 v89_r2 v94_r3 v94_r4 v94_r5 v94_r6 v94_r7 v94_r8 v89_r9 bk bv G st hst O W q2 q3 q4 t a))
      $$ [H2 H3 H4 H11 H7 H8 H9 H10 Hs1 Hs2 Hs3 Hs5 Hs6 Hs9 HO H6]
    · isplitr; · iexact HM
      isplitl [H2]; · iexact H2
      isplitl [H3]; · iexact H3
      isplitl [H4]; · iexact H4
      isplitl [H11]; · iexact H11
      isplitl [H7]; · iexact H7
      isplitl [H8]; · iexact H8
      isplitl [H9]; · iexact H9
      isplitl [H10]; · iexact H10
      isplitl [Hs1]; · iexact Hs1
      isplitl [Hs2]; · iexact Hs2
      isplitl [Hs3]; · iexact Hs3
      isplitl [Hs5]; · iexact Hs5
      isplitl [Hs6]; · iexact Hs6
      isplitl [Hs9]; · iexact Hs9
      isplitl [HO]; · iexact HO
      iexact H6
    iintro %b ⟨-, H2, H3, H4, H11, H7, H8, H9, H10, Hs1, Hs2, Hs3, Hs5, Hs6, Hs9, HO, H6⟩
    isplitr; · iexact HM
    isplitl [H2]; · iexact H2
    isplitl [H3]; · iexact H3
    isplitl [H4]; · iexact H4
    isplitl [H11]; · iexact H11
    isplitl [H7]; · iexact H7
    isplitl [H8]; · iexact H8
    isplitl [H9]; · iexact H9
    isplitl [H10]; · iexact H10
    isplitl [Hs1]; · iexact Hs1
    isplitl [Hs2]; · iexact Hs2
    isplitl [Hs3]; · iexact Hs3
    isplitl [Hs5]; · iexact Hs5
    isplitl [Hs6]; · iexact Hs6
    isplitl [Hs9]; · iexact Hs9
    isplitl [HO]; · iexact HO
    iapply Hback; iexact H6
  · isplitr; · iexact HM
    isplitl [H2]; · iexact H2
    isplitl [H3]; · iexact H3
    isplitl [H4]; · iexact H4
    isplitl [H11]; · iexact H11
    isplitl [H7]; · iexact H7
    isplitl [H8]; · iexact H8
    isplitl [H9]; · iexact H9
    isplitl [H10]; · iexact H10
    isplitl [Hs1]; · iexact Hs1
    isplitl [Hs2]; · iexact Hs2
    isplitl [Hs3]; · iexact Hs3
    isplitl [Hs5]; · iexact Hs5
    isplitl [Hs6]; · iexact Hs6
    isplitl [Hs9]; · iexact Hs9
    isplitl [HO]; · iexact HO
    iapply slots_start; iexact H6
  iintro %a2 ⟨-, H2, H3, H4, H11, H7, H8, H9, H10, Hs1, Hs2, Hs3, Hs5, Hs6, Hs9, HO, H6⟩
  iapply own_ret
  isplitl [H2]; · iexact H2
  isplitl [H3]; · iexact H3
  isplitl [H4]; · iexact H4
  isplitl [H5]; · iexact H5
  isplitl [H6]; · iapply slots_done; iexact H6
  isplitl [H7]; · iexact H7
  isplitl [H8]; · iexact H8
  isplitl [H9]; · iexact H9
  isplitl [H10]; · iexact H10
  isplitl [H11]; · iexists _; iexact H11
  isplitl [Hs0]; · iexact Hs0
  isplitl [Hs1]; · iexact Hs1
  isplitl [Hs2]; · iexact Hs2
  isplitl [Hs3]; · iexact Hs3
  isplitl [Hs5]; · iexact Hs5
  isplitl [Hs6]; · iexact Hs6
  isplitl [Hs9]; · iexact Hs9
  iexact HO

end Body

end Cert.Proof.Occ

end
-- ==== Proof.Tables.lean ====
/-
  The second kernel's tables on one tile: where each bin starts in the sorted list, and where the tile's first input of
  each bin goes, out of the thirty-two tiles' counts.
-/
module

public import proofs.«01_k».proof.Proof.Send
public import proofs.«01_k».proof.Proof.Route
public import proofs.«01_k».proof.Proof.K3

@[expose] public section

noncomputable section

namespace Cert.Proof.Occ

open Cert.KernelIdeal Cert.KernelIdeal.Gen

open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The tile's number. -/
abbrev tile (i : grid1.Coords) : ℕ := wid (i 0).val (i 1).val

theorem tile_lt (i : grid1.Coords) : tile i < 32 := by
  have h0 : (i 0).val < 2 := (i 0).isLt
  have h1 : (i 1).val < 16 := (i 1).isLt
  unfold tile wid; omega

/-- The number the kernel computes for its tile. -/
def tileV (i : grid1.Coords) : BitVec 32 := Scalar.addi (Scalar.muli (BitVec.ofNat 32 (i 1).val) 2#32) (BitVec.ofNat 32 (i 0).val)

theorem tileV_toNat (i : grid1.Coords) : (tileV i).toNat = tile i := by
  have h0 : (i 0).val < 2 := (i 0).isLt
  have h1 : (i 1).val < 16 := (i 1).isLt
  unfold tileV tile wid
  simp only [Scalar.addi, Scalar.muli, IntOp.addi, IntOp.muli, BitVec.toNat_add, BitVec.toNat_mul, BitVec.toNat_ofNat]
  omega

/-- The counts, thirty-two tiles of 512 bins. -/
def counts (key : ℕ → BitVec 32) (y : S16384.Idx) : BitVec 32 := BitVec.ofNat 32 (cnt key (32768 * ((y 0).val / 512)) ((y 0).val % 512) 32768)

/-- The starts as the kernel lists them: 512 bins, the total, then nothing. -/
def startN (key : ℕ → BitVec 32) (b : ℕ) : BitVec 32 := if b ≤ 512 then BitVec.ofNat 32 (first key b) else 0#32

theorem chunk_off (i : grid1.Coords) (t2 : Fin k1_t2_loop.trips) (acc : IVec S16 32) (v : Vec F S16 .i32) (x : S16.Idx) :
    k1_pay3 i t2 acc v x = IntOp.addi (acc x) (if t2.val < tile i then v x else 0#32) := by
  have ht : t2.val < 32 := t2.isLt
  have h0 := tileV_toNat i
  have h1 := tile_lt i
  have e : Scalar.cmpi .slt (Scf.iv 0#32 1#32 t2.val) (tileV i) = BitVec.ofBool (decide (t2.val < tile i)) := by
    rw [toNat_iv]
    have hb : (BitVec.ofNat 32 t2.val).toNat = t2.val := by rw [BitVec.toNat_ofNat, Nat.mod_eq_of_lt (by omega)]
    show BitVec.ofBool ((BitVec.ofNat 32 t2.val).slt (tileV i)) = _
    rw [slt_small (by omega) (by omega), hb, h0]
  show IntOp.addi (acc x) ((Scalar.select (Scalar.cmpi .slt (Scf.iv 0#32 1#32 t2.val) (tileV i)) v (broadcast S16 0#32)) x) = _
  rw [e, select_one]
  by_cases hc : t2.val < tile i
  · rw [if_pos hc, if_pos (by rw [decide_eq_true hc]; rfl)]
  · rw [if_neg hc, if_neg (by rw [decide_eq_false hc]; decide)]
    rfl

section Sums
variable {key : ℕ → BitVec 32}

theorem addi_ofNat (a b : ℕ) : IntOp.addi (BitVec.ofNat 32 a) (BitVec.ofNat 32 b) = BitVec.ofNat 32 (a + b) := (BitVec.ofNat_add _ _).symm

/-- Sixteen bins' starts: the running sum of the totals less the totals, on top of where the sixteen start. -/
theorem start_lane (n : ℕ) (v : IVec S16 32) (hv : ∀ x, v x = BitVec.ofNat 32 (tot key (16 * n + (x 0).val))) (x : S16.Idx) :
    k1_pay5 (BitVec.ofNat 32 (first key (16 * n))) v x = BitVec.ofNat 32 (first key (16 * n + (x 0).val)) := by
  have hl : ∀ l : Fin 16, k1_pay5 (BitVec.ofNat 32 (first key (16 * n))) v (lane l) = BitVec.ofNat 32 (first key (16 * n + l.val)) := by
    intro l
    have e := scan_sum (fun k => tot key (16 * n + k)) v (fun k => hv (lane k)) l
    show IntOp.addi (IntOp.subi (scan .sum v (lane l)) (v (lane l))) (BitVec.ofNat 32 (first key (16 * n))) = _
    rw [e, hv (lane l), Finset.sum_range_succ, BitVec.ofNat_add]
    have e2 : IntOp.subi (BitVec.ofNat 32 ((Finset.range l.val).sum fun k => tot key (16 * n + k)) + BitVec.ofNat 32 (tot key (16 * n + l.val)))
        (BitVec.ofNat 32 (tot key (16 * n + l.val))) = BitVec.ofNat 32 ((Finset.range l.val).sum fun k => tot key (16 * n + k)) := BitVec.add_sub_cancel _ _
    refine (congrArg (fun z => IntOp.addi z (BitVec.ofNat 32 (first key (16 * n)))) e2).trans ?_
    rw [addi_ofNat, Nat.add_comm, first_chunk]
  exact (congrArg _ (lane_eq x).symm).trans (hl (x 0))

theorem carry_next (n : ℕ) (v : IVec S16 32) (hv : ∀ x, v x = BitVec.ofNat 32 (tot key (16 * n + (x 0).val))) :
    Scalar.addi (BitVec.ofNat 32 (first key (16 * n))) (extractAt ![15] (k1_pay7 v) inpos_S16_p15) = BitVec.ofNat 32 (first key (16 * (n + 1))) := by
  have e := scan_sum (fun k => tot key (16 * n + k)) v (fun k => hv (lane k)) 15
  have e3 : extractAt ![15] (k1_pay7 v) inpos_S16_p15 = scan .sum v (lane 15) := by
    unfold extractAt k1_pay7
    exact congrArg (scan .sum v) (ext1 rfl)
  rw [e3, e]
  refine (addi_ofNat _ _).trans ?_
  rw [first_chunk]
  rfl

end Sums

section Body

variable (d : Fin nD) (i : grid1.Coords)
  (arg2 : Memref sig .scVector .hbm S8192x128 .i32) (harg2 : arg2.IsWhole) (arg3 : Memref sig .scVector .hbm S8192x128 .f32) (harg3 : arg3.IsWhole)
  (arg4 : Memref sig .scVector .hbm S16384 .i32) (harg4 : arg4.IsWhole) (arg5 : Memref sig .scVector .hbm S1052672 .i32) (harg5 : arg5.IsWhole)
  (arg6 : Memref sig .scVector .hbm S1052672 .f32) (harg6 : arg6.IsWhole) (arg7 : Memref sig .scVector .hbm S544 .i32) (harg7 : arg7.IsWhole)
  (arg8 : Memref sig .scVector .vmem S16384 .i32) (harg8 : arg8.IsWhole) (arg9 : Memref sig .scVector .vmem S512 .i32) (harg9 : arg9.IsWhole)
  (arg10 : Memref sig .scVector .vmem S544 .i32) (harg10 : arg10.IsWhole) (arg11 : Memref sig .scVector .vmem S16x128 .i32) (harg11 : arg11.IsWhole)
  (arg12 : Memref sig .scVector .vmem S16x128 .f32) (harg12 : arg12.IsWhole) (arg13 : Memref sig .scVector .vmem S16x128 .i32) (harg13 : arg13.IsWhole)
  (arg14 arg15 v18_r0 v18_r1 v343_r2 v343_r3 : DmaSems sig S_)

section Tables

variable (key : ℕ → BitVec 32)

theorem k1_count (t1 : Fin k1_t1_loop.trips) (t2 : Fin k1_t2_loop.trips) (acc : IVec S16 32 × IVec S16 32) :
    iprop(⌜(∀ x, acc.1 x = BitVec.ofNat 32 (cnt key 0 (16 * t1.val + (x 0).val) (32768 * t2.val)))
          ∧ ∀ x, acc.2 x = BitVec.ofNat 32 (cnt key 0 (16 * t1.val + (x 0).val) (32768 * min t2.val (tile i)))⌝
        ∗ owns (th1 d i) arg8 fullShare (counts key))
      ⊢ wpc (F := F) (th1 d i) (k1_t2_body i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 t1 t2 acc)
        fun acc => iprop(⌜(∀ x, acc.1 x = BitVec.ofNat 32 (cnt key 0 (16 * t1.val + (x 0).val) (32768 * (t2.val + 1))))
          ∧ ∀ x, acc.2 x = BitVec.ofNat 32 (cnt key 0 (16 * t1.val + (x 0).val) (32768 * min (t2.val + 1) (tile i)))⌝
        ∗ owns (th1 d i) arg8 fullShare (counts key)) := by
  have ht1 : t1.val < 32 := t1.isLt
  have ht2 : t2.val < 32 := t2.isLt
  obtain ⟨acc1, acc2⟩ := acc
  unfold k1_t2_body
  iintro ⟨%hacc, H⟩
  dsimp only at hacc
  iapply own_load16 $$ H; iintro %v %hv H
  iapply own_ret
  isplitr; swap; · iexact H
  ipureintro
  have hv' : ∀ x, v x = BitVec.ofNat 32 (cnt key (32768 * t2.val) (16 * t1.val + (x 0).val) 32768) := by
    intro x
    have h := hv (x 0)
    rw [lane_eq x] at h
    refine h.trans ?_
    have hx : (x 0).val < 16 := lt1 (N := 16) x
    have ho : k1_off1 t1 t2 0 = 512 * t2.val + 16 * t1.val := congrFun (k1_off1_eq t1 t2) 0
    unfold counts
    rw [at1_val (by omega), ho, show (512 * t2.val + 16 * t1.val + (x 0).val) / 512 = t2.val by omega,
      show (512 * t2.val + 16 * t1.val + (x 0).val) % 512 = 16 * t1.val + (x 0).val by omega]
  refine ⟨fun x => ?_, fun x => ?_⟩
  · show IntOp.addi (acc1 x) (v x) = _
    rw [hacc.1, hv', addi_ofNat, ← cnt_add, show 32768 * t2.val + 32768 = 32768 * (t2.val + 1) by omega]
  · show k1_pay3 i t2 acc2 v x = _
    rw [chunk_off, hacc.2, hv']
    by_cases hc : t2.val < tile i
    · rw [if_pos hc, addi_ofNat, Nat.min_eq_left (by omega : t2.val ≤ tile i), Nat.min_eq_left (by omega : t2.val + 1 ≤ tile i), ← cnt_add,
        show 32768 * t2.val + 32768 = 32768 * (t2.val + 1) by omega]
    · rw [if_neg hc, Nat.min_eq_right (by omega : tile i ≤ t2.val), Nat.min_eq_right (by omega : tile i ≤ t2.val + 1)]
      exact BitVec.add_zero _

theorem k1_sixteen (t1 : Fin k1_t1_loop.trips) (a : BitVec 32) :
    iprop(⌜a = BitVec.ofNat 32 (first key (16 * t1.val))⌝ ∗ owns (th1 d i) arg8 fullShare (counts key)
        ∗ (∃ Y : S512.Idx → BitVec 32, ⌜∀ y, (y 0).val < 16 * t1.val → Y y = BitVec.ofNat 32 (offAt key (y 0).val (32768 * tile i))⌝ ∗ owns (th1 d i) arg9 fullShare Y)
        ∗ (∃ Y : S544.Idx → BitVec 32, ⌜∀ y, (y 0).val < 16 * t1.val → Y y = BitVec.ofNat 32 (first key (y 0).val)⌝ ∗ owns (th1 d i) arg10 fullShare Y))
      ⊢ wpc (F := F) (th1 d i) (k1_t1_body i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 t1 a)
        fun a => iprop(⌜a = BitVec.ofNat 32 (first key (16 * (t1.val + 1)))⌝ ∗ owns (th1 d i) arg8 fullShare (counts key)
        ∗ (∃ Y : S512.Idx → BitVec 32, ⌜∀ y, (y 0).val < 16 * (t1.val + 1) → Y y = BitVec.ofNat 32 (offAt key (y 0).val (32768 * tile i))⌝ ∗ owns (th1 d i) arg9 fullShare Y)
        ∗ (∃ Y : S544.Idx → BitVec 32, ⌜∀ y, (y 0).val < 16 * (t1.val + 1) → Y y = BitVec.ofNat 32 (first key (y 0).val)⌝ ∗ owns (th1 d i) arg10 fullShare Y)) := by
  have ht1 : t1.val < 32 := t1.isLt
  unfold k1_t1_body
  iintro ⟨%ha, H8, ⟨%Y9, %h9, H9⟩, ⟨%Y10, %h10, H10⟩⟩
  subst ha
  iapply (own_for (fun t (acc : IVec S16 32 × IVec S16 32) => iprop(⌜(∀ x, acc.1 x = BitVec.ofNat 32 (cnt key 0 (16 * t1.val + (x 0).val) (32768 * t)))
          ∧ ∀ x, acc.2 x = BitVec.ofNat 32 (cnt key 0 (16 * t1.val + (x 0).val) (32768 * min t (tile i)))⌝
        ∗ owns (th1 d i) arg8 fullShare (counts key)))
      (fun t acc => k1_count d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 key t1 t acc)) $$ [H8]
  · isplitr; swap; · iexact H8
    ipureintro
    refine ⟨fun x => ?_, fun x => ?_⟩
    · rw [Nat.mul_zero]; rfl
    · rw [Nat.zero_min, Nat.mul_zero]; rfl
  iintro %acc ⟨%hacc, H8⟩
  obtain ⟨acc1, acc2⟩ := acc
  dsimp only at hacc
  have hw := tile_lt i
  have h1 : ∀ x, acc1 x = BitVec.ofNat 32 (tot key (16 * t1.val + (x 0).val)) := hacc.1
  have h2 : ∀ x, acc2 x = BitVec.ofNat 32 (cnt key 0 (16 * t1.val + (x 0).val) (32768 * tile i)) := fun x => by
    rw [hacc.2 x, show min k1_t2_loop.trips (tile i) = tile i from Nat.min_eq_right (show tile i ≤ 32 by omega)]
  clear hacc
  iapply own_load $$ H9; iintro H9
  iapply own_store $$ H9; iintro H9
  iapply own_load $$ H10; iintro H10
  iapply own_store $$ H10; iintro H10
  iapply own_ret
  isplitr
  · ipureintro; exact carry_next t1.val acc1 h1
  isplitl [H8]; · iexact H8
  isplitl [H9]
  · iexists _; isplitr; swap; · iexact H9
    ipureintro; intro y hy
    have hy5 : (y 0).val < 512 := lt1 (N := 512) y
    rw [overlay_unit1 (N := 512) (n := 16), k1_off2_eq]
    split
    · rename_i h
      simp at h
      have e : ((at1 16 ((y 0).val - 16 * t1.val)) 0).val = (y 0).val - 16 * t1.val := at1_val (by omega)
      show IntOp.addi (k1_pay5 (BitVec.ofNat 32 (first key (16 * t1.val))) acc1 (at1 16 ((y 0).val - 16 * t1.val))) (acc2 (at1 16 ((y 0).val - 16 * t1.val))) = _
      rw [start_lane t1.val acc1 h1, h2, addi_ofNat, e, show 16 * t1.val + ((y 0).val - 16 * t1.val) = (y 0).val by omega]
      rfl
    · rename_i h
      simp at h
      exact h9 y (by omega)
  · iexists _; isplitr; swap; · iexact H10
    ipureintro; intro y hy
    have hy5 : (y 0).val < 544 := lt1 (N := 544) y
    rw [overlay_unit1 (N := 544) (n := 16), k1_off3_eq]
    split
    · rename_i h
      simp at h
      have e : ((at1 16 ((y 0).val - 16 * t1.val)) 0).val = (y 0).val - 16 * t1.val := at1_val (by omega)
      refine (start_lane t1.val acc1 h1 (at1 16 ((y 0).val - 16 * t1.val))).trans ?_
      rw [e, show 16 * t1.val + ((y 0).val - 16 * t1.val) = (y 0).val by omega]
    · rename_i h
      simp at h
      exact h10 y (by omega)

end Tables

end Body

end Cert.Proof.Occ

end
-- ==== Proof.Routing.lean ====
/-
  The second kernel's routing on one tile: sixteen keys at a time, each input's place read out of the table of next
  places, the table moved on past it, and the place listed.
-/
module

public import proofs.«01_k».proof.Proof.Tables

@[expose] public section

noncomputable section

namespace Cert.Proof.Occ

open Cert.KernelIdeal Cert.KernelIdeal.Gen

open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## Rows of a staging buffer, sixteen places at a time -/

theorem cast_row {α : Type} (v : S1x16.Idx → α) (x : S16.Idx) : shapeCast S16 v shapeCasts_S1x16_S16 x = v (at2 1 16 0 (x 0).val) := by
  refine congrArg v ?_
  have h1 : (S1x16.rowMajor (Shape.reshapeEquiv shapeCasts_S1x16_S16 x)).val = (x 0).val := by
    rw [Shape.rowMajor_reshapeEquiv, Shape.rowMajor_val_one]
  rw [Shape.rowMajor_val_two] at h1
  have h2 : ((Shape.reshapeEquiv shapeCasts_S1x16_S16 x) 0).val < 1 := (Shape.reshapeEquiv shapeCasts_S1x16_S16 x 0).isLt
  have h3 : ((Shape.reshapeEquiv shapeCasts_S1x16_S16 x) 0).val * 16 + ((Shape.reshapeEquiv shapeCasts_S1x16_S16 x) 1).val = (x 0).val := h1
  have hx : (x 0).val < 16 := lt1 (N := 16) x
  refine ext2 ?_ ?_
  · show ((Shape.reshapeEquiv shapeCasts_S1x16_S16 x) 0).val = 0 % 1; omega
  · show ((Shape.reshapeEquiv shapeCasts_S1x16_S16 x) 1).val = (x 0).val % 16; omega

theorem cast_flat {α : Type} (w : S16.Idx → α) (y : S1x16.Idx) : shapeCast S1x16 w shapeCasts_S16_S1x16 y = w (at1 16 (y 1).val) := by
  refine congrArg w (at1_of_val ?_)
  have h1 : (S16.rowMajor (Shape.reshapeEquiv shapeCasts_S16_S1x16 y)).val = (S1x16.rowMajor y).val := Shape.rowMajor_reshapeEquiv _ _
  rw [Shape.rowMajor_val_one, Shape.rowMajor_val_two] at h1
  have h2 : (y 0).val < 1 := (y 0).isLt
  have h3 : ((Shape.reshapeEquiv shapeCasts_S16_S1x16 y) 0).val = (y 0).val * 16 + (y 1).val := h1
  omega

/-- Where place `y` of a row's sixteen is in the buffer. -/
theorem emb_row {off : Fin 2 → ℕ} (inb : ∀ a, off a + S1x16.size a ≤ S16x128.size a) (y : S1x16.Idx) :
    (Rect.unit (s := S16x128) off S1x16.size inb).emb y = at2 16 128 (off 0) (off 1 + (y 1).val) := by
  have h0 : (y 0).val < 1 := (y 0).isLt
  have h1 : (y 1).val < 16 := (y 1).isLt
  have i0 : off 0 + 1 ≤ 16 := inb 0
  have i1 : off 1 + 16 ≤ 128 := inb 1
  refine ext2 ?_ ?_
  · show off 0 + 1 * (y 0).val = off 0 % 16; omega
  · show off 1 + 1 * (y 1).val = (off 1 + (y 1).val) % 128; omega

theorem overlay_row {α : Type} {off : Fin 2 → ℕ} (inb : ∀ a, off a + S1x16.size a ≤ S16x128.size a)
    (X : S16x128.Idx → α) (w : S1x16.Idx → α) (j : S16x128.Idx) :
    (Rect.unit (s := S16x128) off S1x16.size inb).overlay X w j
      = if (j 0).val = off 0 ∧ off 1 ≤ (j 1).val ∧ (j 1).val < off 1 + 16 then w (at2 1 16 0 ((j 1).val - off 1)) else X j := by
  have i0 : off 0 + 1 ≤ 16 := inb 0
  have i1 : off 1 + 16 ≤ 128 := inb 1
  split
  · rename_i h
    have hj : j = (Rect.unit (s := S16x128) off S1x16.size inb).emb (at2 1 16 0 ((j 1).val - off 1)) := by
      rw [emb_row]
      refine ext2 ?_ ?_
      · show (j 0).val = off 0 % 16; omega
      · show (j 1).val = (off 1 + ((j 1).val - off 1) % 16) % 128; omega
    conv_lhs => rw [hj]
    exact Rect.overlay_emb _ _ _ _
  · rename_i h
    refine Rect.overlay_of_not_mem _ _ _ fun hm => h ?_
    obtain ⟨x, rfl⟩ := (Rect.unit (s := S16x128) off S1x16.size inb).exists_idx_of_mem hm
    have hx0 : (x 0).val < 1 := (x 0).isLt
    have hx1 : (x 1).val < 16 := (x 1).isLt
    have h0 : (((Rect.unit (s := S16x128) off S1x16.size inb).idx x) 0).val = off 0 + 1 * (x 0).val := rfl
    have h1 : (((Rect.unit (s := S16x128) off S1x16.size inb).idx x) 1).val = off 1 + 1 * (x 1).val := rfl
    omega

/-! ## What the buffers hold while routing -/

/-- A place of a staging buffer, counted row by row. -/
abbrev flat (y : S16x128.Idx) : ℕ := 128 * (y 0).val + (y 1).val

theorem flat_lt (y : S16x128.Idx) : flat y < 2048 := by
  have h0 : (y 0).val < 16 := (y 0).isLt
  have h1 : (y 1).val < 128 := (y 1).isLt
  unfold flat; omega

/-- The table of next places once `N` inputs are placed. -/
def table (key : ℕ → BitVec 32) (N : ℕ) (y : S512.Idx) : BitVec 32 := BitVec.ofNat 32 (offAt key (y 0).val N)

/-- The first `n` places of the list are listed. -/
def Listed (key : ℕ → BitVec 32) (B n : ℕ) (Y : S16x128.Idx → BitVec 32) : Prop := ∀ y, flat y < n → Y y = BitVec.ofNat 32 (place key (B + flat y))

theorem listed_step {key : ℕ → BitVec 32} {B n : ℕ} {Y : S16x128.Idx → BitVec 32} (hY : Listed key B n Y) {off : Fin 2 → ℕ}
    (inb : ∀ a, off a + S1x16.size a ≤ S16x128.size a) (hoff : 128 * off 0 + off 1 = n) (w : IVec S16 32)
    (hw : ∀ x : S16.Idx, w x = BitVec.ofNat 32 (place key (B + n + (x 0).val))) :
    Listed key B (n + 16) ((Rect.unit (s := S16x128) off S1x16.size inb).overlay Y (shapeCast S1x16 w shapeCasts_S16_S1x16)) := by
  intro y hy
  have i0 : off 0 + 1 ≤ 16 := inb 0
  have i1 : off 1 + 16 ≤ 128 := inb 1
  have h1 : (y 1).val < 128 := (y 1).isLt
  unfold flat at hy
  rw [overlay_row]
  split
  · rename_i h
    have e1 : ((at1 16 ((y 1).val - off 1)) 0).val = (y 1).val - off 1 := at1_val (by omega)
    have e2 : ((at2 1 16 0 ((y 1).val - off 1)) 1).val = (y 1).val - off 1 := Nat.mod_eq_of_lt (by omega)
    rw [cast_flat, e2, hw, e1]
    unfold flat
    rw [show B + n + ((y 1).val - off 1) = B + (128 * (y 0).val + (y 1).val) by omega]
  · rename_i h
    exact hY y (by unfold flat; omega)

section Steps

variable {α : Type} {c : Thread nD τ} {Q : α → sProp (MM F)} {key : ℕ → BitVec 32}

/-- Sixteen keys of a row are loaded. -/
theorem own_keys {m : Memref sig c.2.kind .vmem S16x128 .i32} {off : Fin 2 → ℕ} {inb : ∀ a, off a + S1x16.size a ≤ S16x128.size a}
    {hl : m.view.LoadsAt (Rect.unit (s := S16x128) off S1x16.size inb).toLoadRect} {k : (S1x16.Idx → BitVec 32) → PG F c α} (B n N : ℕ)
    (hoff : 128 * off 0 + off 1 = n) (hN : N = B + n) :
    (owns c m fullShare (fun y : S16x128.Idx => key (B + flat y)) : sProp (MM F))
      ⊢ iprop((∀ v : S1x16.Idx → BitVec 32, ⌜∀ x : S16.Idx, shapeCast S16 v shapeCasts_S1x16_S16 x = key (N + (x 0).val)⌝
          -∗ owns c m fullShare (fun y : S16x128.Idx => key (B + flat y)) -∗ wpc c (k v) Q)
      -∗ wpc c (Prog.lift (.load m (Rect.unit (s := S16x128) off S1x16.size inb).toLoadRect hl) >>= k) Q) := by
  iintro H Hk
  iapply own_load $$ H; iintro H
  ispecialize Hk $$ %(fun y => key (B + flat ((Rect.unit (s := S16x128) off S1x16.size inb).emb y)))
  iapply Hk
  · ipureintro
    intro x
    have hx : (x 0).val < 16 := lt1 (N := 16) x
    have i0 : off 0 + 1 ≤ 16 := inb 0
    have i1 : off 1 + 16 ≤ 128 := inb 1
    rw [cast_row, emb_row]
    refine congrArg key ?_
    show B + (128 * (off 0 % 16) + (off 1 + (x 0).val % 16) % 128) = _
    omega
  iexact H

/-- Sixteen places are listed. -/
theorem own_list {m : Memref sig c.2.kind .vmem S16x128 .i32} {off : Fin 2 → ℕ} {inb inb' : ∀ a, off a + S1x16.size a ≤ S16x128.size a}
    {hl : m.view.LoadsAt (Rect.unit (s := S16x128) off S1x16.size inb').toLoadRect}
    {hx : (m.access (Rect.unit (s := S16x128) off S1x16.size inb)).Stores Finset.univ}
    {hm : (Finset.univ : Finset (Rect.unit (s := S16x128) off S1x16.size inb).shape.Idx) = Finset.univ ∨ ∀ a, (Rect.unit (s := S16x128) off S1x16.size inb).stride a = 1}
    {w : IVec S16 32} {k : PUnit → PG F c α} (B n : ℕ) (hoff : 128 * off 0 + off 1 = n)
    (hw : ∀ x : S16.Idx, w x = BitVec.ofNat 32 (place key (B + n + (x 0).val))) :
    (iprop(∃ Y, ⌜Listed key B n Y⌝ ∗ owns c m fullShare Y) : sProp (MM F))
      ⊢ iprop((iprop(∃ Y, ⌜Listed key B (n + 16) Y⌝ ∗ owns c m fullShare Y) -∗ wpc c (k ⟨⟩) Q)
      -∗ wpc c (Prog.lift (.load m (Rect.unit (s := S16x128) off S1x16.size inb').toLoadRect hl) >>= fun _ =>
          Prog.lift (.store m (Rect.unit (s := S16x128) off S1x16.size inb) (shapeCast S1x16 w shapeCasts_S16_S1x16) Finset.univ hx hm) >>= k) Q) := by
  iintro ⟨%Y, %hY, H⟩ Hk
  iapply own_load $$ H; iintro H
  iapply own_store $$ H; iintro H
  iapply Hk
  iexists _; isplitr; swap; · iexact H
  ipureintro
  exact listed_step hY inb hoff w hw

/-- Sixteen inputs' places are read out of the table. -/
theorem own_places {m : Memref sig c.2.kind .vmem S512 .i32} {v : IVec S16 32} {h : ∀ a x, ((![v] : Fin 1 → IVec S16 32) a x).toNat < S512.size a}
    {hl : m.view.Loads} {k : Vec F S16 .i32 → PG F c α} (N : ℕ) (hk : ∀ n, (key n).toNat < 16777216)
    (hv : ∀ l : Fin 16, (v (lane l)).toNat = bin key (N + l.val)) :
    (owns c m fullShare (table key N) : sProp (MM F))
      ⊢ iprop((∀ L : IVec S16 32, ⌜∀ x, subi (addi L (scanCount (broadcast S16 1#1) v).2) (broadcast S16 1#32) x = BitVec.ofNat 32 (place key (N + (x 0).val))⌝
          -∗ owns c m fullShare (table key N) -∗ wpc c (k L) Q)
      -∗ wpc c (SparseCore.vectorLoadIdx m ![v] h hl >>= k) Q) := by
  iintro H Hk
  iapply own_loadIdx $$ H; iintro H
  ispecialize Hk $$ %(loadIdx (F := F) (e := .i32) (s := S512) (table key N) ![v] h)
  iapply Hk
  · ipureintro
    exact route_dest (F := F) hv (table key N) (fun _ => rfl) hk h
  iexact H

/-- The table is moved on past sixteen inputs. -/
theorem own_advance {m : Memref sig c.2.kind .vmem S512 .i32} {v w : IVec S16 32} {mask : IVec S16 1}
    {h : ∀ a x, ((![v] : Fin 1 → IVec S16 32) a x).toNat < S512.size a} {hs : (m.access (.whole S512)).Stores Finset.univ}
    {k : PUnit → PG F c α} (N N' : ℕ) (hN : N + 16 = N') (hk : ∀ n, (key n).toNat < 16777216)
    (hv : ∀ l : Fin 16, (v (lane l)).toNat = bin key (N + l.val)) (hw : ∀ x, w x = BitVec.ofNat 32 (place key (N + (x 0).val) + 1))
    (hm : mask = (scanCount (broadcast S16 1#1) v).1) :
    (owns c m fullShare (table key N) : sProp (MM F))
      ⊢ iprop((owns c m fullShare (table key N') -∗ wpc c (k ⟨⟩) Q)
      -∗ wpc c (SparseCore.vectorStoreIdx m ![v] w mask false h hs >>= k) Q) := by
  subst hm hN
  iintro H Hk
  iapply own_storeIdx $$ H; iintro H
  iapply Hk
  ihave H := owns_congr (route_table (F := F) hv (table key N) (fun _ => rfl) hk w hw h) $$ H
  iexact H

end Steps

section Facts

variable {key : ℕ → BitVec 32} {N : ℕ}

theorem bins_lane (hk : ∀ n, (key n).toNat < 16777216) {u : IVec S16 32} (hu : ∀ x : S16.Idx, u x = key (N + (x 0).val)) (l : Fin 16) :
    (shrsi u (broadcast S16 15#32) (lane l)).toNat = bin key (N + l.val) := by
  show (IntOp.shrsi .vector (u (lane l)) 15#32).toNat = _
  rw [hu, shr15 _ (hk _)]
  rfl

theorem next_lane {p : IVec S16 32} (hp : ∀ x : S16.Idx, p x = BitVec.ofNat 32 (place key (N + (x 0).val))) (x : S16.Idx) :
    addi p (broadcast S16 1#32) x = BitVec.ofNat 32 (place key (N + (x 0).val) + 1) := by
  show IntOp.addi (p x) 1#32 = _
  rw [hp]
  exact addi_ofNat _ 1

theorem clip_lane (hN : N + 16 ≤ 1048576) {p : IVec S16 32} (hp : ∀ x : S16.Idx, p x = BitVec.ofNat 32 (place key (N + (x 0).val))) (x : S16.Idx) :
    minsi (broadcast S16 1052671#32) (maxsi (broadcast S16 0#32) p) x = BitVec.ofNat 32 (place key (N + (x 0).val)) := by
  have hx : (x 0).val < 16 := lt1 (N := 16) x
  show IntOp.minsi 1052671#32 (IntOp.maxsi 0#32 (p x)) = _
  rw [hp, clip_place (place_lt (by omega))]

theorem bins_inb (hk : ∀ n, (key n).toNat < 16777216) {v : IVec S16 32} (hv : ∀ l : Fin 16, (v (lane l)).toNat = bin key (N + l.val)) :
    ∀ a x, ((![v] : Fin 1 → IVec S16 32) a x).toNat < S512.size a :=
  lanes_inb v 512 fun l => by rw [hv]; exact bin_lt hk _

end Facts

section Body

variable (d : Fin nD) (i : grid1.Coords)
  (arg2 : Memref sig .scVector .hbm S8192x128 .i32) (harg2 : arg2.IsWhole) (arg3 : Memref sig .scVector .hbm S8192x128 .f32) (harg3 : arg3.IsWhole)
  (arg4 : Memref sig .scVector .hbm S16384 .i32) (harg4 : arg4.IsWhole) (arg5 : Memref sig .scVector .hbm S1052672 .i32) (harg5 : arg5.IsWhole)
  (arg6 : Memref sig .scVector .hbm S1052672 .f32) (harg6 : arg6.IsWhole) (arg7 : Memref sig .scVector .hbm S544 .i32) (harg7 : arg7.IsWhole)
  (arg8 : Memref sig .scVector .vmem S16384 .i32) (harg8 : arg8.IsWhole) (arg9 : Memref sig .scVector .vmem S512 .i32) (harg9 : arg9.IsWhole)
  (arg10 : Memref sig .scVector .vmem S544 .i32) (harg10 : arg10.IsWhole) (arg11 : Memref sig .scVector .vmem S16x128 .i32) (harg11 : arg11.IsWhole)
  (arg12 : Memref sig .scVector .vmem S16x128 .f32) (harg12 : arg12.IsWhole) (arg13 : Memref sig .scVector .vmem S16x128 .i32) (harg13 : arg13.IsWhole)
  (arg14 arg15 v18_r0 v18_r1 v343_r2 v343_r3 : DmaSems sig S_)

section Route

variable (key : ℕ → BitVec 32) (hk : ∀ n, (key n).toNat < 16777216) (B : ℕ) (hB : B + 2048 ≤ 1048576)

include hk hB

theorem k1_part1_run (t4 : Fin k1_t4_loop.trips) :
    iprop(owns (th1 d i) arg11 fullShare (fun y : S16x128.Idx => key (B + flat y)) ∗ owns (th1 d i) arg9 fullShare (table key (B + (128 * t4.val + 0))) ∗ (∃ Y, ⌜Listed key B (128 * t4.val + 0) Y⌝ ∗ owns (th1 d i) arg13 fullShare Y))
      ⊢ wpc (F := F) (th1 d i) (k1_part1 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 0#32 1#32 t4)
        fun r => iprop(⌜∀ x : S16.Idx, r.2 x = BitVec.ofNat 32 (place key (B + (128 * t4.val + 16) + (x 0).val))⌝ ∗ owns (th1 d i) arg11 fullShare (fun y : S16x128.Idx => key (B + flat y)) ∗ owns (th1 d i) arg9 fullShare (table key (B + (128 * t4.val + 32))) ∗ (∃ Y, ⌜Listed key B (128 * t4.val + 16) Y⌝ ∗ owns (th1 d i) arg13 fullShare Y)) := by
  have ht4 : t4.val < 16 := t4.isLt
  rw [k1_part1_eq_skeleton]
  unfold k1_part1_skel
  iintro ⟨H11, H9, H13⟩
  dsimp only
  have o50 : k1_off5 t4 0 = t4.val := by rw [k1_off5_eq]; rfl
  have o51 : k1_off5 t4 1 = 0 := by rw [k1_off5_eq]; rfl
  iapply (own_keys (key := key) B (128 * t4.val + 0) (B + (128 * t4.val + 0)) (by omega) rfl) $$ H11; iintro %u1 %hu1 H11
  have hb1 : ∀ l : Fin 16, (k1_pay10 (F := F) u1 (lane l)).toNat = bin key (B + (128 * t4.val + 0) + l.val) := bins_lane hk hu1
  have c1 : k1_chk1 (k1_pay10 (F := F) u1) := ⟨bins_inb hk hb1, bins_inb hk hb1⟩
  iapply own_assume c1
  iapply (own_places (key := key) (B + (128 * t4.val + 0)) hk hb1) $$ H9; iintro %p1 %hp1 H9
  iapply (own_advance (key := key) (B + (128 * t4.val + 0)) (B + (128 * t4.val + 16)) (by omega) hk hb1 (next_lane hp1) rfl) $$ H9; iintro H9
  have o60 : k1_off6 t4 0 = t4.val := by rw [k1_off6_eq]; rfl
  have o61 : k1_off6 t4 1 = 0 := by rw [k1_off6_eq]; rfl
  iapply (own_list (key := key) B (128 * t4.val + 0) (by omega) (by exact clip_lane (key := key) (N := B + (128 * t4.val + 0)) (by omega) hp1)) $$ H13; iintro H13
  have o70 : k1_off7 t4 0 = t4.val := by rw [k1_off7_eq]; rfl
  have o71 : k1_off7 t4 1 = 16 := by rw [k1_off7_eq]; rfl
  iapply (own_keys (key := key) B (128 * t4.val + 16) (B + (128 * t4.val + 16)) (by omega) rfl) $$ H11; iintro %u2 %hu2 H11
  have hb2 : ∀ l : Fin 16, (k1_pay16 (F := F) u2 (lane l)).toNat = bin key (B + (128 * t4.val + 16) + l.val) := bins_lane hk hu2
  have c2 : k1_chk2 (k1_pay16 (F := F) u2) := ⟨bins_inb hk hb2, bins_inb hk hb2⟩
  iapply own_assume c2
  iapply (own_places (key := key) (B + (128 * t4.val + 16)) hk hb2) $$ H9; iintro %p2 %hp2 H9
  iapply (own_advance (key := key) (B + (128 * t4.val + 16)) (B + (128 * t4.val + 32)) (by omega) hk hb2 (next_lane hp2) rfl) $$ H9; iintro H9
  iapply own_ret
  isplitr
  · ipureintro; exact clip_lane (key := key) (N := B + (128 * t4.val + 16)) (by omega) hp2
  isplitl [H11]; · iexact H11
  isplitl [H9]; · iexact H9
  iexact H13

theorem k1_part2_run (t4 : Fin k1_t4_loop.trips) (arg18 : BitVec 32) (v374 : IVec S16 32) (hp2 : ∀ x : S16.Idx, v374 x = BitVec.ofNat 32 (place key (B + (128 * t4.val + 16) + (x 0).val))) :
    iprop(owns (th1 d i) arg11 fullShare (fun y : S16x128.Idx => key (B + flat y)) ∗ owns (th1 d i) arg9 fullShare (table key (B + (128 * t4.val + 32))) ∗ (∃ Y, ⌜Listed key B (128 * t4.val + 16) Y⌝ ∗ owns (th1 d i) arg13 fullShare Y))
      ⊢ wpc (F := F) (th1 d i) (k1_part2 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 t4 arg18 v374)
        fun r => iprop(⌜(∀ x : S16.Idx, r.1 x = BitVec.ofNat 32 (place key (B + (128 * t4.val + 48) + (x 0).val))) ∧ r.2.1 = 0#32 ∧ r.2.2 = 1052671#32⌝ ∗ owns (th1 d i) arg11 fullShare (fun y : S16x128.Idx => key (B + flat y)) ∗ owns (th1 d i) arg9 fullShare (table key (B + (128 * t4.val + 64))) ∗ (∃ Y, ⌜Listed key B (128 * t4.val + 48) Y⌝ ∗ owns (th1 d i) arg13 fullShare Y)) := by
  have ht4 : t4.val < 16 := t4.isLt
  rw [k1_part2_eq_skeleton]
  unfold k1_part2_skel
  iintro ⟨H11, H9, H13⟩
  dsimp only
  have o80 : k1_off8 t4 0 = t4.val := by rw [k1_off8_eq]; rfl
  have o81 : k1_off8 t4 1 = 16 := by rw [k1_off8_eq]; rfl
  iapply (own_list (key := key) B (128 * t4.val + 16) (by omega) (by exact hp2)) $$ H13; iintro H13
  have o90 : k1_off9 t4 0 = t4.val := by rw [k1_off9_eq]; rfl
  have o91 : k1_off9 t4 1 = 32 := by rw [k1_off9_eq]; rfl
  iapply (own_keys (key := key) B (128 * t4.val + 32) (B + (128 * t4.val + 32)) (by omega) rfl) $$ H11; iintro %u3 %hu3 H11
  have hb3 : ∀ l : Fin 16, (k1_pay22 (F := F) u3 (lane l)).toNat = bin key (B + (128 * t4.val + 32) + l.val) := bins_lane hk hu3
  have c3 : k1_chk3 (k1_pay22 (F := F) u3) := ⟨bins_inb hk hb3, bins_inb hk hb3⟩
  iapply own_assume c3
  iapply (own_places (key := key) (B + (128 * t4.val + 32)) hk hb3) $$ H9; iintro %p3 %hp3 H9
  iapply (own_advance (key := key) (B + (128 * t4.val + 32)) (B + (128 * t4.val + 48)) (by omega) hk hb3 (next_lane hp3) rfl) $$ H9; iintro H9
  have o100 : k1_off10 t4 0 = t4.val := by rw [k1_off10_eq]; rfl
  have o101 : k1_off10 t4 1 = 32 := by rw [k1_off10_eq]; rfl
  iapply (own_list (key := key) B (128 * t4.val + 32) (by omega) (by exact clip_lane (key := key) (N := B + (128 * t4.val + 32)) (by omega) hp3)) $$ H13; iintro H13
  have o110 : k1_off11 t4 0 = t4.val := by rw [k1_off11_eq]; rfl
  have o111 : k1_off11 t4 1 = 48 := by rw [k1_off11_eq]; rfl
  iapply (own_keys (key := key) B (128 * t4.val + 48) (B + (128 * t4.val + 48)) (by omega) rfl) $$ H11; iintro %u4 %hu4 H11
  have hb4 : ∀ l : Fin 16, (k1_pay28 (F := F) u4 (lane l)).toNat = bin key (B + (128 * t4.val + 48) + l.val) := bins_lane hk hu4
  have c4 : k1_chk4 (k1_pay28 (F := F) u4) := ⟨bins_inb hk hb4, bins_inb hk hb4⟩
  iapply own_assume c4
  iapply (own_places (key := key) (B + (128 * t4.val + 48)) hk hb4) $$ H9; iintro %p4 %hp4 H9
  iapply (own_advance (key := key) (B + (128 * t4.val + 48)) (B + (128 * t4.val + 64)) (by omega) hk hb4 (next_lane hp4) rfl) $$ H9; iintro H9
  iapply own_ret
  isplitr
  · ipureintro; exact ⟨hp4, rfl, rfl⟩
  isplitl [H11]; · iexact H11
  isplitl [H9]; · iexact H9
  iexact H13

theorem k1_part3_run (t4 : Fin k1_t4_loop.trips) (arg18 : BitVec 32) (v402 : IVec S16 32) (hp4 : ∀ x : S16.Idx, v402 x = BitVec.ofNat 32 (place key (B + (128 * t4.val + 48) + (x 0).val))) :
    iprop(owns (th1 d i) arg11 fullShare (fun y : S16x128.Idx => key (B + flat y)) ∗ owns (th1 d i) arg9 fullShare (table key (B + (128 * t4.val + 64))) ∗ (∃ Y, ⌜Listed key B (128 * t4.val + 48) Y⌝ ∗ owns (th1 d i) arg13 fullShare Y))
      ⊢ wpc (F := F) (th1 d i) (k1_part3 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 t4 arg18 v402 0#32 1052671#32)
        fun r => iprop(⌜(∀ l : Fin 16, (r.1 (lane l)).toNat = bin key (B + (128 * t4.val + 80) + l.val))
          ∧ r.2.2.1 = (scanCount (broadcast S16 1#1) r.1).1 ∧ (∀ x : S16.Idx, r.2.2.2.1 x = BitVec.ofNat 32 (place key (B + (128 * t4.val + 80) + (x 0).val))) ∧ r.2.2.2.2 = broadcast S16 1#32⌝ ∗ owns (th1 d i) arg11 fullShare (fun y : S16x128.Idx => key (B + flat y)) ∗ owns (th1 d i) arg9 fullShare (table key (B + (128 * t4.val + 80))) ∗ (∃ Y, ⌜Listed key B (128 * t4.val + 80) Y⌝ ∗ owns (th1 d i) arg13 fullShare Y)) := by
  have ht4 : t4.val < 16 := t4.isLt
  rw [k1_part3_eq_skeleton]
  unfold k1_part3_skel
  iintro ⟨H11, H9, H13⟩
  dsimp only
  have o120 : k1_off12 t4 0 = t4.val := by rw [k1_off12_eq]; rfl
  have o121 : k1_off12 t4 1 = 48 := by rw [k1_off12_eq]; rfl
  iapply (own_list (key := key) B (128 * t4.val + 48) (by omega) (by exact clip_lane (key := key) (N := B + (128 * t4.val + 48)) (by omega) hp4)) $$ H13; iintro H13
  have o130 : k1_off13 t4 0 = t4.val := by rw [k1_off13_eq]; rfl
  have o131 : k1_off13 t4 1 = 64 := by rw [k1_off13_eq]; rfl
  iapply (own_keys (key := key) B (128 * t4.val + 64) (B + (128 * t4.val + 64)) (by omega) rfl) $$ H11; iintro %u5 %hu5 H11
  have hb5 : ∀ l : Fin 16, (k1_pay34 (F := F) u5 (lane l)).toNat = bin key (B + (128 * t4.val + 64) + l.val) := bins_lane hk hu5
  have c5 : k1_chk5 (k1_pay34 (F := F) u5) := ⟨bins_inb hk hb5, bins_inb hk hb5⟩
  iapply own_assume c5
  iapply (own_places (key := key) (B + (128 * t4.val + 64)) hk hb5) $$ H9; iintro %p5 %hp5 H9
  iapply (own_advance (key := key) (B + (128 * t4.val + 64)) (B + (128 * t4.val + 80)) (by omega) hk hb5 (next_lane hp5) rfl) $$ H9; iintro H9
  have o140 : k1_off14 t4 0 = t4.val := by rw [k1_off14_eq]; rfl
  have o141 : k1_off14 t4 1 = 64 := by rw [k1_off14_eq]; rfl
  iapply (own_list (key := key) B (128 * t4.val + 64) (by omega) (by exact clip_lane (key := key) (N := B + (128 * t4.val + 64)) (by omega) hp5)) $$ H13; iintro H13
  have o150 : k1_off15 t4 0 = t4.val := by rw [k1_off15_eq]; rfl
  have o151 : k1_off15 t4 1 = 80 := by rw [k1_off15_eq]; rfl
  iapply (own_keys (key := key) B (128 * t4.val + 80) (B + (128 * t4.val + 80)) (by omega) rfl) $$ H11; iintro %u6 %hu6 H11
  have hb6 : ∀ l : Fin 16, (k1_pay40 (F := F) u6 (lane l)).toNat = bin key (B + (128 * t4.val + 80) + l.val) := bins_lane hk hu6
  have c6 : k1_chk6 (k1_pay40 (F := F) u6) := ⟨bins_inb hk hb6, bins_inb hk hb6⟩
  iapply own_assume c6
  iapply (own_places (key := key) (B + (128 * t4.val + 80)) hk hb6) $$ H9; iintro %p6 %hp6 H9
  iapply own_ret
  isplitr
  · ipureintro; exact ⟨hb6, rfl, hp6, rfl⟩
  isplitl [H11]; · iexact H11
  isplitl [H9]; · iexact H9
  iexact H13

theorem k1_part4_run (t4 : Fin k1_t4_loop.trips) (arg18 : BitVec 32) (v431 : IVec S16 32) (hw6 : k1_chk6 v431) (v436 : IVec S16 32)
    (hb6 : ∀ l : Fin 16, (v431 (lane l)).toNat = bin key (B + (128 * t4.val + 80) + l.val)) (hp6 : ∀ x : S16.Idx, v436 x = BitVec.ofNat 32 (place key (B + (128 * t4.val + 80) + (x 0).val))) :
    iprop(owns (th1 d i) arg11 fullShare (fun y : S16x128.Idx => key (B + flat y)) ∗ owns (th1 d i) arg9 fullShare (table key (B + (128 * t4.val + 80))) ∗ (∃ Y, ⌜Listed key B (128 * t4.val + 80) Y⌝ ∗ owns (th1 d i) arg13 fullShare Y))
      ⊢ wpc (F := F) (th1 d i) (k1_part4 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 t4 arg18 v431 hw6 (scanCount (broadcast S16 1#1) v431).1 v436 (broadcast S16 1#32))
        fun r => iprop(⌜(∀ l : Fin 16, (r.1 (lane l)).toNat = bin key (B + (128 * t4.val + 112) + l.val))
          ∧ r.2.2.1 = (scanCount (broadcast S16 1#1) r.1).1 ∧ (∀ x : S16.Idx, subi r.2.2.2.1 (broadcast S16 1#32) x = BitVec.ofNat 32 (place key (B + (128 * t4.val + 112) + (x 0).val))) ∧ r.2.2.2.2 = 1#32⌝ ∗ owns (th1 d i) arg11 fullShare (fun y : S16x128.Idx => key (B + flat y)) ∗ owns (th1 d i) arg9 fullShare (table key (B + (128 * t4.val + 112))) ∗ (∃ Y, ⌜Listed key B (128 * t4.val + 112) Y⌝ ∗ owns (th1 d i) arg13 fullShare Y)) := by
  have ht4 : t4.val < 16 := t4.isLt
  rw [k1_part4_eq_skeleton]
  unfold k1_part4_skel
  iintro ⟨H11, H9, H13⟩
  dsimp only
  iapply (own_advance (key := key) (B + (128 * t4.val + 80)) (B + (128 * t4.val + 96)) (by omega) hk hb6 (next_lane hp6) rfl) $$ H9; iintro H9
  have o160 : k1_off16 t4 0 = t4.val := by rw [k1_off16_eq]; rfl
  have o161 : k1_off16 t4 1 = 80 := by rw [k1_off16_eq]; rfl
  iapply (own_list (key := key) B (128 * t4.val + 80) (by omega) (by exact clip_lane (key := key) (N := B + (128 * t4.val + 80)) (by omega) hp6)) $$ H13; iintro H13
  have o170 : k1_off17 t4 0 = t4.val := by rw [k1_off17_eq]; rfl
  have o171 : k1_off17 t4 1 = 96 := by rw [k1_off17_eq]; rfl
  iapply (own_keys (key := key) B (128 * t4.val + 96) (B + (128 * t4.val + 96)) (by omega) rfl) $$ H11; iintro %u7 %hu7 H11
  have hb7 : ∀ l : Fin 16, (k1_pay47 (F := F) u7 (lane l)).toNat = bin key (B + (128 * t4.val + 96) + l.val) := bins_lane hk hu7
  have c7 : k1_chk7 (k1_pay47 (F := F) u7) := ⟨bins_inb hk hb7, bins_inb hk hb7⟩
  iapply own_assume c7
  iapply (own_places (key := key) (B + (128 * t4.val + 96)) hk hb7) $$ H9; iintro %p7 %hp7 H9
  iapply (own_advance (key := key) (B + (128 * t4.val + 96)) (B + (128 * t4.val + 112)) (by omega) hk hb7 (next_lane hp7) rfl) $$ H9; iintro H9
  have o180 : k1_off18 t4 0 = t4.val := by rw [k1_off18_eq]; rfl
  have o181 : k1_off18 t4 1 = 96 := by rw [k1_off18_eq]; rfl
  iapply (own_list (key := key) B (128 * t4.val + 96) (by omega) (by exact clip_lane (key := key) (N := B + (128 * t4.val + 96)) (by omega) hp7)) $$ H13; iintro H13
  have o190 : k1_off19 t4 0 = t4.val := by rw [k1_off19_eq]; rfl
  have o191 : k1_off19 t4 1 = 112 := by rw [k1_off19_eq]; rfl
  iapply (own_keys (key := key) B (128 * t4.val + 112) (B + (128 * t4.val + 112)) (by omega) rfl) $$ H11; iintro %u8 %hu8 H11
  have hb8 : ∀ l : Fin 16, (k1_pay53 (F := F) u8 (lane l)).toNat = bin key (B + (128 * t4.val + 112) + l.val) := bins_lane hk hu8
  have c8 : k1_chk8 (k1_pay53 (F := F) u8) := ⟨bins_inb hk hb8, bins_inb hk hb8⟩
  iapply own_assume c8
  iapply (own_places (key := key) (B + (128 * t4.val + 112)) hk hb8) $$ H9; iintro %p8 %hp8 H9
  iapply own_ret
  isplitr
  · ipureintro; exact ⟨hb8, rfl, hp8, rfl⟩
  isplitl [H11]; · iexact H11
  isplitl [H9]; · iexact H9
  iexact H13

theorem k1_row_tail (t4 : Fin k1_t4_loop.trips) (v465 : IVec S16 32) (hw8 : k1_chk8 v465) (v468 : IVec S16 32)
    (hb8 : ∀ l : Fin 16, (v465 (lane l)).toNat = bin key (B + (128 * t4.val + 112) + l.val)) (hp8 : ∀ x : S16.Idx, subi v468 (broadcast S16 1#32) x = BitVec.ofNat 32 (place key (B + (128 * t4.val + 112) + (x 0).val))) :
    iprop(owns (th1 d i) arg11 fullShare (fun y : S16x128.Idx => key (B + flat y)) ∗ owns (th1 d i) arg9 fullShare (table key (B + (128 * t4.val + 112))) ∗ (∃ Y, ⌜Listed key B (128 * t4.val + 112) Y⌝ ∗ owns (th1 d i) arg13 fullShare Y))
      ⊢ wpc (F := F) (th1 d i) (do
          SparseCore.vectorStoreIdx arg9 ![v465] (k1_pay58 v468 1#32) (scanCount (broadcast S16 1#1) v465).1 false (k1_idx16_inb v465 hw8) (View.stores_vmem_bits_univ h_S512 rfl)
          let v478_ld : Vec F S1x16 .i32 ← Prog.lift (.load arg13 (Rect.unit (s := S16x128) (k1_off20 t4) S1x16.size (k1_off20_inb t4)).toLoadRect (View.loadsAt_vmem h_S1x16))
          Prog.lift (.store arg13 (Rect.unit (s := S16x128) (k1_off20 t4) S1x16.size (k1_off20_inb t4)) (shapeCast S1x16 (k1_pay59 v468 1#32) shapeCasts_S16_S1x16) Finset.univ (View.stores_vmem_bits_univ h_S1x16 rfl) (.inl rfl))
          pure 0#32)
        fun _ => iprop(owns (th1 d i) arg11 fullShare (fun y : S16x128.Idx => key (B + flat y)) ∗ owns (th1 d i) arg9 fullShare (table key (B + (128 * t4.val + 128))) ∗ (∃ Y, ⌜Listed key B (128 * t4.val + 128) Y⌝ ∗ owns (th1 d i) arg13 fullShare Y)) := by
  have ht4 : t4.val < 16 := t4.isLt
  iintro ⟨H11, H9, H13⟩
  iapply (own_advance (key := key) (B + (128 * t4.val + 112)) (B + (128 * t4.val + 128)) (by omega) hk hb8 (next_lane hp8) rfl) $$ H9; iintro H9
  have o200 : k1_off20 t4 0 = t4.val := by rw [k1_off20_eq]; rfl
  have o201 : k1_off20 t4 1 = 112 := by rw [k1_off20_eq]; rfl
  iapply (own_list (key := key) B (128 * t4.val + 112) (by omega) (by exact clip_lane (key := key) (N := B + (128 * t4.val + 112)) (by omega) hp8)) $$ H13; iintro H13
  iapply own_ret
  isplitl [H11]; · iexact H11
  isplitl [H9]; · iexact H9
  iexact H13

theorem k1_row (t4 : Fin k1_t4_loop.trips) (t3 : Fin k1_t3_loop.trips) (v1 a0 a1 a : BitVec 32) :
    iprop(owns (th1 d i) arg11 fullShare (fun y : S16x128.Idx => key (B + flat y)) ∗ owns (th1 d i) arg9 fullShare (table key (B + (128 * t4.val + 0))) ∗ (∃ Y, ⌜Listed key B (128 * t4.val + 0) Y⌝ ∗ owns (th1 d i) arg13 fullShare Y))
      ⊢ wpc (F := F) (th1 d i) (k1_t4_body i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 v1 a0 a1 t3 t4 a)
        fun _ => iprop(owns (th1 d i) arg11 fullShare (fun y : S16x128.Idx => key (B + flat y)) ∗ owns (th1 d i) arg9 fullShare (table key (B + (128 * t4.val + 128))) ∗ (∃ Y, ⌜Listed key B (128 * t4.val + 128) Y⌝ ∗ owns (th1 d i) arg13 fullShare Y)) := by
  have ht4 : t4.val < 16 := t4.isLt
  unfold k1_t4_body
  iintro H
  iapply (own_call_bind (k1_part1_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 key hk B hB t4)) $$ H
  iintro %r ⟨%h2, H⟩
  obtain ⟨s1, s2⟩ := r
  dsimp only at h2 ⊢
  iapply (own_call_bind (k1_part2_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 key hk B hB t4 s1 s2 h2)) $$ H
  iintro %r ⟨%h3, H⟩
  obtain ⟨s3, s4, s5⟩ := r
  dsimp only at h3 ⊢
  obtain ⟨h3, rfl, rfl⟩ := h3
  iapply (own_call_bind (k1_part3_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 key hk B hB t4 s1 s3 h3)) $$ H
  iintro %r ⟨%h4, H⟩
  obtain ⟨s6, s7, s8, s9, s10⟩ := r
  dsimp only at h4 ⊢
  obtain ⟨h4, rfl, h5, rfl⟩ := h4
  iapply (own_call_bind (k1_part4_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 key hk B hB t4 s1 s6 s7 s9 h4 h5)) $$ H
  iintro %r ⟨%h6, H⟩
  obtain ⟨s11, s12, s13, s14, s15⟩ := r
  dsimp only at h6 ⊢
  obtain ⟨h6, rfl, h7, rfl⟩ := h6
  iapply (own_call (k1_row_tail d i arg9 arg11 arg13 key hk B hB t4 s11 s12 s14 h6 h7)) $$ H
  iintro %b H
  iexact H

end Route

end Body

end Cert.Proof.Occ

end
-- ==== Proof.Chunk.lean ====
/-
  The second kernel on one tile: the tables of starts and of next places made from the counts, the starts written by the
  first tile, and the tile's inputs routed, sixteen chunks of 2048, each input's key and value to the input's place.
-/
module

public import proofs.«01_k».proof.Proof.Routing

@[expose] public section

noncomputable section

namespace Cert.Proof.Occ

open Cert.KernelIdeal Cert.KernelIdeal.Gen

open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The place of input `B + m` in the list. -/
def plc (key : ℕ → BitVec 32) (B m : ℕ) : Fin 1052672 := ⟨place key (B + m) % 1052672, Nat.mod_lt _ (by decide)⟩

theorem plc_val (key : ℕ → BitVec 32) {B m : ℕ} (h : B + m < 1048576) : (plc key B m).val = place key (B + m) :=
  Nat.mod_eq_of_lt (lt_trans (place_lt h) (by decide))

/-- A list from place `B` on. -/
def after {α : Type} (f : ℕ → α) (B m : ℕ) : α := f (B + m)

section Update
variable {α : Type} {c : Thread nD τ} {Q : α → sProp (MM F)}

/-- Ghost state may be moved on before a run. -/
theorem own_update {p : PG F c α} {P R : sProp (MM F)} (h : P ⊢ iprop(|={Set.univ}=> R)) : P ⊢ iprop((R -∗ wpc c p Q) -∗ wpc c p Q) := by
  iintro H Hk
  ihave H := h $$ H
  unfold wpc
  iapply (fupd_wp _ _ _ _)
  imod H with H
  imodintro
  iapply Hk
  iexact H

end Update

section Body

variable (d : Fin nD) (i : grid1.Coords)
  (arg2 : Memref sig .scVector .hbm S8192x128 .i32) (harg2 : arg2.IsWhole) (arg3 : Memref sig .scVector .hbm S8192x128 .f32) (harg3 : arg3.IsWhole)
  (arg4 : Memref sig .scVector .hbm S16384 .i32) (harg4 : arg4.IsWhole) (arg5 : Memref sig .scVector .hbm S1052672 .i32) (harg5 : arg5.IsWhole)
  (arg6 : Memref sig .scVector .hbm S1052672 .f32) (harg6 : arg6.IsWhole) (arg7 : Memref sig .scVector .hbm S544 .i32) (harg7 : arg7.IsWhole)
  (arg8 : Memref sig .scVector .vmem S16384 .i32) (harg8 : arg8.IsWhole) (arg9 : Memref sig .scVector .vmem S512 .i32) (harg9 : arg9.IsWhole)
  (arg10 : Memref sig .scVector .vmem S544 .i32) (harg10 : arg10.IsWhole) (arg11 : Memref sig .scVector .vmem S16x128 .i32) (harg11 : arg11.IsWhole)
  (arg12 : Memref sig .scVector .vmem S16x128 .f32) (harg12 : arg12.IsWhole) (arg13 : Memref sig .scVector .vmem S16x128 .i32) (harg13 : arg13.IsWhole)
  (arg14 arg15 v18_r0 v18_r1 v343_r2 v343_r3 : DmaSems sig S_)

/-- The first input of the tile's chunk `t`. -/
def chunkB (t : ℕ) : ℕ := 32768 * tile i + 2048 * t

theorem chunkB_le {t : ℕ} (h : t < 16) : chunkB i t + 2048 ≤ 1048576 := by
  have := tile_lt i
  unfold chunkB; omega

/-- The places of a chunk's inputs, in a list not yet written there, -/
def openCells {e : EltTy} (key : ℕ → BitVec 32) (dst : Memref sig .scVector .hbm S1052672 e) (t : ℕ) : sProp (MM F) :=
  bigSep Finset.univ fun m : Fin 2048 => iprop(∃ Y, owns (th1 d i) (cell dst (plc key (chunkB i t) m.val)) fullShare Y)

/-- and written. -/
def filledCells {e : EltTy} (key : ℕ → BitVec 32) (f : ℕ → Elt F e) (dst : Memref sig .scVector .hbm S1052672 e) (t : ℕ) : sProp (MM F) :=
  bigSep Finset.univ fun m : Fin 2048 => owns (th1 d i) (cell dst (plc key (chunkB i t) m.val)) fullShare (fun _ => after f (chunkB i t) m.val)

theorem chunk_emb {α : Type} (f : ℕ → α) (t3 : Fin k1_t3_loop.trips) (y : S16x128.Idx) :
    (fun y : S8192x128.Idx => f (128 * (y 0).val + (y 1).val)) ((Rect.unit (s := S8192x128) (k1_off4 i t3) S16x128.size (k1_off4_inb i t3)).emb y)
      = f (chunkB i t3.val + flat y) := by
  have e0 : k1_off4 i t3 0 = _ := congrFun (k1_off4_eq i t3) 0
  have e1 : k1_off4 i t3 1 = _ := congrFun (k1_off4_eq i t3) 1
  simp only [Matrix.cons_val_zero, Matrix.cons_val_one] at e0 e1
  refine congrArg f ?_
  show 128 * (k1_off4 i t3 0 + 1 * (y 0).val) + (k1_off4 i t3 1 + 1 * (y 1).val) = _
  unfold chunkB tile wid flat
  omega

section Chunk

variable (key : ℕ → BitVec 32) (val : ℕ → F .f32) (hk : ∀ n, (key n).toNat < 16777216)
  (hck : ∀ p, (cell arg5 p).view.dmaCredit = 32) (hcv : ∀ p, (cell arg6 p).view.dmaCredit = 32)
  (hrk : ∀ r hr, (stRow arg11 r hr).view.dmaCredit = 4096) (hrv : ∀ r hr, (stRow arg12 r hr).view.dmaCredit = 4096)
  (O : CellTallies nD τ sig (HIx 3)) (W : Waits sig (HIx 3)) (q2 q3 : PosShare TreeShare)

/-- What the staging buffers hold once a chunk is routed. -/
def Staged (t : ℕ) (fk : arg11.view.ty.Contents (Elt F)) (fv : arg12.view.ty.Contents (Elt F)) (fo : arg13.view.ty.Contents (Elt F)) : Prop :=
  (∀ r, r < 16 → ∀ m, m < 128 → (arg13.view.read (Elt F) fo (at2 16 128 r m)).toNat = (plc key (chunkB i t) (128 * r + m)).val)
  ∧ (∀ r, r < 16 → ∀ m, m < 128 → arg11.view.read (Elt F) fk (at2 16 128 r m) = after key (chunkB i t) (128 * r + m))
  ∧ (∀ r, r < 16 → ∀ m, m < 128 → arg12.view.read (Elt F) fv (at2 16 128 r m) = after val (chunkB i t) (128 * r + m))

theorem flat_at {r m : ℕ} (hr : r < 16) (hm : m < 128) : flat (at2 16 128 r m) = 128 * r + m := by
  show 128 * (r % 16) + m % 128 = _
  omega

theorem staged (t : ℕ) (ht : t < 16) {fk : arg11.view.ty.Contents (Elt F)} {fv : arg12.view.ty.Contents (Elt F)} {fo : arg13.view.ty.Contents (Elt F)}
    {Y : S16x128.Idx → BitVec 32} (hY : Listed key (chunkB i t) 2048 Y)
    (h1 : arg11.view.read (Elt F) fk = fun y : S16x128.Idx => key (chunkB i t + flat y))
    (h2 : arg12.view.read (Elt F) fv = fun y : S16x128.Idx => val (chunkB i t + flat y)) (h3 : arg13.view.read (Elt F) fo = Y) :
    Staged i arg11 arg12 arg13 key val t fk fv fo := by
  have hB := chunkB_le i ht
  refine ⟨fun r hr m hm => ?_, fun r hr m hm => ?_, fun r hr m hm => ?_⟩
  · have e := flat_at hr hm
    rw [h3, hY _ (by rw [e]; omega), e, plc_val key (by omega), BitVec.toNat_ofNat,
      Nat.mod_eq_of_lt (lt_trans (place_lt (by omega)) (by decide))]
  · rw [h1]; exact congrArg (fun n => key (chunkB i t + n)) (flat_at hr hm)
  · rw [h2]; exact congrArg (fun n => val (chunkB i t + n)) (flat_at hr hm)

include hk hck hcv in
theorem k1_part5_run (t3 : Fin k1_t3_loop.trips) (v1 a0 a1 : BitVec 32) :
    iprop(Transfers.MayWaits (th1 d i) (default : HIx 3) O ∗ owns (th1 d i) arg2 q2 (fun y : S8192x128.Idx => key (128 * (y 0).val + (y 1).val)) ∗ owns (th1 d i) arg3 q3 (fun y : S8192x128.Idx => val (128 * (y 0).val + (y 1).val))
        ∗ owns (th1 d i) arg9 fullShare (table key (chunkB i t3.val))
        ∗ (∃ Y : S16x128.Idx → BitVec 32, owns (th1 d i) arg11 fullShare Y) ∗ (∃ Y : S16x128.Idx → F .f32, owns (th1 d i) arg12 fullShare Y)
        ∗ (∃ Y : S16x128.Idx → BitVec 32, owns (th1 d i) arg13 fullShare Y)
        ∗ semVal (th1 d i, .dma v343_r2.sem) 0 ∗ semVal (th1 d i, .dma v343_r3.sem) 0 ∗ semVal (th1 d i, .dma arg14.sem) 0 ∗ semVal (th1 d i, .dma arg15.sem) 0 ∗ oweK (th1 d i) O W
        ∗ openCells (F := F) d i key arg5 t3.val ∗ openCells (F := F) d i key arg6 t3.val)
      ⊢ wpc (F := F) (th1 d i) (k1_part5 i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 v1 a0 a1 t3)
        fun _ => iprop(∃ (fk : arg11.view.ty.Contents (Elt F)) (fv : arg12.view.ty.Contents (Elt F)) (fo : arg13.view.ty.Contents (Elt F)),
          ⌜Staged i arg11 arg12 arg13 key val t3.val fk fv fo⌝ ∗ sending d i arg11 arg13 arg5 fullShare.left fk fo (plc key (chunkB i t3.val)) (after key (chunkB i t3.val)) arg14.sem 1 ∗ sending d i arg12 arg13 arg6 fullShare.right fv fo (plc key (chunkB i t3.val)) (after val (chunkB i t3.val)) arg15.sem 1 ∗ owns (th1 d i) arg2 q2 (fun y : S8192x128.Idx => key (128 * (y 0).val + (y 1).val)) ∗ owns (th1 d i) arg3 q3 (fun y : S8192x128.Idx => val (128 * (y 0).val + (y 1).val))
        ∗ owns (th1 d i) arg9 fullShare (table key (chunkB i (t3.val + 1)))
        ∗ semVal (th1 d i, .dma v343_r2.sem) 0 ∗ semVal (th1 d i, .dma v343_r3.sem) 0 ∗ oweK (th1 d i) O W) := by
  have ht3 : t3.val < 16 := t3.isLt
  rw [k1_part5_eq_skeleton]
  unfold k1_part5_skel openCells
  iintro ⟨#HM, H2, H3, H9, ⟨%Y11, H11⟩, ⟨%Y12, H12⟩, ⟨%Y13, H13⟩, Hs2, Hs3, Hs14, Hs15, HO, Hck, Hcv⟩
  dsimp only
  iapply (own_copy_fromK (show 0 < S16x128.numel by decide)) $$ [H2 H11 Hs2 HO]
  · isplitl [H2]; · iexact H2
    isplitl [H11]; · iexact H11
    isplitl [Hs2]; · iexact Hs2
    isplitl [HO]; · iexact HO
    iexact HM
  iintro ⟨H2, H11, Hs2, HO⟩
  ihave H11 := owns_congr (chunk_emb i key t3) $$ H11
  iapply (own_copy_fromK (show 0 < S16x128.numel by decide)) $$ [H3 H12 Hs3 HO]
  · isplitl [H3]; · iexact H3
    isplitl [H12]; · iexact H12
    isplitl [Hs3]; · iexact Hs3
    isplitl [HO]; · iexact HO
    iexact HM
  iintro ⟨H3, H12, Hs3, HO⟩
  ihave H12 := owns_congr (chunk_emb i val t3) $$ H12
  iapply (own_for (fun t _ => iprop(owns (th1 d i) arg11 fullShare (fun y : S16x128.Idx => key (chunkB i t3.val + flat y))
        ∗ owns (th1 d i) arg9 fullShare (table key (chunkB i t3.val + 128 * t))
        ∗ (∃ Y, ⌜Listed key (chunkB i t3.val) (128 * t) Y⌝ ∗ owns (th1 d i) arg13 fullShare Y)))
      (fun t a => k1_row d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 key hk (chunkB i t3.val) (chunkB_le i ht3) t t3 v1 a0 a1 a)) $$ [H11 H9 H13]
  · isplitl [H11]; · iexact H11
    isplitl [H9]; · iexact H9
    iexists _; isplitr; swap; · iexact H13
    ipureintro; intro y hy; omega
  iintro %a ⟨H11, H9, ⟨%Y, %hY, H13⟩⟩
  ihave H9 := (show owns (Val := Elt F) (Ix := HIx 3) (Name := ℕ) (U := UU) (Lvl := ℕ) (th1 d i) arg9 fullShare (table key (chunkB i t3.val + 128 * k1_t4_loop.trips))
    ⊢ owns (Val := Elt F) (Ix := HIx 3) (Name := ℕ) (U := UU) (Lvl := ℕ) (th1 d i) arg9 fullShare (table key (chunkB i (t3.val + 1))) from by
      rw [show chunkB i t3.val + 128 * k1_t4_loop.trips = chunkB i (t3.val + 1) by
        show chunkB i t3.val + 128 * 16 = _
        unfold chunkB; omega]) $$ H9
  icases (show owns (Val := Elt F) (Ix := HIx 3) (Name := ℕ) (U := UU) (Lvl := ℕ) (th1 d i) arg11 fullShare (fun y : S16x128.Idx => key (chunkB i t3.val + flat y))
    ⊢ iprop(∃ f, ⌜arg11.view.read (Elt F) f = fun y : S16x128.Idx => key (chunkB i t3.val + flat y)⌝ ∗ (arg11.view.loc (th1 d i) ↦[arg11.view.set]{fullShare} f)) from fun _ h => h) $$ H11 with ⟨%fk, %hfk, H11⟩
  icases (show owns (Val := Elt F) (Ix := HIx 3) (Name := ℕ) (U := UU) (Lvl := ℕ) (th1 d i) arg12 fullShare (fun y : S16x128.Idx => val (chunkB i t3.val + flat y))
    ⊢ iprop(∃ f, ⌜arg12.view.read (Elt F) f = fun y : S16x128.Idx => val (chunkB i t3.val + flat y)⌝ ∗ (arg12.view.loc (th1 d i) ↦[arg12.view.set]{fullShare} f)) from fun _ h => h) $$ H12 with ⟨%fv, %hfv, H12⟩
  icases (show owns (Val := Elt F) (Ix := HIx 3) (Name := ℕ) (U := UU) (Lvl := ℕ) (th1 d i) arg13 fullShare Y
    ⊢ iprop(∃ f, ⌜arg13.view.read (Elt F) f = Y⌝ ∗ (arg13.view.loc (th1 d i) ↦[arg13.view.set]{fullShare} f)) from fun _ h => h) $$ H13 with ⟨%fo, %hfo, H13⟩
  have hst := staged i arg11 arg12 arg13 key val t3.val ht3 hY hfk hfv hfo
  obtain ⟨g1, g2, g3⟩ := id hst
  ihave H13 := (pointsTo_share (PosShare.mem_left_op_right fullShare)).1 $$ H13
  icases H13 with ⟨H13a, H13b⟩
  iapply (own_update (sending_start d i arg11 arg13 arg5 fullShare.left fk fo (plc key (chunkB i t3.val)) (after key (chunkB i t3.val)) arg14.sem)) $$ [H11 H13a Hck Hs14]
  · isplitl [H11]; · iexact H11
    isplitl [H13a]; · iexact H13a
    isplitl [Hck]; · iexact Hck
    iexact Hs14
  iintro Hk
  iapply (own_update (sending_start d i arg12 arg13 arg6 fullShare.right fv fo (plc key (chunkB i t3.val)) (after val (chunkB i t3.val)) arg15.sem)) $$ [H12 H13b Hcv Hs15]
  · isplitl [H12]; · iexact H12
    isplitl [H13b]; · iexact H13b
    isplitl [Hcv]; · iexact Hcv
    iexact Hs15
  iintro Hv
  iapply (own_send d i 0 (by decide) hck (g1 0 (by decide)) (g2 0 (by decide))) $$ Hk; iintro Hk
  iapply (own_send d i 0 (by decide) hcv (g1 0 (by decide)) (g3 0 (by decide))) $$ Hv; iintro Hv
  iapply own_ret
  iexists fk; iexists fv; iexists fo
  isplitr; · ipureintro; exact hst
  isplitl [Hk]; · iexact Hk
  isplitl [Hv]; · iexact Hv
  isplitl [H2]; · iexact H2
  isplitl [H3]; · iexact H3
  isplitl [H9]; · iexact H9
  isplitl [Hs2]; · iexact Hs2
  isplitl [Hs3]; · iexact Hs3
  iexact HO

include hk hck hcv hrk hrv in
theorem k1_chunk (t3 : Fin k1_t3_loop.trips) (v1 a : BitVec 32) :
    iprop(Transfers.MayWaits (th1 d i) (default : HIx 3) O ∗ owns (th1 d i) arg2 q2 (fun y : S8192x128.Idx => key (128 * (y 0).val + (y 1).val)) ∗ owns (th1 d i) arg3 q3 (fun y : S8192x128.Idx => val (128 * (y 0).val + (y 1).val))
        ∗ owns (th1 d i) arg9 fullShare (table key (chunkB i t3.val))
        ∗ (∃ Y : S16x128.Idx → BitVec 32, owns (th1 d i) arg11 fullShare Y) ∗ (∃ Y : S16x128.Idx → F .f32, owns (th1 d i) arg12 fullShare Y)
        ∗ (∃ Y : S16x128.Idx → BitVec 32, owns (th1 d i) arg13 fullShare Y)
        ∗ semVal (th1 d i, .dma v343_r2.sem) 0 ∗ semVal (th1 d i, .dma v343_r3.sem) 0 ∗ semVal (th1 d i, .dma arg14.sem) 0 ∗ semVal (th1 d i, .dma arg15.sem) 0 ∗ oweK (th1 d i) O W
        ∗ openCells (F := F) d i key arg5 t3.val ∗ openCells (F := F) d i key arg6 t3.val)
      ⊢ wpc (F := F) (th1 d i) (k1_t3_body i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 v1 t3 a)
        fun _ => iprop(owns (th1 d i) arg2 q2 (fun y : S8192x128.Idx => key (128 * (y 0).val + (y 1).val)) ∗ owns (th1 d i) arg3 q3 (fun y : S8192x128.Idx => val (128 * (y 0).val + (y 1).val))
        ∗ owns (th1 d i) arg9 fullShare (table key (chunkB i (t3.val + 1)))
        ∗ (∃ Y : S16x128.Idx → BitVec 32, owns (th1 d i) arg11 fullShare Y) ∗ (∃ Y : S16x128.Idx → F .f32, owns (th1 d i) arg12 fullShare Y)
        ∗ (∃ Y : S16x128.Idx → BitVec 32, owns (th1 d i) arg13 fullShare Y)
        ∗ semVal (th1 d i, .dma v343_r2.sem) 0 ∗ semVal (th1 d i, .dma v343_r3.sem) 0 ∗ semVal (th1 d i, .dma arg14.sem) 0 ∗ semVal (th1 d i, .dma arg15.sem) 0 ∗ oweK (th1 d i) O W
        ∗ filledCells (F := F) d i key key arg5 t3.val ∗ filledCells (F := F) d i key val arg6 t3.val) := by
  unfold k1_t3_body filledCells
  iintro ⟨#HM, H⟩
  iapply (own_call_bind (k1_part5_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 key val hk hck hcv O W q2 q3 t3 v1 0#32 1#32)) $$ [H]
  · isplitr; · iexact HM
    iexact H
  iintro %u ⟨%fk, %fv, %fo, %hst, Hk, Hv, H2, H3, H9, Hs2, Hs3, HO⟩
  obtain ⟨g1, g2, g3⟩ := hst
  iapply (own_call_bind (k1_part6_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 fk fv fo (plc key (chunkB i t3.val)) (after key (chunkB i t3.val)) (after val (chunkB i t3.val)) hck hcv g1 g2 g3)) $$ [Hk Hv]
  · isplitl [Hk]; · iexact Hk
    iexact Hv
  iintro %u6 ⟨Hk, Hv⟩
  iapply (own_call_bind (k1_part7_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 fk fv fo (plc key (chunkB i t3.val)) (after key (chunkB i t3.val)) (after val (chunkB i t3.val)) hck hcv g1 g2 g3)) $$ [Hk Hv]
  · isplitl [Hk]; · iexact Hk
    iexact Hv
  iintro %u7 ⟨Hk, Hv⟩
  iapply (own_call_bind (k1_part8_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 fk fv fo (plc key (chunkB i t3.val)) (after key (chunkB i t3.val)) (after val (chunkB i t3.val)) hck hcv g1 g2 g3)) $$ [Hk Hv]
  · isplitl [Hk]; · iexact Hk
    iexact Hv
  iintro %u8 ⟨Hk, Hv⟩
  iapply (own_call_bind (k1_part9_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 fk fv fo (plc key (chunkB i t3.val)) (after key (chunkB i t3.val)) (after val (chunkB i t3.val)) hck hcv g1 g2 g3)) $$ [Hk Hv]
  · isplitl [Hk]; · iexact Hk
    iexact Hv
  iintro %u9 ⟨Hk, Hv⟩
  iapply (own_call_bind (k1_part10_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 fk fv fo (plc key (chunkB i t3.val)) (after key (chunkB i t3.val)) (after val (chunkB i t3.val)) hck hcv g1 g2 g3)) $$ [Hk Hv]
  · isplitl [Hk]; · iexact Hk
    iexact Hv
  iintro %u10 ⟨Hk, Hv⟩
  iapply (own_call_bind (k1_part11_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 fk fv fo (plc key (chunkB i t3.val)) (after key (chunkB i t3.val)) (after val (chunkB i t3.val)) hck hcv hrk hrv g1 g2 g3 O W)) $$ [Hk Hv HO]
  · isplitr; · iexact HM
    isplitl [Hk]; · iexact Hk
    isplitl [Hv]; · iexact Hv
    iexact HO
  iintro %u11 ⟨Hk, Hv, HO⟩
  iapply (own_call_bind (k1_part12_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 fk fv fo (plc key (chunkB i t3.val)) (after key (chunkB i t3.val)) (after val (chunkB i t3.val)) hrk hrv O W)) $$ [Hk Hv HO]
  · isplitr; · iexact HM
    isplitl [Hk]; · iexact Hk
    isplitl [Hv]; · iexact Hv
    iexact HO
  iintro %u12 ⟨Hk, Hv, HO⟩
  iapply (own_call_bind (k1_part13_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 fk fv fo (plc key (chunkB i t3.val)) (after key (chunkB i t3.val)) (after val (chunkB i t3.val)) hrk hrv O W)) $$ [Hk Hv HO]
  · isplitr; · iexact HM
    isplitl [Hk]; · iexact Hk
    isplitl [Hv]; · iexact Hv
    iexact HO
  iintro %u13 ⟨Hk, Hv, HO⟩
  iapply (own_call_bind (k1_part14_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 fk fv fo (plc key (chunkB i t3.val)) (after key (chunkB i t3.val)) (after val (chunkB i t3.val)) hrk hrv O W)) $$ [Hk Hv HO]
  · isplitr; · iexact HM
    isplitl [Hk]; · iexact Hk
    isplitl [Hv]; · iexact Hv
    iexact HO
  iintro %u14 ⟨Hk, Hv, HO⟩
  iapply (own_call_bind (k1_part15_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 fk fv fo (plc key (chunkB i t3.val)) (after key (chunkB i t3.val)) (after val (chunkB i t3.val)) hrk hrv O W)) $$ [Hk Hv HO]
  · isplitr; · iexact HM
    isplitl [Hk]; · iexact Hk
    isplitl [Hv]; · iexact Hv
    iexact HO
  iintro %u15 ⟨Hk, Hv, HO⟩
  iapply (own_call_bind (k1_part16_run d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 fk fv fo (plc key (chunkB i t3.val)) (after key (chunkB i t3.val)) (after val (chunkB i t3.val)) hrk hrv O W)) $$ [Hk Hv HO]
  · isplitr; · iexact HM
    isplitl [Hk]; · iexact Hk
    isplitl [Hv]; · iexact Hv
    iexact HO
  iintro %u16 ⟨Hk, Hv, HO⟩
  dsimp only
  iapply (own_drain d i 15 (by decide) (hrk 15 (by decide))) $$ [Hk HO]
  · isplitl [Hk]; · iexact Hk
    isplitl [HO]; · iexact HO
    iexact HM
  iintro ⟨Hk, HO⟩
  iapply (own_drain d i 15 (by decide) (hrv 15 (by decide))) $$ [Hv HO]
  · isplitl [Hv]; · iexact Hv
    isplitl [HO]; · iexact HO
    iexact HM
  iintro ⟨Hv, HO⟩
  iapply (own_update (draining_all d i)) $$ Hk
  iintro ⟨Hck, H13a, H11, Hs14⟩
  iapply (own_update (draining_all d i)) $$ Hv
  iintro ⟨Hcv, H13b, H12, Hs15⟩
  ihave H13 := (pointsTo_share (PosShare.mem_left_op_right fullShare)).2 $$ [H13a H13b]
  · isplitl [H13a]; · iexact H13a
    iexact H13b
  iapply own_ret
  isplitl [H2]; · iexact H2
  isplitl [H3]; · iexact H3
  isplitl [H9]; · iexact H9
  isplitl [H11]
  · iexists _; unfold owns; iexists fk; isplitr; swap; · iexact H11
    ipureintro; rfl
  isplitl [H12]
  · iexists _; unfold owns; iexists fv; isplitr; swap; · iexact H12
    ipureintro; rfl
  isplitl [H13]
  · iexists _; unfold owns; iexists fo; isplitr; swap; · iexact H13
    ipureintro; rfl
  isplitl [Hs2]; · iexact Hs2
  isplitl [Hs3]; · iexact Hs3
  isplitl [Hs14]; · iexact Hs14
  isplitl [Hs15]; · iexact Hs15
  isplitl [HO]; · iexact HO
  isplitl [Hck]; · iexact Hck
  iexact Hcv

end Chunk

end Body

end Cert.Proof.Occ

end
-- ==== Proof.K2.lean ====
/-
  The second kernel's whole body on one tile: the tables are made from the counts, the first tile writes the starts out,
  and the tile's sixteen chunks are routed.
-/
module

public import proofs.«01_k».proof.Proof.Chunk

@[expose] public section

noncomputable section

namespace Cert.Proof.Occ

open Cert.KernelIdeal Cert.KernelIdeal.Gen

open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Body

variable (d : Fin nD) (i : grid1.Coords)
  (arg2 : Memref sig .scVector .hbm S8192x128 .i32) (harg2 : arg2.IsWhole) (arg3 : Memref sig .scVector .hbm S8192x128 .f32) (harg3 : arg3.IsWhole)
  (arg4 : Memref sig .scVector .hbm S16384 .i32) (harg4 : arg4.IsWhole) (arg5 : Memref sig .scVector .hbm S1052672 .i32) (harg5 : arg5.IsWhole)
  (arg6 : Memref sig .scVector .hbm S1052672 .f32) (harg6 : arg6.IsWhole) (arg7 : Memref sig .scVector .hbm S544 .i32) (harg7 : arg7.IsWhole)
  (arg8 : Memref sig .scVector .vmem S16384 .i32) (harg8 : arg8.IsWhole) (arg9 : Memref sig .scVector .vmem S512 .i32) (harg9 : arg9.IsWhole)
  (arg10 : Memref sig .scVector .vmem S544 .i32) (harg10 : arg10.IsWhole) (arg11 : Memref sig .scVector .vmem S16x128 .i32) (harg11 : arg11.IsWhole)
  (arg12 : Memref sig .scVector .vmem S16x128 .f32) (harg12 : arg12.IsWhole) (arg13 : Memref sig .scVector .vmem S16x128 .i32) (harg13 : arg13.IsWhole)
  (arg14 arg15 v18_r0 v18_r1 v343_r2 v343_r3 : DmaSems sig S_)

section Whole

variable (key : ℕ → BitVec 32) (val : ℕ → F .f32) (hk : ∀ n, (key n).toNat < 16777216)
  (hck : ∀ p, (cell arg5 p).view.dmaCredit = 32) (hcv : ∀ p, (cell arg6 p).view.dmaCredit = 32)
  (hrk : ∀ r hr, (stRow arg11 r hr).view.dmaCredit = 4096) (hrv : ∀ r hr, (stRow arg12 r hr).view.dmaCredit = 4096)
  (O : CellTallies nD τ sig (HIx 3)) (W : Waits sig (HIx 3)) (q2 q3 q4 : PosShare TreeShare)

/-- What routing a tile's chunks keeps, before chunk `t`. -/
def routing (t : ℕ) : sProp (MM F) :=
  iprop(Transfers.MayWaits (th1 d i) (default : HIx 3) O ∗ owns (th1 d i) arg2 q2 (fun y : S8192x128.Idx => key (128 * (y 0).val + (y 1).val)) ∗ owns (th1 d i) arg3 q3 (fun y : S8192x128.Idx => val (128 * (y 0).val + (y 1).val))
        ∗ owns (th1 d i) arg9 fullShare (table key (chunkB i t))
        ∗ (∃ Y : S16x128.Idx → BitVec 32, owns (th1 d i) arg11 fullShare Y) ∗ (∃ Y : S16x128.Idx → F .f32, owns (th1 d i) arg12 fullShare Y)
        ∗ (∃ Y : S16x128.Idx → BitVec 32, owns (th1 d i) arg13 fullShare Y)
        ∗ semVal (th1 d i, .dma v343_r2.sem) 0 ∗ semVal (th1 d i, .dma v343_r3.sem) 0 ∗ semVal (th1 d i, .dma arg14.sem) 0 ∗ semVal (th1 d i, .dma arg15.sem) 0 ∗ oweK (th1 d i) O W)

/-- The places of a tile's inputs: of its first `t` chunks written, of the others open. -/
def placed {e : EltTy} (f : ℕ → Elt F e) (dst : Memref sig .scVector .hbm S1052672 e) (t : ℕ) : sProp (MM F) :=
  BI.bigSep Finset.univ fun u : Fin k1_t3_loop.trips => if u.val < t then filledCells (F := F) d i key f dst u.val else openCells (F := F) d i key dst u.val

include hk hck hcv hrk hrv in
theorem k1_chunk_step (t3 : Fin k1_t3_loop.trips) (v1 a : BitVec 32) :
    iprop(routing d i arg2 arg3 arg9 arg11 arg12 arg13 arg14 arg15 v343_r2 v343_r3 key val O W q2 q3 t3.val ∗ placed d i key key arg5 t3.val ∗ placed d i key val arg6 t3.val)
      ⊢ wpc (F := F) (th1 d i) (k1_t3_body i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 v1 t3 a)
        fun _ => iprop(routing d i arg2 arg3 arg9 arg11 arg12 arg13 arg14 arg15 v343_r2 v343_r3 key val O W q2 q3 (t3.val + 1) ∗ placed d i key key arg5 (t3.val + 1) ∗ placed d i key val arg6 (t3.val + 1)) := by
  unfold routing placed
  iintro ⟨⟨#HM, H2, H3, H9, HT1, HT2, HT3, Hs2, Hs3, Hs14, Hs15, HO⟩, Hk, Hv⟩
  ihave Hk := slots_step (fun u : Fin k1_t3_loop.trips => openCells (F := F) d i key arg5 u.val) (fun u => filledCells (F := F) d i key key arg5 u.val) t3 $$ Hk
  icases Hk with ⟨Hk, Hbk⟩
  ihave Hv := slots_step (fun u : Fin k1_t3_loop.trips => openCells (F := F) d i key arg6 u.val) (fun u => filledCells (F := F) d i key val arg6 u.val) t3 $$ Hv
  icases Hv with ⟨Hv, Hbv⟩
  iapply (own_call (k1_chunk d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 key val hk hck hcv hrk hrv O W q2 q3 t3 v1 a)) $$ [H2 H3 H9 HT1 HT2 HT3 Hs2 Hs3 Hs14 Hs15 HO Hk Hv]
  · isplitr; · iexact HM
    isplitl [H2]; · iexact H2
    isplitl [H3]; · iexact H3
    isplitl [H9]; · iexact H9
    isplitl [HT1]; · iexact HT1
    isplitl [HT2]; · iexact HT2
    isplitl [HT3]; · iexact HT3
    isplitl [Hs2]; · iexact Hs2
    isplitl [Hs3]; · iexact Hs3
    isplitl [Hs14]; · iexact Hs14
    isplitl [Hs15]; · iexact Hs15
    isplitl [HO]; · iexact HO
    isplitl [Hk]; · iexact Hk
    iexact Hv
  iintro %b ⟨H2, H3, H9, HT1, HT2, HT3, Hs2, Hs3, Hs14, Hs15, HO, Hk, Hv⟩
  isplitl [H2 H3 H9 HT1 HT2 HT3 Hs2 Hs3 Hs14 Hs15 HO]
  · isplitr; · iexact HM
    isplitl [H2]; · iexact H2
    isplitl [H3]; · iexact H3
    isplitl [H9]; · iexact H9
    isplitl [HT1]; · iexact HT1
    isplitl [HT2]; · iexact HT2
    isplitl [HT3]; · iexact HT3
    isplitl [Hs2]; · iexact Hs2
    isplitl [Hs3]; · iexact Hs3
    isplitl [Hs14]; · iexact Hs14
    isplitl [Hs15]; · iexact Hs15
    iexact HO
  isplitl [Hbk Hk]
  · iapply Hbk; iexact Hk
  iapply Hbv; iexact Hv

include hk hck hcv hrk hrv in
theorem k1_chunks (v1 : BitVec 32) :
    iprop(routing d i arg2 arg3 arg9 arg11 arg12 arg13 arg14 arg15 v343_r2 v343_r3 key val O W q2 q3 0 ∗ placed d i key key arg5 0 ∗ placed d i key val arg6 0)
      ⊢ wpc (F := F) (th1 d i) (Scf.Loop.for k1_t3_loop k1_t3_ok 0#32 (k1_t3_body i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 v1))
        fun _ => iprop(routing d i arg2 arg3 arg9 arg11 arg12 arg13 arg14 arg15 v343_r2 v343_r3 key val O W q2 q3 16 ∗ placed d i key key arg5 16 ∗ placed d i key val arg6 16) := by
  have hn : k1_t3_loop.trips = 16 := rfl
  have h2 : ∀ (t : Fin k1_t3_loop.trips) (a : BitVec 32), _ := fun t a => k1_chunk_step (F := F) d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 key val hk hck hcv hrk hrv O W q2 q3 t v1 a
  let I : ℕ → sProp (MM F) := fun t => iprop(routing d i arg2 arg3 arg9 arg11 arg12 arg13 arg14 arg15 v343_r2 v343_r3 key val O W q2 q3 t ∗ placed d i key key arg5 t ∗ placed d i key val arg6 t)
  have h3 : ∀ (t : Fin k1_t3_loop.trips) (a : BitVec 32),
      I t.val ⊢ wpc (F := F) (th1 d i) (k1_t3_body i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 v1 t a) (fun _ => I (t.val + 1)) := h2
  have h := own_loop (F := F) (c := th1 d i) (l := k1_t3_loop) (hok := k1_t3_ok) (init := (0#32 : BitVec 32)) (body := k1_t3_body i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 v1) I hn h3
  exact h

/-- The starts, past the tables: the last bin's end, and nothing after it. -/
theorem starts_end (a : BitVec 32) (ha : a = BitVec.ofNat 32 (first key 512)) {Y : S544.Idx → BitVec 32}
    (hY : ∀ y, (y 0).val < 512 → Y y = BitVec.ofNat 32 (first key (y 0).val)) (y : S544.Idx) :
    (Rect.unit (s := S544) ![528] S16.size inb_S544_S16_528).overlay
      ((Rect.unit (s := S544) ![512] S16.size inb_S544_S16_512).overlay Y (k1_pay8 a)) k1_pay9 y = startN key (y 0).val := by
  have hy : (y 0).val < 544 := lt1 (N := 544) y
  refine (overlay_unit1 (N := 544) (n := 16) inb_S544_S16_528 _ _ y).trans ?_
  unfold startN
  split
  · rename_i h
    simp at h
    rw [if_neg (by omega)]
    rfl
  · rename_i h
    simp at h
    refine (overlay_unit1 (N := 544) (n := 16) inb_S544_S16_512 _ _ y).trans ?_
    split
    · rename_i h'
      simp at h'
      have e : ((at1 16 ((y 0).val - 512)) 0).val = (y 0).val - 512 := at1_val (by omega)
      show Scalar.select (IntOp.cmpi .eq (iota .scVector S16 32 [0] iota_S16_d0_w32_scVector (at1 16 ((y 0).val - 512))) 0#32) a 0#32 = _
      rw [show iota .scVector S16 32 [0] iota_S16_d0_w32_scVector (at1 16 ((y 0).val - 512)) = BitVec.ofNat 32 ((y 0).val - 512) from by
        show BitVec.ofNat 32 (0 * 16 + ((at1 16 ((y 0).val - 512)) 0).val) = _
        rw [e, Nat.zero_mul, Nat.zero_add]]
      by_cases h2 : (y 0).val = 512
      · refine (if_pos (by rw [h2]; rfl)).trans (ha.trans ((if_pos (by omega)).trans ?_).symm)
        rw [h2]
      · refine (if_neg ?_).trans (if_neg (by omega)).symm
        show ¬BitVec.ofBool (BitVec.ofNat 32 ((y 0).val - 512) == 0#32) = 1#1
        rw [cmp_one, beq_iff_eq]
        simp only [BitVec.toNat_eq, BitVec.toNat_ofNat]
        omega
    · rename_i h'
      simp at h'
      rw [if_pos (by omega)]
      exact hY y (by omega)

/-- The starts' memref, which the first tile alone has. -/
def startsOut (P : sProp (MM F)) : sProp (MM F) := if tile i = 0 then P else iprop(emp)

theorem startsOut_mine (h : tile i = 0) (P : sProp (MM F)) : startsOut i P ⊢ P := by
  unfold startsOut; rw [if_pos h]

theorem startsOut_is (h : tile i = 0) (P : sProp (MM F)) : P ⊢ startsOut i P := by
  unfold startsOut; rw [if_pos h]

theorem startsOut_none (h : tile i ≠ 0) (P P' : sProp (MM F)) : startsOut i P ⊢ startsOut i P' := by
  unfold startsOut; rw [if_neg h, if_neg h]

theorem placed_start {e : EltTy} (f : ℕ → Elt F e) (dst : Memref sig .scVector .hbm S1052672 e) :
    (BI.bigSep Finset.univ fun u : Fin k1_t3_loop.trips => openCells (F := F) d i key dst u.val) ⊢ placed d i key f dst 0 :=
  slots_start _ _

theorem placed_done {e : EltTy} (f : ℕ → Elt F e) (dst : Memref sig .scVector .hbm S1052672 e) :
    placed d i key f dst 16 ⊢ BI.bigSep Finset.univ fun u : Fin k1_t3_loop.trips => filledCells (F := F) d i key f dst u.val :=
  slots_done _ _

theorem routing_open :
    routing d i arg2 arg3 arg9 arg11 arg12 arg13 arg14 arg15 v343_r2 v343_r3 key val O W q2 q3 16 ⊢ iprop(owns (th1 d i) arg2 q2 (fun y : S8192x128.Idx => key (128 * (y 0).val + (y 1).val)) ∗ owns (th1 d i) arg3 q3 (fun y : S8192x128.Idx => val (128 * (y 0).val + (y 1).val))
        ∗ owns (th1 d i) arg9 fullShare (table key (chunkB i 16))
        ∗ (∃ Y : S16x128.Idx → BitVec 32, owns (th1 d i) arg11 fullShare Y) ∗ (∃ Y : S16x128.Idx → F .f32, owns (th1 d i) arg12 fullShare Y)
        ∗ (∃ Y : S16x128.Idx → BitVec 32, owns (th1 d i) arg13 fullShare Y)
        ∗ semVal (th1 d i, .dma v343_r2.sem) 0 ∗ semVal (th1 d i, .dma v343_r3.sem) 0 ∗ semVal (th1 d i, .dma arg14.sem) 0 ∗ semVal (th1 d i, .dma arg15.sem) 0 ∗ oweK (th1 d i) O W) := by
  unfold routing
  iintro ⟨-, H⟩
  iexact H

section Branch
variable {α : Type} {c : Thread nD τ} {Q : α → sProp (MM F)} {p : Prop} [Decidable p] {A : p → PG F c α} {B : ¬p → PG F c α}

theorem own_then (h : p) : wpc c (A h) Q ⊢ wpc c (dite p A B) Q := by rw [dif_pos h]

theorem own_else (h : ¬p) : wpc c (B h) Q ⊢ wpc c (dite p A B) Q := by rw [dif_neg h]

end Branch

theorem first_tile : (Scalar.cmpi .ne (Scalar.extui (Scalar.cmpi .eq (tileV i) 0#32)) 0#32 = 1#1) ↔ tile i = 0 := by
  rw [← tileV_toNat i]
  generalize tileV i = v
  show (BitVec.ofBool (BitVec.zeroExtend 32 (BitVec.ofBool (v == 0#32)) != 0#32) = 1#1) ↔ v.toNat = 0
  by_cases h : v = 0#32
  · subst h; decide
  · have h' : v.toNat ≠ 0 := fun e => h (BitVec.eq_of_toNat_eq e)
    rw [beq_false_of_ne h]
    exact ⟨fun e => absurd e (by decide), fun e => absurd e h'⟩

include hk hck hcv hrk hrv in
/-- The second kernel's body on one tile. -/
theorem k1_body :
    iprop(Transfers.MayWaits (th1 d i) (default : HIx 3) O ∗ owns (th1 d i) arg2 q2 (fun y : S8192x128.Idx => key (128 * (y 0).val + (y 1).val)) ∗ owns (th1 d i) arg3 q3 (fun y : S8192x128.Idx => val (128 * (y 0).val + (y 1).val))
        ∗ owns (th1 d i) arg4 q4 (counts key)
        ∗ (BI.bigSep Finset.univ fun u : Fin k1_t3_loop.trips => openCells (F := F) d i key arg5 u.val)
        ∗ (BI.bigSep Finset.univ fun u : Fin k1_t3_loop.trips => openCells (F := F) d i key arg6 u.val)
        ∗ startsOut i iprop(∃ Y : S544.Idx → BitVec 32, owns (th1 d i) arg7 fullShare Y)
        ∗ (∃ Y : S16384.Idx → BitVec 32, owns (th1 d i) arg8 fullShare Y)
        ∗ (∃ Y : S512.Idx → BitVec 32, owns (th1 d i) arg9 fullShare Y)
        ∗ (∃ Y : S544.Idx → BitVec 32, owns (th1 d i) arg10 fullShare Y)
        ∗ (∃ Y : S16x128.Idx → BitVec 32, owns (th1 d i) arg11 fullShare Y) ∗ (∃ Y : S16x128.Idx → F .f32, owns (th1 d i) arg12 fullShare Y)
        ∗ (∃ Y : S16x128.Idx → BitVec 32, owns (th1 d i) arg13 fullShare Y)
        ∗ semVal (th1 d i, .dma v18_r0.sem) 0 ∗ semVal (th1 d i, .dma v18_r1.sem) 0
        ∗ semVal (th1 d i, .dma v343_r2.sem) 0 ∗ semVal (th1 d i, .dma v343_r3.sem) 0 ∗ semVal (th1 d i, .dma arg14.sem) 0 ∗ semVal (th1 d i, .dma arg15.sem) 0 ∗ oweK (th1 d i) O W)
      ⊢ wpc (F := F) (th1 d i) (cc1_occ_k2_route i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3)
        fun _ => iprop(owns (th1 d i) arg2 q2 (fun y : S8192x128.Idx => key (128 * (y 0).val + (y 1).val)) ∗ owns (th1 d i) arg3 q3 (fun y : S8192x128.Idx => val (128 * (y 0).val + (y 1).val))
        ∗ owns (th1 d i) arg4 q4 (counts key)
        ∗ (BI.bigSep Finset.univ fun u : Fin k1_t3_loop.trips => filledCells (F := F) d i key key arg5 u.val)
        ∗ (BI.bigSep Finset.univ fun u : Fin k1_t3_loop.trips => filledCells (F := F) d i key val arg6 u.val)
        ∗ startsOut i (owns (th1 d i) arg7 fullShare (fun y : S544.Idx => startN key (y 0).val))
        ∗ (∃ Y : S16384.Idx → BitVec 32, owns (th1 d i) arg8 fullShare Y)
        ∗ (∃ Y : S512.Idx → BitVec 32, owns (th1 d i) arg9 fullShare Y)
        ∗ (∃ Y : S544.Idx → BitVec 32, owns (th1 d i) arg10 fullShare Y)
        ∗ (∃ Y : S16x128.Idx → BitVec 32, owns (th1 d i) arg11 fullShare Y) ∗ (∃ Y : S16x128.Idx → F .f32, owns (th1 d i) arg12 fullShare Y)
        ∗ (∃ Y : S16x128.Idx → BitVec 32, owns (th1 d i) arg13 fullShare Y)
        ∗ semVal (th1 d i, .dma v18_r0.sem) 0 ∗ semVal (th1 d i, .dma v18_r1.sem) 0
        ∗ semVal (th1 d i, .dma v343_r2.sem) 0 ∗ semVal (th1 d i, .dma v343_r3.sem) 0 ∗ semVal (th1 d i, .dma arg14.sem) 0 ∗ semVal (th1 d i, .dma arg15.sem) 0 ∗ oweK (th1 d i) O W) := by
  rw [cc1_occ_k2_route_eq_skeleton]
  unfold cc1_occ_k2_route_skel
  iintro ⟨#HM, H2, H3, H4, Hk, Hv, H7, ⟨%Y8, H8⟩, ⟨%Y9, H9⟩, ⟨%Y10, H10⟩, HT1, HT2, HT3, Hs0, Hs1, Hs2, Hs3, Hs14, Hs15, HO⟩
  dsimp only
  iapply (own_copyK (show 0 < S16384.numel by decide)) $$ [H4 H8 Hs0 HO]
  · isplitl [H4]; · iexact H4
    isplitl [H8]; · iexact H8
    isplitl [Hs0]; · iexact Hs0
    isplitl [HO]; · iexact HO
    iexact HM
  iintro ⟨H4, H8, Hs0, HO⟩
  iapply (own_for (fun t (a : BitVec 32) => iprop(⌜a = BitVec.ofNat 32 (first key (16 * t))⌝ ∗ owns (th1 d i) arg8 fullShare (counts key)
        ∗ (∃ Y : S512.Idx → BitVec 32, ⌜∀ y, (y 0).val < 16 * t → Y y = BitVec.ofNat 32 (offAt key (y 0).val (32768 * tile i))⌝ ∗ owns (th1 d i) arg9 fullShare Y)
        ∗ (∃ Y : S544.Idx → BitVec 32, ⌜∀ y, (y 0).val < 16 * t → Y y = BitVec.ofNat 32 (first key (y 0).val)⌝ ∗ owns (th1 d i) arg10 fullShare Y)))
      (fun t a => k1_sixteen d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 key t a)) $$ [H8 H9 H10]
  · isplitr; · ipureintro; rw [Nat.mul_zero, first_zero]
    isplitl [H8]; · iexact H8
    isplitl [H9]
    · iexists _; isplitr; swap; · iexact H9
      ipureintro; intro y hy; omega
    · iexists _; isplitr; swap; · iexact H10
      ipureintro; intro y hy; omega
  iintro %a ⟨%ha, H8, ⟨%Z9, %h9, H9⟩, ⟨%Z10, %h10, H10⟩⟩
  have hn : k1_t1_loop.trips = 32 := rfl
  rw [hn] at ha h9 h10
  iapply own_load $$ H10; iintro H10
  iapply own_store $$ H10; iintro H10
  iapply own_load $$ H10; iintro H10
  iapply own_store $$ H10; iintro H10
  ihave H10 := owns_congr (starts_end key a ha h10) $$ H10
  ihave H9 := owns_congr (Y := table key (chunkB i 0)) (fun y => h9 y (lt1 (N := 512) y)) $$ H9
  by_cases hw : tile i = 0
  · iapply (own_then ((first_tile i).mpr hw))
    ihave H7 := (startsOut_mine i hw _) $$ H7
    icases H7 with ⟨%Y7, H7⟩
    iapply (own_copyK (show 0 < S544.numel by decide)) $$ [H10 H7 Hs1 HO]
    · isplitl [H10]; · iexact H10
      isplitl [H7]; · iexact H7
      isplitl [Hs1]; · iexact Hs1
      isplitl [HO]; · iexact HO
      iexact HM
    iintro ⟨H10, H7, Hs1, HO⟩
    iapply (own_call_bind (k1_chunks d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 key val hk hck hcv hrk hrv O W q2 q3 _)) $$ [H2 H3 H9 HT1 HT2 HT3 Hs2 Hs3 Hs14 Hs15 HO Hk Hv]
    · isplitl [H2 H3 H9 HT1 HT2 HT3 Hs2 Hs3 Hs14 Hs15 HO]
      · unfold routing; isplitr; · iexact HM
        isplitl [H2]; · iexact H2
        isplitl [H3]; · iexact H3
        isplitl [H9]; · iexact H9
        isplitl [HT1]; · iexact HT1
        isplitl [HT2]; · iexact HT2
        isplitl [HT3]; · iexact HT3
        isplitl [Hs2]; · iexact Hs2
        isplitl [Hs3]; · iexact Hs3
        isplitl [Hs14]; · iexact Hs14
        isplitl [Hs15]; · iexact Hs15
        iexact HO
      isplitl [Hk]
      · iapply (placed_start (F := F) d i key key arg5); iexact Hk
      iapply (placed_start (F := F) d i key val arg6); iexact Hv
    iintro %b ⟨Hr, Hk, Hv⟩
    ihave Hr := (routing_open d i arg2 arg3 arg9 arg11 arg12 arg13 arg14 arg15 v343_r2 v343_r3 key val O W q2 q3) $$ Hr
    icases Hr with ⟨H2, H3, H9, HT1, HT2, HT3, Hs2, Hs3, Hs14, Hs15, HO⟩
    iapply own_ret
    isplitl [H2]; · iexact H2
    isplitl [H3]; · iexact H3
    isplitl [H4]; · iexact H4
    isplitl [Hk]; · iapply (placed_done (F := F) d i key key arg5); iexact Hk
    isplitl [Hv]; · iapply (placed_done (F := F) d i key val arg6); iexact Hv
    isplitl [H7]
    · iapply (startsOut_is i hw _); iexact H7
    isplitl [H8]; · iexists _; iexact H8
    isplitl [H9]; · iexists _; iexact H9
    isplitl [H10]; · iexists _; iexact H10
    isplitl [HT1]; · iexact HT1
    isplitl [HT2]; · iexact HT2
    isplitl [HT3]; · iexact HT3
    isplitl [Hs0]; · iexact Hs0
    isplitl [Hs1]; · iexact Hs1
    isplitl [Hs2]; · iexact Hs2
    isplitl [Hs3]; · iexact Hs3
    isplitl [Hs14]; · iexact Hs14
    isplitl [Hs15]; · iexact Hs15
    iexact HO
  · iapply (own_else (fun h => hw ((first_tile i).mp h)))
    ihave H7 := (startsOut_none i hw _ (owns (th1 d i) arg7 fullShare (fun y : S544.Idx => startN key (y 0).val))) $$ H7
    iapply (own_call_bind (k1_chunks d i arg2 harg2 arg3 harg3 arg4 harg4 arg5 harg5 arg6 harg6 arg7 harg7 arg8 harg8 arg9 harg9 arg10 harg10 arg11 harg11 arg12 harg12 arg13 harg13 arg14 arg15 v18_r0 v18_r1 v343_r2 v343_r3 key val hk hck hcv hrk hrv O W q2 q3 _)) $$ [H2 H3 H9 HT1 HT2 HT3 Hs2 Hs3 Hs14 Hs15 HO Hk Hv]
    · isplitl [H2 H3 H9 HT1 HT2 HT3 Hs2 Hs3 Hs14 Hs15 HO]
      · unfold routing; isplitr; · iexact HM
        isplitl [H2]; · iexact H2
        isplitl [H3]; · iexact H3
        isplitl [H9]; · iexact H9
        isplitl [HT1]; · iexact HT1
        isplitl [HT2]; · iexact HT2
        isplitl [HT3]; · iexact HT3
        isplitl [Hs2]; · iexact Hs2
        isplitl [Hs3]; · iexact Hs3
        isplitl [Hs14]; · iexact Hs14
        isplitl [Hs15]; · iexact Hs15
        iexact HO
      isplitl [Hk]
      · iapply (placed_start (F := F) d i key key arg5); iexact Hk
      iapply (placed_start (F := F) d i key val arg6); iexact Hv
    iintro %b ⟨Hr, Hk, Hv⟩
    ihave Hr := (routing_open d i arg2 arg3 arg9 arg11 arg12 arg13 arg14 arg15 v343_r2 v343_r3 key val O W q2 q3) $$ Hr
    icases Hr with ⟨H2, H3, H9, HT1, HT2, HT3, Hs2, Hs3, Hs14, Hs15, HO⟩
    iapply own_ret
    isplitl [H2]; · iexact H2
    isplitl [H3]; · iexact H3
    isplitl [H4]; · iexact H4
    isplitl [Hk]; · iapply (placed_done (F := F) d i key key arg5); iexact Hk
    isplitl [Hv]; · iapply (placed_done (F := F) d i key val arg6); iexact Hv
    isplitl [H7]
    · iexact H7
    isplitl [H8]; · iexists _; iexact H8
    isplitl [H9]; · iexists _; iexact H9
    isplitl [H10]; · iexists _; iexact H10
    isplitl [HT1]; · iexact HT1
    isplitl [HT2]; · iexact HT2
    isplitl [HT3]; · iexact HT3
    isplitl [Hs0]; · iexact Hs0
    isplitl [Hs1]; · iexact Hs1
    isplitl [Hs2]; · iexact Hs2
    isplitl [Hs3]; · iexact Hs3
    isplitl [Hs14]; · iexact Hs14
    isplitl [Hs15]; · iexact Hs15
    iexact HO

end Whole

end Body

end Cert.Proof.Occ

end
-- ==== Proof.Tiles.lean ====
/-
  The three kernels' bodies as tasks of the launch: a task's scratch buffers and semaphores are peeled off what its tile
  owns, the body runs, and they go back.
-/
module

public import proofs.«01_k».proof.Proof.K1
public import proofs.«01_k».proof.Proof.K2
public import proofs.«01_k».proof.Proof.K3

@[expose] public section

noncomputable section

namespace Cert.Proof.Occ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## A tile's own semaphores and buffers -/

section Own

variable (d : Dev nD) (c : Fin τ.nSC) (j : Fin τ.nSub)

omit [FloatOps F] in
/-- Some of a tile's semaphores at zero, beside the rest. -/
theorem ownSems0_some (A : Finset (SemLoc sig)) (h : ∀ l ∈ A, l.isScoped .scVector = true) :
    (ownSems0 (V d c j) : sProp (MM F))
      = iprop((bigSep A fun l => semVal (V d c j, l) 0)
          ∗ bigSep (ownCells (V d c j) \ A.map ⟨fun l => ((V d c j, l) : GSem nD τ sig), fun _ _ e => (Prod.mk.inj e).2⟩) fun g => semVal g 0) := by
  unfold SparseCore.Cfg.ownSems0
  refine (SparseCore.bigSep_sdiff_split' (t := A.map ⟨fun l => ((V d c j, l) : GSem nD τ sig), fun _ _ e => (Prod.mk.inj e).2⟩) ?_).trans ?_
  · intro g hg
    obtain ⟨l, hl, rfl⟩ := Finset.mem_map.mp hg
    exact mem_ownCells.mpr ⟨rfl, h l hl⟩
  · rw [BI.bigSep_map]; rfl

omit [FloatOps F] in
/-- Some of a tile's buffers at some contents, beside the rest. -/
theorem ownBufs_some (A : Finset (Ref sig .scVector)) (h : ∀ b ∈ A, ((Proc.scVector c j).devRef b).owner = .proc (Proc.scVector c j)) :
    (ownBufs (V d c j) : sProp (MM F))
      = iprop((bigSep A fun b => iprop(∃ f, (V d c j).loc b ↦{fullShare} f))
          ∗ bigSep (ownRefs (Proc.scVector c j) \ A.map ⟨(Proc.scVector c j).devRef, Proc.devRef_injective _⟩) fun b => iprop(∃ f, ((d, b) : Loc nD τ sig) ↦{fullShare} f)) := by
  unfold SparseCore.Cfg.ownBufs
  refine (SparseCore.bigSep_sdiff_split' (s := ownRefs (Proc.scVector c j)) (t := A.map ⟨(Proc.scVector c j).devRef, Proc.devRef_injective _⟩) ?_).trans ?_
  · intro g hg
    obtain ⟨b, hb, rfl⟩ := Finset.mem_map.mp hg
    exact SparseCore.Cfg.mem_ownRefs_of_owner (h b hb)
  · rw [BI.bigSep_map]; rfl

omit [FloatOps F] in
/-- A scratch buffer at some contents, in the bodies' spelling. -/
theorem scratch_eq (b : Ref sig .scVector) :
    iprop(∃ f, (V d c j).loc b ↦{fullShare} f) = (iprop(∃ Y, owns (V d c j) (Memref.whole b) fullShare Y) : sProp (MM F)) := by
  simp only [owns_whole]

/-- A body that runs from its arrays, its scratch buffers and its semaphores is a task of the launch. -/
theorem task_of_body (A : Finset (SemLoc sig)) (hA : ∀ l ∈ A, l.isScoped .scVector = true)
    (B : Finset (Ref sig .scVector)) (hB : ∀ b ∈ B, ((Proc.scVector c j).devRef b).owner = .proc (Proc.scVector c j))
    (O : CellTallies nD τ sig (HIx 3)) (W : Waits sig (HIx 3)) (hO : ∀ g, O g none = 0) (q : Fin 3)
    {P R : sProp (MM F)} {p : PG F (V d c j) PUnit}
    (h : iprop(Transfers.MayWaits (V d c j) (default : HIx 3) O ∗ P
        ∗ (bigSep B fun b => iprop(∃ Y, owns (V d c j) (Memref.whole b) fullShare Y)) ∗ (bigSep A fun l => semVal (V d c j, l) 0) ∗ oweK (V d c j) O W)
      ⊢ wpc (F := F) (V d c j) p fun _ => iprop(R
        ∗ (bigSep B fun b => iprop(∃ Y, owns (V d c j) (Memref.whole b) fullShare Y)) ∗ (bigSep A fun l => semVal (V d c j, l) 0) ∗ oweK (V d c j) O W)) :
    iprop(levAts (K (F := F)).L (K (F := F)).lev ∗ emp ∗ P ∗ scopedBufs (V d c j) ∗ scopedSems0 (V d c j) ∗ owes (V d c j) O W)
      ⊢ wp frame (wpE (defs₀ (F := F)) 𝒱₀ (V d c j) none) Set.univ p fun _ => iprop(R ∗ scopedBufs (V d c j) ∗ scopedSems0 (V d c j)
          ∗ ∃ W', ⌜∀ p ∈ W', p ∈ W ∨ p.2 = none ∨ p.2 = some q⌝ ∗ owes (V d c j) O W') := by
  simp only [← scratch_eq] at h
  rw [(K (F := F)).scopedBufs_V facts d c j, SparseCore.Cfg.scopedSems0_V (Val := Elt F) d c j, ownSems0_some d c j A hA, ownBufs_some d c j B hB]
  iintro ⟨#Hlv, -, HP, ⟨Hb, Hbufs⟩, ⟨Hs, Hsems⟩, HO⟩
  ihave Hmw := (show levAts (K (F := F)).L (K (F := F)).lev ⊢ Transfers.MayWaits (V d c j) (default : HIx 3) O from
    (K (F := F)).mayWaits_none (thr := V d c j) hO) $$ Hlv
  iapply (own_call h) $$ [Hmw HP Hb Hs HO]
  · isplitl [Hmw]; · iexact Hmw
    isplitl [HP]; · iexact HP
    isplitl [Hb]; · iexact Hb
    isplitl [Hs]; · iexact Hs
    iapply (oweK_intro (c := V d c j)); iexact HO
  iintro %a ⟨HR, Hb, Hs, ⟨%W', %hW, HO⟩⟩
  isplitl [HR]; · iexact HR
  isplitl [Hb Hbufs]
  · isplitl [Hb]; · iexact Hb
    iexact Hbufs
  isplitl [Hs Hsems]
  · isplitl [Hs]; · iexact Hs
    iexact Hsems
  iexists W'
  isplitr; swap; · iexact HO
  ipureintro
  intro p hp
  rcases hW p hp with h1 | h1
  · exact Or.inl h1
  · exact Or.inr (Or.inl h1)

end Own

/-! ## The kernels' arrays -/

abbrev aV0 : Memref sig .scVector .hbm S16777216 .f32 := Memref.whole main_v0_scv
abbrev aV1 : Memref sig .scVector .hbm S3145728 .f32 := Memref.whole main_v1_scv
abbrev aKeys : Memref sig .scVector .hbm S1048576 .i32 := Memref.whole main_v2_0_scv
abbrev aCnt : Memref sig .scVector .hbm S16384 .i32 := Memref.whole main_v2_1_scv
abbrev aKeys2 : Memref sig .scVector .hbm S8192x128 .i32 := Memref.whole main_v3_scv
abbrev aVals : Memref sig .scVector .hbm S8192x128 .f32 := Memref.whole main_v4_scv
abbrev aBK : Memref sig .scVector .hbm S1052672 .i32 := Memref.whole main_v5_0_scv
abbrev aBV : Memref sig .scVector .hbm S1052672 .f32 := Memref.whole main_v5_1_scv
abbrev aSt : Memref sig .scVector .hbm S544 .i32 := Memref.whole main_v5_2_scv
abbrev aOut : Memref sig .scVector .hbm S16777216 .f32 := Memref.whole main_v6_scv

/-! ## What each kernel's task takes and gives back -/

section Arrays

variable (d : Fin nD)

/-- The first kernel's: the coordinates (shared), and its blocks of the keys and of the counts. -/
def go0 (i : grid0.Coords) (X : S3145728.Idx → F .f32) (q : PosShare TreeShare) : sProp (MM F) :=
  iprop(owns (th0 d i) aV1 q X
    ∗ (BI.bigSep Finset.univ fun t : Fin k0_t2_loop.trips => iprop(∃ Y : S2048.Idx → BitVec 32, owns (th0 d i) (keySlice i aKeys t) fullShare Y))
    ∗ (∃ Y : S512.Idx → BitVec 32, owns (th0 d i) (cntSlice i aCnt) fullShare Y))

def td0 (i : grid0.Coords) (X : S3145728.Idx → F .f32) (q : PosShare TreeShare) : sProp (MM F) :=
  iprop(owns (th0 d i) aV1 q X
    ∗ (BI.bigSep Finset.univ fun t : Fin k0_t2_loop.trips =>
        owns (th0 d i) (keySlice i aKeys t) fullShare (fun y : S2048.Idx => keyN X (base0 i + 2048 * t.val + (y 0).val)))
    ∗ owns (th0 d i) (cntSlice i aCnt) fullShare (fun y : S512.Idx => BitVec.ofNat 32 (cnt (keyN X) (base0 i) (y 0).val 32768)))

/-- The second kernel's: keys, values and counts (shared), the places its inputs go to, and on the first tile the bins'
starts. -/
def go1 (i : grid1.Coords) (key : ℕ → BitVec 32) (val : ℕ → F .f32) (q : PosShare TreeShare) : sProp (MM F) :=
  iprop(owns (th1 d i) aKeys2 q (fun y : S8192x128.Idx => key (128 * (y 0).val + (y 1).val)) ∗ owns (th1 d i) aVals q (fun y : S8192x128.Idx => val (128 * (y 0).val + (y 1).val))
    ∗ owns (th1 d i) aCnt q (counts key)
    ∗ (BI.bigSep Finset.univ fun u : Fin k1_t3_loop.trips => openCells (F := F) d i key aBK u.val)
    ∗ (BI.bigSep Finset.univ fun u : Fin k1_t3_loop.trips => openCells (F := F) d i key aBV u.val)
    ∗ startsOut i iprop(∃ Y : S544.Idx → BitVec 32, owns (th1 d i) aSt fullShare Y))

def td1 (i : grid1.Coords) (key : ℕ → BitVec 32) (val : ℕ → F .f32) (q : PosShare TreeShare) : sProp (MM F) :=
  iprop(owns (th1 d i) aKeys2 q (fun y : S8192x128.Idx => key (128 * (y 0).val + (y 1).val)) ∗ owns (th1 d i) aVals q (fun y : S8192x128.Idx => val (128 * (y 0).val + (y 1).val))
    ∗ owns (th1 d i) aCnt q (counts key)
    ∗ (BI.bigSep Finset.univ fun u : Fin k1_t3_loop.trips => filledCells (F := F) d i key key aBK u.val)
    ∗ (BI.bigSep Finset.univ fun u : Fin k1_t3_loop.trips => filledCells (F := F) d i key val aBV u.val)
    ∗ startsOut i (owns (th1 d i) aSt fullShare (fun y : S544.Idx => startN key (y 0).val)))

/-- The third kernel's: the grid, the binned keys and values and the starts (shared), and its slabs of the result. -/
def go2 (i : grid2.Coords) (G : ℕ → F .f32) (bk : ℕ → BitVec 32) (bv : ℕ → F .f32) (st : ℕ → BitVec 32) (q : PosShare TreeShare) : sProp (MM F) :=
  iprop(owns (th2 d i) aV0 q (fun y : S16777216.Idx => G (y 0).val)
    ∗ owns (th2 d i) aBK q (fun y : S1052672.Idx => bk (y 0).val) ∗ owns (th2 d i) aBV q (fun y : S1052672.Idx => bv (y 0).val)
    ∗ owns (th2 d i) aSt q (fun y : S544.Idx => st (y 0).val)
    ∗ (BI.bigSep Finset.univ fun t : Fin k2_t1_loop.trips => iprop(∃ Y : S32768.Idx → F .f32, owns (th2 d i) (outSlice i aOut t) fullShare Y)))

def td2 (i : grid2.Coords) (G : ℕ → F .f32) (bk : ℕ → BitVec 32) (bv : ℕ → F .f32) (st : ℕ → BitVec 32) (q : PosShare TreeShare) : sProp (MM F) :=
  iprop(owns (th2 d i) aV0 q (fun y : S16777216.Idx => G (y 0).val)
    ∗ owns (th2 d i) aBK q (fun y : S1052672.Idx => bk (y 0).val) ∗ owns (th2 d i) aBV q (fun y : S1052672.Idx => bv (y 0).val)
    ∗ owns (th2 d i) aSt q (fun y : S544.Idx => st (y 0).val)
    ∗ (BI.bigSep Finset.univ fun t : Fin k2_t1_loop.trips => owns (th2 d i) (outSlice i aOut t) fullShare (fun y : S32768.Idx => slabOut G st bk bv (slabOf i t.val) (y 0).val)))

variable (O : CellTallies nD τ sig (HIx 3)) (W : Waits sig (HIx 3)) (hO : ∀ g, O g none = 0)
include hO

/-- The first kernel's task. -/
theorem task0 (i : grid0.Coords) (X : S3145728.Idx → F .f32) (q : PosShare TreeShare) :
    iprop(levAts (K (F := F)).L (K (F := F)).lev ∗ emp ∗ go0 d i X q ∗ scopedBufs (th0 d i) ∗ scopedSems0 (th0 d i) ∗ owes (th0 d i) O W)
      ⊢ wp frame (wpE (defs₀ (F := F)) 𝒱₀ (th0 d i) none) Set.univ (cc0_occ_k1_keys_hist i aV1 (Memref.isWhole_whole _) aKeys (Memref.isWhole_whole _) aCnt (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2)
        fun _ => iprop(td0 d i X q ∗ scopedBufs (th0 d i) ∗ scopedSems0 (th0 d i)
          ∗ ∃ W', ⌜∀ p ∈ W', p ∈ W ∨ p.2 = none ∨ p.2 = some (0 : Fin 3)⌝ ∗ owes (th0 d i) O W') := by
  refine task_of_body d ((i 0).castLE hcore0) ((i 1).castLE hsub0)
    ({.dma cc0_scoped0.sem, .dma cc0_scoped1.sem, .dma cc0_scoped2.sem} : Finset (SemLoc sig)) (by decide)
    ({cc0_scratch0, cc0_scratch1, cc0_scratch2, cc0_scratch3} : Finset (Ref sig .scVector)) (by simp only [Finset.mem_insert, Finset.mem_singleton]; rintro b (rfl | rfl | rfl | rfl) <;> rfl)
    O W hO 0 ?_
  rw [SparseCore.bigSep_insert' (by decide), SparseCore.bigSep_insert' (by decide), SparseCore.bigSep_insert' (by decide), bigSep_singleton,
    SparseCore.bigSep_insert' (by decide), SparseCore.bigSep_insert' (by decide), bigSep_singleton]
  unfold go0 td0
  iintro ⟨HM, ⟨H0, H1, H2⟩, ⟨B0, B1, B2, B3⟩, ⟨S0, S1, S2⟩, HO⟩
  iapply (own_call (k0_body d i aV1 (Memref.isWhole_whole _) aKeys (Memref.isWhole_whole _) aCnt (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 X O W q)) $$ [HM H0 H1 H2 B0 B1 B2 B3 S0 S1 S2 HO]
  · isplitl [HM]; · iexact HM
    isplitl [H0]; · iexact H0
    isplitl [H1]; · iexact H1
    isplitl [H2]; · iexact H2
    isplitl [B0]; · iexact B0
    isplitl [B1]; · iexact B1
    isplitl [B2]; · iexact B2
    isplitl [B3]; · iexact B3
    isplitl [S0]; · iexact S0
    isplitl [S1]; · iexact S1
    isplitl [S2]; · iexact S2
    iexact HO
  iintro %a ⟨H0, H1, H2, B0, B1, B2, B3, S0, S1, S2, HO⟩
  isplitl [H0 H1 H2]
  · isplitl [H0]; · iexact H0
    isplitl [H1]; · iexact H1
    iexact H2
  isplitl [B0 B1 B2 B3]
  · isplitl [B0]; · iexact B0
    isplitl [B1]; · iexact B1
    isplitl [B2]; · iexact B2
    iexact B3
  isplitl [S0 S1 S2]
  · isplitl [S0]; · iexact S0
    isplitl [S1]; · iexact S1
    iexact S2
  iexact HO

/-- The second kernel's task. -/
theorem task1 (i : grid1.Coords) (key : ℕ → BitVec 32) (val : ℕ → F .f32) (hk : ∀ n, (key n).toNat < 16777216) (q : PosShare TreeShare) :
    iprop(levAts (K (F := F)).L (K (F := F)).lev ∗ emp ∗ go1 d i key val q ∗ scopedBufs (th1 d i) ∗ scopedSems0 (th1 d i) ∗ owes (th1 d i) O W)
      ⊢ wp frame (wpE (defs₀ (F := F)) 𝒱₀ (th1 d i) none) Set.univ (cc1_occ_k2_route i aKeys2 (Memref.isWhole_whole _) aVals (Memref.isWhole_whole _) aCnt (Memref.isWhole_whole _) aBK (Memref.isWhole_whole _) aBV (Memref.isWhole_whole _) aSt (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3)
        fun _ => iprop(td1 d i key val q ∗ scopedBufs (th1 d i) ∗ scopedSems0 (th1 d i)
          ∗ ∃ W', ⌜∀ p ∈ W', p ∈ W ∨ p.2 = none ∨ p.2 = some (1 : Fin 3)⌝ ∗ owes (th1 d i) O W') := by
  refine task_of_body d ((i 0).castLE hcore1) ((i 1).castLE hsub1)
    ({.dma cc1_scoped0.sem, .dma cc1_scoped1.sem, .dma cc1_scoped2.sem, .dma cc1_scoped3.sem, .dma cc1_scratch6.sem, .dma cc1_scratch7.sem} : Finset (SemLoc sig)) (by decide)
    ({cc1_scratch0, cc1_scratch1, cc1_scratch2, cc1_scratch3, cc1_scratch4, cc1_scratch5} : Finset (Ref sig .scVector)) (by simp only [Finset.mem_insert, Finset.mem_singleton]; rintro b (rfl | rfl | rfl | rfl | rfl | rfl) <;> rfl)
    O W hO 1 ?_
  rw [SparseCore.bigSep_insert' (by decide), SparseCore.bigSep_insert' (by decide), SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide), SparseCore.bigSep_insert' (by decide), bigSep_singleton]
  unfold go1 td1
  iintro ⟨HM, ⟨H0, H1, H2, H3, H4, H5⟩, ⟨B0, B1, B2, B3, B4, B5⟩, ⟨S0, S1, S2, S3, S4, S5⟩, HO⟩
  iapply (own_call (k1_body d i aKeys2 (Memref.isWhole_whole _) aVals (Memref.isWhole_whole _) aCnt (Memref.isWhole_whole _) aBK (Memref.isWhole_whole _) aBV (Memref.isWhole_whole _) aSt (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3 key val hk (fun _ => rfl) (fun _ => rfl) (fun _ _ => rfl) (fun _ _ => rfl) O W q q q)) $$ [HM H0 H1 H2 H3 H4 H5 B0 B1 B2 B3 B4 B5 S0 S1 S2 S3 S4 S5 HO]
  · isplitl [HM]; · iexact HM
    isplitl [H0]; · iexact H0
    isplitl [H1]; · iexact H1
    isplitl [H2]; · iexact H2
    isplitl [H3]; · iexact H3
    isplitl [H4]; · iexact H4
    isplitl [H5]; · iexact H5
    isplitl [B0]; · iexact B0
    isplitl [B1]; · iexact B1
    isplitl [B2]; · iexact B2
    isplitl [B3]; · iexact B3
    isplitl [B4]; · iexact B4
    isplitl [B5]; · iexact B5
    isplitl [S0]; · iexact S0
    isplitl [S1]; · iexact S1
    isplitl [S2]; · iexact S2
    isplitl [S3]; · iexact S3
    isplitl [S4]; · iexact S4
    isplitl [S5]; · iexact S5
    iexact HO
  iintro %a ⟨H0, H1, H2, H3, H4, H5, B0, B1, B2, B3, B4, B5, S0, S1, S2, S3, S4, S5, HO⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [B0 B1 B2 B3 B4 B5]
  · isplitl [B0]; · iexact B0
    isplitl [B1]; · iexact B1
    isplitl [B2]; · iexact B2
    isplitl [B3]; · iexact B3
    isplitl [B4]; · iexact B4
    iexact B5
  isplitl [S0 S1 S2 S3 S4 S5]
  · isplitl [S0]; · iexact S0
    isplitl [S1]; · iexact S1
    isplitl [S2]; · iexact S2
    isplitl [S3]; · iexact S3
    isplitl [S4]; · iexact S4
    iexact S5
  iexact HO

/-- The third kernel's task. -/
theorem task2 (i : grid2.Coords) (G : ℕ → F .f32) (bk : ℕ → BitVec 32) (bv : ℕ → F .f32) (st : ℕ → BitVec 32)
    (hst : ∀ b, b < 512 → (st b).toNat ≤ (st (b + 1)).toNat ∧ (st (b + 1)).toNat ≤ 1048576) (q : PosShare TreeShare) :
    iprop(levAts (K (F := F)).L (K (F := F)).lev ∗ emp ∗ go2 d i G bk bv st q ∗ scopedBufs (th2 d i) ∗ scopedSems0 (th2 d i) ∗ owes (th2 d i) O W)
      ⊢ wp frame (wpE (defs₀ (F := F)) 𝒱₀ (th2 d i) none) Set.univ (cc2_occ_k3_slab_update i aV0 (Memref.isWhole_whole _) aBK (Memref.isWhole_whole _) aBV (Memref.isWhole_whole _) aSt (Memref.isWhole_whole _) aOut (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) cc2_scoped0 cc2_scoped1 cc2_scoped2 cc2_scoped3 cc2_scoped4 cc2_scoped5 cc2_scoped6 cc2_scoped7 cc2_scoped8 cc2_scoped9)
        fun _ => iprop(td2 d i G bk bv st q ∗ scopedBufs (th2 d i) ∗ scopedSems0 (th2 d i)
          ∗ ∃ W', ⌜∀ p ∈ W', p ∈ W ∨ p.2 = none ∨ p.2 = some (2 : Fin 3)⌝ ∗ owes (th2 d i) O W') := by
  refine task_of_body d ((i 0).castLE hcore2) ((i 1).castLE hsub2)
    ({.dma cc2_scoped0.sem, .dma cc2_scoped1.sem, .dma cc2_scoped2.sem, .dma cc2_scoped3.sem, .dma cc2_scoped5.sem, .dma cc2_scoped6.sem, .dma cc2_scoped9.sem} : Finset (SemLoc sig)) (by decide)
    ({cc2_scratch0, cc2_scratch1, cc2_scratch2, cc2_scratch3, cc2_scratch4} : Finset (Ref sig .scVector)) (by simp only [Finset.mem_insert, Finset.mem_singleton]; rintro b (rfl | rfl | rfl | rfl | rfl) <;> rfl)
    O W hO 2 ?_
  rw [SparseCore.bigSep_insert' (by decide), SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  unfold go2 td2
  iintro ⟨HM, ⟨H0, H1, H2, H3, H4⟩, ⟨B0, B1, B2, B3, B4⟩, ⟨S0, S1, S2, S3, S4, S5, S6⟩, HO⟩
  iapply (own_call (k2_body d i aV0 (Memref.isWhole_whole _) aBK (Memref.isWhole_whole _) aBV (Memref.isWhole_whole _) aSt (Memref.isWhole_whole _) aOut (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) cc2_scoped0 cc2_scoped1 cc2_scoped2 cc2_scoped3 cc2_scoped4 cc2_scoped5 cc2_scoped6 cc2_scoped7 cc2_scoped8 cc2_scoped9 bk bv G st hst O W q q q q)) $$ [HM H0 H1 H2 H3 H4 B0 B1 B2 B3 B4 S0 S1 S2 S3 S4 S5 S6 HO]
  · isplitl [HM]; · iexact HM
    isplitl [H0]; · iexact H0
    isplitl [H1]; · iexact H1
    isplitl [H2]; · iexact H2
    isplitl [H3]; · iexact H3
    isplitl [H4]; · iexact H4
    isplitl [B0]; · iexact B0
    isplitl [B1]; · iexact B1
    isplitl [B2]; · iexact B2
    isplitl [B3]; · iexact B3
    isplitl [B4]; · iexact B4
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %a ⟨H0, H1, H2, H3, H4, B0, B1, B2, B3, B4, S0, S1, S2, S3, S4, S5, S6, HO⟩
  isplitl [H0 H1 H2 H3 H4]
  · isplitl [H0]; · iexact H0
    isplitl [H1]; · iexact H1
    isplitl [H2]; · iexact H2
    isplitl [H3]; · iexact H3
    iexact H4
  isplitl [B0 B1 B2 B3 B4]
  · isplitl [B0]; · iexact B0
    isplitl [B1]; · iexact B1
    isplitl [B2]; · iexact B2
    isplitl [B3]; · iexact B3
    iexact B4
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexact HO

end Arrays

end Cert.Proof.Occ

end

end
-- ==== Proof.Split.lean ====
/-
  The arrays cut up among the thirty-two tiles, and put together again: a read-only array goes out as thirty-two read
  shares of the whole, an array the tiles write goes out as the blocks, or the single places, each tile writes.
-/
module

public import Idealize.ShloMosaic.Lib.ShareLeaves
public import proofs.«01_k».proof.Proof.Tiles

@[expose] public section

noncomputable section

namespace Cert.Proof.Occ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The tiles -/

/-- The tile on subcore `s` of SparseCore `c`. -/
abbrev co (c : Fin 2) (s : Fin 16) : grid0.Coords :=
  fun | 0 => c | 1 => s | ⟨_ + 2, h⟩ => absurd h (Nat.not_lt.2 (Nat.le_add_left _ _))

/-- One piece per tile. -/
def tiles (Φ : Fin 2 → Fin 16 → sProp (MM F)) : sProp (MM F) :=
  bigSep Finset.univ fun c : Fin 2 => bigSep Finset.univ fun s : Fin 16 => Φ c s

omit [FloatOps F] in
theorem tiles_pairs (Φ : Fin 2 → Fin 16 → sProp (MM F)) : tiles Φ = bigSep Finset.univ fun p : Fin 2 × Fin 16 => Φ p.1 p.2 :=
  (BI.bigSep_univ_prod (fun p : Fin 2 × Fin 16 => Φ p.1 p.2)).symm

omit [FloatOps F] in
theorem tiles_sep (Φ Ψ : Fin 2 → Fin 16 → sProp (MM F)) : tiles (fun c s => iprop(Φ c s ∗ Ψ c s)) = iprop(tiles Φ ∗ tiles Ψ) := by
  rw [tiles_pairs, tiles_pairs, tiles_pairs, bigSep_sep']

omit [FloatOps F] in
theorem tiles_congr {Φ Ψ : Fin 2 → Fin 16 → sProp (MM F)} (h : ∀ c s, Φ c s = Ψ c s) : tiles Φ = tiles Ψ :=
  congrArg tiles (funext fun c => funext fun s => h c s)

omit [FloatOps F] in
theorem tiles_mono {Φ Ψ : Fin 2 → Fin 16 → sProp (MM F)} (h : ∀ c s, Φ c s ⊢ Ψ c s) : tiles Φ ⊢ tiles Ψ := by
  rw [tiles_pairs, tiles_pairs]
  exact (show _ ⊢ _ from BI.bigSep_mono fun p _ => h p.1 p.2)

omit [FloatOps F] in
theorem sep_left {A B C : sProp (MM F)} (h : A ⊢ B) : iprop(A ∗ C) ⊢ iprop(B ∗ C) := by
  iintro ⟨HA, HC⟩
  isplitl [HA]; · iapply h; iexact HA
  iexact HC

omit [FloatOps F] in
theorem of_eq' {A B : sProp (MM F)} (h : A = B) : A ⊢ B := by rw [h]

omit [FloatOps F] in
theorem big_mono {I : Type} (s : Finset I) {Φ Ψ : I → sProp (MM F)} (h : ∀ i, Φ i ⊢ Ψ i) : bigSep s Φ ⊢ bigSep s Ψ :=
  (show _ ⊢ _ from BI.bigSep_mono fun i _ => h i)

/-- The tile a piece on any tile is compared with. -/
abbrev tz (d : Fin nD) : Thread nD τ := V d ((0 : Fin 2).castLE hcore0) ((0 : Fin 16).castLE hsub0)

/-! ## Read shares -/

/-- The tiles by number. -/
def tileNo : Fin 2 × Fin 16 ≃ Fin (2 ^ 5) where
  toFun p := ⟨wid p.1.val p.2.val, by unfold wid; have := p.1.isLt; have := p.2.isLt; omega⟩
  invFun n := (⟨n.val % 2, by omega⟩, ⟨n.val / 2, by have := n.isLt; omega⟩)
  left_inv p := by
    have := p.1.isLt
    refine Prod.ext (Fin.ext ?_) (Fin.ext ?_)
    · show (p.2.val * 2 + p.1.val) % 2 = _; omega
    · show (p.2.val * 2 + p.1.val) / 2 = _; omega
  right_inv n := Fin.ext (by show n.val / 2 * 2 + n.val % 2 = _; omega)

/-- Each tile's read share of an array, -/
def rsh (c : Fin 2) (s : Fin 16) : PosShare TreeShare := ShareLeaves.leaf 5 fullShare (tileNo (c, s))

omit [FloatOps F] in
/-- and the array is the tiles' shares of it. -/
theorem shares_eq {ℓ : Loc nD τ sig} (f : Buf (Elt F) ℓ) : (ℓ ↦{fullShare} f : sProp (MM F)) = tiles fun c s => ℓ ↦{rsh c s} f := by
  rw [tiles_pairs]
  refine (ShareLeaves.pointsTo_leaves Finset.univ f 5 fullShare).trans ?_
  exact BI.bigSep_univ_equiv tileNo _

/-! ## One tile's own -/

omit [FloatOps F] in
/-- Held by the first tile alone. -/
theorem tiles_first (P : sProp (MM F)) : tiles (fun c s => startsOut (co c s) P) = P := by
  rw [tiles_pairs]
  refine (SparseCore.bigSep_erase' (Finset.mem_univ ((0, 0) : Fin 2 × Fin 16))).trans ?_
  rw [show (bigSep ((Finset.univ : Finset (Fin 2 × Fin 16)).erase (0, 0)) fun p => startsOut (co p.1 p.2) P)
      = bigSep ((Finset.univ : Finset (Fin 2 × Fin 16)).erase (0, 0)) fun _ => (iprop(emp) : sProp (MM F)) from BI.bigSep_congr fun p hp => ?_,
    show (bigSep ((Finset.univ : Finset (Fin 2 × Fin 16)).erase (0, 0)) fun _ => (iprop(emp) : sProp (MM F))) = iprop(emp) from bigSep_emp_const _]
  · have h0 : startsOut (co 0 0) P = P := if_pos rfl
    rw [h0]
    have h1 : iprop(P ∗ emp) ⊢ P := by iintro ⟨H, -⟩; iexact H
    have h2 : P ⊢ iprop(P ∗ emp) := by
      iintro H; isplitl [H]; · iexact H
      iempintro
    exact BI.Entails.antisymm h1 h2
  · refine if_neg fun h => (Finset.mem_erase.mp hp).1 ?_
    have h' : p.2.val * 2 + p.1.val = 0 := h
    exact Prod.ext (Fin.ext (by show p.1.val = 0; omega)) (Fin.ext (by show p.2.val = 0; omega))

/-! ## Blocks of a flat array -/

omit [FloatOps F] in
theorem owns_some (c : Thread nD τ) {sp : Space} {sh : Shape} {e : EltTy} (m : Memref sig c.2.kind sp sh e) (q : PosShare TreeShare) (X : sh.Idx → Elt F e) :
    (owns c m q X : sProp (MM F)) ⊢ iprop(∃ Y : sh.Idx → Elt F e, owns c m q Y) := by
  iintro H
  iexists X; iexact H

section Blocks

variable {Tt : Type} [Fintype Tt] [DecidableEq Tt] {N n : ℕ} (c : Thread nD τ) {sp : Space} {e : EltTy} (m : Memref sig c.2.kind sp ⟨1, ![N]⟩ e) (q : PosShare TreeShare)
  (off : Tt → Fin 1 → ℕ) (inb : ∀ t a, off t a + (![n] : Fin 1 → ℕ) a ≤ (⟨1, ![N]⟩ : Shape).size a)
  (hd : ∀ t t', off t 0 < off t' 0 + n → off t' 0 < off t 0 + n → t = t') (hc : ∀ p, p < N → ∃ t, off t 0 ≤ p ∧ p < off t 0 + n)
include hd hc

omit [FloatOps F] [Fintype Tt] [DecidableEq Tt] hc in
theorem blocks_disj (t t' : Tt) (h : t ≠ t') : Disjoint (Rect.unit (s := ⟨1, ![N]⟩) (off t) ![n] (inb t)).set (Rect.unit (s := ⟨1, ![N]⟩) (off t') ![n] (inb t')).set := by
  refine Finset.disjoint_left.mpr fun y hy hy' => h ?_
  have h1 := Rect.mem_set_unit.mp hy 0
  have h2 := Rect.mem_set_unit.mp hy' 0
  have hn : (![n] : Fin 1 → ℕ) 0 = n := rfl
  rw [hn] at h1 h2
  exact hd t t' (by omega) (by omega)

omit [FloatOps F] [DecidableEq Tt] hd in
theorem blocks_cover : (Finset.univ : Finset Tt).biUnion (fun t => (Rect.unit (s := ⟨1, ![N]⟩) (off t) ![n] (inb t)).set) = Finset.univ := by
  refine Finset.eq_univ_iff_forall.mpr fun y => ?_
  obtain ⟨t, h1, h2⟩ := hc (y 0).val (y 0).isLt
  refine Finset.mem_biUnion.mpr ⟨t, Finset.mem_univ _, Rect.mem_set_unit.mpr fun a => ?_⟩
  obtain rfl : a = 0 := Subsingleton.elim _ _
  exact ⟨h1, h2⟩

omit [FloatOps F] in
/-- A flat array is its blocks, each at some contents; -/
theorem blocks_split (X : (⟨1, ![N]⟩ : Shape).Idx → Elt F e) :
    (owns c m q X : sProp (MM F)) ⊢ bigSep Finset.univ fun t => iprop(∃ Y : (⟨1, ![n]⟩ : Shape).Idx → Elt F e, owns c (m.slice (Rect.unit (s := ⟨1, ![N]⟩) (off t) ![n] (inb t)) (fun _ => rfl)) q Y) := by
  refine (owns_rects c m q (fun t => Rect.unit (s := ⟨1, ![N]⟩) (off t) ![n] (inb t)) (fun _ _ => rfl) (blocks_disj off inb hd) (blocks_cover off inb hc) X).trans ?_
  refine (show _ ⊢ _ from BI.bigSep_mono fun t _ => ?_)
  exact owns_some _ _ _ _

omit [FloatOps F] in
/-- and blocks at the parts of one function are the array at that function. -/
theorem blocks_join [∀ e, Nonempty (Elt F e)] (g : ℕ → Elt F e) :
    (bigSep Finset.univ fun t => owns c (m.slice (Rect.unit (s := ⟨1, ![N]⟩) (off t) ![n] (inb t)) (fun _ => rfl)) q (fun y : (⟨1, ![n]⟩ : Shape).Idx => g (off t 0 + (y 0).val)))
      ⊢ (owns c m q (fun y : (⟨1, ![N]⟩ : Shape).Idx => g (y 0).val) : sProp (MM F)) := by
  refine BI.Entails.trans (Entails.of_eq (BI.bigSep_congr fun t _ => ?_))
    (owns_of_rects c m q (fun t => Rect.unit (s := ⟨1, ![N]⟩) (off t) ![n] (inb t)) (fun _ _ => rfl) (blocks_disj off inb hd) (blocks_cover off inb hc) (fun y => g (y 0).val))
  refine congrArg (fun Y => (owns c (m.slice (Rect.unit (s := ⟨1, ![N]⟩) (off t) ![n] (inb t)) (fun _ => rfl)) q Y : sProp (MM F))) (funext fun y => congrArg g ?_)
  refine Eq.trans ?_ (Rect.emb_apply (Rect.unit (s := ⟨1, ![N]⟩) (off t) ![n] (inb t)) y 0).symm
  show off t 0 + (y 0).val = off t 0 + 1 * (y 0).val
  omega

end Blocks

/-! ## The places of the binned lists -/

section Cells

variable {e : EltTy} (m : Memref sig .scVector .hbm S1052672 e) (d : Fin nD) (key : ℕ → BitVec 32)

section Rows

variable {N : ℕ} (w : Memref sig .scVector .hbm ⟨1, ![N]⟩ e) (inb : ∀ a, (![0] : Fin 1 → ℕ) a + (Shape.mk 1 ![N]).size a ≤ (Shape.mk 1 ![N]).size a)

/-- A flat shape. -/
local notation "SN" => (Shape.mk 1 ![N])

omit [FloatOps F] in
theorem rows_disj (p p' : Fin N) (h : p ≠ p') : Disjoint ((SN).rowRect 0 p).set ((SN).rowRect 0 p').set := by
  refine Finset.disjoint_left.mpr fun y hy hy' => h ?_
  obtain ⟨x, hx⟩ := ((SN).rowRect 0 p).exists_idx_of_mem hy
  obtain ⟨x', hx'⟩ := ((SN).rowRect 0 p').exists_idx_of_mem hy'
  have h1 : y 0 = p := hx ▸ Shape.rowRect_emb_axis (s := SN) 0 p x
  have h2 : y 0 = p' := hx' ▸ Shape.rowRect_emb_axis (s := SN) 0 p' x'
  exact h1.symm.trans h2

theorem rows_cover : (Finset.univ : Finset (Fin N)).biUnion (fun p => ((SN).rowRect 0 p).set) = Finset.univ := by
  refine Finset.eq_univ_iff_forall.mpr fun y => Finset.mem_biUnion.mpr ⟨y 0, Finset.mem_univ _, ?_⟩
  have h : ((SN).rowRect 0 (y 0)).emb ((SN).rowProj 0 y) ∈ ((SN).rowRect 0 (y 0)).set := ((SN).rowRect 0 (y 0)).idx_mem ((SN).rowProj 0 y)
  rwa [Shape.rowRect_emb_rowProj (s := SN) 0 y] at h

theorem all_disj (t t' : Unit) (h : t ≠ t') : Disjoint (Rect.unit (s := SN) ![0] (SN).size inb).set (Rect.unit (s := SN) ![0] (SN).size inb).set :=
  absurd (Subsingleton.elim t t') h

theorem all_cover : (Finset.univ : Finset Unit).biUnion (fun _ => (Rect.unit (s := SN) ![0] (SN).size inb).set) = Finset.univ := by
  refine Finset.eq_univ_iff_forall.mpr fun y => Finset.mem_biUnion.mpr ⟨(), Finset.mem_univ _, Rect.mem_set_unit.mpr fun a => ?_⟩
  obtain rfl : a = 0 := Subsingleton.elim _ _
  exact ⟨Nat.zero_le _, (y 0).isLt.trans_eq (Nat.zero_add N).symm⟩

theorem row_no (p : Fin N) (y : ((SN).rowShape 0).Idx) : ((Rect.unit (s := SN) ![0] (SN).size inb).emb (((SN).rowRect 0 p).emb y) 0).val = p.val := by
  refine (Rect.emb_apply _ _ 0).trans ?_
  show 0 + 1 * (((SN).rowRect 0 p).emb y 0).val = p.val
  rw [Shape.rowRect_emb_axis (s := SN) 0 p y]
  omega

omit [FloatOps F] in
/-- A list is its places, -/
theorem rows_split (X : ℕ → Elt F e) :
    (owns (tz d) w fullShare (fun y : (SN).Idx => X (y 0).val) : sProp (MM F)) ⊢ bigSep Finset.univ fun p : Fin N =>
      owns (tz d) ((w.slice (Rect.unit (s := SN) ![0] (SN).size inb) (fun _ => rfl)).slice ((SN).rowRect 0 p) ((SN).stride_rowRect 0 p)) fullShare (fun _ => X p.val) := by
  refine (owns_rects (tz d) w fullShare (fun _ : Unit => Rect.unit (s := SN) ![0] (SN).size inb) (fun _ _ => rfl) (all_disj inb) (all_cover inb) _).trans ?_
  rw [bigSep_univ_of_subsingleton ()]
  refine BI.Entails.trans (owns_rects (tz d) (w.slice (Rect.unit (s := SN) ![0] (SN).size inb) (fun _ => rfl)) fullShare (fun p : Fin N => (SN).rowRect 0 p) (fun p => (SN).stride_rowRect 0 p) rows_disj rows_cover _) ?_
  refine Entails.of_eq (BI.bigSep_congr fun p _ => ?_)
  exact congrArg (fun Y => (owns (tz d) ((w.slice (Rect.unit (s := SN) ![0] (SN).size inb) (fun _ => rfl)).slice ((SN).rowRect 0 p) ((SN).stride_rowRect 0 p)) fullShare Y : sProp (MM F)))
    (funext fun y => congrArg X (row_no inb p y))

omit [FloatOps F] in
/-- and places are the list. -/
theorem rows_join [∀ e, Nonempty (Elt F e)] (X : ℕ → Elt F e) :
    (bigSep Finset.univ fun p : Fin N =>
      owns (tz d) ((w.slice (Rect.unit (s := SN) ![0] (SN).size inb) (fun _ => rfl)).slice ((SN).rowRect 0 p) ((SN).stride_rowRect 0 p)) fullShare (fun _ => X p.val))
    ⊢ (owns (tz d) w fullShare (fun y : (SN).Idx => X (y 0).val) : sProp (MM F)) := by
  refine BI.Entails.trans ?_ (owns_of_rects (tz d) w fullShare (fun _ : Unit => Rect.unit (s := SN) ![0] (SN).size inb) (fun _ _ => rfl) (all_disj inb) (all_cover inb) _)
  rw [bigSep_univ_of_subsingleton ()]
  refine BI.Entails.trans ?_ (owns_of_rects (tz d) (w.slice (Rect.unit (s := SN) ![0] (SN).size inb) (fun _ => rfl)) fullShare (fun p : Fin N => (SN).rowRect 0 p) (fun p => (SN).stride_rowRect 0 p) rows_disj rows_cover _)
  refine Entails.of_eq (BI.bigSep_congr fun p _ => ?_)
  exact congrArg (fun Y => (owns (tz d) ((w.slice (Rect.unit (s := SN) ![0] (SN).size inb) (fun _ => rfl)).slice ((SN).rowRect 0 p) ((SN).stride_rowRect 0 p)) fullShare Y : sProp (MM F)))
    (funext fun y => congrArg X (row_no inb p y).symm)

end Rows

omit [FloatOps F] in
theorem cells_split (X : ℕ → Elt F e) :
    (owns (tz d) m fullShare (fun y : S1052672.Idx => X (y 0).val) : sProp (MM F)) ⊢ (bigSep Finset.univ fun p : Fin 1052672 => owns (tz d) (cell m p) fullShare (fun _ => X p.val)) :=
  @rows_split F e d 1052672 m inb_S1052672_S1052672_0 X

omit [FloatOps F] in
theorem cells_join [∀ e, Nonempty (Elt F e)] (X : ℕ → Elt F e) :
    (bigSep Finset.univ fun p : Fin 1052672 => owns (tz d) (cell m p) fullShare (fun _ => X p.val)) ⊢ (owns (tz d) m fullShare (fun y : S1052672.Idx => X (y 0).val) : sProp (MM F)) :=
  @rows_join F e d 1052672 m inb_S1052672_S1052672_0 _ X

/-- The inputs, by tile, chunk and number in the chunk. -/
abbrev Inp : Type := (Fin 2 × Fin 16) × (Fin k1_t3_loop.trips × Fin 2048)

abbrev inpNo (x : Inp) : ℕ := chunkB (co x.1.1 x.1.2) x.2.1.val + x.2.2.val

theorem inpNo_eq (x : Inp) : inpNo x = 32768 * (x.1.2.val * 2 + x.1.1.val) + 2048 * x.2.1.val + x.2.2.val := rfl

theorem inpNo_lt (x : Inp) : inpNo x < 1048576 := by
  rw [inpNo_eq]
  have hn : k1_t3_loop.trips = 16 := rfl
  have := x.1.1.isLt; have := x.1.2.isLt; have := x.2.1.isLt.trans_eq hn; have := x.2.2.isLt
  omega

theorem inpNo_inj {x y : Inp} (h : inpNo x = inpNo y) : x = y := by
  rw [inpNo_eq, inpNo_eq] at h
  have hn : k1_t3_loop.trips = 16 := rfl
  have := x.1.1.isLt; have := x.1.2.isLt; have := x.2.1.isLt.trans_eq hn; have := x.2.2.isLt
  have := y.1.1.isLt; have := y.1.2.isLt; have := y.2.1.isLt.trans_eq hn; have := y.2.2.isLt
  refine Prod.ext (Prod.ext (Fin.ext ?_) (Fin.ext ?_)) (Prod.ext (Fin.ext ?_) (Fin.ext ?_)) <;> omega

theorem inpNo_sur {n : ℕ} (h : n < 1048576) : ∃ x, inpNo x = n := by
  have hn : k1_t3_loop.trips = 16 := rfl
  refine ⟨((⟨n / 32768 % 2, by omega⟩, ⟨n / 65536, by omega⟩), (⟨n % 32768 / 2048, by rw [hn]; omega⟩, ⟨n % 2048, by omega⟩)), ?_⟩
  rw [inpNo_eq]
  show 32768 * (n / 65536 * 2 + n / 32768 % 2) + 2048 * (n % 32768 / 2048) + n % 2048 = n
  omega

/-- The place of each. -/
def placeOfInp : Inp ↪ Fin 1052672 where
  toFun x := plc key (chunkB (co x.1.1 x.1.2) x.2.1.val) x.2.2.val
  inj' x y h := by
    have h' := congrArg Fin.val h
    dsimp only at h'
    rw [plc_val key (inpNo_lt x), plc_val key (inpNo_lt y)] at h'
    exact inpNo_inj (place_inj (inpNo_lt x) (inpNo_lt y) h')

/-- A list after every input has gone to its place: elsewhere as before. -/
def spread {α : Type} (f old : ℕ → α) : ℕ → α := Function.extend (fun n : Fin 1048576 => place key n.val) (fun n => f n.val) old

theorem spread_place {α : Type} (f old : ℕ → α) {n : ℕ} (h : n < 1048576) : spread key f old (place key n) = f n :=
  Function.Injective.extend_apply (f := fun n : Fin 1048576 => place key n.val) (fun a b hab => Fin.ext (place_inj (key := key) a.isLt b.isLt hab)) (fun n => f n.val) old ⟨n, h⟩

theorem spread_other {α : Type} (f old : ℕ → α) {p : ℕ} (h : ∀ n, n < 1048576 → place key n ≠ p) : spread key f old p = old p :=
  Function.extend_apply' _ _ _ (fun ⟨n, hn⟩ => h n.val n.isLt hn)

/-- The places no input goes to. -/
def others : Finset (Fin 1052672) := Finset.univ \ Finset.univ.map (placeOfInp key)

omit [FloatOps F] in
theorem cells_by_input (Φ : Fin 1052672 → sProp (MM F)) :
    (bigSep Finset.univ Φ) = iprop((tiles fun c s => bigSep Finset.univ fun u : Fin k1_t3_loop.trips => bigSep Finset.univ fun n : Fin 2048 => Φ (plc key (chunkB (co c s) u.val) n.val))
      ∗ bigSep (others key) Φ) := by
  refine (SparseCore.bigSep_sdiff_split' (Finset.subset_univ (Finset.univ.map (placeOfInp key)))).trans ?_
  refine congrArg (fun R : sProp (MM F) => (iprop(R ∗ bigSep (others key) Φ) : sProp (MM F))) ?_
  rw [BI.bigSep_map, tiles_pairs]
  refine (BI.bigSep_univ_prod (fun x : Inp => Φ (placeOfInp key x))).trans ?_
  refine BI.bigSep_congr fun p _ => ?_
  exact BI.bigSep_univ_prod (fun x : Fin k1_t3_loop.trips × Fin 2048 => Φ (placeOfInp key (p, x)))

variable (hth : ∀ (i : grid1.Coords) p X, (owns (th1 d i) (cell m p) fullShare X : sProp (MM F)) = owns (tz d) (cell m p) fullShare X)
include hth

/-- A list at contents `X` is the places the tiles scatter to and the others, -/
theorem list_out (X : ℕ → Elt F e) :
    (owns (tz d) m fullShare (fun y : S1052672.Idx => X (y 0).val) : sProp (MM F))
      ⊢ iprop((tiles fun c s => bigSep Finset.univ fun u : Fin k1_t3_loop.trips => openCells (F := F) d (co c s) key m u.val)
        ∗ bigSep (others key) fun p => owns (tz d) (cell m p) fullShare (fun _ => X p.val)) := by
  refine BI.Entails.trans (@cells_split F e m d X) ?_
  rw [cells_by_input key]
  refine (show _ ⊢ _ from sep_left (tiles_mono fun c s => ?_))
  unfold openCells
  refine big_mono _ fun u => big_mono _ fun n => ?_
  rw [← hth (co c s)]
  exact owns_some _ _ _ _

/-- and the places filled are the list with every input in its place. -/
theorem list_back [∀ e, Nonempty (Elt F e)] (f X : ℕ → Elt F e) :
    iprop((tiles fun c s => bigSep Finset.univ fun u : Fin k1_t3_loop.trips => filledCells (F := F) d (co c s) key f m u.val)
        ∗ bigSep (others key) fun p => owns (tz d) (cell m p) fullShare (fun _ => X p.val))
      ⊢ (owns (tz d) m fullShare (fun y : S1052672.Idx => spread key f X (y 0).val) : sProp (MM F)) := by
  have h0 := @cells_join F e m d _ (spread key f X)
  rw [cells_by_input key] at h0
  refine BI.Entails.trans (of_eq' ?_) h0
  unfold filledCells
  refine congrArg₂ (fun A B : sProp (MM F) => (iprop(A ∗ B) : sProp (MM F))) (tiles_congr fun c s => BI.bigSep_congr fun u _ => BI.bigSep_congr fun n _ => ?_) (BI.bigSep_congr fun p hp => ?_)
  · refine (hth (co c s) _ _).trans ?_
    refine congrArg (fun Y => (owns (tz d) (cell m (plc key (chunkB (co c s) u.val) n.val)) fullShare Y : sProp (MM F))) (funext fun _ => ?_)
    have hl := inpNo_lt ((c, s), (u, n))
    rw [plc_val key hl]
    exact (spread_place key f X hl).symm
  · refine congrArg (fun Y => (owns (tz d) (cell m p) fullShare Y : sProp (MM F))) (funext fun _ => ?_)
    refine (spread_other key f X fun n hn e => ?_).symm
    obtain ⟨x, rfl⟩ := inpNo_sur hn
    refine (Finset.mem_sdiff.mp hp).2 (Finset.mem_map.mpr ⟨x, Finset.mem_univ _, Fin.ext ?_⟩)
    exact (plc_val key (inpNo_lt x)).trans e

end Cells

end Cert.Proof.Occ

end

end
-- ==== Proof.Calls.lean ====
/-
  The three calls as the TensorCore sees them: the arrays each takes, cut up for its tiles, and the arrays it gives
  back.
-/
module

public import proofs.«01_k».proof.Proof.Split

@[expose] public section

noncomputable section

namespace Cert.Proof.Occ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Calls

variable (d : Fin nD)

/-- An array of the program, whole. -/
abbrev pts (b : Ref sig .tc) (f : Buf (Elt F) ((T d : Thread nD τ).loc b)) : sProp (MM F) := (T d : Thread nD τ).loc b ↦{fullShare} f

/-! ## Shared arrays -/

omit [FloatOps F] in
theorem share_v0 (X : S16777216.Idx → Elt F .f32) : pts d main_v0 X = tiles fun c s => owns (th0 d (co c s)) aV0 (rsh c s) X :=
  (shares_eq (F := F) (ℓ := (T d : Thread nD τ).loc main_v0) X).trans (tiles_congr fun c s => (owns_whole (th0 d (co c s)) main_v0_scv (rsh c s) X).symm)

omit [FloatOps F] in
theorem share_v1 (X : S3145728.Idx → Elt F .f32) : pts d main_v1 X = tiles fun c s => owns (th0 d (co c s)) aV1 (rsh c s) X :=
  (shares_eq (F := F) (ℓ := (T d : Thread nD τ).loc main_v1) X).trans (tiles_congr fun c s => (owns_whole (th0 d (co c s)) main_v1_scv (rsh c s) X).symm)

omit [FloatOps F] in
theorem share_v3 (X : S8192x128.Idx → Elt F .i32) : pts d main_v3 X = tiles fun c s => owns (th0 d (co c s)) aKeys2 (rsh c s) X :=
  (shares_eq (F := F) (ℓ := (T d : Thread nD τ).loc main_v3) X).trans (tiles_congr fun c s => (owns_whole (th0 d (co c s)) main_v3_scv (rsh c s) X).symm)

omit [FloatOps F] in
theorem share_v4 (X : S8192x128.Idx → Elt F .f32) : pts d main_v4 X = tiles fun c s => owns (th0 d (co c s)) aVals (rsh c s) X :=
  (shares_eq (F := F) (ℓ := (T d : Thread nD τ).loc main_v4) X).trans (tiles_congr fun c s => (owns_whole (th0 d (co c s)) main_v4_scv (rsh c s) X).symm)

omit [FloatOps F] in
theorem share_cnt (X : S16384.Idx → Elt F .i32) : pts d main_v2_1 X = tiles fun c s => owns (th0 d (co c s)) aCnt (rsh c s) X :=
  (shares_eq (F := F) (ℓ := (T d : Thread nD τ).loc main_v2_1) X).trans (tiles_congr fun c s => (owns_whole (th0 d (co c s)) main_v2_1_scv (rsh c s) X).symm)

omit [FloatOps F] in
theorem share_bk (X : S1052672.Idx → Elt F .i32) : pts d main_v5_0 X = tiles fun c s => owns (th0 d (co c s)) aBK (rsh c s) X :=
  (shares_eq (F := F) (ℓ := (T d : Thread nD τ).loc main_v5_0) X).trans (tiles_congr fun c s => (owns_whole (th0 d (co c s)) main_v5_0_scv (rsh c s) X).symm)

omit [FloatOps F] in
theorem share_bv (X : S1052672.Idx → Elt F .f32) : pts d main_v5_1 X = tiles fun c s => owns (th0 d (co c s)) aBV (rsh c s) X :=
  (shares_eq (F := F) (ℓ := (T d : Thread nD τ).loc main_v5_1) X).trans (tiles_congr fun c s => (owns_whole (th0 d (co c s)) main_v5_1_scv (rsh c s) X).symm)

omit [FloatOps F] in
theorem share_st (X : S544.Idx → Elt F .i32) : pts d main_v5_2 X = tiles fun c s => owns (th0 d (co c s)) aSt (rsh c s) X :=
  (shares_eq (F := F) (ℓ := (T d : Thread nD τ).loc main_v5_2) X).trans (tiles_congr fun c s => (owns_whole (th0 d (co c s)) main_v5_2_scv (rsh c s) X).symm)

/-! ## The blocks of the arrays written in blocks -/

theorem wid_lt (c : Fin 2) (s : Fin 16) : wid c.val s.val < 32 := by
  unfold wid; have := c.isLt; have := s.isLt; omega

theorem wid_inj {c c' : Fin 2} {s s' : Fin 16} (h : wid c.val s.val = wid c'.val s'.val) : c = c' ∧ s = s' := by
  unfold wid at h
  have := c.isLt; have := s.isLt; have := c'.isLt; have := s'.isLt
  exact ⟨Fin.ext (by omega), Fin.ext (by omega)⟩

/-- A tile with its number. -/
theorem wid_sur {w : ℕ} (h : w < 32) : ∃ (c : Fin 2) (s : Fin 16), wid c.val s.val = w :=
  ⟨⟨w % 2, by omega⟩, ⟨w / 2, by omega⟩, by show w / 2 * 2 + w % 2 = w; omega⟩

abbrev KeyT : Type := (Fin 2 × Fin 16) × Fin k0_t2_loop.trips
abbrev keyOff (x : KeyT) : Fin 1 → ℕ := k0_off4 (co x.1.1 x.1.2) x.2

theorem keyOff_eq (x : KeyT) : keyOff x 0 = 32768 * wid x.1.1.val x.1.2.val + 2048 * x.2.val := by
  refine (congrFun (k0_off4_eq (co x.1.1 x.1.2) x.2) 0).trans ?_
  show 65536 * x.1.2.val + 32768 * x.1.1.val + 2048 * x.2.val = _
  unfold wid; omega

theorem keyOff_disj (x y : KeyT) (h1 : keyOff x 0 < keyOff y 0 + 2048) (h2 : keyOff y 0 < keyOff x 0 + 2048) : x = y := by
  rw [keyOff_eq, keyOff_eq] at h1 h2
  have hx : x.2.val < 16 := x.2.isLt
  have hy : y.2.val < 16 := y.2.isLt
  have hw : wid x.1.1.val x.1.2.val = wid y.1.1.val y.1.2.val := by omega
  obtain ⟨e1, e2⟩ := wid_inj hw
  exact Prod.ext (Prod.ext e1 e2) (Fin.ext (by omega))

theorem keyOff_cover (p : ℕ) (h : p < 1048576) : ∃ x : KeyT, keyOff x 0 ≤ p ∧ p < keyOff x 0 + 2048 := by
  obtain ⟨c, s, e⟩ := wid_sur (w := p / 32768) (by omega)
  have hn : k0_t2_loop.trips = 16 := rfl
  refine ⟨((c, s), ⟨p % 32768 / 2048, by rw [hn]; omega⟩), ?_⟩
  rw [keyOff_eq]
  show 32768 * wid c.val s.val + 2048 * (p % 32768 / 2048) ≤ p ∧ p < 32768 * wid c.val s.val + 2048 * (p % 32768 / 2048) + 2048
  omega

abbrev CntT : Type := Fin 2 × Fin 16
abbrev cntOff (x : CntT) : Fin 1 → ℕ := k0_off7 (co x.1 x.2)

theorem cntOff_eq (x : CntT) : cntOff x 0 = 512 * wid x.1.val x.2.val := by
  refine (congrFun (k0_off7_eq (co x.1 x.2)) 0).trans ?_
  show 1024 * x.2.val + 512 * x.1.val = _
  unfold wid; omega

theorem cntOff_disj (x y : CntT) (h1 : cntOff x 0 < cntOff y 0 + 512) (h2 : cntOff y 0 < cntOff x 0 + 512) : x = y := by
  rw [cntOff_eq, cntOff_eq] at h1 h2
  have hw : wid x.1.val x.2.val = wid y.1.val y.2.val := by omega
  obtain ⟨e1, e2⟩ := wid_inj hw
  exact Prod.ext e1 e2

theorem cntOff_cover (p : ℕ) (h : p < 16384) : ∃ x : CntT, cntOff x 0 ≤ p ∧ p < cntOff x 0 + 512 := by
  obtain ⟨c, s, e⟩ := wid_sur (w := p / 512) (by omega)
  refine ⟨(c, s), ?_⟩
  rw [cntOff_eq]
  show 512 * wid c.val s.val ≤ p ∧ p < 512 * wid c.val s.val + 512
  omega

abbrev OutT : Type := (Fin 2 × Fin 16) × Fin k2_t1_loop.trips
abbrev outOff (x : OutT) : Fin 1 → ℕ := k2_off10 (co x.1.1 x.1.2) x.2

theorem outOff_eq (x : OutT) : outOff x 0 = 32768 * slabOf (co x.1.1 x.1.2) x.2.val := by
  refine (congrFun (k2_off10_eq (co x.1.1 x.1.2) x.2) 0).trans ?_
  show 1048576 * x.2.val + 65536 * x.1.2.val + 32768 * x.1.1.val = 32768 * (32 * x.2.val + wid x.1.1.val x.1.2.val)
  unfold wid; omega

theorem outOff_disj (x y : OutT) (h1 : outOff x 0 < outOff y 0 + 32768) (h2 : outOff y 0 < outOff x 0 + 32768) : x = y := by
  rw [outOff_eq, outOff_eq] at h1 h2
  have h : slabOf (co x.1.1 x.1.2) x.2.val = slabOf (co y.1.1 y.1.2) y.2.val := by omega
  have h' : 32 * x.2.val + wid x.1.1.val x.1.2.val = 32 * y.2.val + wid y.1.1.val y.1.2.val := h
  have hx := wid_lt x.1.1 x.1.2
  have hy := wid_lt y.1.1 y.1.2
  have hw : wid x.1.1.val x.1.2.val = wid y.1.1.val y.1.2.val := by omega
  obtain ⟨e1, e2⟩ := wid_inj hw
  exact Prod.ext (Prod.ext e1 e2) (Fin.ext (by omega))

theorem outOff_cover (p : ℕ) (h : p < 16777216) : ∃ x : OutT, outOff x 0 ≤ p ∧ p < outOff x 0 + 32768 := by
  obtain ⟨c, s, e⟩ := wid_sur (w := p / 32768 % 32) (by omega)
  have hn : k2_t1_loop.trips = 16 := rfl
  refine ⟨((c, s), ⟨p / 1048576, by rw [hn]; omega⟩), ?_⟩
  rw [outOff_eq]
  show 32768 * (32 * (p / 1048576) + wid c.val s.val) ≤ p ∧ p < 32768 * (32 * (p / 1048576) + wid c.val s.val) + 32768
  omega

omit [FloatOps F] in
theorem keys_out (f : S1048576.Idx → Elt F .i32) :
    pts (F := F) d main_v2_0 f ⊢ tiles fun c s => bigSep Finset.univ fun t : Fin k0_t2_loop.trips => iprop(∃ Y : S2048.Idx → BitVec 32, owns (th0 d (co c s)) (keySlice (co c s) aKeys t) fullShare Y) := by
  have h := @blocks_split F KeyT _ _ 1048576 2048 (tz d) .hbm .i32 aKeys fullShare keyOff (fun x => k0_off4_inb (co x.1.1 x.1.2) x.2) keyOff_disj keyOff_cover f
  rw [BI.bigSep_univ_prod] at h
  rw [tiles_pairs]
  exact BI.Entails.trans (of_eq' (owns_whole (tz d) main_v2_0_scv fullShare f).symm) h

omit [FloatOps F] in
theorem keys_back [∀ e, Nonempty (Elt F e)] (g : ℕ → BitVec 32) :
    (tiles fun c s => bigSep Finset.univ fun t : Fin k0_t2_loop.trips => owns (th0 d (co c s)) (keySlice (co c s) aKeys t) fullShare (fun y : S2048.Idx => g (base0 (co c s) + 2048 * t.val + (y 0).val)))
      ⊢ pts (F := F) d main_v2_0 (fun j : S1048576.Idx => g (j 0).val) := by
  have h := @blocks_join F KeyT _ _ 1048576 2048 (tz d) .hbm .i32 aKeys fullShare keyOff (fun x => k0_off4_inb (co x.1.1 x.1.2) x.2) keyOff_disj keyOff_cover _ g
  rw [BI.bigSep_univ_prod] at h
  rw [tiles_pairs]
  refine BI.Entails.trans (of_eq' ?_) (BI.Entails.trans h (of_eq' (owns_whole (tz d) main_v2_0_scv fullShare _)))
  refine BI.bigSep_congr fun p _ => BI.bigSep_congr fun t _ => ?_
  refine congrArg (fun Y => (owns (tz d) (keySlice (co p.1 p.2) aKeys t) fullShare Y : sProp (MM F))) (funext fun y => congrArg g ?_)
  rw [keyOff_eq]
  show wid p.1.val p.2.val * 32768 + 2048 * t.val + (y 0).val = 32768 * wid p.1.val p.2.val + 2048 * t.val + (y 0).val
  omega

omit [FloatOps F] in
theorem cnt_out (f : S16384.Idx → Elt F .i32) :
    pts (F := F) d main_v2_1 f ⊢ tiles fun c s => iprop(∃ Y : S512.Idx → BitVec 32, owns (th0 d (co c s)) (cntSlice (co c s) aCnt) fullShare Y) := by
  have h := @blocks_split F CntT _ _ 16384 512 (tz d) .hbm .i32 aCnt fullShare cntOff (fun x => k0_off7_inb (co x.1 x.2)) cntOff_disj cntOff_cover f
  rw [tiles_pairs]
  exact BI.Entails.trans (of_eq' (owns_whole (tz d) main_v2_1_scv fullShare f).symm) h

omit [FloatOps F] in
theorem cnt_back [∀ e, Nonempty (Elt F e)] (key : ℕ → BitVec 32) :
    (tiles fun c s => owns (th0 d (co c s)) (cntSlice (co c s) aCnt) fullShare (fun y : S512.Idx => BitVec.ofNat 32 (cnt key (base0 (co c s)) (y 0).val 32768)))
      ⊢ pts (F := F) d main_v2_1 (counts key) := by
  have h := @blocks_join F CntT _ _ 16384 512 (tz d) .hbm .i32 aCnt fullShare cntOff (fun x => k0_off7_inb (co x.1 x.2)) cntOff_disj cntOff_cover _
    (fun p => BitVec.ofNat 32 (cnt key (32768 * (p / 512)) (p % 512) 32768))
  rw [tiles_pairs]
  refine BI.Entails.trans (of_eq' ?_) (BI.Entails.trans h (of_eq' (owns_whole (tz d) main_v2_1_scv fullShare _)))
  refine BI.bigSep_congr fun p _ => ?_
  refine congrArg (fun Y => (owns (tz d) (cntSlice (co p.1 p.2) aCnt) fullShare Y : sProp (MM F))) (funext fun y => ?_)
  rw [cntOff_eq]
  have hy : (y 0).val < 512 := (y 0).isLt
  rw [show (512 * wid p.1.val p.2.val + (y 0).val) / 512 = wid p.1.val p.2.val by omega, show (512 * wid p.1.val p.2.val + (y 0).val) % 512 = (y 0).val by omega]
  exact congrArg (fun n => BitVec.ofNat 32 (cnt key n (y 0).val 32768)) (Nat.mul_comm _ _)

omit [FloatOps F] in
theorem out_out (f : S16777216.Idx → Elt F .f32) :
    pts (F := F) d main_v6 f ⊢ tiles fun c s => bigSep Finset.univ fun t : Fin k2_t1_loop.trips => iprop(∃ Y : S32768.Idx → F .f32, owns (th2 d (co c s)) (outSlice (co c s) aOut t) fullShare Y) := by
  have h := @blocks_split F OutT _ _ 16777216 32768 (tz d) .hbm .f32 aOut fullShare outOff (fun x => k2_off10_inb (co x.1.1 x.1.2) x.2) outOff_disj outOff_cover f
  rw [BI.bigSep_univ_prod] at h
  rw [tiles_pairs]
  exact BI.Entails.trans (of_eq' (owns_whole (tz d) main_v6_scv fullShare f).symm) h

omit [FloatOps F] in
theorem out_back [∀ e, Nonempty (Elt F e)] (g : ℕ → ℕ → F .f32) :
    (tiles fun c s => bigSep Finset.univ fun t : Fin k2_t1_loop.trips => owns (th2 d (co c s)) (outSlice (co c s) aOut t) fullShare (fun y : S32768.Idx => g (slabOf (co c s) t.val) (y 0).val))
      ⊢ pts (F := F) d main_v6 (fun j : S16777216.Idx => g ((j 0).val / 32768) ((j 0).val % 32768)) := by
  have h := @blocks_join F OutT _ _ 16777216 32768 (tz d) .hbm .f32 aOut fullShare outOff (fun x => k2_off10_inb (co x.1.1 x.1.2) x.2) outOff_disj outOff_cover _
    (fun p => g (p / 32768) (p % 32768))
  rw [BI.bigSep_univ_prod] at h
  rw [tiles_pairs]
  refine BI.Entails.trans (of_eq' ?_) (BI.Entails.trans h (of_eq' (owns_whole (tz d) main_v6_scv fullShare _)))
  refine BI.bigSep_congr fun p _ => BI.bigSep_congr fun t _ => ?_
  refine congrArg (fun Y => (owns (tz d) (outSlice (co p.1 p.2) aOut t) fullShare Y : sProp (MM F))) (funext fun y => ?_)
  rw [outOff_eq]
  have hy : (y 0).val < 32768 := (y 0).isLt
  dsimp only
  rw [show (32768 * slabOf (co p.1 p.2) t.val + (y 0).val) / 32768 = slabOf (co p.1 p.2) t.val by omega, show (32768 * slabOf (co p.1 p.2) t.val + (y 0).val) % 32768 = (y 0).val by omega]

/-! ## The first call -/

omit [FloatOps F] in
theorem call0_in (X : S3145728.Idx → F .f32) (f : S1048576.Idx → Elt F .i32) (g : S16384.Idx → Elt F .i32) :
    iprop(pts d main_v1 X ∗ pts (F := F) d main_v2_0 f ∗ pts (F := F) d main_v2_1 g) ⊢ tiles fun c s => go0 d (co c s) X (rsh c s) := by
  unfold go0
  rw [tiles_sep, tiles_sep, ← share_v1]
  iintro ⟨H1, H2, H3⟩
  isplitl [H1]; · iexact H1
  isplitl [H2]; · iapply (keys_out d f); iexact H2
  iapply (cnt_out d g); iexact H3

theorem call0_out [∀ e, Nonempty (Elt F e)] (X : S3145728.Idx → F .f32) :
    (tiles fun c s => td0 d (co c s) X (rsh c s))
      ⊢ iprop(pts d main_v1 X ∗ pts (F := F) d main_v2_0 (fun j : S1048576.Idx => keyN X (j 0).val) ∗ pts (F := F) d main_v2_1 (counts (keyN X))) := by
  unfold td0
  rw [tiles_sep, tiles_sep, ← share_v1]
  iintro ⟨H1, H2, H3⟩
  isplitl [H1]; · iexact H1
  isplitl [H2]; · iapply (keys_back d (keyN X)); iexact H2
  iapply (cnt_back d (keyN X)); iexact H3

/-! ## The second call -/

/-- The places of the two lists no input goes to. -/
def rest (key : ℕ → BitVec 32) (Xk : ℕ → BitVec 32) (Xv : ℕ → F .f32) : sProp (MM F) :=
  iprop((bigSep (others key) fun p => owns (tz d) (cell aBK p) fullShare (fun _ => Xk p.val))
    ∗ bigSep (others key) fun p => owns (tz d) (cell aBV p) fullShare (fun _ => Xv p.val))

theorem bk_out (key : ℕ → BitVec 32) (X : ℕ → BitVec 32) :
    pts (F := F) d main_v5_0 (fun y : S1052672.Idx => X (y 0).val)
      ⊢ iprop((tiles fun c s => bigSep Finset.univ fun u : Fin k1_t3_loop.trips => openCells (F := F) d (co c s) key aBK u.val)
        ∗ bigSep (others key) fun p => owns (tz d) (cell aBK p) fullShare (fun _ => X p.val)) :=
  BI.Entails.trans (of_eq' (owns_whole (tz d) main_v5_0_scv fullShare _).symm) (@list_out F _ .i32 aBK d key (fun _ _ _ => rfl) X)

theorem bv_out (key : ℕ → BitVec 32) (X : ℕ → F .f32) :
    pts (F := F) d main_v5_1 (fun y : S1052672.Idx => X (y 0).val)
      ⊢ iprop((tiles fun c s => bigSep Finset.univ fun u : Fin k1_t3_loop.trips => openCells (F := F) d (co c s) key aBV u.val)
        ∗ bigSep (others key) fun p => owns (tz d) (cell aBV p) fullShare (fun _ => X p.val)) :=
  BI.Entails.trans (of_eq' (owns_whole (tz d) main_v5_1_scv fullShare _).symm) (@list_out F _ .f32 aBV d key (fun _ _ _ => rfl) X)

theorem bk_back [∀ e, Nonempty (Elt F e)] (key f X : ℕ → BitVec 32) :
    iprop((tiles fun c s => bigSep Finset.univ fun u : Fin k1_t3_loop.trips => filledCells (F := F) d (co c s) key f aBK u.val)
        ∗ bigSep (others key) fun p => owns (tz d) (cell aBK p) fullShare (fun _ => X p.val))
      ⊢ pts (F := F) d main_v5_0 (fun y : S1052672.Idx => spread key f X (y 0).val) :=
  BI.Entails.trans (@list_back F _ .i32 aBK d key (fun _ _ _ => rfl) _ f X) (of_eq' (owns_whole (tz d) main_v5_0_scv fullShare _))

theorem bv_back [∀ e, Nonempty (Elt F e)] (key : ℕ → BitVec 32) (f X : ℕ → F .f32) :
    iprop((tiles fun c s => bigSep Finset.univ fun u : Fin k1_t3_loop.trips => filledCells (F := F) d (co c s) key f aBV u.val)
        ∗ bigSep (others key) fun p => owns (tz d) (cell aBV p) fullShare (fun _ => X p.val))
      ⊢ pts (F := F) d main_v5_1 (fun y : S1052672.Idx => spread key f X (y 0).val) :=
  BI.Entails.trans (@list_back F _ .f32 aBV d key (fun _ _ _ => rfl) _ f X) (of_eq' (owns_whole (tz d) main_v5_1_scv fullShare _))

omit [FloatOps F] in
theorem st_out (f : S544.Idx → Elt F .i32) :
    pts (F := F) d main_v5_2 f ⊢ tiles fun c s => startsOut (co c s) iprop(∃ Y : S544.Idx → BitVec 32, owns (th1 d (co c s)) aSt fullShare Y) := by
  refine BI.Entails.trans ?_ (of_eq' (tiles_first (iprop(∃ Y : S544.Idx → BitVec 32, owns (tz d) aSt fullShare Y))).symm)
  exact BI.Entails.trans (of_eq' (owns_whole (tz d) main_v5_2_scv fullShare f).symm) (owns_some _ _ _ _)

omit [FloatOps F] in
theorem st_back (f : S544.Idx → Elt F .i32) :
    (tiles fun c s => startsOut (co c s) (owns (th1 d (co c s)) aSt fullShare f)) ⊢ pts (F := F) d main_v5_2 f :=
  BI.Entails.trans (of_eq' (tiles_first (owns (tz d) aSt fullShare f))) (of_eq' (owns_whole (tz d) main_v5_2_scv fullShare f))

theorem call1_in (key : ℕ → BitVec 32) (val : ℕ → F .f32) (Xk : ℕ → BitVec 32) (Xv : ℕ → F .f32) (f : S544.Idx → Elt F .i32) :
    iprop(pts (F := F) d main_v3 (fun y : S8192x128.Idx => key (128 * (y 0).val + (y 1).val)) ∗ pts (F := F) d main_v4 (fun y : S8192x128.Idx => val (128 * (y 0).val + (y 1).val))
        ∗ pts (F := F) d main_v2_1 (counts key) ∗ pts (F := F) d main_v5_0 (fun y : S1052672.Idx => Xk (y 0).val) ∗ pts (F := F) d main_v5_1 (fun y : S1052672.Idx => Xv (y 0).val)
        ∗ pts (F := F) d main_v5_2 f)
      ⊢ iprop((tiles fun c s => go1 d (co c s) key val (rsh c s)) ∗ rest d key Xk Xv) := by
  unfold go1 rest
  rw [tiles_sep, tiles_sep, tiles_sep, tiles_sep, tiles_sep]
  iintro ⟨H1, H2, H3, H4, H5, H6⟩
  ihave H4 := (bk_out d key Xk) $$ H4
  ihave H5 := (bv_out d key Xv) $$ H5
  icases H4 with ⟨H4, R4⟩
  icases H5 with ⟨H5, R5⟩
  isplitr [R4 R5]; swap
  · isplitl [R4]; · iexact R4
    iexact R5
  isplitl [H1]; · iapply (of_eq' (share_v3 d _)); iexact H1
  isplitl [H2]; · iapply (of_eq' (share_v4 d _)); iexact H2
  isplitl [H3]; · iapply (of_eq' (share_cnt d _)); iexact H3
  isplitl [H4]; · iexact H4
  isplitl [H5]; · iexact H5
  iapply (st_out d f); iexact H6

theorem call1_out [∀ e, Nonempty (Elt F e)] (key : ℕ → BitVec 32) (val : ℕ → F .f32) (Xk : ℕ → BitVec 32) (Xv : ℕ → F .f32) :
    iprop((tiles fun c s => td1 d (co c s) key val (rsh c s)) ∗ rest d key Xk Xv)
      ⊢ iprop(pts (F := F) d main_v3 (fun y : S8192x128.Idx => key (128 * (y 0).val + (y 1).val)) ∗ pts (F := F) d main_v4 (fun y : S8192x128.Idx => val (128 * (y 0).val + (y 1).val))
        ∗ pts (F := F) d main_v2_1 (counts key) ∗ pts (F := F) d main_v5_0 (fun y : S1052672.Idx => spread key key Xk (y 0).val)
        ∗ pts (F := F) d main_v5_1 (fun y : S1052672.Idx => spread key val Xv (y 0).val) ∗ pts (F := F) d main_v5_2 (fun y : S544.Idx => startN key (y 0).val)) := by
  unfold td1 rest
  rw [tiles_sep, tiles_sep, tiles_sep, tiles_sep, tiles_sep]
  iintro ⟨⟨H1, H2, H3, H4, H5, H6⟩, ⟨R4, R5⟩⟩
  isplitl [H1]; · iapply (of_eq' (share_v3 d _).symm); iexact H1
  isplitl [H2]; · iapply (of_eq' (share_v4 d _).symm); iexact H2
  isplitl [H3]; · iapply (of_eq' (share_cnt d _).symm); iexact H3
  isplitl [H4 R4]
  · iapply (bk_back d key key Xk); isplitl [H4]; · iexact H4
    iexact R4
  isplitl [H5 R5]
  · iapply (bv_back d key val Xv); isplitl [H5]; · iexact H5
    iexact R5
  iapply (st_back d _); iexact H6

/-! ## The third call -/

omit [FloatOps F] in
theorem call2_in (G : ℕ → F .f32) (bk : ℕ → BitVec 32) (bv : ℕ → F .f32) (st : ℕ → BitVec 32) (f : S16777216.Idx → Elt F .f32) :
    iprop(pts (F := F) d main_v0 (fun y : S16777216.Idx => G (y 0).val) ∗ pts (F := F) d main_v5_0 (fun y : S1052672.Idx => bk (y 0).val)
        ∗ pts (F := F) d main_v5_1 (fun y : S1052672.Idx => bv (y 0).val) ∗ pts (F := F) d main_v5_2 (fun y : S544.Idx => st (y 0).val) ∗ pts (F := F) d main_v6 f)
      ⊢ tiles fun c s => go2 d (co c s) G bk bv st (rsh c s) := by
  unfold go2
  rw [tiles_sep, tiles_sep, tiles_sep, tiles_sep]
  iintro ⟨H1, H2, H3, H4, H5⟩
  isplitl [H1]; · iapply (of_eq' (share_v0 d _)); iexact H1
  isplitl [H2]; · iapply (of_eq' (share_bk d _)); iexact H2
  isplitl [H3]; · iapply (of_eq' (share_bv d _)); iexact H3
  isplitl [H4]; · iapply (of_eq' (share_st d _)); iexact H4
  iapply (out_out d f); iexact H5

theorem call2_out [∀ e, Nonempty (Elt F e)] (G : ℕ → F .f32) (bk : ℕ → BitVec 32) (bv : ℕ → F .f32) (st : ℕ → BitVec 32) :
    (tiles fun c s => td2 d (co c s) G bk bv st (rsh c s))
      ⊢ iprop(pts (F := F) d main_v0 (fun y : S16777216.Idx => G (y 0).val) ∗ pts (F := F) d main_v5_0 (fun y : S1052672.Idx => bk (y 0).val)
        ∗ pts (F := F) d main_v5_1 (fun y : S1052672.Idx => bv (y 0).val) ∗ pts (F := F) d main_v5_2 (fun y : S544.Idx => st (y 0).val)
        ∗ pts (F := F) d main_v6 (fun j : S16777216.Idx => slabOut G st bk bv ((j 0).val / 32768) ((j 0).val % 32768))) := by
  unfold td2
  rw [tiles_sep, tiles_sep, tiles_sep, tiles_sep]
  iintro ⟨H1, H2, H3, H4, H5⟩
  isplitl [H1]; · iapply (of_eq' (share_v0 d _).symm); iexact H1
  isplitl [H2]; · iapply (of_eq' (share_bk d _).symm); iexact H2
  isplitl [H3]; · iapply (of_eq' (share_bv d _).symm); iexact H3
  isplitl [H4]; · iapply (of_eq' (share_st d _).symm); iexact H4
  iapply (out_back d (slabOut G st bk bv)); iexact H5

end Calls

end Cert.Proof.Occ

end

end
-- ==== Proof.Launch.lean ====
/-
  What the program computes, the payloads of its three calls, and the launch theorem's obligations for them.
-/
module

public import proofs.«01_k».proof.Proof.Calls

@[expose] public section

noncomputable section

namespace Cert.Proof.Occ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-! ## What the arrays come to hold -/

/-- The coordinates, flat, -/
def xC (d : Fin nD) : S3145728.Idx → Elt F .f32 := shapeCast S3145728 (m ((SparseCore.T d).loc main_arg1) : S1048576x3.Idx → Elt F .f32) shapeCasts_S1048576x3_S3145728
/-- their keys, -/
def keyC (d : Fin nD) : ℕ → BitVec 32 := keyN (xC m d)
/-- the values, -/
def valC (d : Fin nD) (n : ℕ) : Elt F .f32 := (m ((SparseCore.T d).loc main_arg2) : S1048576.Idx → Elt F .f32) (at1 1048576 n)
/-- the grid, flat, -/
def gridC (d : Fin nD) (p : ℕ) : Elt F .f32 :=
  shapeCast S16777216 (m ((SparseCore.T d).loc main_arg0) : S256x256x256.Idx → Elt F .f32) shapeCasts_S256x256x256_S16777216 (at1 16777216 p)
/-- what the binned lists hold at first, -/
def oldK (d : Fin nD) (p : ℕ) : Elt F .i32 := (m ((SparseCore.T d).loc main_v5_0) : S1052672.Idx → Elt F .i32) (at1 1052672 p)
def oldV (d : Fin nD) (p : ℕ) : Elt F .f32 := (m ((SparseCore.T d).loc main_v5_1) : S1052672.Idx → Elt F .f32) (at1 1052672 p)
/-- the binned keys and values, -/
def bkC (d : Fin nD) : ℕ → BitVec 32 := spread (keyC m d) (keyC m d) (oldK m d)
def bvC (d : Fin nD) : ℕ → Elt F .f32 := spread (keyC m d) (valC m d) (oldV m d)
/-- the new grid, flat, -/
def outC (d : Fin nD) : S16777216.Idx → Elt F .f32 := fun j =>
  slabOut (gridC m d) (startN (keyC m d)) (bkC m d) (bvC m d) ((j 0).val / 32768) ((j 0).val % 32768)
/-- and the result. -/
def resC (d : Fin nD) : S256x256x256.Idx → Elt F .f32 := shapeCast S256x256x256 (outC m d) shapeCasts_S16777216_S256x256x256

theorem startN_toNat (key : ℕ → BitVec 32) {b : ℕ} (h : b ≤ 512) : (startN key b).toNat = first key b := by
  unfold startN
  rw [if_pos h, BitVec.toNat_ofNat]
  have := first_le (key := key) b
  omega

theorem starts_ok (key : ℕ → BitVec 32) (b : ℕ) (h : b < 512) :
    (startN key b).toNat ≤ (startN key (b + 1)).toNat ∧ (startN key (b + 1)).toNat ≤ 1048576 := by
  rw [startN_toNat key (by omega), startN_toNat key (by omega)]
  exact ⟨first_mono (by omega), first_le _⟩

/-! ## What the handshakes carry -/

/-- What each tile takes for each call, -/
def goC : (q : Fin 3) → (d : Fin nD) → Fin 2 → Fin 16 → sProp (MM F)
  | 0, d, c, s => go0 d (co c s) (xC m d) (rsh c s)
  | 1, d, c, s => go1 d (co c s) (keyC m d) (valC m d) (rsh c s)
  | 2, d, c, s => go2 d (co c s) (gridC m d) (bkC m d) (bvC m d) (startN (keyC m d)) (rsh c s)

/-- and what it gives back. -/
def tdC : (q : Fin 3) → (d : Fin nD) → Fin 2 → Fin 16 → sProp (MM F)
  | 0, d, c, s => td0 d (co c s) (xC m d) (rsh c s)
  | 1, d, c, s => td1 d (co c s) (keyC m d) (valC m d) (rsh c s)
  | 2, d, c, s => td2 d (co c s) (gridC m d) (bkC m d) (bvC m d) (startN (keyC m d)) (rsh c s)

/-- A SparseCore of a call, and a subcore. -/
def coreOf : (q : Fin 3) → Fin ((K (F := F)).nCore q) → Fin 2 | 0, c => c | 1, c => c | 2, c => c
def subOf : (q : Fin 3) → Fin ((K (F := F)).nSub q) → Fin 16 | 0, c => c | 1, c => c | 2, c => c

def P : (K (F := F)).Pay (nD := nD) (Val := Elt F) (Name := ℕ) (U := UU) where
  st := fun q d c => bigSep Finset.univ fun s : Fin ((K (F := F)).nSub q) => goC m q d (coreOf (F := F) q c) (subOf (F := F) q s)
  dn := fun q d c => bigSep Finset.univ fun s : Fin ((K (F := F)).nSub q) => tdC m q d (coreOf (F := F) q c) (subOf (F := F) q s)
  go := fun q d c s => goC m q d (coreOf (F := F) q c) (subOf (F := F) q s)
  td := fun q d c s => tdC m q d (coreOf (F := F) q c) (subOf (F := F) q s)
  x := fun _ _ => iprop(emp)

omit [FloatOps F] in
instance startsOut_storable (i : grid1.Coords) (R : sProp (MM F)) [BI.Storable (upEmb : UEmb _ (MM F)) R] : BI.Storable (upEmb : UEmb _ (MM F)) (startsOut i R) := by
  unfold startsOut; split <;> infer_instance

instance goC_storable (q : Fin 3) (d : Fin nD) (c : Fin 2) (s : Fin 16) : BI.Storable (upEmb : UEmb _ (MM F)) (goC m q d c s) :=
  match q with
  | 0 => by unfold goC go0; infer_instance
  | 1 => by unfold goC go1 openCells; infer_instance
  | 2 => by unfold goC go2; infer_instance

instance tdC_storable (q : Fin 3) (d : Fin nD) (c : Fin 2) (s : Fin 16) : BI.Storable (upEmb : UEmb _ (MM F)) (tdC m q d c s) :=
  match q with
  | 0 => by unfold tdC td0; infer_instance
  | 1 => by unfold tdC td1 filledCells; infer_instance
  | 2 => by unfold tdC td2; infer_instance

instance P_storable : (P (F := F) m).IsStorable where
  st q d c := by unfold P; infer_instance
  dn q d c := by unfold P; infer_instance
  go q d c i := by unfold P; infer_instance
  td q d c i := by unfold P; infer_instance

/-! ## The tasks -/

theorem body_0 (c : Fin τ.nSC) (s : Fin τ.nSub) :
    defs₀ (F := F) (.scVector c s) 0 ()
      = SparseCore.onTile hcore0 hsub0 (fun c s => cc0_occ_k1_keys_hist (co c s) (Memref.whole main_v1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2) ⟨⟩ c s := rfl

theorem tile_0 : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_0]; simp only [SparseCore.onTile, hci, and_self, ↓reduceDIte]
  exact task0 d O W hO (co ⟨_, hci.1⟩ ⟨_, hci.2⟩) (xC m d) (rsh _ _)

theorem body_1 (c : Fin τ.nSC) (s : Fin τ.nSub) :
    defs₀ (F := F) (.scVector c s) 1 ()
      = SparseCore.onTile hcore1 hsub1 (fun c s => cc1_occ_k2_route (co c s) (Memref.whole main_v3_scv) (Memref.isWhole_whole _) (Memref.whole main_v4_scv) (Memref.isWhole_whole _) (Memref.whole main_v2_1_scv) (Memref.isWhole_whole _) (Memref.whole main_v5_0_scv) (Memref.isWhole_whole _) (Memref.whole main_v5_1_scv) (Memref.isWhole_whole _) (Memref.whole main_v5_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3) ⟨⟩ c s := rfl

theorem tile_1 : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [body_1]; simp only [SparseCore.onTile, hci, and_self, ↓reduceDIte]
  exact task1 d O W hO (co ⟨_, hci.1⟩ ⟨_, hci.2⟩) (keyC m d) (valC m d) (keyN_lt _) (rsh _ _)

theorem body_2 (c : Fin τ.nSC) (s : Fin τ.nSub) :
    defs₀ (F := F) (.scVector c s) 2 ()
      = SparseCore.onTile hcore2 hsub2 (fun c s => cc2_occ_k3_slab_update (co c s) (Memref.whole main_v0_scv) (Memref.isWhole_whole _) (Memref.whole main_v5_0_scv) (Memref.isWhole_whole _) (Memref.whole main_v5_1_scv) (Memref.isWhole_whole _) (Memref.whole main_v5_2_scv) (Memref.isWhole_whole _) (Memref.whole main_v6_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) cc2_scoped0 cc2_scoped1 cc2_scoped2 cc2_scoped3 cc2_scoped4 cc2_scoped5 cc2_scoped6 cc2_scoped7 cc2_scoped8 cc2_scoped9) ⟨⟩ c s := rfl

theorem tile_2 : (K (F := F)).TileObl (D (F := F)) 𝒱 (P m) v₀ 2 := by
  intro d c i O W hO _ _
  simp only [show (P m).ox = fun _ _ => 0 from rfl, add_zero]
  have hci : ((K (F := F)).core 2 c).val < grid2.bound 0 ∧ ((K (F := F)).sub 2 i).val < grid2.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [body_2]; simp only [SparseCore.onTile, hci, and_self, ↓reduceDIte]
  exact task2 d O W hO (co ⟨_, hci.1⟩ ⟨_, hci.2⟩) (gridC m d) (bkC m d) (bvC m d) (startN (keyC m d)) (starts_ok _) (rsh _ _)

/-- A sequencer's arrays are its tiles'. -/
theorem vec_split (q : Fin 3) : (K (F := F)).VecSplit' (P m) q := by
  intro d c
  show (P m).st q d c ⊢ |={Set.univ}=> iprop((P m).st q d c ∗ ((P m).dn q d c -∗ (P m).dn q d c))
  iintro H
  imodintro
  isplitl [H]; · iexact H
  iintro H
  iexact H

/-! ## The launch element: the handshakes' rounds, and nothing of the kernels' own -/

def u₀ : UU := (initOf (K (F := F)).hsCells (K (F := F)).hsToks, 1)

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 3 => (P m).x q thr) := by
  have e1 : (bigSep Finset.univ fun _ : Dev nD => (iprop(emp) : sProp (MM F))) = iprop(emp) := bigSep_emp_const _
  have e2 : (bigSep Finset.univ fun thr : Thread nD τ => bigSep Finset.univ fun q : Fin 3 => (P (F := F) m).x q thr) = iprop(emp) := by
    refine (BI.bigSep_congr fun thr _ => ?_).trans (bigSep_emp_const _)
    exact bigSep_emp_const _
  rw [e1, e2]
  unfold u₀
  iintro Hu
  ihave H := (ownU_pair (initOf (K (F := F)).hsCells (K (F := F)).hsToks) (1 : Counters)) $$ Hu
  icases H with ⟨HH, -⟩
  imodintro
  isplitl [HH]; · iexact HH
  isplitr
  · iempintro
  · iempintro

end Cert.Proof.Occ

end

end
-- ==== Proof.Run.lean ====
/-
  The program's run: the host's reshapes, the TensorCore's thread, and what every run leaves.
-/
module

public import proofs.«01_k».proof.Proof.Launch

@[expose] public section

noncomputable section

namespace Cert.Proof.Occ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.StableHlo (held)

variable (m : (ℓ : Loc nD τ sig) → Buf (Elt F) ℓ) (ρ : Dev nD → PrngReg)

/-! ## A reshape on the host -/

/-- The two arrays of a reshape held as one set. -/
theorem held_pair (d : Fin nD) (x y : Ref sig .tc) (hxy : (Proc.devRef .tc x : DevRef τ sig) ≠ Proc.devRef .tc y) (W : Valuation τ sig (Elt F)) :
    (held (SparseCore.T d : Thread nD τ) {Proc.devRef .tc x, Proc.devRef .tc y} W : sProp (MM F)) = iprop(pts d x (W (Proc.devRef .tc x)) ∗ pts d y (W (Proc.devRef .tc y))) := by
  unfold held
  rw [SparseCore.bigSep_insert' (by rw [Finset.mem_singleton]; exact hxy), bigSep_singleton]

include m in
theorem own_reshape (d : Fin nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false) (hxy : x ≠ y)
    (f : x.ty.Contents (Elt F)) (g g' : y.ty.Contents (Elt F)) (hg : (fun i => he ▸ shapeCast y.ty.shape f hn i) = g') {Q : PUnit → sProp (MM F)} :
    iprop(boundary (SparseCore.T d : Thread nD τ) ∗ pts d x f ∗ pts d y g)
      ⊢ iprop((iprop(boundary (SparseCore.T d : Thread nD τ) ∗ pts d x f ∗ pts d y g') -∗ Q ⟨⟩)
        -∗ wp frame (wpE ((K (F := F)).defs (D (F := F))) 𝒱 (SparseCore.T d : Thread nD τ) none) Set.univ (hlo rfl (StableHlo.reshape x y he hn hx hy) (fun _ => .ret ⟨⟩)) Q) := by
  have hd : (Proc.devRef .tc x : DevRef τ sig) ≠ Proc.devRef .tc y := fun h => hxy (Proc.devRef_injective _ h)
  let V : Valuation τ sig (Elt F) := Function.update (Function.update (fun b => m (d, b)) (Proc.devRef .tc x) f) (Proc.devRef .tc y) g
  have vx : V (Proc.devRef .tc x) = f := (Function.update_of_ne hd _ _).trans (Function.update_self _ _ _)
  have vy : V (Proc.devRef .tc y) = g := Function.update_self _ _ _
  have e1 := held_pair (F := F) d x y hd V
  have e2 := held_pair (F := F) d x y hd ((StableHlo.reshape x y he hn hx hy : HloOp τ sig (Elt F)).result V)
  rw [StableHlo.reshape_result_ne x y he hn hx hy V hxy, StableHlo.reshape_result x y he hn hx hy V, vx, hg] at e2
  rw [vx, vy] at e1
  iintro ⟨Hb, Hx, Hy⟩ Hk
  iapply (StableHlo.wp_hlo_within 𝒱 (SparseCore.T d : Thread nD τ) none Set.univ (op := StableHlo.reshape x y he hn hx hy) (S := {Proc.devRef .tc x, Proc.devRef .tc y}) (fun _ h => h) (V := V)) $$ [Hb Hx Hy]
  · isplitl [Hb]; · iexact Hb
    iapply (of_eq' e1.symm)
    isplitl [Hx]; · iexact Hx
    iexact Hy
  iintro ⟨Hb, H⟩
  ihave H' := (of_eq' e2) $$ H
  icases H' with ⟨Hx, Hy⟩
  rw [wp_ret]; imodintro
  iapply Hk
  isplitl [Hb]; · iexact Hb
  isplitl [Hx]; · iexact Hx
  iexact Hy

/-! ## Reshapes of flat arrays -/

omit [FloatOps F] in
theorem flat_idx (h : S1048576.ShapeCasts S8192x128) (y : S8192x128.Idx) : (Shape.reshapeEquiv h y 0).val = 128 * (y 0).val + (y 1).val := by
  have h1 := Shape.rowMajor_reshapeEquiv h y
  rw [Shape.rowMajor_val_one, Shape.rowMajor_val_two] at h1
  refine h1.trans ?_
  show (y 0).val * 128 + (y 1).val = _
  omega

omit [FloatOps F] in
theorem flat_eq (h : S1048576.ShapeCasts S8192x128) (y : S8192x128.Idx) : Shape.reshapeEquiv h y = at1 1048576 (128 * (y 0).val + (y 1).val) :=
  at1_of_val (flat_idx h y)

omit [FloatOps F] in
theorem cast_nat {α : Type} (g : ℕ → α) (h : S1048576.ShapeCasts S8192x128) :
    shapeCast S8192x128 (fun j : S1048576.Idx => g (j 0).val) h = fun y => g (128 * (y 0).val + (y 1).val) := by
  funext y
  show g (Shape.reshapeEquiv h y 0).val = _
  rw [flat_idx]

omit [FloatOps F] in
theorem cast_at {α : Type} (f : S1048576.Idx → α) (h : S1048576.ShapeCasts S8192x128) :
    shapeCast S8192x128 f h = fun y => f (at1 1048576 (128 * (y 0).val + (y 1).val)) := by
  funext y
  unfold shapeCast
  rw [flat_eq]

omit [FloatOps F] in
theorem at_flat {α : Type} {N : ℕ} [NeZero N] (f : (⟨1, ![N]⟩ : Shape).Idx → α) : f = fun y => f (at1 N (y 0).val) := by
  funext y
  rw [at1_eq]

/-! ## @main on the TensorCore -/

theorem unscopedBufs_eq (d : Dev nD) (W : (b : Ref sig .tc) → Buf (Elt F) ((d.tc : Thread nD τ).loc b)) :
    (unscopedBufs d W : sProp (MM F)) = iprop(pts d main_arg0 (W main_arg0) ∗ pts d main_arg1 (W main_arg1) ∗ pts d main_arg2 (W main_arg2) ∗ pts d main_v0 (W main_v0) ∗ pts d main_v1 (W main_v1) ∗ pts d main_v2_0 (W main_v2_0) ∗ pts d main_v2_1 (W main_v2_1) ∗ pts d main_v3 (W main_v3) ∗ pts d main_v4 (W main_v4) ∗ pts d main_v5_0 (W main_v5_0) ∗ pts d main_v5_1 (W main_v5_1) ∗ pts d main_v5_2 (W main_v5_2) ∗ pts d main_v6 (W main_v6) ∗ pts d main_v7 (W main_v7)) := by
  unfold unscopedBufs
  rw [show (Finset.univ.filter fun b : Ref sig .tc => ¬ b.isScoped) = {main_arg0, main_arg1, main_arg2, main_v0, main_v1, main_v2_0, main_v2_1, main_v3, main_v4, main_v5_0, main_v5_1, main_v5_2, main_v6, main_v7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide),
    bigSep_singleton]

omit [FloatOps F] in
theorem tiles_of (q : Fin 3) (Φ : Fin 2 → Fin 16 → sProp (MM F)) :
    (bigSep Finset.univ fun c : Fin ((K (F := F)).nCore q) => bigSep Finset.univ fun s : Fin ((K (F := F)).nSub q) => Φ (coreOf (F := F) q c) (subOf (F := F) q s)) = tiles Φ :=
  match q with
  | 0 => rfl
  | 1 => rfl
  | 2 => rfl

/-- What a call takes for its tiles, and what it hands back. -/
theorem st_eq (q : Fin 3) (d : Fin nD) : (bigSep Finset.univ fun c : Fin ((K (F := F)).nCore q) => (P m).st q d c) = tiles fun c s => goC m q d c s := tiles_of q (goC m q d)

theorem dn_eq (q : Fin 3) (d : Fin nD) : (bigSep Finset.univ fun c : Fin ((K (F := F)).nCore q) => (P m).dn q d c) = tiles fun c s => tdC m q d c s := tiles_of q (tdC m q d)

theorem st_0 (d : Fin nD) : (bigSep Finset.univ fun c : Fin ((K (F := F)).nCore 0) => (P m).st 0 d c) = tiles fun c s => go0 d (co c s) (xC m d) (rsh c s) :=
  (st_eq m 0 d).trans (tiles_congr fun _ _ => by rw [goC])

theorem st_1 (d : Fin nD) : (bigSep Finset.univ fun c : Fin ((K (F := F)).nCore 1) => (P m).st 1 d c) = tiles fun c s => go1 d (co c s) (keyC m d) (valC m d) (rsh c s) :=
  (st_eq m 1 d).trans (tiles_congr fun _ _ => by rw [goC])

theorem st_2 (d : Fin nD) : (bigSep Finset.univ fun c : Fin ((K (F := F)).nCore 2) => (P m).st 2 d c) = tiles fun c s => go2 d (co c s) (gridC m d) (bkC m d) (bvC m d) (startN (keyC m d)) (rsh c s) :=
  (st_eq m 2 d).trans (tiles_congr fun _ _ => by rw [goC])

theorem dn_0 (d : Fin nD) : (bigSep Finset.univ fun c : Fin ((K (F := F)).nCore 0) => (P m).dn 0 d c) = tiles fun c s => td0 d (co c s) (xC m d) (rsh c s) :=
  (dn_eq m 0 d).trans (tiles_congr fun _ _ => by rw [tdC])

theorem dn_1 (d : Fin nD) : (bigSep Finset.univ fun c : Fin ((K (F := F)).nCore 1) => (P m).dn 1 d c) = tiles fun c s => td1 d (co c s) (keyC m d) (valC m d) (rsh c s) :=
  (dn_eq m 1 d).trans (tiles_congr fun _ _ => by rw [tdC])

theorem dn_2 (d : Fin nD) : (bigSep Finset.univ fun c : Fin ((K (F := F)).nCore 2) => (P m).dn 2 d c) = tiles fun c s => td2 d (co c s) (gridC m d) (bkC m d) (bvC m d) (startN (keyC m d)) (rsh c s) :=
  (dn_eq m 2 d).trans (tiles_congr fun _ _ => by rw [tdC])

/-- What @main leaves the claim: the arguments as launched, and the result. -/
abbrev FIN (d : Dev nD) : sProp (MM F) :=
  iprop(pts d main_arg0 (m ((SparseCore.T d).loc main_arg0)) ∗ pts d main_arg1 (m ((SparseCore.T d).loc main_arg1)) ∗ pts d main_arg2 (m ((SparseCore.T d).loc main_arg2)) ∗ pts d main_v7 (resC m d))

theorem keys_flat (d : Fin nD) : shapeCast S8192x128 (fun j : S1048576.Idx => keyC m d (j 0).val) shapeCasts_S1048576_S8192x128 = fun y => keyC m d (128 * (y 0).val + (y 1).val) :=
  cast_nat (keyC m d) _

theorem vals_flat (d : Fin nD) :
    shapeCast S8192x128 (m ((SparseCore.T d).loc main_arg2) : S1048576.Idx → Elt F .f32) shapeCasts_S1048576_S8192x128 = fun y => valC m d (128 * (y 0).val + (y 1).val) :=
  cast_at (m ((SparseCore.T d).loc main_arg2) : S1048576.Idx → Elt F .f32) _

theorem grid_flat (d : Fin nD) :
    shapeCast S16777216 (m ((SparseCore.T d).loc main_arg0) : S256x256x256.Idx → Elt F .f32) shapeCasts_S256x256x256_S16777216 = fun y => gridC m d (y 0).val :=
  @at_flat (Elt F .f32) 16777216 _ _

theorem oldK_flat (d : Fin nD) : (m ((SparseCore.T d).loc main_v5_0) : S1052672.Idx → Elt F .i32) = fun y => oldK m d (y 0).val :=
  @at_flat (Elt F .i32) 1052672 _ (m ((SparseCore.T d).loc main_v5_0) : S1052672.Idx → Elt F .i32)

theorem oldV_flat (d : Fin nD) : (m ((SparseCore.T d).loc main_v5_1) : S1052672.Idx → Elt F .f32) = fun y => oldV m d (y 0).val :=
  @at_flat (Elt F .f32) 1052672 _ (m ((SparseCore.T d).loc main_v5_1) : S1052672.Idx → Elt F .f32)

variable [∀ e, Nonempty (Elt F e)]

/-- The three calls of @main, each from the arrays it takes to the arrays it gives back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨A0, A1, A2, V0, V1, K0, C0, K1, W1, BK, BV, ST, V6, V7⟩, Hts, -⟩, -⟩
  iapply (own_reshape m d main_arg0 main_v0 rfl shapeCasts_S256x256x256_S16777216 _ _ (by decide) _ _ (fun y : S16777216.Idx => gridC m d (y 0).val) (grid_flat m d)) $$ [Hb A0 V0]
  · isplitl [Hb]; · iexact Hb
    isplitl [A0]; · iexact A0
    iexact V0
  iintro ⟨Hb, A0, V0⟩
  iapply (own_reshape m d main_arg1 main_v1 rfl shapeCasts_S1048576x3_S3145728 _ _ (by decide) _ _ (xC m d) rfl) $$ [Hb A1 V1]
  · isplitl [Hb]; · iexact Hb
    isplitl [A1]; · iexact A1
    iexact V1
  iintro ⟨Hb, A1, V1⟩
  iapply ((K (F := F)).wp_run (D (F := F)) 𝒱 (EH := EH) (P := P m) κ d 0) $$ [-]
  isplitr; · iexact Hctx
  isplitl [Hst]; · iexact Hst
  isplitl [V1 K0 C0]
  · iapply (of_eq' (st_0 m d).symm)
    iapply (call0_in d (xC m d) _ _)
    isplitl [V1]; · iexact V1
    isplitl [K0]; · iexact K0
    iexact C0
  iintro ⟨Hst, Hdn⟩
  ihave Hdn := (of_eq' (dn_0 m d)) $$ Hdn
  ihave Hdn := (call0_out d (xC m d)) $$ Hdn
  icases Hdn with ⟨V1, K0, C0⟩
  iapply (own_reshape m d main_v2_0 main_v3 rfl shapeCasts_S1048576_S8192x128 _ _ (by decide) _ _ (fun y : S8192x128.Idx => keyC m d (128 * (y 0).val + (y 1).val)) (keys_flat m d)) $$ [Hb K0 K1]
  · isplitl [Hb]; · iexact Hb
    isplitl [K0]; · iexact K0
    iexact K1
  iintro ⟨Hb, K0, K1⟩
  iapply (own_reshape m d main_arg2 main_v4 rfl shapeCasts_S1048576_S8192x128 _ _ (by decide) _ _ (fun y : S8192x128.Idx => valC m d (128 * (y 0).val + (y 1).val)) (vals_flat m d)) $$ [Hb A2 W1]
  · isplitl [Hb]; · iexact Hb
    isplitl [A2]; · iexact A2
    iexact W1
  iintro ⟨Hb, A2, W1⟩
  ihave BK := (of_eq' (congrArg (pts (F := F) d main_v5_0) (oldK_flat m d))) $$ BK
  ihave BV := (of_eq' (congrArg (pts (F := F) d main_v5_1) (oldV_flat m d))) $$ BV
  ihave Hin := (call1_in d (keyC m d) (valC m d) (oldK m d) (oldV m d) _) $$ [K1 W1 C0 BK BV ST]
  · isplitl [K1]; · iexact K1
    isplitl [W1]; · iexact W1
    isplitl [C0]; · iexact C0
    isplitl [BK]; · iexact BK
    isplitl [BV]; · iexact BV
    iexact ST
  icases Hin with ⟨Hin, R⟩
  iapply ((K (F := F)).wp_run (D (F := F)) 𝒱 (EH := EH) (P := P m) κ d 1) $$ [-]
  isplitr; · iexact Hctx
  isplitl [Hst]; · iexact Hst
  isplitl [Hin]
  · iapply (of_eq' (st_1 m d).symm)
    iexact Hin
  iintro ⟨Hst, Hdn⟩
  ihave Hdn := (of_eq' (dn_1 m d)) $$ Hdn
  ihave Hout := (call1_out d (keyC m d) (valC m d) (oldK m d) (oldV m d)) $$ [Hdn R]
  · isplitl [Hdn]; · iexact Hdn
    iexact R
  icases Hout with ⟨K1, W1, C0, BK, BV, ST⟩
  iapply ((K (F := F)).wp_run (D (F := F)) 𝒱 (EH := EH) (P := P m) κ d 2) $$ [-]
  isplitr; · iexact Hctx
  isplitl [Hst]; · iexact Hst
  isplitl [V0 BK BV ST V6]
  · iapply (of_eq' (st_2 m d).symm)
    iapply (call2_in d (gridC m d) (bkC m d) (bvC m d) (startN (keyC m d)) _)
    isplitl [V0]; · iexact V0
    isplitl [BK]; · iexact BK
    isplitl [BV]; · iexact BV
    isplitl [ST]; · iexact ST
    iexact V6
  iintro ⟨Hst, Hdn⟩
  ihave Hdn := (of_eq' (dn_2 m d)) $$ Hdn
  ihave Hout := (call2_out d (gridC m d) (bkC m d) (bvC m d) (startN (keyC m d))) $$ Hdn
  icases Hout with ⟨V0, BK, BV, ST, V6⟩
  iapply (own_reshape m d main_v6 main_v7 rfl shapeCasts_S16777216_S256x256x256 _ _ (by decide) _ _ (resC m d) rfl) $$ [Hb V6 V7]
  · isplitl [Hb]; · iexact Hb
    isplitl [V6]; · iexact V6
    iexact V7
  iintro ⟨Hb, V6, V7⟩
  imodintro
  isplitl [Hst]; · iexact Hst
  isplitr [Hb Hts]
  · isplitl [A0]; · iexact A0
    isplitl [A1]; · iexact A1
    isplitl [A2]; · iexact A2
    iexact V7
  isplitl [Hb] <;> iassumption

/-! ## The program's run -/

def fq (d : Dev nD) (s' : Phys nD τ sig (Elt F)) : Prop :=
  s'.mem.mem ((SparseCore.T d : Thread nD τ).loc main_arg0) = m ((SparseCore.T d).loc main_arg0)
    ∧ s'.mem.mem ((SparseCore.T d : Thread nD τ).loc main_arg1) = m ((SparseCore.T d).loc main_arg1)
    ∧ s'.mem.mem ((SparseCore.T d : Thread nD τ).loc main_arg2) = m ((SparseCore.T d).loc main_arg2)
    ∧ s'.mem.mem ((SparseCore.T d : Thread nD τ).loc main_v7) = resC m d

theorem mem_of_pts (d : Dev nD) (b : Ref sig .tc) (f : Buf (Elt F) ((SparseCore.T d : Thread nD τ).loc b)) (s' : Phys nD τ sig (Elt F)) :
    iprop(pts d b f ∗ SI s') ⊢ (iprop(⌜s'.mem.mem ((SparseCore.T d : Thread nD τ).loc b) = f⌝ ∗ SI s') : sProp (MM F)) := by
  iintro ⟨Hx, HSI⟩
  ihave H := (persistent_entails_right (SI_pointsTo_agree (st := s') (ℓ := (SparseCore.T d : Thread nD τ).loc b) (I := Finset.univ) (q := fullShare) (f := f))) $$ [HSI Hx]
  · isplitl [HSI] <;> iassumption
  icases H with ⟨%hx, HSI, -⟩
  isplitr [HSI]
  · ipureintro; exact funext fun i => hx i (Finset.mem_univ i)
  iexact HSI

theorem hfin (d : Dev nD) (s' : Phys nD τ sig (Elt F)) : iprop(FIN m d ∗ SI s') ⊢ (⌜fq m d s'⌝ : sProp (MM F)) := by
  iintro ⟨⟨H0, H1, H2, H7⟩, HSI⟩
  ihave H := (mem_of_pts d main_arg0 _ s') $$ [HSI H0]
  · isplitl [H0] <;> iassumption
  icases H with ⟨%h0, HSI⟩
  ihave H := (mem_of_pts d main_arg1 _ s') $$ [HSI H1]
  · isplitl [H1] <;> iassumption
  icases H with ⟨%h1, HSI⟩
  ihave H := (mem_of_pts d main_arg2 _ s') $$ [HSI H2]
  · isplitl [H2] <;> iassumption
  icases H with ⟨%h2, HSI⟩
  ihave H := (mem_of_pts d main_v7 _ s') $$ [HSI H7]
  · isplitl [H7] <;> iassumption
  icases H with ⟨%h7, -⟩
  ipureintro; exact ⟨h0, h1, h2, h7⟩

/-- What every run ends with. -/
def QC : PUnit × MemSt nD τ sig (Elt F) → Prop := fun r =>
  (∀ d : Dev nD, r.2.mem ((SparseCore.T d : Thread nD τ).loc main_arg0) = m ((SparseCore.T d).loc main_arg0)
    ∧ r.2.mem ((SparseCore.T d : Thread nD τ).loc main_arg1) = m ((SparseCore.T d).loc main_arg1)
    ∧ r.2.mem ((SparseCore.T d : Thread nD τ).loc main_arg2) = m ((SparseCore.T d).loc main_arg2)
    ∧ r.2.mem ((SparseCore.T d : Thread nD τ).loc main_v7) = resC m d) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq)
    (fun q _ => match q with | 0 => tile_0 m | 1 => tile_1 m | 2 => tile_2 m)
    (fun q _ => SparseCore.Cfg.VecSplit.of_plain (vec_split m q))
    m ρ main (fun _ => iprop(emp)) (FIN m) (u₀ (F := F)) (sep_elim_left.trans (hu₀ m)) (hmain m ρ) (fq m) (hfin m) (QC m) (fun _ h hz => ⟨h, hz⟩)

end Cert.Proof.Occ

end

end
-- ==== Proof.Frames.lean ====
/-
  The frames of the program, as printed and idealized, from the one run.
-/
module

public import proofs.«01_k».proof.Proof.Run
public import proofs.«01_k».proof.Proof.Gen.Kernel

@[expose] public section

noncomputable section

namespace Cert.Proof.Occ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

theorem frame_kernel : Cert.quiescent_Kernel (hKernel := Cert.Kernel.Gen.facts) := fun m ρ _ =>
  (θ_run Cert.KernelIdeal.defs _ _).mono (fun _ h => ⟨fun c => ⟨(h.1 c).1, (h.1 c).2.1, (h.1 c).2.2.1⟩, h.2⟩) (run_main (F := Bits) m ρ)

theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩) (run_main (F := Ideal) m ρ)

end Cert.Proof.Occ

end

end
-- ==== Proof.RefRun.lean ====
/-
  The reference's run: its arguments are unchanged, and its result is what its operations after the loop make of the
  keys and of the loop's last contents, which are those after its trips in order (`occK`).
-/
module

public import proofs.«01_k».proof.Proof.Gen.ReferenceIdeal.Run

@[expose] public section

noncomputable section

namespace Cert.Proof.OccRef

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg)

/-! ## What is not written -/

/-- The buffers written before the loop, in it and after it. -/
theorem entry_keep (c : Dev nD) (r : Ref sig .tc) (h0 : r ∉ hostOps0_W) (h1 : r ∉ hostOps0_1_W) (h2 : r ∉ hostOps0_2_W) :
    entryContents preI m c (Proc.devRef .tc r) = m ((c.tc : Thread nD τ).loc r) := by
  show after hostOps0_2 (after hostOps0_1 (after hostOps0 (launchContents m c))) (Proc.devRef .tc r) = _
  rw [after_of_writes_sub _ _ hostOps0_2_writes h2, after_of_writes_sub _ _ hostOps0_1_writes h1, after_of_writes_sub _ _ hostOps0_writes h0]

theorem trips_keep (c : Dev nD) (r : Ref sig .tc) (h0 : r ∉ condOps_W) (h1 : r ∉ while0Ops0_W) :
    ∀ k, atK m k c (Proc.devRef .tc r) = entryContents preI m c (Proc.devRef .tc r)
  | 0 => rfl
  | k + 1 => by
    show after while0Ops0 (after condOps (atK m k c)) (Proc.devRef .tc r) = _
    rw [after_of_writes_sub _ _ while0Ops0_writes h1, after_of_writes_sub _ _ condOps_writes h0, trips_keep c r h0 h1 k]

/-- What the loop leaves. -/
def lastC (c : Dev nD) : Valuation τ sig (Elt F) := after condOps (atK m 1048576 c)

theorem last_keep (c : Dev nD) (r : Ref sig .tc) (h0 : r ∉ condOps_W) (h1 : r ∉ while0Ops0_W) :
    lastC m c (Proc.devRef .tc r) = entryContents preI m c (Proc.devRef .tc r) := by
  unfold lastC
  rw [after_of_writes_sub _ _ condOps_writes h0, trips_keep m c r h0 h1]

theorem final_eq (c : Dev nD) : finalContents condOps preI bodyI postI 1048576 m c = after hostOps0_3 (lastC m c) := rfl

/-! ## What the loop starts from -/

/-- The cells of the scaled coordinates, clipped. -/
def cells (x : S1048576x3.Idx → Elt F .f32) : S1048576x3.Idx → BitVec 32 :=
  minsi (broadcastInDim S1048576x3 ![0, 1] bcast_S1x3_S1048576x3_0_1 (broadcastInDim S1x3 ![1] bcast_S3_S1x3_1
      (subi (constantI S3 32 256#32) (broadcastInDim S3 ![] bcast_S_S3 (constantI S_ 32 1#32)))))
    (maxsi (broadcastInDim S1048576x3 ![] bcast_S_S1048576x3 (constantI S_ 32 0#32))
      (fptosi 32 (mulf (addf
          (Host.divf x (broadcastInDim S1048576x3 ![] bcast_S_S1048576x3 (constant S_ FTy.f32 1073741824#32)))
          (broadcastInDim S1048576x3 ![] bcast_S_S1048576x3 (constant S_ FTy.f32 1056964608#32)))
        (broadcastInDim S1048576x3 ![0, 1] bcast_S1x3_S1048576x3_0_1
          (broadcastInDim S1x3 ![1] bcast_S3_S1x3_1 (constant S3 FTy.f32 1132462080#32))))))

/-- The keys of the cells: their sum by the strides. -/
def keysOf (g : S1048576x3.Idx → BitVec 32) : S1048576.Idx → BitVec 32 :=
  Host.reduce IntOp.addi (muli g (broadcastInDim S1048576x3 ![0, 1] bcast_S1x3_S1048576x3_0_1
      (broadcastInDim S1x3 ![1] bcast_S3_S1x3_1 (fun i => lit0 (S3.rowMajor i)))))
    (constantI S_ 32 0#32) reducesTo_S1048576x3_S1048576_d1 h_S_

theorem first_strides (c : Dev nD) : after hostOps0_1 (after hostOps0 (launchContents m c)) (Proc.devRef .tc main_c_0) = (fun i => lit0 (S3.rowMajor i) : S3.Idx → BitVec 32) := by
  after_reads_simp
  rfl

theorem clip_read (W : Valuation τ sig (Elt F)) : after hostOps0_1 W (Proc.devRef .tc main_v10)
    = minsi (broadcastInDim S1048576x3 ![0, 1] bcast_S1x3_S1048576x3_0_1 (broadcastInDim S1x3 ![1] bcast_S3_S1x3_1
      (W (Proc.devRef .tc main_v9) : S3.Idx → BitVec 32)))
      (maxsi (broadcastInDim S1048576x3 ![] bcast_S_S1048576x3 (W (Proc.devRef .tc main_c_4) : S_.Idx → BitVec 32)) (W (Proc.devRef .tc main_v7) : S1048576x3.Idx → BitVec 32)) := by
  after_reads_simp
  rfl

theorem first_bounds (W : Valuation τ sig (Elt F)) : after hostOps0 W (Proc.devRef .tc main_v9)
    = subi (constantI S3 32 256#32) (broadcastInDim S3 ![] bcast_S_S3 (constantI S_ 32 1#32)) := by
  after_reads_simp
  try rfl

theorem first_zero (W : Valuation τ sig (Elt F)) : after hostOps0 W (Proc.devRef .tc main_c_4) = constantI S_ 32 0#32 := by
  after_reads_simp
  try rfl

theorem first_scaled (W : Valuation τ sig (Elt F)) : after hostOps0 W (Proc.devRef .tc main_v7)
    = fptosi 32 (mulf (addf
          (Host.divf (W (Proc.devRef .tc main_arg1) : S1048576x3.Idx → Elt F .f32) (broadcastInDim S1048576x3 ![] bcast_S_S1048576x3 (constant S_ FTy.f32 1073741824#32)))
          (broadcastInDim S1048576x3 ![] bcast_S_S1048576x3 (constant S_ FTy.f32 1056964608#32)))
        (broadcastInDim S1048576x3 ![0, 1] bcast_S1x3_S1048576x3_0_1
          (broadcastInDim S1x3 ![1] bcast_S3_S1x3_1 (constant S3 FTy.f32 1132462080#32)))) := by
  after_reads_simp
  try rfl

theorem second_keys (W : Valuation τ sig (Elt F)) (h : W (Proc.devRef .tc main_c_0) = (fun i => lit0 (S3.rowMajor i) : S3.Idx → BitVec 32)) :
    after hostOps0_2 W (Proc.devRef .tc main_v14) = keysOf (W (Proc.devRef .tc main_v10) : S1048576x3.Idx → BitVec 32) := by
  after_reads_simp
  rw [h]
  rfl

theorem second_copy (W : Valuation τ sig (Elt F)) (h : W (Proc.devRef .tc main_c_0) = (fun i => lit0 (S3.rowMajor i) : S3.Idx → BitVec 32)) :
    after hostOps0_2 W (Proc.devRef .tc main_v18_0) = keysOf (W (Proc.devRef .tc main_v10) : S1048576x3.Idx → BitVec 32) := by
  after_reads_simp
  rw [h]
  unfold keysOf
  simp only [id_eq]

theorem entry_keys (c : Dev nD) : entryContents preI m c (Proc.devRef .tc main_v18_0)
    = keysOf (cells (m ((c.tc : Thread nD τ).loc main_arg1) : S1048576x3.Idx → Elt F .f32)) := by
  show after hostOps0_2 (after hostOps0_1 (after hostOps0 (launchContents m c))) (Proc.devRef .tc main_v18_0) = _
  rw [second_copy _ (first_strides m c), clip_read, first_bounds, first_zero, first_scaled]
  rfl

theorem entry_v14 (c : Dev nD) : entryContents preI m c (Proc.devRef .tc main_v14)
    = keysOf (cells (m ((c.tc : Thread nD τ).loc main_arg1) : S1048576x3.Idx → Elt F .f32)) := by
  show after hostOps0_2 (after hostOps0_1 (after hostOps0 (launchContents m c))) (Proc.devRef .tc main_v14) = _
  rw [second_keys _ (first_strides m c), clip_read, first_bounds, first_zero, first_scaled]
  rfl

theorem entry_vals (c : Dev nD) : entryContents preI m c (Proc.devRef .tc main_v18_1) = m ((c.tc : Thread nD τ).loc main_arg2) := by
  simp only [entryContents, afterL_cons, afterL_nil]
  after_reads_simp
  rfl

theorem entry_index (c : Dev nD) : entryContents preI m c (Proc.devRef .tc main_v18_3) = (fun _ => 0#32 : S_.Idx → BitVec 32) := by
  simp only [entryContents, afterL_cons, afterL_nil]
  after_reads_simp
  rfl

theorem entry_occ (c : Dev nD) : entryContents preI m c (Proc.devRef .tc main_v18_4)
    = shapeCast S16777216 (mulf (broadcastInDim S256x256x256 ![] bcast_S_S256x256x256 (constant S_ .f32 0x3F733333#32)) (m ((c.tc : Thread nD τ).loc main_arg0) : S256x256x256.Idx → Elt F .f32)) shapeCasts_S256x256x256_S16777216 := by
  simp only [entryContents, afterL_cons, afterL_nil]
  after_reads_simp
  rfl

/-! ## What the operations after the loop make of it -/

/-- The keys as places: a negative one from the end. -/
def places (kv : S1048576.Idx → BitVec 32) : S1048576x1.Idx → BitVec 32 :=
  broadcastInDim S1048576x1 ![0] bcast_S1048576_S1048576x1_0
    (select (cmpi .slt kv (broadcastInDim S1048576 ![] bcast_S_S1048576 (constantI S_ 32 0#32)))
      (addi kv (broadcastInDim S1048576 ![] bcast_S_S1048576 (constantI S_ 32 16777216#32))) kv)

/-- The voxels set to what the loop left, at the points' places. -/
def setFlat (g : S256x256x256.Idx → Elt F .f32) (kv : S1048576.Idx → BitVec 32) (w : S16777216.Idx → Elt F .f32) : S16777216.Idx → Elt F .f32 :=
  Host.scatter scatter_S16777216_S1048576x1_S1048576_n_0_0_1 (fun _ b => b) (shapeCast S16777216 g shapeCasts_S256x256x256_S16777216)
    (places kv) (Host.gather gather_S16777216_S1048576x1_S1048576_n_0_n_n_0_1_1 w (places kv))

theorem post_result (V : Valuation τ sig (Elt F)) : after hostOps0_3 V (Proc.devRef .tc main_v34)
    = shapeCast S256x256x256 (setFlat (V (Proc.devRef .tc main_arg0) : S256x256x256.Idx → Elt F .f32) (V (Proc.devRef .tc main_v14) : S1048576.Idx → BitVec 32)
        (V (Proc.devRef .tc main_v18_4) : S16777216.Idx → Elt F .f32)) shapeCasts_S16777216_S256x256x256 := by
  after_reads_simp
  rfl

/-- The reference's result, of the loop's last contents. -/
theorem final_result (c : Dev nD) : finalContents condOps preI bodyI postI 1048576 m c (Proc.devRef .tc main_v34)
    = shapeCast S256x256x256 (setFlat (m ((c.tc : Thread nD τ).loc main_arg0) : S256x256x256.Idx → Elt F .f32)
        (keysOf (cells (m ((c.tc : Thread nD τ).loc main_arg1) : S1048576x3.Idx → Elt F .f32)))
        (atK m 1048576 c (Proc.devRef .tc main_v18_4) : S16777216.Idx → Elt F .f32)) shapeCasts_S16777216_S256x256x256 := by
  have e0 : lastC m c (Proc.devRef .tc main_arg0) = m ((c.tc : Thread nD τ).loc main_arg0) :=
    (last_keep m c main_arg0 (by decide) (by decide)).trans (entry_keep m c main_arg0 (by decide) (by decide) (by decide))
  have e1 : lastC m c (Proc.devRef .tc main_v14) = keysOf (cells (m ((c.tc : Thread nD τ).loc main_arg1) : S1048576x3.Idx → Elt F .f32)) :=
    (last_keep m c main_v14 (by decide) (by decide)).trans (entry_v14 m c)
  have e2 : lastC m c (Proc.devRef .tc main_v18_4) = atK m 1048576 c (Proc.devRef .tc main_v18_4) :=
    after_of_writes_sub _ _ condOps_writes (by decide)
  rw [final_eq, post_result, e0, e1, e2]

/-- An argument is unchanged. -/
theorem final_arg (c : Dev nD) (r : Ref sig .tc) (h0 : r ∉ hostOps0_W) (h1 : r ∉ hostOps0_1_W) (h2 : r ∉ hostOps0_2_W)
    (h3 : r ∉ condOps_W) (h4 : r ∉ while0Ops0_W) (h5 : ∀ V : Valuation τ sig (Elt F), after hostOps0_3 V (Proc.devRef .tc r) = V (Proc.devRef .tc r)) :
    finalContents condOps preI bodyI postI 1048576 m c (Proc.devRef .tc r) = m ((c.tc : Thread nD τ).loc r) := by
  rw [final_eq, h5, last_keep m c r h3 h4, entry_keep m c r h0 h1 h2]

theorem post_arg0 (V : Valuation τ sig (Elt F)) : after hostOps0_3 V (Proc.devRef .tc main_arg0) = V (Proc.devRef .tc main_arg0) := by
  after_reads_simp
theorem post_arg1 (V : Valuation τ sig (Elt F)) : after hostOps0_3 V (Proc.devRef .tc main_arg1) = V (Proc.devRef .tc main_arg1) := by
  after_reads_simp
theorem post_arg2 (V : Valuation τ sig (Elt F)) : after hostOps0_3 V (Proc.devRef .tc main_arg2) = V (Proc.devRef .tc main_arg2) := by
  after_reads_simp

theorem final_arg0 (c : Dev nD) : finalContents condOps preI bodyI postI 1048576 m c (Proc.devRef .tc main_arg0) = m ((c.tc : Thread nD τ).loc main_arg0) :=
  final_arg m c main_arg0 (by decide) (by decide) (by decide) (by decide) (by decide) post_arg0
theorem final_arg1 (c : Dev nD) : finalContents condOps preI bodyI postI 1048576 m c (Proc.devRef .tc main_arg1) = m ((c.tc : Thread nD τ).loc main_arg1) :=
  final_arg m c main_arg1 (by decide) (by decide) (by decide) (by decide) (by decide) post_arg1
theorem final_arg2 (c : Dev nD) : finalContents condOps preI bodyI postI 1048576 m c (Proc.devRef .tc main_arg2) = m ((c.tc : Thread nD τ).loc main_arg2) :=
  final_arg m c main_arg2 (by decide) (by decide) (by decide) (by decide) (by decide) post_arg2

end Cert.Proof.OccRef

end

end
-- ==== Proof.RefOps.lean ====
/-
  The host operations the reference uses, read at an entry: the sum of three columns, the one-entry read of a vector, the
  one-entry set, and the set at a column of places.
-/
module

public import Idealize.ShloMosaic.Lib.Routing.OpsOne
public import Idealize.ShloMosaic.Lib.Pointwise.ShapeOpsCore
public import Idealize.ShloMosaic.PureOps.Reduce

@[expose] public section

noncomputable section

namespace Cert.Proof.OccRef

open Idealize.ShloMosaic hiding ix0 ix1 ix2 eq_ix1 eq_ix2
open Idealize.ShloMosaic.ValueIdx Idealize.ShloMosaic.Routing

/-- A row sum of three columns. -/
theorem reduce_three {n : Nat} (x : IVec (shape2 n 3) 32) (h : (shape2 n 3).ReducesTo [1] (shape1 n)) {u : Shape} (hu : 0 < u.numel) (p : Fin n) :
    Host.reduce IntOp.addi x (constantI u 32 0#32) h hu (ix1 p) = x (ix2 p 0) + (x (ix2 p 1) + (x (ix2 p 2) + 0#32)) := by
  classical
  rw [Host.reduce_eq_fold]
  have hdrop : ∀ i : (shape2 n 3).Idx, h.drop i = ix1 p ↔ i 0 = p := by
    intro i
    have hv : (h.drop i 0 : Nat) = i 0 := Shape.ReducesTo.drop_apply_val h i 0
    constructor
    · intro e
      rw [e] at hv
      exact Fin.ext hv.symm
    · intro e
      rw [eq_ix1 (h.drop i)]
      exact congrArg ix1 (Fin.ext (hv.trans (congrArg Fin.val e)))
  have hrow : (Finset.univ.filter fun i : (shape2 n 3).Idx => h.drop i = ix1 p)
      = (Finset.univ : Finset (Fin 3)).map ⟨fun q : Fin 3 => (ix2 p q : (shape2 n 3).Idx), fun a b e => (congrFun e 1 : (ix2 p a : (shape2 n 3).Idx) 1 = (ix2 p b : (shape2 n 3).Idx) 1)⟩ := by
    ext i
    rw [Finset.mem_filter, hdrop, Finset.mem_map]
    constructor
    · rintro ⟨-, e⟩
      exact ⟨i 1, Finset.mem_univ _, (congrArg (fun a => ix2 a (i 1)) e.symm).trans (eq_ix2 i).symm⟩
    · rintro ⟨q, -, e⟩
      exact ⟨Finset.mem_univ _, e ▸ rfl⟩
  rw [hrow, Finset.fold_map]
  show Finset.fold IntOp.addi 0#32 (fun q : Fin 3 => x (ix2 p q)) Finset.univ = _
  rw [show (Finset.univ : Finset (Fin 3)) = {0, 1, 2} from by decide, Finset.fold_insert (by decide), Finset.fold_insert (by decide),
    Finset.fold_singleton]
  rfl

/-- One entry of a vector, by a start inside it. -/
theorem slice_one {α : Type} {N : Nat} (x : (shape1 N).Idx → α) (start : Fin (shape1 N).rank → Int) (h : (shape1 N).Slices (fun _ => 0) (shape1 1))
    (h' : (shape1 1).ShapeCasts shape0) (j : shape0.Idx) (b : Fin N) (hb : start 0 = (b.val : Int)) :
    shapeCast shape0 (Host.dynamicSlice (shape1 1) x start h) h' j = x (ix1 b) := by
  have hbl := b.isLt
  have key : ∀ i : (shape1 1).Idx, Host.dynamicSlice (shape1 1) x start h i = x (ix1 b) := by
    intro i
    rw [Host.dynamicSlice_apply]
    refine congrArg x ((eq_ix1 _).trans (congrArg ix1 (Fin.ext ?_)))
    have hc : Host.clampedStart (shape1 N) (shape1 1) h.1 start 0 = b.val := by
      refine Host.clampedStart_of_le h.1 start 0 b.val hb ?_
      show b.val + 1 ≤ N
      omega
    have hi : ∀ a : Fin 1, (i a).val = 0 := fun a => by
      match a with
      | ⟨0, _⟩ => exact Nat.lt_one_iff.1 (i 0).isLt
    show Host.clampedStart (shape1 N) (shape1 1) h.1 start 0 + (i _).val = b.val
    rw [hc, hi, Nat.add_zero]
  exact key _

/-- A set of one entry. -/
theorem set_one {α : Type} {N : Nat} (d : ScatterDims (shape1 N) (shape1 1) shape0) (hiw : d.insertedWindowDims = [0]) (hsd : d.scatterDimsToOperandDims = [0])
    (x0 : (shape1 N).Idx → α) (idx : IVec (shape1 1) 32) (upd : shape0.Idx → α) (k : Fin N) (hidx : (idx (ix1 0)).toInt = (k.val : Int)) (e : Fin N) :
    Host.scatter d (fun _ b => b) x0 idx upd (ix1 e) = if e = k then upd ix0 else x0 (ix1 e) := by
  by_cases h : e = k
  · rw [if_pos h]
    exact scatter_set_hit d x0 idx upd _ _ (fun j _ => congrArg upd (eq_ix0 j)) ix0 ((lands_one d hiw hsd idx k hidx e).2 h)
  · rw [if_neg h]
    refine scatter_set_miss d x0 idx upd _ fun j hj => h ((lands_one d hiw hsd idx k hidx e).1 ?_)
    rw [eq_ix0 j] at hj
    exact hj

/-- An update of a set at a column of places lands at its own place. -/
theorem lands_place {N n : Nat} (d : ScatterDims (shape1 N) (shape2 n 1) (shape1 n)) (hiw : d.insertedWindowDims = [0])
    (hsd : d.scatterDimsToOperandDims = [0]) (hivd : d.indexVectorDim = 1) (idx : IVec (shape2 n 1) 32) (i : Fin n) (e : Fin N) :
    d.resultIdx? (ix1 i) idx = some (ix1 e) ↔ (idx (ix2 i (0 : Fin 1))).toInt = (e.val : Int) := by
  have hm : (0 : Fin 1) ∈ d.scatterDimsToOperandDims := by rw [hsd]; exact List.mem_singleton.2 rfl
  have hsi : d.siIdx (ix1 i) ⟨d.scatterDimsToOperandDims.idxOf 0, List.idxOf_lt_length_iff.2 hm⟩ = ix2 i (0 : Fin 1) := by
    refine (eq_ix2 _).trans ?_
    have h1 : ∀ a : Fin 1, a = 0 := fun a => Subsingleton.elim _ _
    have h0 : (d.siIdx (ix1 i) ⟨d.scatterDimsToOperandDims.idxOf 0, List.idxOf_lt_length_iff.2 hm⟩) 0 = i := by
      apply Fin.ext
      unfold ScatterDims.siIdx
      rw [dif_neg (by rw [hivd]; exact Nat.zero_ne_one)]
      unfold ScatterDims.siCoord
      simp only [Fin.val_cast]
      have hq : ∀ a : Fin 1, (ix1 i a).val = i.val := fun a => by
        rw [h1 a]
      exact hq _
    rw [h0]
    exact congrArg (ix2 i) (h1 _)
  have hw : d.window (ix1 i) 0 = 0 := by
    unfold ScatterDims.window
    rw [dif_neg]
    intro h
    have := of_decide_eq_true (List.mem_filter.1 h).2
    rw [hiw] at this
    exact this (List.mem_singleton.2 rfl)
  have hs : d.start (ix1 i) idx 0 = (idx (ix2 i (0 : Fin 1))).toInt := by
    unfold ScatterDims.start
    rw [dif_pos hm, hsi]
  rw [resultIdx?_ix1, hs, hw]
  simp only [Nat.cast_zero, Int.add_zero]

/-- A set at a column of places: an entry some place names holds that place's update, where all that name it agree. -/
theorem set_places_hit {α : Type} {N n : Nat} (d : ScatterDims (shape1 N) (shape2 n 1) (shape1 n)) (hiw : d.insertedWindowDims = [0])
    (hsd : d.scatterDimsToOperandDims = [0]) (hivd : d.indexVectorDim = 1) (x0 : (shape1 N).Idx → α) (idx : IVec (shape2 n 1) 32) (upd : (shape1 n).Idx → α)
    (e : Fin N) (v : α) (hv : ∀ i : Fin n, (idx (ix2 i (0 : Fin 1))).toInt = (e.val : Int) → upd (ix1 i) = v) (i : Fin n)
    (hi : (idx (ix2 i (0 : Fin 1))).toInt = (e.val : Int)) : Host.scatter d (fun _ b => b) x0 idx upd (ix1 e) = v := by
  refine scatter_set_hit d x0 idx upd _ _ (fun j hj => ?_) (ix1 i) ((lands_place d hiw hsd hivd idx i e).2 hi)
  rw [eq_ix1 j] at hj ⊢
  exact hv _ ((lands_place d hiw hsd hivd idx _ e).1 hj)

/-- and one that none names keeps its own. -/
theorem set_places_miss {α : Type} {N n : Nat} (d : ScatterDims (shape1 N) (shape2 n 1) (shape1 n)) (hiw : d.insertedWindowDims = [0])
    (hsd : d.scatterDimsToOperandDims = [0]) (hivd : d.indexVectorDim = 1) (x0 : (shape1 N).Idx → α) (idx : IVec (shape2 n 1) 32) (upd : (shape1 n).Idx → α)
    (e : Fin N) (h : ∀ i : Fin n, ¬ (idx (ix2 i (0 : Fin 1))).toInt = (e.val : Int)) :
    Host.scatter d (fun _ b => b) x0 idx upd (ix1 e) = x0 (ix1 e) := by
  refine scatter_set_miss d x0 idx upd _ fun j hj => ?_
  rw [eq_ix1 j] at hj
  exact h _ ((lands_place d hiw hsd hivd idx _ e).1 hj)

end Cert.Proof.OccRef

end

end
-- ==== Proof.Voxel.lean ====
/-
  A voxel of the new grid, out of the binned lists, is the voxel out of the inputs in their own order: the stretch of
  its bin lists the bin's inputs in order, and those of them whose key is the voxel are all the inputs whose key is
  the voxel (`slab_voxel`).
-/
module

public import proofs.«01_k».proof.Proof.Launch

@[expose] public section

noncomputable section

namespace Cert.Proof.Occ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Folds over the inputs -/

/-- A voxel's value once the inputs below `N` whose key is the voxel have raised it. -/
def raised (key : ℕ → BitVec 32) (val : ℕ → F .f32) (p : ℕ) (a : F .f32) (N : ℕ) : F .f32 :=
  foldHit (fun n => (key n).toNat = p) (fun n x => FloatOps.maximumf x (val n)) a N

/-- A fold that sets one value holds it once any position has hit. -/
theorem foldHit_const {α : Type} (hit : ℕ → Prop) [DecidablePred hit] (c a : α) (N : ℕ) :
    (∃ n, n < N ∧ hit n) → foldHit hit (fun _ _ => c) a N = c := by
  induction N with
  | zero => rintro ⟨n, hn, _⟩; omega
  | succ N ih =>
    rintro ⟨n, hn, hh⟩
    unfold foldHit
    by_cases hN : hit N
    · rw [if_pos hN]
    · rw [if_neg hN]
      refine ih ⟨n, ?_, hh⟩
      rcases Nat.lt_succ_iff_lt_or_eq.mp hn with h | h
      · exact h
      · exact absurd (h ▸ hh) hN

theorem foldHit_miss {α : Type} (hit : ℕ → Prop) [DecidablePred hit] (upd : ℕ → α → α) (a : α) (N : ℕ)
    (h : ∀ n, n < N → ¬ hit n) : foldHit hit upd a N = a := by
  have := foldHit_none (hit := hit) (upd := upd) (a := a) 0 N fun n _ hn => h n (by omega)
  rwa [Nat.zero_add] at this

/-- The fold over a bin's stretch is the fold over all inputs. -/
theorem fold_places {α : Type} (key : ℕ → BitVec 32) (old : ℕ → BitVec 32) (p : ℕ) (updP updN : ℕ → α → α)
    (hupd : ∀ n, n < 1048576 → updP (place key n) = updN n) (a : α) (N : ℕ) (hN : N ≤ 1048576) :
    foldHit (HitAt (first key (p / 32768)) (first key (p / 32768 + 1)) (spread key key old) (p % 32768)) updP a (offAt key (p / 32768) N)
      = foldHit (fun n => (key n).toNat = p) updN a N := by
  induction N with
  | zero =>
    rw [show offAt key (p / 32768) 0 = first key (p / 32768) by unfold offAt cnt; simp]
    exact foldHit_miss _ _ _ _ fun n hn hh => by have := hh.1; omega
  | succ N ih =>
    have ih := ih (by omega)
    by_cases hb : bin key N = p / 32768
    · have e : offAt key (p / 32768) (N + 1) = offAt key (p / 32768) N + 1 := by
        have := offAt_succ (key := key) N
        unfold place at this
        rwa [hb] at this
      have eP : offAt key (p / 32768) N = place key N := by unfold place; rw [hb]
      have hk : spread key key old (offAt key (p / 32768) N) = key N := by rw [eP]; exact spread_place key key old (by omega)
      have hiff : HitAt (first key (p / 32768)) (first key (p / 32768 + 1)) (spread key key old) (p % 32768) (offAt key (p / 32768) N)
          ↔ (key N).toNat = p := by
        unfold HitAt
        rw [hk]
        have h1 := first_le_place (key := key) N
        have h2 := place_lt_first (key := key) (n := N) (by omega)
        rw [hb, ← eP] at h1 h2
        unfold bin at hb
        constructor
        · rintro ⟨_, _, h⟩; omega
        · intro h; exact ⟨h1, h2, by rw [h]⟩
      rw [e]
      unfold foldHit
      rw [ih]
      by_cases hp : (key N).toNat = p
      · rw [if_pos (hiff.mpr hp), if_pos hp, eP, hupd N (by omega)]
      · rw [if_neg (fun h => hp (hiff.mp h)), if_neg hp]
    · have e : offAt key (p / 32768) (N + 1) = offAt key (p / 32768) N := by
        unfold offAt
        rw [cnt_succ, Nat.zero_add, if_neg hb]; omega
      have hp : (key N).toNat ≠ p := fun h => hb (by unfold bin; rw [h])
      rw [e, ih]
      conv_rhs => unfold foldHit
      rw [if_neg hp]

/-- A voxel of the new grid, by the two folds. -/
theorem slab_folds (key : ℕ → BitVec 32) (val : ℕ → F .f32) (G : ℕ → F .f32) (oldK : ℕ → BitVec 32) (oldV : ℕ → F .f32) (p : ℕ) (hp : p < 16777216) :
    slabOut G (startN key) (spread key key oldK) (spread key val oldV) (p / 32768) (p % 32768)
      = raised key val p (foldHit (fun n => (key n).toNat = p) (fun _ _ => decay (G p)) (G p) 1048576) 1048576 := by
  have hend : offAt key (p / 32768) 1048576 = first key (p / 32768 + 1) := by rw [first_succ]; rfl
  have e1 : ∀ g : ℕ → F .f32, slabA g (first key (p / 32768)) (first key (p / 32768 + 1)) (spread key key oldK) (first key (p / 32768 + 1)) (p % 32768)
      = foldHit (fun n => (key n).toNat = p) (fun _ _ => decay (g (p % 32768))) (g (p % 32768)) 1048576 := by
    intro g
    have h := fold_places key oldK p (fun _ _ => decay (g (p % 32768))) (fun _ _ => decay (g (p % 32768))) (fun _ _ => rfl) (g (p % 32768)) 1048576 (le_refl _)
    rw [hend] at h
    exact h
  have e2 : ∀ a : F .f32, foldHit (HitAt (first key (p / 32768)) (first key (p / 32768 + 1)) (spread key key oldK) (p % 32768))
      (fun q (x : F .f32) => FloatOps.maximumf x (spread key val oldV q)) a (first key (p / 32768 + 1)) = raised key val p a 1048576 := by
    intro a
    have h := fold_places key oldK p (fun q (x : F .f32) => FloatOps.maximumf x (spread key val oldV q)) (fun n x => FloatOps.maximumf x (val n))
      (fun n hn => funext fun x => by rw [spread_place key val oldV hn]) a 1048576 (le_refl _)
    rw [hend] at h
    exact h
  unfold slabOut slabB
  rw [startN_toNat key (by omega), startN_toNat key (by omega), e1, e2]
  rw [Nat.div_add_mod]

/-- A voxel some input's key names is scaled and raised, -/
theorem slab_hit (key : ℕ → BitVec 32) (val : ℕ → F .f32) (G : ℕ → F .f32) (oldK : ℕ → BitVec 32) (oldV : ℕ → F .f32) (p : ℕ) (hp : p < 16777216)
    (n : ℕ) (hn : n < 1048576) (h : (key n).toNat = p) :
    slabOut G (startN key) (spread key key oldK) (spread key val oldV) (p / 32768) (p % 32768) = raised key val p (decay (G p)) 1048576 := by
  rw [slab_folds key val G oldK oldV p hp, foldHit_const _ _ _ _ ⟨n, hn, h⟩]

/-- and any other keeps its value. -/
theorem slab_miss (key : ℕ → BitVec 32) (val : ℕ → F .f32) (G : ℕ → F .f32) (oldK : ℕ → BitVec 32) (oldV : ℕ → F .f32) (p : ℕ) (hp : p < 16777216)
    (h : ∀ n, n < 1048576 → ¬ (key n).toNat = p) :
    slabOut G (startN key) (spread key key oldK) (spread key val oldV) (p / 32768) (p % 32768) = G p := by
  rw [slab_folds key val G oldK oldV p hp, foldHit_miss _ _ _ _ h]
  exact foldHit_miss _ _ _ _ h

end Cert.Proof.Occ

end

end
-- ==== Proof.RefLoop.lean ====
/-
  The reference's loop: after `k` trips a voxel holds its first value raised by the inputs below `k` whose key is the
  voxel, the later over the earlier.
-/
module

public import proofs.«01_k».proof.Proof.RefRun
public import proofs.«01_k».proof.Proof.RefOps
public import proofs.«01_k».proof.Proof.Voxel

@[expose] public section

noncomputable section

namespace Cert.Proof.OccRef

open Cert.ReferenceIdeal Cert.ReferenceIdeal.Gen Cert.ReferenceIdeal.Value
open Idealize.ShloMosaic hiding ix0 ix1 ix2 eq_ix1 eq_ix2
open Idealize.ShloMosaic.TcCoe Idealize.ShloMosaic.StableHlo
open Idealize.ShloMosaic.ValueIdx Idealize.ShloMosaic.Routing
open Cert.Proof.Occ (at1 at1_val at1_eq raised foldHit)

variable {F : FTy → Type} [FloatOps F]

theorem ofNat_index {k : ℕ} (h : k < 1048576) : (BitVec.ofNat 32 k).toNat = k := by
  rw [BitVec.toNat_ofNat, Nat.mod_eq_of_lt (by omega)]

/-- A small word read from the end where negative is itself, as a number. -/
theorem wrap_word (x a : BitVec 32) (h : x.toNat < 16777216) : (Scalar.select (IntOp.cmpi .slt x 0#32) a x).toInt = (x.toNat : Int) := by
  rw [wrap_of_lt x a (by omega)]
  exact WordCmp.toInt_eq_toNat_of_lt_half (by omega)

/-- One trip of the loop, of the keys, the values and the trip's number. -/
theorem trip_occ (V0 : Valuation τ sig (Elt F)) (kv : S1048576.Idx → BitVec 32) (bv : S1048576.Idx → Elt F .f32) (w : S16777216.Idx → Elt F .f32) (k : ℕ) (hk : k < 1048576)
    (hkv : ∀ j, (kv j).toNat < 16777216)
    (h0 : V0 (Proc.devRef .tc main_v18_0) = kv) (h1 : V0 (Proc.devRef .tc main_v18_1) = bv)
    (h3 : V0 (Proc.devRef .tc main_v18_3) = (fun _ => BitVec.ofNat 32 k : S_.Idx → BitVec 32)) (h4 : V0 (Proc.devRef .tc main_v18_4) = w) (e : Fin 16777216) :
    (afterL bodyI V0 (Proc.devRef .tc main_v18_4) : S16777216.Idx → Elt F .f32) (ix1 e)
      = if (kv (at1 1048576 k)).toNat = e.val then FloatOps.maximumf (w (ix1 e)) (bv (at1 1048576 k)) else w (ix1 e) := by
  have hat : (at1 1048576 k : S1048576.Idx) = ix1 (⟨k, hk⟩ : Fin 1048576) := (eq_ix1 _).trans (congrArg ix1 (Fin.ext (at1_val hk)))
  have hidx : ∀ a : BitVec 32, (Scalar.select (IntOp.cmpi .slt (BitVec.ofNat 32 k) 0#32) a (BitVec.ofNat 32 k)).toInt = ((⟨k, hk⟩ : Fin 1048576).val : Int) := fun a => by
    rw [wrap_word _ a (by rw [ofNat_index hk]; omega), ofNat_index hk]
  have hkey : ∀ j : S_.Idx, (res_main_while0b_v41 V0 : S_.Idx → BitVec 32) j = kv (at1 1048576 k) := fun j => by
    unfold res_main_while0b_v41
    rw [h0, h3, hat]
    exact slice_one (N := 1048576) kv _ _ _ j ⟨k, hk⟩ (hidx _)
  have hK := hkv (at1 1048576 k)
  have hplace : ∀ (a : BitVec 32) (j : S_.Idx), (Scalar.select (IntOp.cmpi .slt ((res_main_while0b_v41 V0 : S_.Idx → BitVec 32) j) 0#32) a ((res_main_while0b_v41 V0 : S_.Idx → BitVec 32) j)).toInt
      = ((⟨(kv (at1 1048576 k)).toNat, hK⟩ : Fin 16777216).val : Int) := fun a j => by
    rw [hkey]
    exact wrap_word _ a hK
  rw [trip_main_v18_4, h1, h3, h4]
  refine (set_one (N := 16777216) _ rfl rfl _ _ _ ⟨(kv (at1 1048576 k)).toNat, hK⟩ (hplace _ _) e).trans ?_
  have hval : ∀ j : S_.Idx, maximumf
      (shapeCast S_ (Host.dynamicSlice S1 w (fun q => (((![select (cmpi .slt (res_main_while0b_v41 V0) (constantI S_ 32 0#32)) (addi (res_main_while0b_v41 V0) (constantI S_ 32 16777216#32)) (res_main_while0b_v41 V0)] : Fin 1 → (⟨S_, .i32⟩ : BufTy).Contents (Elt F))) q (Shape.Idx.first h_S_)).toInt) sliceFits_S16777216_S1) shapeCasts_S1_S_)
      (shapeCast S_ (Host.dynamicSlice S1 bv (fun q => (((![select (cmpi .slt (fun _ => BitVec.ofNat 32 k : S_.Idx → BitVec 32) (constantI S_ 32 0#32)) (addi (id (fun _ => BitVec.ofNat 32 k : S_.Idx → BitVec 32)) (constantI S_ 32 1048576#32)) (fun _ => BitVec.ofNat 32 k : S_.Idx → BitVec 32)] : Fin 1 → (⟨S_, .i32⟩ : BufTy).Contents (Elt F))) q (Shape.Idx.first h_S_)).toInt) sliceFits_S1048576_S1) shapeCasts_S1_S_) j
      = FloatOps.maximumf (w (ix1 (⟨(kv (at1 1048576 k)).toNat, hK⟩ : Fin 16777216))) (bv (at1 1048576 k)) := fun j => by
    exact congrArg₂ FloatOps.maximumf (slice_one (N := 16777216) w _ _ _ j _ (hplace _ _)) ((slice_one (N := 1048576) bv _ _ _ j ⟨k, hk⟩ (hidx _)).trans (congrArg bv hat.symm))
  by_cases he : e = ⟨(kv (at1 1048576 k)).toNat, hK⟩
  · rw [if_pos he, if_pos (congrArg Fin.val he).symm]
    exact (hval _).trans (by rw [← he])
  · rw [if_neg he, if_neg fun h => he (Fin.ext h.symm)]

variable (m : (ℓ : Loc nD τ sig) → Buf (Elt F) ℓ)

/-- The carried buffers after `k` trips. -/
theorem loop_at (c : Dev nD) (kv : S1048576.Idx → BitVec 32) (bv : S1048576.Idx → Elt F .f32) (w : S16777216.Idx → Elt F .f32) (hkv : ∀ j, (kv j).toNat < 16777216)
    (h0 : entryContents preI m c (Proc.devRef .tc main_v18_0) = kv) (h1 : entryContents preI m c (Proc.devRef .tc main_v18_1) = bv)
    (h3 : entryContents preI m c (Proc.devRef .tc main_v18_3) = (fun _ => 0#32 : S_.Idx → BitVec 32)) (h4 : entryContents preI m c (Proc.devRef .tc main_v18_4) = w) :
    ∀ k, k ≤ 1048576 → atK m k c (Proc.devRef .tc main_v18_0) = kv ∧ atK m k c (Proc.devRef .tc main_v18_1) = bv
      ∧ atK m k c (Proc.devRef .tc main_v18_3) = (fun _ => BitVec.ofNat 32 k : S_.Idx → BitVec 32)
      ∧ ∀ e : Fin 16777216, (atK m k c (Proc.devRef .tc main_v18_4) : S16777216.Idx → Elt F .f32) (ix1 e)
        = raised (fun n => kv (at1 1048576 n)) (fun n => bv (at1 1048576 n)) e.val (w (ix1 e)) k
  | 0, _ => ⟨h0, h1, h3, fun e => congrFun h4 (ix1 e)⟩
  | k + 1, hk => by
    obtain ⟨a0, a1, a3, a4⟩ := loop_at c kv bv w hkv h0 h1 h3 h4 k (by omega)
    have b0 : after condOps (atK m k c) (Proc.devRef .tc main_v18_0) = kv := (cond_keeps _ main_v18_0 (by decide)).trans a0
    have b1 : after condOps (atK m k c) (Proc.devRef .tc main_v18_1) = bv := (cond_keeps _ main_v18_1 (by decide)).trans a1
    have b3 : after condOps (atK m k c) (Proc.devRef .tc main_v18_3) = (fun _ => BitVec.ofNat 32 k : S_.Idx → BitVec 32) := (cond_keeps _ main_v18_3 (by decide)).trans a3
    have b4 := cond_keeps (atK m k c) main_v18_4 (by decide)
    refine ⟨(trip_main_v18_0 _).trans b0, (trip_main_v18_1 _).trans b1, (trip_main_v18_3 _).trans ?_, fun e => (trip_occ (after condOps (atK m k c)) kv bv _ k (by omega) hkv b0 b1 b3 b4 e).trans ?_⟩
    · rw [b3]
      funext j
      show BitVec.ofNat 32 k + 1#32 = BitVec.ofNat 32 (k + 1)
      rw [BitVec.ofNat_add]
    · rw [a4 e]
      rfl

end Cert.Proof.OccRef

end

end
-- ==== Proof.RefValue.lean ====
/-
  The reference's keys over exact numbers are the kernel's, and so is its new grid: a voxel some point falls in holds the
  points' values raised over its decayed value, any other its own.
-/
module

public import proofs.«01_k».proof.Proof.RefLoop
public import Idealize.ShloMosaic.Lib.IdealHost

@[expose] public section

noncomputable section

namespace Cert.Proof.OccRef

open Cert.ReferenceIdeal Cert.ReferenceIdeal.Gen Cert.ReferenceIdeal.Value
open Idealize.ShloMosaic hiding ix0 ix1 ix2 eq_ix1 eq_ix2
open Idealize.ShloMosaic.TcCoe Idealize.ShloMosaic.StableHlo
open Idealize.ShloMosaic.ValueIdx Idealize.ShloMosaic.Routing
open Cert.Proof.Occ (at1 at1_val at1_eq raised foldHit axis key3 key3_lt decay)

/-! ## The keys -/

theorem two_eq : Ideal.ofBits .f32 0x40000000#32 = ((2 : ℝ) : EReal) := by
  simp [Ideal.ofBits, Ideal.ieee, -EReal.coe_mul]
  norm_num

theorem half_eq : Ideal.ofBits .f32 0x3F000000#32 = ((1 / 2 : ℝ) : EReal) := by
  simp [Ideal.ofBits, Ideal.ieee, -EReal.coe_mul]
  norm_num

/-- Halving by division is halving by a product. -/
theorem half_div (x : EReal) : Ideal.div x (Ideal.ofBits .f32 0x40000000#32) = x * Ideal.ofBits .f32 0x3F000000#32 := by
  rw [two_eq, half_eq, Ideal.div_coe (by norm_num)]

theorem cells_at (x : S1048576x3.Idx → Elt Ideal .f32) (p : Fin 1048576) (q : Fin 3) :
    cells (F := Ideal) x (ix2 p q) = axis (F := Ideal) (x (ix2 p q)) := by
  have h1 : broadcastInDim S1048576x3 ![0, 1] bcast_S1x3_S1048576x3_0_1 (broadcastInDim S1x3 ![1] bcast_S3_S1x3_1
      (subi (constantI S3 32 256#32) (broadcastInDim S3 ![] bcast_S_S3 (constantI S_ 32 1#32)))) (ix2 p q) = 255#32 := by
    refine (bcCols (n := 1048576) (m := 3) _ _ _ p q).trans ?_
    show 256#32 - broadcastInDim S3 ![] bcast_S_S3 (constantI S_ 32 1#32) (ix1 q) = 255#32
    rw [bc0]
    rfl
  have h2 : broadcastInDim S1048576x3 ![] bcast_S_S1048576x3 (constantI S_ 32 0#32) (ix2 p q) = 0#32 := bc0 _ _ _
  have h3 : broadcastInDim S1048576x3 ![] bcast_S_S1048576x3 (constant (F := Ideal) S_ FTy.f32 1073741824#32) (ix2 p q) = Ideal.ofBits .f32 0x40000000#32 := bc0 _ _ _
  have h4 : broadcastInDim S1048576x3 ![] bcast_S_S1048576x3 (constant (F := Ideal) S_ FTy.f32 1056964608#32) (ix2 p q) = Ideal.ofBits .f32 0x3F000000#32 := bc0 _ _ _
  have h5 : broadcastInDim S1048576x3 ![0, 1] bcast_S1x3_S1048576x3_0_1 (broadcastInDim S1x3 ![1] bcast_S3_S1x3_1
      (constant (F := Ideal) S3 FTy.f32 1132462080#32)) (ix2 p q) = Ideal.ofBits .f32 0x43800000#32 :=
    bcCols (n := 1048576) (m := 3) _ _ _ p q
  have h6 : Host.divf (F := Ideal) x (broadcastInDim S1048576x3 ![] bcast_S_S1048576x3 (constant (F := Ideal) S_ FTy.f32 1073741824#32)) (ix2 p q)
      = FloatOps.mulf (F := Ideal) (φ := .f32) (x (ix2 p q)) (Scalar.ofBits .f32 0x3F000000#32) := by
    refine (hostDivf_apply _ _ _).trans ?_
    rw [h3]
    exact half_div _
  refine congrArg₂ IntOp.minsi h1 (congrArg₂ IntOp.maxsi h2 (congrArg (FloatOps.fptosi (F := Ideal) (φ := .f32) 32) ?_))
  exact congrArg₂ (FloatOps.mulf (F := Ideal) (φ := .f32)) (congrArg₂ (FloatOps.addf (F := Ideal) (φ := .f32)) h6 h4) h5

theorem keys_at (x : S1048576x3.Idx → Elt Ideal .f32) (p : Fin 1048576) :
    keysOf (cells (F := Ideal) x) (ix1 p) = key3 (F := Ideal) (x (ix2 p 0)) (x (ix2 p 1)) (x (ix2 p 2)) := by
  have hs : ∀ q : Fin 3, muli (cells (F := Ideal) x) (broadcastInDim S1048576x3 ![0, 1] bcast_S1x3_S1048576x3_0_1
      (broadcastInDim S1x3 ![1] bcast_S3_S1x3_1 (fun i => lit0 (S3.rowMajor i)))) (ix2 p q) = axis (F := Ideal) (x (ix2 p q)) * lit0 (S3.rowMajor (ix1 q)) := fun q =>
    congrArg₂ IntOp.muli (cells_at x p q) (bcCols (n := 1048576) (m := 3) _ _ _ p q)
  refine (reduce_three (n := 1048576) _ _ _ p).trans ?_
  have e0 : lit0 (S3.rowMajor (ix1 (0 : Fin 3))) = 65536#32 := by rfl
  have e1 : lit0 (S3.rowMajor (ix1 (1 : Fin 3))) = 256#32 := by rfl
  have e2 : lit0 (S3.rowMajor (ix1 (2 : Fin 3))) = 1#32 := by rfl
  rw [hs 0, hs 1, hs 2, e0, e1, e2]
  show _ = axis (F := Ideal) (x (ix2 p 0)) * 65536#32 + axis (F := Ideal) (x (ix2 p 1)) * 256#32 + axis (F := Ideal) (x (ix2 p 2))
  rw [BitVec.mul_one, BitVec.add_zero, BitVec.add_assoc]

theorem keys_lt (x : S1048576x3.Idx → Elt Ideal .f32) (j : S1048576.Idx) : (keysOf (cells (F := Ideal) x) j).toNat < 16777216 := by
  have h : keysOf (cells (F := Ideal) x) j = _ := (congrArg (keysOf (cells (F := Ideal) x)) (eq_ix1 j)).trans (keys_at x (j 0))
  rw [h]
  exact key3_lt _ _ _

/-! ## The set at the points' places -/

variable {F : FTy → Type} [FloatOps F]

theorem places_at (kv : S1048576.Idx → BitVec 32) (hkv : ∀ j, (kv j).toNat < 16777216) (i : Fin 1048576) :
    places kv (ix2 i (0 : Fin 1)) = kv (ix1 i) := by
  have hi := hkv (ix1 i)
  refine (bcCol (n := 1048576) _ _ i).trans ?_
  have h0 : broadcastInDim S1048576 ![] bcast_S_S1048576 (constantI S_ 32 0#32) (ix1 i) = 0#32 := bc0 _ _ _
  show Scalar.select (IntOp.cmpi .slt (kv (ix1 i)) (broadcastInDim S1048576 ![] bcast_S_S1048576 (constantI S_ 32 0#32) (ix1 i))) _ (kv (ix1 i)) = _
  rw [h0]
  exact wrap_of_lt _ _ (by omega)

theorem places_int (kv : S1048576.Idx → BitVec 32) (hkv : ∀ j, (kv j).toNat < 16777216) (i : Fin 1048576) :
    (places kv (ix2 i (0 : Fin 1))).toInt = ((kv (ix1 i)).toNat : Int) := by
  have hi := hkv (ix1 i)
  rw [places_at kv hkv]
  exact WordCmp.toInt_eq_toNat_of_lt_half (by omega)

theorem set_hit (g : S256x256x256.Idx → Elt F .f32) (kv : S1048576.Idx → BitVec 32) (hkv : ∀ j, (kv j).toNat < 16777216) (w : S16777216.Idx → Elt F .f32)
    (e : Fin 16777216) (i : Fin 1048576) (hi : (kv (ix1 i)).toNat = e.val) : setFlat g kv w (ix1 e) = w (ix1 e) := by
  unfold setFlat
  refine set_places_hit (N := 16777216) (n := 1048576) _ rfl rfl rfl _ _ _ e _ (fun a ha => ?_) i ((places_int kv hkv i).trans (congrArg Int.ofNat hi))
  rw [places_int kv hkv] at ha
  have ha := Int.ofNat.inj ha
  refine gather_take1 (N := 16777216) (n := 1048576) _ rfl rfl rfl rfl w _ a e ?_ (by omega)
  rw [places_at kv hkv, ← ha]
  exact ((BitVec.ofNat_toNat 32 _).trans (BitVec.setWidth_eq _)).symm

theorem set_miss (g : S256x256x256.Idx → Elt F .f32) (kv : S1048576.Idx → BitVec 32) (hkv : ∀ j, (kv j).toNat < 16777216) (w : S16777216.Idx → Elt F .f32)
    (e : Fin 16777216) (h : ∀ i : Fin 1048576, ¬ (kv (ix1 i)).toNat = e.val) :
    setFlat g kv w (ix1 e) = shapeCast S16777216 g shapeCasts_S256x256x256_S16777216 (ix1 e) := by
  unfold setFlat
  refine set_places_miss (N := 16777216) (n := 1048576) _ rfl rfl rfl _ _ _ e fun i hi => h i ?_
  rw [places_int kv hkv] at hi
  exact Int.ofNat.inj hi

/-! ## The flat grid -/

theorem flat_three {α : Type} (f : S1048576x3.Idx → α) (h : S1048576x3.ShapeCasts (shape1 3145728)) (n : Fin 1048576) (a : Fin 3) :
    shapeCast (shape1 3145728) f h (at1 3145728 (3 * n.val + a.val)) = f (ix2 n a) := by
  have hn := n.isLt
  have ha := a.isLt
  unfold shapeCast
  refine congrArg f ?_
  have h1 := Shape.rowMajor_reshapeEquiv h (at1 3145728 (3 * n.val + a.val))
  rw [Shape.rowMajor_val_one, Shape.rowMajor_val_two] at h1
  have h2 : ((at1 3145728 (3 * n.val + a.val) : (shape1 3145728).Idx) 0).val = 3 * n.val + a.val := at1_val (by omega)
  have h3 : (Shape.reshapeEquiv h (at1 3145728 (3 * n.val + a.val)) 0).val * 3 + (Shape.reshapeEquiv h (at1 3145728 (3 * n.val + a.val)) 1).val = 3 * n.val + a.val := h1.trans h2
  have h4 : (Shape.reshapeEquiv h (at1 3145728 (3 * n.val + a.val)) 1).val < 3 := (Shape.reshapeEquiv h (at1 3145728 (3 * n.val + a.val)) 1).isLt
  refine (eq_ix2 _).trans ?_
  have e0 : Shape.reshapeEquiv h (at1 3145728 (3 * n.val + a.val)) 0 = n := Fin.ext (by omega)
  have e1 : Shape.reshapeEquiv h (at1 3145728 (3 * n.val + a.val)) 1 = a := Fin.ext (by omega)
  exact congrArg₂ ix2 e0 e1

variable (m : (ℓ : Loc nD τ sig) → Buf (Elt Ideal) ℓ)

/-- A voxel some point falls in. -/
theorem ref_hit (c : Dev nD) (x : S1048576x3.Idx → Elt Ideal .f32) (g : S256x256x256.Idx → Elt Ideal .f32) (v : S1048576.Idx → Elt Ideal .f32)
    (hx : m ((c.tc : Thread nD τ).loc main_arg1) = x) (hg : m ((c.tc : Thread nD τ).loc main_arg0) = g) (hv : m ((c.tc : Thread nD τ).loc main_arg2) = v)
    (e : Fin 16777216) (i : Fin 1048576) (hi : (keysOf (cells (F := Ideal) x) (ix1 i)).toNat = e.val) :
    setFlat g (keysOf (cells (F := Ideal) x)) (atK m 1048576 c (Proc.devRef .tc main_v18_4) : S16777216.Idx → Elt Ideal .f32) (ix1 e)
      = raised (F := Ideal) (fun n => keysOf (cells (F := Ideal) x) (at1 1048576 n)) (fun n => v (at1 1048576 n)) e.val
          (decay (F := Ideal) (shapeCast S16777216 g shapeCasts_S256x256x256_S16777216 (ix1 e))) 1048576 := by
  rw [set_hit g _ (keys_lt x) _ e i hi]
  have h := (loop_at m c (keysOf (cells (F := Ideal) x)) v _ (keys_lt x) ((entry_keys m c).trans (by rw [hx])) ((entry_vals m c).trans hv) (entry_index m c) (entry_occ m c)
    1048576 (Nat.le_refl _)).2.2.2 e
  refine h.trans (congrArg (fun a => raised (F := Ideal) _ _ e.val a 1048576) ?_)
  rw [hg]
  unfold decay shapeCast
  refine Eq.trans ?_ (mul_comm (G := EReal) _ _)
  exact congrArg (fun a : EReal => a * (g (Shape.reshapeEquiv shapeCasts_S256x256x256_S16777216 (ix1 e)) : EReal)) (bc0 bcast_S_S256x256x256 (constant (F := Ideal) S_ .f32 0x3F733333#32) _)

end Cert.Proof.OccRef

end

end
-- ==== Proof.Equation.lean ====
/-
  The kernel's result is the reference's, over exact numbers.
-/
module

public import proofs.«01_k».proof.Defs
public import proofs.«01_k».proof.Proof.Frames
public import proofs.«01_k».proof.Proof.RefValue
public import proofs.«01_k».proof.Proof.Gen.ReferenceIdeal
public import Idealize.ShloMosaic.Lib.Quiescent

@[expose] public section

noncomputable section

namespace Cert.Proof.OccRef

open Idealize.ShloMosaic hiding ix0 ix1 ix2 eq_ix1 eq_ix2
open Idealize.ShloMosaic.TcCoe Idealize.ShloMosaic.StableHlo Idealize.SL.Sem
open Idealize.ShloMosaic.ValueIdx Idealize.ShloMosaic.Routing
open Cert.Proof.Occ (at1 at1_val at1_eq raised foldHit foldHit_congr axis key3 key3_lt decay keyN slabOut startN spread slab_hit slab_miss)

/-! ## The frame of the reference -/

theorem frame_reference : Cert.quiescent_ReferenceIdeal (hReferenceIdeal := Cert.ReferenceIdeal.Gen.facts) := fun m ρ _ =>
  (θ_run Cert.ReferenceIdeal.defs _ _).mono
    (fun r h => ⟨fun c => ⟨(h c Cert.ReferenceIdeal.main_arg0 rfl).trans (final_arg0 m c), (h c Cert.ReferenceIdeal.main_arg1 rfl).trans (final_arg1 m c),
        (h c Cert.ReferenceIdeal.main_arg2 rfl).trans (final_arg2 m c)⟩,
      Idealize.ShloMosaic.sem_eq_zero_of_no_sems (by decide) r.2⟩)
    (Cert.ReferenceIdeal.Value.run_fold (F := Ideal) m ρ)

/-! ## The two grids -/

/-- The reference's key of a point is the kernel's, out of the flat coordinates. -/
theorem key_eq (x : (shape2 1048576 3).Idx → Elt Ideal .f32) (h : (shape2 1048576 3).ShapeCasts (shape1 3145728)) (i : Fin 1048576) :
    keyN (F := Ideal) (shapeCast (shape1 3145728) x h) i.val = keysOf (cells (F := Ideal) x) (ix1 i) := by
  have e0 := flat_three x h i 0
  have e1 := flat_three x h i 1
  have e2 := flat_three x h i 2
  refine Eq.trans ?_ (keys_at x i).symm
  unfold keyN
  exact congr (congrArg₂ (key3 (F := Ideal)) e0 e1) e2

theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (x : (shape2 1048576 3).Idx → Elt Ideal .f32) (g : Cert.ReferenceIdeal.S256x256x256.Idx → Elt Ideal .f32) (v : (shape1 1048576).Idx → Elt Ideal .f32)
    (hg : m ((c.tc : Thread Cert.KernelIdeal.nD Cert.KernelIdeal.τ).loc Cert.KernelIdeal.main_arg0) = g)
    (hx : m ((c.tc : Thread Cert.KernelIdeal.nD Cert.KernelIdeal.τ).loc Cert.KernelIdeal.main_arg1) = x)
    (hv : m ((c.tc : Thread Cert.KernelIdeal.nD Cert.KernelIdeal.τ).loc Cert.KernelIdeal.main_arg2) = v)
    (hg' : m' ((c.tc : Thread Cert.ReferenceIdeal.nD Cert.ReferenceIdeal.τ).loc Cert.ReferenceIdeal.main_arg0) = g)
    (hx' : m' ((c.tc : Thread Cert.ReferenceIdeal.nD Cert.ReferenceIdeal.τ).loc Cert.ReferenceIdeal.main_arg1) = x)
    (hv' : m' ((c.tc : Thread Cert.ReferenceIdeal.nD Cert.ReferenceIdeal.τ).loc Cert.ReferenceIdeal.main_arg2) = v) :
    Occ.outC m c = setFlat (F := Ideal) g (keysOf (cells (F := Ideal) x))
      (Cert.ReferenceIdeal.Value.atK m' 1048576 c (Proc.devRef .tc Cert.ReferenceIdeal.main_v18_4) : Cert.ReferenceIdeal.S16777216.Idx → Elt Ideal .f32) := by
  funext j
  obtain ⟨e, rfl⟩ : ∃ e : Fin 16777216, j = ix1 e := ⟨j 0, eq_ix1 j⟩
  have hkey : ∀ n, n < 1048576 → Occ.keyC m c n = keysOf (cells (F := Ideal) x) (at1 1048576 n) := fun n hn => by
    have hat : (at1 1048576 n : (shape1 1048576).Idx) = ix1 (⟨n, hn⟩ : Fin 1048576) := (eq_ix1 _).trans (congrArg ix1 (Fin.ext (at1_val hn)))
    refine Eq.trans ?_ ((key_eq x Cert.KernelIdeal.Gen.facts.shapeCasts_S1048576x3_S3145728 ⟨n, hn⟩).trans (congrArg (keysOf (cells (F := Ideal) x)) hat.symm))
    exact congrArg (fun y => keyN (F := Ideal) (shapeCast (shape1 3145728) y Cert.KernelIdeal.Gen.facts.shapeCasts_S1048576x3_S3145728) n) hx
  have hval : ∀ n, Occ.valC m c n = v (at1 1048576 n) := fun n => congrFun hv (at1 1048576 n)
  have hgrid : Occ.gridC m c e.val = shapeCast Cert.ReferenceIdeal.S16777216 g Cert.ReferenceIdeal.Gen.facts.shapeCasts_S256x256x256_S16777216 (ix1 e) := by
    have hat : (at1 16777216 e.val : (shape1 16777216).Idx) = ix1 e := (eq_ix1 _).trans (congrArg ix1 (Fin.ext (at1_val e.isLt)))
    refine Eq.trans ?_ (congrArg (shapeCast Cert.ReferenceIdeal.S16777216 g Cert.ReferenceIdeal.Gen.facts.shapeCasts_S256x256x256_S16777216) hat)
    exact congrArg (fun y => shapeCast Cert.ReferenceIdeal.S16777216 y Cert.ReferenceIdeal.Gen.facts.shapeCasts_S256x256x256_S16777216 (at1 16777216 e.val)) hg
  show slabOut (Occ.gridC m c) (startN (Occ.keyC m c)) (spread (Occ.keyC m c) (Occ.keyC m c) (Occ.oldK m c)) (spread (Occ.keyC m c) (Occ.valC m c) (Occ.oldV m c))
    (e.val / 32768) (e.val % 32768) = _
  by_cases hh : ∃ i : Fin 1048576, (keysOf (cells (F := Ideal) x) (ix1 i)).toNat = e.val
  · obtain ⟨i, hi⟩ := hh
    have hat : (at1 1048576 i.val : (shape1 1048576).Idx) = ix1 i := (eq_ix1 _).trans (congrArg ix1 (Fin.ext (at1_val i.isLt)))
    refine (slab_hit (F := Ideal) (Occ.keyC m c) (Occ.valC m c) (Occ.gridC m c) (Occ.oldK m c) (Occ.oldV m c) e.val e.isLt i.val i.isLt ?_).trans ?_
    · rw [hkey _ i.isLt, hat]
      exact hi
    · refine Eq.trans ?_ (ref_hit m' c x g v hx' hg' hv' e i hi).symm
      rw [hgrid]
      exact foldHit_congr (fun n hn => by rw [hkey n hn]) (fun n _ _ y => by rw [hval n])
  · refine (slab_miss (F := Ideal) (Occ.keyC m c) (Occ.valC m c) (Occ.gridC m c) (Occ.oldK m c) (Occ.oldV m c) e.val e.isLt ?_).trans ?_
    · intro n hn hk
      have hat : (at1 1048576 n : (shape1 1048576).Idx) = ix1 (⟨n, hn⟩ : Fin 1048576) := (eq_ix1 _).trans (congrArg ix1 (Fin.ext (at1_val hn)))
      rw [hkey n hn, hat] at hk
      exact hh ⟨_, hk⟩
    · rw [hgrid]
      exact (set_miss (F := Ideal) g _ (keys_lt x) _ e fun i hi => hh ⟨i, hi⟩).symm

/-! ## The claim -/

theorem algebraic : Cert.algebraic_KernelIdeal_ReferenceIdeal (hKernelIdeal := Cert.KernelIdeal.Gen.facts) (hReferenceIdeal := Cert.ReferenceIdeal.Gen.facts) := by
  intro m ρ m' ρ' _ hm
  refine ⟨fun c => Occ.resC m c, ?_, ?_⟩
  · exact (θ_run Cert.KernelIdeal.defs _ _).mono (fun _ h c => ⟨(h.1 c).2.2.2, (h.1 c).1, (h.1 c).2.1, (h.1 c).2.2.1⟩) (Occ.run_main (F := Ideal) m ρ)
  · refine (θ_run Cert.ReferenceIdeal.defs _ _).mono (fun r h c => ⟨?_, (h c Cert.ReferenceIdeal.main_arg0 rfl).trans (final_arg0 m' c),
      (h c Cert.ReferenceIdeal.main_arg1 rfl).trans (final_arg1 m' c), (h c Cert.ReferenceIdeal.main_arg2 rfl).trans (final_arg2 m' c)⟩)
      (Cert.ReferenceIdeal.Value.run_fold (F := Ideal) m' ρ')
    refine (h c Cert.ReferenceIdeal.main_v34 rfl).trans ((final_result m' c).trans ?_)
    have ho := out_eq m m' c _ _ _ rfl rfl rfl (hm c).1 (hm c).2.1 (hm c).2.2
    rw [(hm c).1, (hm c).2.1]
    exact congrArg (fun y => shapeCast Cert.ReferenceIdeal.S256x256x256 y Cert.ReferenceIdeal.Gen.facts.shapeCasts_S16777216_S256x256x256) ho.symm

end Cert.Proof.OccRef

end

end
-- ==== Proof.lean ====
/-
  The proof of `Cert.Claim`: the kernel's frames, as printed and idealized, from one run of the program, the reference's
  frame from its own, and the equation of the two results over exact numbers.
-/
module

public import proofs.«01_k».proof.Proof.Gen.ReferenceIdeal.Run
public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Occ.frame_kernel, Occ.frame_ideal, OccRef.frame_reference, trivial,
    OccRef.algebraic⟩

end Cert.Proof

end
